-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_attention [hPre_finite_attention : Cert.Pre_finite_attention.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_attention.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite_attention.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite_attention.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite_attention.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite_attention.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite_attention.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_attention [hPre_finite_attention : Cert.Pre_finite_attention.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_attention.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite_attention.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite_attention.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite_attention.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite_attention.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite_attention.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_forward [hPre_finite_forward : Cert.Pre_finite_forward.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_forward.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).1 = (fun _ => 1#1)
    ∧ (Cert.Pre_finite_forward.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.1 = (fun _ => 1#1)
    ∧ (Cert.Pre_finite_forward.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.1 = (fun _ => 1#1)
    ∧ (Cert.Pre_finite_forward.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.2.1 = (fun _ => 1#1)
    ∧ (Cert.Pre_finite_forward.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_forward [hPre_finite_forward : Cert.Pre_finite_forward.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_forward.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).1 = (fun _ => 1#1)
    ∧ (Cert.Pre_finite_forward.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.1 = (fun _ => 1#1)
    ∧ (Cert.Pre_finite_forward.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.1 = (fun _ => 1#1)
    ∧ (Cert.Pre_finite_forward.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.2.1 = (fun _ => 1#1)
    ∧ (Cert.Pre_finite_forward.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite_attention [hKernel2Ideal : Cert.Kernel2Ideal.Facts] [hPre_finite_attention : Cert.Pre_finite_attention.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_attention m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite_attention [hReference2Ideal : Cert.Reference2Ideal.Facts] [hPre_finite_attention : Cert.Pre_finite_attention.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_attention m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite_forward [hKernel8Ideal : Cert.Kernel8Ideal.Facts] [hPre_finite_forward : Cert.Pre_finite_forward.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_forward m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite_forward [hReference8Ideal : Cert.Reference8Ideal.Facts] [hPre_finite_forward : Cert.Pre_finite_forward.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_forward m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_v126) = v2 c
          ∧ r.2.mem ((c.tc : Thread Cert.ReferenceIdeal.nD Cert.ReferenceIdeal.τ).loc Cert.ReferenceIdeal.main_v127) = v3 c
          ∧ r.2.mem ((c.tc : Thread Cert.ReferenceIdeal.nD Cert.ReferenceIdeal.τ).loc Cert.ReferenceIdeal.main_v97) = v4 c
          ∧ r.2.mem ((c.tc : Thread Cert.ReferenceIdeal.nD Cert.ReferenceIdeal.τ).loc Cert.ReferenceIdeal.main_v123) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite_attention [hKernel2Ideal : Cert.Kernel2Ideal.Facts] [hReference2Ideal : Cert.Reference2Ideal.Facts] [hPre_finite_attention : Cert.Pre_finite_attention.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_attention m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v119_0)) (v1 : (c : Dev Cert.Kernel2Ideal.nD) → Buf (Elt Ideal) ((c.tc : Thread Cert.Kernel2Ideal.nD Cert.Kernel2Ideal.τ).loc Cert.Kernel2Ideal.main_v119_1)) (v2 : (c : Dev Cert.Kernel2Ideal.nD) → Buf (Elt Ideal) ((c.tc : Thread Cert.Kernel2Ideal.nD Cert.Kernel2Ideal.τ).loc Cert.Kernel2Ideal.main_v119_2)) (v3 : (c : Dev Cert.Kernel2Ideal.nD) → Buf (Elt Ideal) ((c.tc : Thread Cert.Kernel2Ideal.nD Cert.Kernel2Ideal.τ).loc Cert.Kernel2Ideal.main_v119_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v119_0) = v0 c
          ∧ r.2.mem ((c.tc : Thread Cert.Kernel2Ideal.nD Cert.Kernel2Ideal.τ).loc Cert.Kernel2Ideal.main_v119_1) = v1 c
          ∧ r.2.mem ((c.tc : Thread Cert.Kernel2Ideal.nD Cert.Kernel2Ideal.τ).loc Cert.Kernel2Ideal.main_v119_2) = v2 c
          ∧ r.2.mem ((c.tc : Thread Cert.Kernel2Ideal.nD Cert.Kernel2Ideal.τ).loc Cert.Kernel2Ideal.main_v119_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v101) = v0 c
          ∧ r.2.mem ((c.tc : Thread Cert.Reference2Ideal.nD Cert.Reference2Ideal.τ).loc Cert.Reference2Ideal.main_v102) = v1 c
          ∧ r.2.mem ((c.tc : Thread Cert.Reference2Ideal.nD Cert.Reference2Ideal.τ).loc Cert.Reference2Ideal.main_v104) = v2 c
          ∧ r.2.mem ((c.tc : Thread Cert.Reference2Ideal.nD Cert.Reference2Ideal.τ).loc Cert.Reference2Ideal.main_v106) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_v43) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)) (v3 : (c : Dev Cert.Kernel4Ideal.nD) → Buf (Elt Ideal) ((c.tc : Thread Cert.Kernel4Ideal.nD Cert.Kernel4Ideal.τ).loc Cert.Kernel4Ideal.main_v3_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_v3_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_v18) = v2 c
          ∧ r.2.mem ((c.tc : Thread Cert.Reference4Ideal.nD Cert.Reference4Ideal.τ).loc Cert.Reference4Ideal.main_v22) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v15) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v41) = v0 c
          ∧ r.2.mem ((c.tc : Thread Cert.Reference6Ideal.nD Cert.Reference6Ideal.τ).loc Cert.Reference6Ideal.main_v40) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_pre_finite_forward [hKernel8Ideal : Cert.Kernel8Ideal.Facts] [hReference8Ideal : Cert.Reference8Ideal.Facts] [hPre_finite_forward : Cert.Pre_finite_forward.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_forward m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v47) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite_attention : Cert.Pre_finite_attention.Facts) (hPre_finite_forward : Cert.Pre_finite_forward.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_attention (hKernel2Ideal := hKernel2Ideal) (hPre_finite_attention := hPre_finite_attention)
    ∧ quiescent_Reference2Ideal (hReference2Ideal := hReference2Ideal)
    ∧ quiescent_Reference2Ideal_pre_finite_attention (hReference2Ideal := hReference2Ideal) (hPre_finite_attention := hPre_finite_attention)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_forward (hKernel8Ideal := hKernel8Ideal) (hPre_finite_forward := hPre_finite_forward)
    ∧ quiescent_Reference8Ideal (hReference8Ideal := hReference8Ideal)
    ∧ quiescent_Reference8Ideal_pre_finite_forward (hReference8Ideal := hReference8Ideal) (hPre_finite_forward := hPre_finite_forward)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_attention (hKernel2Ideal := hKernel2Ideal) (hReference2Ideal := hReference2Ideal) (hPre_finite_attention := hPre_finite_attention)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_forward (hKernel8Ideal := hKernel8Ideal) (hReference8Ideal := hReference8Ideal) (hPre_finite_forward := hPre_finite_forward)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S8192x1024 : Shape := ⟨2, ![8192, 1024]⟩
abbrev S1x1024 : Shape := ⟨2, ![1, 1024]⟩
abbrev S2x1024x2048 : Shape := ⟨3, ![2, 1024, 2048]⟩
abbrev S256x2048 : Shape := ⟨2, ![256, 2048]⟩
abbrev S2x1024x1024 : Shape := ⟨3, ![2, 1024, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1x1024 : S_.BroadcastsInDim S1x1024 (![] : Fin 0 → Fin S1x1024.rank)
  bcast_S_S2x1024x2048 : S_.BroadcastsInDim S2x1024x2048 (![] : Fin 0 → Fin S2x1024x2048.rank)
  bcast_S_S256x2048 : S_.BroadcastsInDim S256x2048 (![] : Fin 0 → Fin S256x2048.rank)
  bcast_S_S2x1024x1024 : S_.BroadcastsInDim S2x1024x1024 (![] : Fin 0 → Fin S2x1024x1024.rank)

variable [Facts]

def fn_part1 {F : FTy → Type} [FloatOps F] (main_v3 : IVec S8192x1024 1) (main_v6 : IVec S8192x1024 1) (main_v9 : IVec S1x1024 1) (main_v12 : IVec S2x1024x2048 1) (main_v15 : IVec S256x2048 1) (main_v16 : FVec F S2x1024x1024 .f32) (main_v17 : FVec F S2x1024x1024 .f32) : IVec S8192x1024 1 × IVec S8192x1024 1 × IVec S1x1024 1 × IVec S2x1024x2048 1 × IVec S256x2048 1 × IVec S2x1024x1024 1 :=
  let main_v18 : IVec S2x1024x1024 1 := cmpf .olt main_v16 main_v17
  (main_v3, main_v6, main_v9, main_v12, main_v15, main_v18)

def fn {F : FTy → Type} [FloatOps F] (main_arg0 : FVec F S8192x1024 .f32) (main_arg1 : FVec F S8192x1024 .f32) (main_arg2 : FVec F S1x1024 .f32) (main_arg3 : FVec F S2x1024x2048 .f32) (main_arg4 : FVec F S256x2048 .bf16) (main_arg5 : FVec F S2x1024x1024 .f32) : IVec S8192x1024 1 × IVec S8192x1024 1 × IVec S1x1024 1 × IVec S2x1024x2048 1 × IVec S256x2048 1 × IVec S2x1024x1024 1 :=
  let main_v0 : FVec F S256x2048 .f32 := (extf .f32 · bitsLt_bf16_f32) main_arg4
  let main_v1 : FVec F S8192x1024 .f32 := Host.absf main_arg0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : FVec F S1x1024 .f32 := Host.absf main_arg2
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_v10 : FVec F S2x1024x2048 .f32 := Host.absf main_arg3
  let main_cst_2 : FVec F S_ .f32 := constant S_ .f32 0x7F800000#32
  let main_v11 : FVec F S2x1024x2048 .f32 := broadcastInDim S2x1024x2048 ![] bcast_S_S2x1024x2048 main_cst_2
  let main_v12 : IVec S2x1024x2048 1 := cmpf .olt main_v10 main_v11
  let main_v13 : FVec F S256x2048 .f32 := Host.absf main_v0
  let main_cst_3 : FVec F S_ .f32 := constant S_ .f32 0x7F800000#32
  let main_v14 : FVec F S256x2048 .f32 := broadcastInDim S256x2048 ![] bcast_S_S256x2048 main_cst_3
  let main_v15 : IVec S256x2048 1 := cmpf .olt main_v13 main_v14
  let main_v16 : FVec F S2x1024x1024 .f32 := Host.absf main_arg5
  let main_cst_4 : FVec F S_ .f32 := constant S_ .f32 0x7F800000#32
  let main_v17 : FVec F S2x1024x1024 .f32 := broadcastInDim S2x1024x1024 ![] bcast_S_S2x1024x1024 main_cst_4
  fn_part1 (F := F) main_v3 main_v6 main_v9 main_v12 main_v15 main_v16 main_v17
-- ==== Pre_finite_attention.lean ====
abbrev S8192x1024 : Shape := ⟨2, ![8192, 1024]⟩
abbrev S16x257 : Shape := ⟨2, ![16, 257]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S16x257 : S_.BroadcastsInDim S16x257 (![] : Fin 0 → Fin S16x257.rank)

variable [Facts]

def fn_part1 {F : FTy → Type} [FloatOps F] (main_v3 : IVec S8192x1024 1) (main_v7 : IVec S8192x1024 1) (main_v11 : IVec S8192x1024 1) (main_v14 : IVec S8192x1024 1) (main_v17 : IVec S16x257 1) (main_v18 : FVec F S8192x1024 .f32) : IVec S8192x1024 1 × IVec S8192x1024 1 × IVec S8192x1024 1 × IVec S8192x1024 1 × IVec S16x257 1 × IVec S8192x1024 1 :=
  let main_cst_4 : FVec F S_ .f32 := constant S_ .f32 0x7F800000#32
  let main_v19 : FVec F S8192x1024 .f32 := broadcastInDim S8192x1024 ![] bcast_S_S8192x1024 main_cst_4
  let main_v20 : IVec S8192x1024 1 := cmpf .olt main_v18 main_v19
  (main_v3, main_v7, main_v11, main_v14, main_v17, main_v20)

def fn {F : FTy → Type} [FloatOps F] (main_arg0 : FVec F S8192x1024 .bf16) (main_arg1 : FVec F S8192x1024 .bf16) (main_arg2 : FVec F S8192x1024 .bf16) (main_arg3 : FVec F S8192x1024 .f32) (main_arg4 : FVec F S16x257 .f32) (main_arg5 : FVec F S8192x1024 .f32) : IVec S8192x1024 1 × IVec S8192x1024 1 × IVec S8192x1024 1 × IVec S8192x1024 1 × IVec S16x257 1 × IVec S8192x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_v8 : FVec F S8192x1024 .f32 := (extf .f32 · bitsLt_bf16_f32) main_arg2
  let main_v9 : FVec F S8192x1024 .f32 := Host.absf main_v8
  let main_cst_1 : FVec F S_ .f32 := constant S_ .f32 0x7F800000#32
  let main_v10 : FVec F S8192x1024 .f32 := broadcastInDim S8192x1024 ![] bcast_S_S8192x1024 main_cst_1
  let main_v11 : IVec S8192x1024 1 := cmpf .olt main_v9 main_v10
  let main_v12 : FVec F S8192x1024 .f32 := Host.absf main_arg3
  let main_cst_2 : FVec F S_ .f32 := constant S_ .f32 0x7F800000#32
  let main_v13 : FVec F S8192x1024 .f32 := broadcastInDim S8192x1024 ![] bcast_S_S8192x1024 main_cst_2
  let main_v14 : IVec S8192x1024 1 := cmpf .olt main_v12 main_v13
  let main_v15 : FVec F S16x257 .f32 := Host.absf main_arg4
  let main_cst_3 : FVec F S_ .f32 := constant S_ .f32 0x7F800000#32
  let main_v16 : FVec F S16x257 .f32 := broadcastInDim S16x257 ![] bcast_S_S16x257 main_cst_3
  let main_v17 : IVec S16x257 1 := cmpf .olt main_v15 main_v16
  let main_v18 : FVec F S8192x1024 .f32 := Host.absf main_arg5
  fn_part1 (F := F) main_v3 main_v7 main_v11 main_v14 main_v17 main_v18
-- ==== Pre_finite_forward.lean ====
abbrev S8192x1024 : Shape := ⟨2, ![8192, 1024]⟩
abbrev S1x1024 : Shape := ⟨2, ![1, 1024]⟩
abbrev S2x1024x2048 : Shape := ⟨3, ![2, 1024, 2048]⟩
abbrev S256x2048 : Shape := ⟨2, ![256, 2048]⟩
abbrev S2x1024x1024 : Shape := ⟨3, ![2, 1024, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1x1024 : S_.BroadcastsInDim S1x1024 (![] : Fin 0 → Fin S1x1024.rank)
  bcast_S_S2x1024x2048 : S_.BroadcastsInDim S2x1024x2048 (![] : Fin 0 → Fin S2x1024x2048.rank)
  bcast_S_S256x2048 : S_.BroadcastsInDim S256x2048 (![] : Fin 0 → Fin S256x2048.rank)
  bcast_S_S2x1024x1024 : S_.BroadcastsInDim S2x1024x1024 (![] : Fin 0 → Fin S2x1024x1024.rank)

variable [Facts]

def fn {F : FTy → Type} [FloatOps F] (main_arg0 : FVec F S8192x1024 .f32) (main_arg1 : FVec F S1x1024 .f32) (main_arg2 : FVec F S2x1024x2048 .f32) (main_arg3 : FVec F S256x2048 .bf16) (main_arg4 : FVec F S2x1024x1024 .f32) : IVec S8192x1024 1 × IVec S1x1024 1 × IVec S2x1024x2048 1 × IVec S256x2048 1 × IVec S2x1024x1024 1 :=
  let main_v0 : FVec F S256x2048 .f32 := (extf .f32 · bitsLt_bf16_f32) main_arg3
  let main_v1 : FVec F S8192x1024 .f32 := Host.absf main_arg0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_v7 : FVec F S2x1024x2048 .f32 := Host.absf main_arg2
  let main_cst_1 : FVec F S_ .f32 := constant S_ .f32 0x7F800000#32
  let main_v8 : FVec F S2x1024x2048 .f32 := broadcastInDim S2x1024x2048 ![] bcast_S_S2x1024x2048 main_cst_1
  let main_v9 : IVec S2x1024x2048 1 := cmpf .olt main_v7 main_v8
  let main_v10 : FVec F S256x2048 .f32 := Host.absf main_v0
  let main_cst_2 : FVec F S_ .f32 := constant S_ .f32 0x7F800000#32
  let main_v11 : FVec F S256x2048 .f32 := broadcastInDim S256x2048 ![] bcast_S_S256x2048 main_cst_2
  let main_v12 : IVec S256x2048 1 := cmpf .olt main_v10 main_v11
  let main_v13 : FVec F S2x1024x1024 .f32 := Host.absf main_arg4
  let main_cst_3 : FVec F S_ .f32 := constant S_ .f32 0x7F800000#32
  let main_v14 : FVec F S2x1024x1024 .f32 := broadcastInDim S2x1024x1024 ![] bcast_S_S2x1024x1024 main_cst_3
  let main_v15 : IVec S2x1024x1024 1 := cmpf .olt main_v13 main_v14
  (main_v3, main_v6, main_v9, main_v12, main_v15)
-- ==== Kernel.lean ====
abbrev S8192x1024 : Shape := ⟨2, ![8192, 1024]⟩
abbrev S1x1024 : Shape := ⟨2, ![1, 1024]⟩
abbrev S2x1024x2048 : Shape := ⟨3, ![2, 1024, 2048]⟩
abbrev S256x2048 : Shape := ⟨2, ![256, 2048]⟩
abbrev S2x1024x1024 : Shape := ⟨3, ![2, 1024, 1024]⟩
abbrev S2x1024x4x512 : Shape := ⟨4, ![2, 1024, 4, 512]⟩
abbrev S4x2x1024x512 : Shape := ⟨4, ![4, 2, 1024, 512]⟩
abbrev S2x4x256x1024 : Shape := ⟨4, ![2, 4, 256, 1024]⟩
abbrev S4x2x256x1024 : Shape := ⟨4, ![4, 2, 256, 1024]⟩
abbrev S8192x2048 : Shape := ⟨2, ![8192, 2048]⟩
abbrev S512x1024 : Shape := ⟨2, ![512, 1024]⟩
abbrev S4x1x1024x512 : Shape := ⟨4, ![4, 1, 1024, 512]⟩
abbrev S4x1x256x1024 : Shape := ⟨4, ![4, 1, 256, 1024]⟩
abbrev S512x2048 : Shape := ⟨2, ![512, 2048]⟩
abbrev S512 : Shape := ⟨1, ![512]⟩
abbrev S512x1 : Shape := ⟨2, ![512, 1]⟩
abbrev S1x1x1024x512 : Shape := ⟨4, ![1, 1, 1024, 512]⟩
abbrev S1024x512 : Shape := ⟨2, ![1024, 512]⟩
abbrev S512x512 : Shape := ⟨2, ![512, 512]⟩
abbrev S512x256 : Shape := ⟨2, ![512, 256]⟩
abbrev S256x256 : Shape := ⟨2, ![256, 256]⟩
abbrev S1x1x256x1024 : Shape := ⟨4, ![1, 1, 256, 1024]⟩
abbrev S256x1024 : Shape := ⟨2, ![256, 1024]⟩
abbrev S1024 : Shape := ⟨1, ![1024]⟩

abbrev nBuf : Space → Nat
  | .hbm => 18
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S2x1024x2048, .f32⟩
  | .hbm, ⟨4, _⟩ => ⟨S256x2048, .bf16⟩
  | .hbm, ⟨5, _⟩ => ⟨S2x1024x1024, .f32⟩
  | .hbm, ⟨6, _⟩ => ⟨S2x1024x2048, .bf16⟩
  | .hbm, ⟨7, _⟩ => ⟨S2x1024x4x512, .bf16⟩
  | .hbm, ⟨8, _⟩ => ⟨S4x2x1024x512, .bf16⟩
  | .hbm, ⟨9, _⟩ => ⟨S2x1024x1024, .bf16⟩
  | .hbm, ⟨10, _⟩ => ⟨S2x4x256x1024, .bf16⟩
  | .hbm, ⟨11, _⟩ => ⟨S4x2x256x1024, .bf16⟩
  | .hbm, ⟨12, _⟩ => ⟨S8192x1024, .f32⟩
  | .hbm, ⟨13, _⟩ => ⟨S8192x2048, .bf16⟩
  | .hbm, ⟨14, _⟩ => ⟨S8192x1024, .bf16⟩
  | .hbm, ⟨15, _⟩ => ⟨S8192x1024, .bf16⟩
  | .hbm, ⟨16, _⟩ => ⟨S256x2048, .f32⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S4x1x1024x512, .bf16⟩
  | .local _ .vmem, ⟨6, _⟩ => ⟨S256x2048, .bf16⟩
  | .local _ .vmem, ⟨7, _⟩ => ⟨S4x1x256x1024, .bf16⟩
  | .local _ .vmem, ⟨8, _⟩ => ⟨S512x1024, .f32⟩
  | .local _ .vmem, ⟨9, _⟩ => ⟨S512x1024, .f32⟩
  | .local _ .vmem, ⟨10, _⟩ => ⟨S512x2048, .bf16⟩
  | .local _ .vmem, ⟨11, _⟩ => ⟨S512x2048, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S256x2048, .f32⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S8192x1024 : Shape := ⟨2, ![8192, 1024]⟩
abbrev S1x1024 : Shape := ⟨2, ![1, 1024]⟩
abbrev S2x1024x2048 : Shape := ⟨3, ![2, 1024, 2048]⟩
abbrev S256x2048 : Shape := ⟨2, ![256, 2048]⟩
abbrev S2x1024x1024 : Shape := ⟨3, ![2, 1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024x2048 : Shape := ⟨3, ![1, 1024, 2048]⟩
abbrev S1024x2048 : Shape := ⟨2, ![1024, 2048]⟩
abbrev S8192x2048 : Shape := ⟨2, ![8192, 2048]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩
abbrev S1x1024x1024 : Shape := ⟨3, ![1, 1024, 1024]⟩
abbrev S1024x1024 : Shape := ⟨2, ![1024, 1024]⟩
abbrev S4x256x256 : Shape := ⟨3, ![4, 256, 256]⟩
abbrev S2048x1024 : Shape := ⟨2, ![2048, 1024]⟩

abbrev nBuf : Space → Nat
  | .hbm => 172
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S2x1024x2048, .f32⟩
  | 4 => ⟨S256x2048, .bf16⟩
  | 5 => ⟨S2x1024x1024, .f32⟩
  | 6 => ⟨S256x2048, .f32⟩
  | 7 => ⟨S1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S1x1024x2048, .f32⟩
  | 29 => ⟨S1024x2048, .f32⟩
  | 30 => ⟨S8192x2048, .f32⟩
  | 31 => ⟨S8192x1024, .f32⟩
  | 32 => ⟨S8192x1024, .f32⟩
  | 33 => ⟨S256x1024, .f32⟩
  | 34 => ⟨S256x1024, .f32⟩
  | 35 => ⟨S8192x4x256, .f32⟩
  | 36 => ⟨S256x4x256, .f32⟩
  | 37 => ⟨S256x4x256, .f32⟩
  | 38 => ⟨S4x8192x256, .f32⟩
  | 39 => ⟨S_, .f32⟩
  | 40 => ⟨S4x8192x256, .f32⟩
  | 41 => ⟨S4x8192x256, .f32⟩
  | 42 => ⟨S_, .f32⟩
  | 43 => ⟨S4x8192, .f32⟩
  | 44 => ⟨S4x8192x1, .f32⟩
  | 45 => ⟨S4x8192x256, .f32⟩
  | 46 => ⟨S4x8192x256, .i1⟩
  | 47 => ⟨S4x8192x256, .f32⟩
  | 48 => ⟨S_, .f32⟩
  | 49 => ⟨S4x8192, .f32⟩
  | 50 => ⟨S_, .f32⟩
  | 51 => ⟨S4x8192, .f32⟩
  | 52 => ⟨S4x8192, .f32⟩
  | 53 => ⟨S_, .f32⟩
  | 54 => ⟨S4x8192, .f32⟩
  | 55 => ⟨S4x8192, .i1⟩
  | 56 => ⟨S_, .f32⟩
  | 57 => ⟨S4x8192, .f32⟩
  | 58 => ⟨S4x8192, .i1⟩
  | 59 => ⟨S_, .f32⟩
  | 60 => ⟨S4x8192, .f32⟩
  | 61 => ⟨S_, .f32⟩
  | 62 => ⟨S4x8192, .f32⟩
  | 63 => ⟨S_, .f32⟩
  | 64 => ⟨S4x8192, .f32⟩
  | 65 => ⟨S4x8192, .f32⟩
  | 66 => ⟨S4x8192, .f32⟩
  | 67 => ⟨S4x8192x1, .f32⟩
  | 68 => ⟨S4x8192x256, .f32⟩
  | 69 => ⟨S4x8192x256, .f32⟩
  | 70 => ⟨S4x8192x256, .f32⟩
  | 71 => ⟨S_, .f32⟩
  | 72 => ⟨S4x8192, .f32⟩
  | 73 => ⟨S4x8192x1, .f32⟩
  | 74 => ⟨S4x8192x256, .f32⟩
  | 75 => ⟨S4x8192x256, .f32⟩
  | 76 => ⟨S4x8192x1, .f32⟩
  | 77 => ⟨S_, .f32⟩
  | 78 => ⟨S4x8192x1, .f32⟩
  | 79 => ⟨S4x8192x1, .f32⟩
  | 80 => ⟨S4x256x8192, .f32⟩
  | 81 => ⟨S8192x4x256, .f32⟩
  | 82 => ⟨S8192x1024, .f32⟩
  | 83 => ⟨S8192x1024, .f32⟩
  | 84 => ⟨S8192x1024, .f32⟩
  | 85 => ⟨S_, .f32⟩
  | 86 => ⟨S8192x1024, .f32⟩
  | 87 => ⟨S8192x1024, .f32⟩
  | 88 => ⟨S_, .f32⟩
  | 89 => ⟨S8192x1024, .f32⟩
  | 90 => ⟨S8192x1024, .f32⟩
  | 91 => ⟨S_, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S1x1024x1024, .f32⟩
  | 98 => ⟨S1024x1024, .f32⟩
  | 99 => ⟨S1024x1024, .f32⟩
  | 100 => ⟨S8192x1024, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S8192x1024, .f32⟩
  | 107 => ⟨S8192x4x256, .f32⟩
  | 108 => ⟨S4x256x8192, .f32⟩
  | 109 => ⟨S4x8192x256, .f32⟩
  | 110 => ⟨S4x256x256, .f32⟩
  | 111 => ⟨S256x4x256, .f32⟩
  | 112 => ⟨S4x8192x256, .f32⟩
  | 113 => ⟨S4x8192x256, .f32⟩
  | 114 => ⟨S4x8192x256, .f32⟩
  | 115 => ⟨S_, .f32⟩
  | 116 => ⟨S4x8192, .f32⟩
  | 117 => ⟨S4x8192x1, .f32⟩
  | 118 => ⟨S4x8192x1, .f32⟩
  | 119 => ⟨S4x8192x256, .f32⟩
  | 120 => ⟨S4x8192x256, .f32⟩
  | 121 => ⟨S_, .f32⟩
  | 122 => ⟨S4x8192, .f32⟩
  | 123 => ⟨S4x8192x256, .f32⟩
  | 124 => ⟨S4x8192x256, .f32⟩
  | 125 => ⟨S4x8192x256, .f32⟩
  | 126 => ⟨S_, .f32⟩
  | 127 => ⟨S4x8192x256, .f32⟩
  | _ => ⟨S8192x1024, .f32⟩

abbrev hbmTy0_1 (i : Nat) : BufTy := match i % 128 with
  | 0 => ⟨S4x8192x256, .f32⟩
  | 1 => ⟨S4x256x256, .f32⟩
  | 2 => ⟨S256x4x256, .f32⟩
  | 3 => ⟨S4x8192x256, .f32⟩
  | 4 => ⟨S8192x4x256, .f32⟩
  | 5 => ⟨S256x1024, .f32⟩
  | 6 => ⟨S256x1024, .f32⟩
  | 7 => ⟨S8192x1024, .f32⟩
  | 8 => ⟨S256x2048, .f32⟩
  | 9 => ⟨S8192x2048, .f32⟩
  | 10 => ⟨S1x1024x2048, .f32⟩
  | 11 => ⟨S1024x2048, .f32⟩
  | 12 => ⟨S2048x1024, .f32⟩
  | 13 => ⟨S8192x1024, .f32⟩
  | 14 => ⟨S8192x1024, .f32⟩
  | 15 => ⟨S_, .f32⟩
  | 16 => ⟨S1024, .f32⟩
  | 17 => ⟨S1x1024, .f32⟩
  | 18 => ⟨S8192x1024, .f32⟩
  | 19 => ⟨S8192x1024, .f32⟩
  | 20 => ⟨S_, .f32⟩
  | 21 => ⟨S1024, .f32⟩
  | 22 => ⟨S8192x1024, .f32⟩
  | 23 => ⟨S_, .f32⟩
  | 24 => ⟨S8192, .f32⟩
  | 25 => ⟨S8192x1, .f32⟩
  | 26 => ⟨S8192x1024, .f32⟩
  | 27 => ⟨S8192x1024, .f32⟩
  | 28 => ⟨S8192x1, .f32⟩
  | 29 => ⟨S_, .f32⟩
  | 30 => ⟨S8192x1, .f32⟩
  | 31 => ⟨S8192x1, .f32⟩
  | 32 => ⟨S_, .f32⟩
  | 33 => ⟨S8192, .f32⟩
  | 34 => ⟨S8192x1024, .f32⟩
  | 35 => ⟨S8192x1024, .f32⟩
  | 36 => ⟨S8192x1024, .f32⟩
  | 37 => ⟨S8192x1024, .f32⟩
  | 38 => ⟨S8192x1024, .f32⟩
  | 39 => ⟨S1x1024, .f32⟩
  | 40 => ⟨S8192x1024, .f32⟩
  | 41 => ⟨S8192x2048, .bf16⟩
  | 42 => ⟨S8192x1024, .bf16⟩
  | 43 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_13 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_call0_v0 : Ref sig .tc := ⟨.hbm, 83, rfl⟩
abbrev main_call0_v1 : Ref sig .tc := ⟨.hbm, 84, rfl⟩
abbrev main_call0_cst : Ref sig .tc := ⟨.hbm, 85, rfl⟩
abbrev main_call0_v2 : Ref sig .tc := ⟨.hbm, 86, rfl⟩
abbrev main_call0_v3 : Ref sig .tc := ⟨.hbm, 87, rfl⟩
abbrev main_call0_cst_0 : Ref sig .tc := ⟨.hbm, 88, rfl⟩
abbrev main_call0_v4 : Ref sig .tc := ⟨.hbm, 89, rfl⟩
abbrev main_v62_2 : Ref sig .tc := ⟨.hbm, 90, rfl⟩
abbrev main_call0_cst_1 : Ref sig .tc := ⟨.hbm, 91, rfl⟩
abbrev main_call0_v6 : Ref sig .tc := ⟨.hbm, 92, rfl⟩
abbrev main_call0_v7 : Ref sig .tc := ⟨.hbm, 93, rfl⟩
abbrev main_v62_1 : Ref sig .tc := ⟨.hbm, 94, rfl⟩
abbrev main_v62_0 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_14 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_15 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_16 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_17 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_18 : Ref sig .tc := ⟨.hbm, 148, rfl⟩
abbrev main_v108 : Ref sig .tc := ⟨.hbm, 149, rfl⟩
abbrev main_v109 : Ref sig .tc := ⟨.hbm, 150, rfl⟩
abbrev main_cst_19 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_20 : Ref sig .tc := ⟨.hbm, 157, rfl⟩
abbrev main_v115 : Ref sig .tc := ⟨.hbm, 158, rfl⟩
abbrev main_v116 : Ref sig .tc := ⟨.hbm, 159, rfl⟩
abbrev main_cst_21 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩

abbrev nD : Nat := 1
abbrev τ : Topo := Topo.v7x

variable {F : FTy → Type} [FloatOps F]
-- ==== Kernel2.lean ====
abbrev S8192x1024 : Shape := ⟨2, ![8192, 1024]⟩
abbrev S16x257 : Shape := ⟨2, ![16, 257]⟩
abbrev S8192x16x64 : Shape := ⟨3, ![8192, 16, 64]⟩
abbrev S8192 : Shape := ⟨1, ![8192]⟩
abbrev S8192x1 : Shape := ⟨2, ![8192, 1]⟩
abbrev S1x8192 : Shape := ⟨2, ![1, 8192]⟩
abbrev S_ : Shape := ⟨0, ![]⟩
abbrev S8192x8192 : Shape := ⟨2, ![8192, 8192]⟩
abbrev S16x8192x8192 : Shape := ⟨3, ![16, 8192, 8192]⟩
abbrev S8192x8192x1 : Shape := ⟨3, ![8192, 8192, 1]⟩
abbrev S16x8192 : Shape := ⟨2, ![16, 8192]⟩
abbrev S16x8192x1 : Shape := ⟨3, ![16, 8192, 1]⟩
abbrev S16x64x8192 : Shape := ⟨3, ![16, 64, 8192]⟩
abbrev S8192x2048 : Shape := ⟨2, ![8192, 2048]⟩
abbrev S8704x2048 : Shape := ⟨2, ![8704, 2048]⟩
abbrev S256 : Shape := ⟨1, ![256]⟩
abbrev S256x1 : Shape := ⟨2, ![256, 1]⟩
abbrev S768 : Shape := ⟨1, ![768]⟩
abbrev S1x768 : Shape := ⟨2, ![1, 768]⟩
abbrev S256x768 : Shape := ⟨2, ![256, 768]⟩
abbrev S256x768x1 : Shape := ⟨3, ![256, 768, 1]⟩
abbrev S16x256x768 : Shape := ⟨3, ![16, 256, 768]⟩
abbrev S1x16x256x768 : Shape := ⟨4, ![1, 16, 256, 768]⟩
abbrev S3x16x256x768 : Shape := ⟨4, ![3, 16, 256, 768]⟩
abbrev S8704x1024 : Shape := ⟨2, ![8704, 1024]⟩
abbrev S256x128 : Shape := ⟨2, ![256, 128]⟩
abbrev S8704x128 : Shape := ⟨2, ![8704, 128]⟩
abbrev S1x2x256x768 : Shape := ⟨4, ![1, 2, 256, 768]⟩
abbrev S2x256x768 : Shape := ⟨3, ![2, 256, 768]⟩
abbrev S768x128 : Shape := ⟨2, ![768, 128]⟩
abbrev S1x128 : Shape := ⟨2, ![1, 128]⟩
abbrev S1x1x256x768 : Shape := ⟨4, ![1, 1, 256, 768]⟩
abbrev S1x256x768 : Shape := ⟨3, ![1, 256, 768]⟩

abbrev nBuf : Space → Nat
  | .hbm => 253
  | .vmem => 26
  | .smem => 0
  | _ => 0

abbrev hbmTy0_0 (i : Nat) : BufTy := match i % 128 with
  | 0 => ⟨S8192x1024, .bf16⟩
  | 1 => ⟨S8192x1024, .bf16⟩
  | 2 => ⟨S8192x1024, .bf16⟩
  | 3 => ⟨S8192x1024, .f32⟩
  | 4 => ⟨S16x257, .f32⟩
  | 5 => ⟨S8192x1024, .f32⟩
  | 6 => ⟨S8192x1024, .f32⟩
  | 7 => ⟨S8192x16x64, .f32⟩
  | 8 => ⟨S8192x1024, .f32⟩
  | 9 => ⟨S8192x16x64, .f32⟩
  | 10 => ⟨S8192x1024, .f32⟩
  | 11 => ⟨S8192x16x64, .f32⟩
  | 12 => ⟨S8192, .i32⟩
  | 13 => ⟨S8192x1, .i32⟩
  | 14 => ⟨S8192, .i32⟩
  | 15 => ⟨S1x8192, .i32⟩
  | 16 => ⟨S_, .i32⟩
  | 17 => ⟨S_, .i32⟩
  | 18 => ⟨S8192x1, .i32⟩
  | 19 => ⟨S8192x1, .i32⟩
  | 20 => ⟨S8192x1, .i32⟩
  | 21 => ⟨S_, .i32⟩
  | 22 => ⟨S8192x1, .i32⟩
  | 23 => ⟨S8192x1, .i1⟩
  | 24 => ⟨S8192x1, .i32⟩
  | 25 => ⟨S8192x1, .i32⟩
  | 26 => ⟨S_, .i32⟩
  | 27 => ⟨S8192x1, .i32⟩
  | 28 => ⟨S8192x1, .i1⟩
  | 29 => ⟨S8192x1, .i1⟩
  | 30 => ⟨S_, .i32⟩
  | 31 => ⟨S8192x1, .i32⟩
  | 32 => ⟨S8192x1, .i32⟩
  | 33 => ⟨S8192x1, .i32⟩
  | 34 => ⟨S_, .i32⟩
  | 35 => ⟨S_, .i32⟩
  | 36 => ⟨S1x8192, .i32⟩
  | 37 => ⟨S1x8192, .i32⟩
  | 38 => ⟨S1x8192, .i32⟩
  | 39 => ⟨S_, .i32⟩
  | 40 => ⟨S1x8192, .i32⟩
  | 41 => ⟨S1x8192, .i1⟩
  | 42 => ⟨S1x8192, .i32⟩
  | 43 => ⟨S1x8192, .i32⟩
  | 44 => ⟨S_, .i32⟩
  | 45 => ⟨S1x8192, .i32⟩
  | 46 => ⟨S1x8192, .i1⟩
  | 47 => ⟨S1x8192, .i1⟩
  | 48 => ⟨S_, .i32⟩
  | 49 => ⟨S1x8192, .i32⟩
  | 50 => ⟨S1x8192, .i32⟩
  | 51 => ⟨S1x8192, .i32⟩
  | 52 => ⟨S8192x8192, .i32⟩
  | 53 => ⟨S8192x8192, .i32⟩
  | 54 => ⟨S8192x8192, .i32⟩
  | 55 => ⟨S8192x8192, .i32⟩
  | 56 => ⟨S8192x8192, .i32⟩
  | 57 => ⟨S8192x8192, .i32⟩
  | 58 => ⟨S_, .i32⟩
  | 59 => ⟨S_, .i32⟩
  | 60 => ⟨S_, .i32⟩
  | 61 => ⟨S8192x8192, .i32⟩
  | 62 => ⟨S8192x8192, .i32⟩
  | 63 => ⟨S_, .i32⟩
  | 64 => ⟨S8192x8192, .i32⟩
  | 65 => ⟨S8192x8192, .i32⟩
  | 66 => ⟨S_, .i32⟩
  | 67 => ⟨S8192x8192, .i32⟩
  | 68 => ⟨S8192x8192, .i32⟩
  | 69 => ⟨S16x8192x8192, .f32⟩
  | 70 => ⟨S_, .f32⟩
  | 71 => ⟨S16x8192x8192, .f32⟩
  | 72 => ⟨S16x8192x8192, .f32⟩
  | 73 => ⟨S_, .i32⟩
  | 74 => ⟨S8192x8192, .i32⟩
  | 75 => ⟨S8192x8192, .i1⟩
  | 76 => ⟨S_, .i32⟩
  | 77 => ⟨S8192x8192, .i32⟩
  | 78 => ⟨S8192x8192, .i32⟩
  | 79 => ⟨S8192x8192, .i32⟩
  | 80 => ⟨S8192x8192x1, .i32⟩
  | 81 => ⟨S16x8192x8192, .f32⟩
  | 82 => ⟨S16x8192x8192, .f32⟩
  | 83 => ⟨S_, .i32⟩
  | 84 => ⟨S8192x8192, .i32⟩
  | 85 => ⟨S8192x8192, .i1⟩
  | 86 => ⟨S_, .i32⟩
  | 87 => ⟨S8192x8192, .i32⟩
  | 88 => ⟨S8192x8192, .i1⟩
  | 89 => ⟨S8192x8192, .i1⟩
  | 90 => ⟨S_, .f32⟩
  | 91 => ⟨S_, .f32⟩
  | 92 => ⟨S16x8192x8192, .i1⟩
  | 93 => ⟨S16x8192x8192, .f32⟩
  | 94 => ⟨S16x8192x8192, .f32⟩
  | 95 => ⟨S_, .f32⟩
  | 96 => ⟨S16x8192, .f32⟩
  | 97 => ⟨S_, .f32⟩
  | 98 => ⟨S16x8192, .f32⟩
  | 99 => ⟨S16x8192, .f32⟩
  | 100 => ⟨S16x8192x1, .f32⟩
  | 101 => ⟨S16x8192x8192, .f32⟩
  | 102 => ⟨S16x8192x8192, .f32⟩
  | 103 => ⟨S16x8192x8192, .f32⟩
  | 104 => ⟨S_, .f32⟩
  | 105 => ⟨S16x8192, .f32⟩
  | 106 => ⟨S16x8192x1, .f32⟩
  | 107 => ⟨S16x8192x8192, .f32⟩
  | 108 => ⟨S16x8192x8192, .f32⟩
  | 109 => ⟨S16x64x8192, .f32⟩
  | 110 => ⟨S8192x16x64, .f32⟩
  | 111 => ⟨S8192x1024, .f32⟩
  | 112 => ⟨S8192x1024, .bf16⟩
  | 113 => ⟨S8192x2048, .bf16⟩
  | 114 => ⟨S_, .i32⟩
  | 115 => ⟨S_, .bf16⟩
  | 116 => ⟨S8704x2048, .bf16⟩
  | 117 => ⟨S256, .i32⟩
  | 118 => ⟨S256x1, .i32⟩
  | 119 => ⟨S768, .i32⟩
  | 120 => ⟨S1x768, .i32⟩
  | 121 => ⟨S_, .i32⟩
  | 122 => ⟨S_, .i32⟩
  | 123 => ⟨S256x1, .i32⟩
  | 124 => ⟨S256x1, .i32⟩
  | 125 => ⟨S256x1, .i32⟩
  | 126 => ⟨S_, .i32⟩
  | 127 => ⟨S256x1, .i32⟩
  | _ => ⟨S8192x1024, .bf16⟩

abbrev hbmTy0_1 (i : Nat) : BufTy := match i % 128 with
  | 0 => ⟨S256x1, .i1⟩
  | 1 => ⟨S256x1, .i32⟩
  | 2 => ⟨S256x1, .i32⟩
  | 3 => ⟨S_, .i32⟩
  | 4 => ⟨S256x1, .i32⟩
  | 5 => ⟨S256x1, .i1⟩
  | 6 => ⟨S256x1, .i1⟩
  | 7 => ⟨S_, .i32⟩
  | 8 => ⟨S256x1, .i32⟩
  | 9 => ⟨S256x1, .i32⟩
  | 10 => ⟨S256x1, .i32⟩
  | 11 => ⟨S_, .i32⟩
  | 12 => ⟨S256x1, .i32⟩
  | 13 => ⟨S256x1, .i32⟩
  | 14 => ⟨S_, .i32⟩
  | 15 => ⟨S_, .i32⟩
  | 16 => ⟨S1x768, .i32⟩
  | 17 => ⟨S1x768, .i32⟩
  | 18 => ⟨S1x768, .i32⟩
  | 19 => ⟨S_, .i32⟩
  | 20 => ⟨S1x768, .i32⟩
  | 21 => ⟨S1x768, .i1⟩
  | 22 => ⟨S1x768, .i32⟩
  | 23 => ⟨S1x768, .i32⟩
  | 24 => ⟨S_, .i32⟩
  | 25 => ⟨S1x768, .i32⟩
  | 26 => ⟨S1x768, .i1⟩
  | 27 => ⟨S1x768, .i1⟩
  | 28 => ⟨S_, .i32⟩
  | 29 => ⟨S1x768, .i32⟩
  | 30 => ⟨S1x768, .i32⟩
  | 31 => ⟨S1x768, .i32⟩
  | 32 => ⟨S256x768, .i32⟩
  | 33 => ⟨S256x768, .i32⟩
  | 34 => ⟨S256x768, .i32⟩
  | 35 => ⟨S_, .i32⟩
  | 36 => ⟨S256x1, .i32⟩
  | 37 => ⟨S256x1, .i32⟩
  | 38 => ⟨S256x768, .i32⟩
  | 39 => ⟨S256x768, .i32⟩
  | 40 => ⟨S256x768, .i32⟩
  | 41 => ⟨S_, .i32⟩
  | 42 => ⟨S_, .i32⟩
  | 43 => ⟨S_, .i32⟩
  | 44 => ⟨S256x768, .i32⟩
  | 45 => ⟨S256x768, .i32⟩
  | 46 => ⟨S_, .i32⟩
  | 47 => ⟨S256x768, .i32⟩
  | 48 => ⟨S256x768, .i32⟩
  | 49 => ⟨S_, .i32⟩
  | 50 => ⟨S256x768, .i32⟩
  | 51 => ⟨S256x768, .i32⟩
  | 52 => ⟨S_, .i32⟩
  | 53 => ⟨S256x768, .i32⟩
  | 54 => ⟨S256x768, .i1⟩
  | 55 => ⟨S_, .i32⟩
  | 56 => ⟨S256x768, .i32⟩
  | 57 => ⟨S256x768, .i1⟩
  | 58 => ⟨S256x768, .i1⟩
  | 59 => ⟨S_, .i32⟩
  | 60 => ⟨S1x768, .i32⟩
  | 61 => ⟨S1x768, .i1⟩
  | 62 => ⟨S256x768, .i1⟩
  | 63 => ⟨S256x768, .i1⟩
  | 64 => ⟨S_, .i32⟩
  | 65 => ⟨S256x768, .i32⟩
  | 66 => ⟨S256x768, .i1⟩
  | 67 => ⟨S_, .i32⟩
  | 68 => ⟨S256x768, .i32⟩
  | 69 => ⟨S256x768, .i32⟩
  | 70 => ⟨S256x768, .i32⟩
  | 71 => ⟨S256x768x1, .i32⟩
  | 72 => ⟨S16x256x768, .f32⟩
  | 73 => ⟨S_, .f32⟩
  | 74 => ⟨S_, .f32⟩
  | 75 => ⟨S16x256x768, .i1⟩
  | 76 => ⟨S16x256x768, .f32⟩
  | 77 => ⟨S16x256x768, .f32⟩
  | 78 => ⟨S_, .i32⟩
  | 79 => ⟨S1x768, .i32⟩
  | 80 => ⟨S1x768, .i1⟩
  | 81 => ⟨S256x768, .i1⟩
  | 82 => ⟨S256x768, .i1⟩
  | 83 => ⟨S_, .i32⟩
  | 84 => ⟨S256x768, .i32⟩
  | 85 => ⟨S256x768, .i1⟩
  | 86 => ⟨S_, .i32⟩
  | 87 => ⟨S256x768, .i32⟩
  | 88 => ⟨S256x768, .i32⟩
  | 89 => ⟨S256x768, .i32⟩
  | 90 => ⟨S256x768x1, .i32⟩
  | 91 => ⟨S16x256x768, .f32⟩
  | 92 => ⟨S_, .f32⟩
  | 93 => ⟨S_, .f32⟩
  | 94 => ⟨S16x256x768, .i1⟩
  | 95 => ⟨S16x256x768, .f32⟩
  | 96 => ⟨S16x256x768, .f32⟩
  | 97 => ⟨S_, .i32⟩
  | 98 => ⟨S1x768, .i32⟩
  | 99 => ⟨S1x768, .i1⟩
  | 100 => ⟨S256x768, .i1⟩
  | 101 => ⟨S256x768, .i1⟩
  | 102 => ⟨S_, .i32⟩
  | 103 => ⟨S256x768, .i32⟩
  | 104 => ⟨S256x768, .i1⟩
  | 105 => ⟨S_, .i32⟩
  | 106 => ⟨S256x768, .i32⟩
  | 107 => ⟨S256x768, .i32⟩
  | 108 => ⟨S256x768, .i32⟩
  | 109 => ⟨S256x768x1, .i32⟩
  | 110 => ⟨S16x256x768, .f32⟩
  | 111 => ⟨S_, .f32⟩
  | 112 => ⟨S_, .f32⟩
  | 113 => ⟨S16x256x768, .i1⟩
  | 114 => ⟨S16x256x768, .f32⟩
  | 115 => ⟨S16x256x768, .f32⟩
  | 116 => ⟨S1x16x256x768, .f32⟩
  | 117 => ⟨S1x16x256x768, .f32⟩
  | 118 => ⟨S1x16x256x768, .f32⟩
  | 119 => ⟨S3x16x256x768, .f32⟩
  | 120 => ⟨S8192x1024, .bf16⟩
  | 121 => ⟨S8192x1024, .bf16⟩
  | 122 => ⟨S8704x1024, .bf16⟩
  | 123 => ⟨S8704x1024, .bf16⟩
  | 124 => ⟨S16x256x768, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | .local _ .vmem, ⟨0, _⟩ => ⟨S256x128, .bf16⟩
  | .local _ .vmem, ⟨1, _⟩ => ⟨S256x128, .bf16⟩
  | .local _ .vmem, ⟨2, _⟩ => ⟨S8704x128, .bf16⟩
  | .local _ .vmem, ⟨3, _⟩ => ⟨S8704x128, .bf16⟩
  | .local _ .vmem, ⟨4, _⟩ => ⟨S8704x128, .bf16⟩
  | .local _ .vmem, ⟨5, _⟩ => ⟨S8704x128, .bf16⟩
  | .local _ .vmem, ⟨6, _⟩ => ⟨S256x128, .f32⟩
  | .local _ .vmem, ⟨7, _⟩ => ⟨S256x128, .f32⟩
  | .local _ .vmem, ⟨8, _⟩ => ⟨S1x2x256x768, .f32⟩
  | .local _ .vmem, ⟨9, _⟩ => ⟨S1x2x256x768, .f32⟩
  | .local _ .vmem, ⟨10, _⟩ => ⟨S256x128, .f32⟩
  | .local _ .vmem, ⟨11, _⟩ => ⟨S256x128, .f32⟩
  | .local _ .vmem, ⟨12, _⟩ => ⟨S256x128, .bf16⟩
  | .local _ .vmem, ⟨13, _⟩ => ⟨S256x128, .bf16⟩
  | .local _ .vmem, ⟨14, _⟩ => ⟨S256x128, .bf16⟩
  | .local _ .vmem, ⟨15, _⟩ => ⟨S256x128, .bf16⟩
  | .local _ .vmem, ⟨16, _⟩ => ⟨S256x128, .bf16⟩
  | .local _ .vmem, ⟨17, _⟩ => ⟨S256x128, .bf16⟩
  | .local _ .vmem, ⟨18, _⟩ => ⟨S8704x128, .bf16⟩
  | .local _ .vmem, ⟨19, _⟩ => ⟨S8704x128, .bf16⟩
  | .local _ .vmem, ⟨20, _⟩ => ⟨S8704x128, .bf16⟩
  | .local _ .vmem, ⟨21, _⟩ => ⟨S8704x128, .bf16⟩
  | .local _ .vmem, ⟨22, _⟩ => ⟨S2x256x768, .f32⟩
  | .local _ .vmem, ⟨23, _⟩ => ⟨S2x256x768, .f32⟩
  | .local _ .vmem, ⟨24, _⟩ => ⟨S8704x128, .f32⟩
  | .local _ .vmem, ⟨25, _⟩ => ⟨S8704x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v10 : Ref sig .tc := ⟨.hbm, 33, rfl⟩
abbrev main_c_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_1 : Ref sig .tc := ⟨.hbm, 58, rfl⟩
abbrev main_c_2 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_v18 : Ref sig .tc := ⟨.hbm, 65, rfl⟩
abbrev main_c_3 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst : Ref sig .tc := ⟨.hbm, 70, rfl⟩
abbrev main_v22 : Ref sig .tc := ⟨.hbm, 71, rfl⟩
abbrev main_v23 : Ref sig .tc := ⟨.hbm, 72, rfl⟩
abbrev main_c_4 : Ref sig .tc := ⟨.hbm, 73, rfl⟩
abbrev main_v24 : Ref sig .tc := ⟨.hbm, 74, rfl⟩
abbrev main_v25 : Ref sig .tc := ⟨.hbm, 75, rfl⟩
abbrev main_c_5 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_c_6 : Ref sig .tc := ⟨.hbm, 83, rfl⟩
abbrev main_v32 : Ref sig .tc := ⟨.hbm, 84, rfl⟩
abbrev main_v33 : Ref sig .tc := ⟨.hbm, 85, rfl⟩
abbrev main_c_7 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_cst_8 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v37 : Ref sig .tc := ⟨.hbm, 94, rfl⟩
abbrev main_cst_9 : Ref sig .tc := ⟨.hbm, 95, rfl⟩
abbrev main_v38 : Ref sig .tc := ⟨.hbm, 96, rfl⟩
abbrev main_cst_10 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_cst_11 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_c_12 : Ref sig .tc := ⟨.hbm, 114, rfl⟩
abbrev main_call4_v0 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_c_13 : Ref sig .tc := ⟨.hbm, 121, rfl⟩
abbrev main_call5_v0 : Ref sig .tc := ⟨.hbm, 122, rfl⟩
abbrev main_call5_v1 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_call5_v5 : Ref sig .tc := ⟨.hbm, 127, rfl⟩
abbrev main_call5_v6 : Ref sig .tc := ⟨.hbm, 128, rfl⟩
abbrev main_call5_v7 : Ref sig .tc := ⟨.hbm, 129, rfl⟩
abbrev main_call5_v8 : Ref sig .tc := ⟨.hbm, 130, rfl⟩
abbrev main_call5_c : Ref sig .tc := ⟨.hbm, 131, rfl⟩
abbrev main_call5_v9 : Ref sig .tc := ⟨.hbm, 132, rfl⟩
abbrev main_call5_v10 : Ref sig .tc := ⟨.hbm, 133, rfl⟩
abbrev main_call5_v11 : Ref sig .tc := ⟨.hbm, 134, rfl⟩
abbrev main_call5_c_0 : Ref sig .tc := ⟨.hbm, 135, rfl⟩
abbrev main_call5_v12 : Ref sig .tc := ⟨.hbm, 136, rfl⟩
abbrev main_call5_v13 : Ref sig .tc := ⟨.hbm, 137, rfl⟩
abbrev main_v59 : Ref sig .tc := ⟨.hbm, 138, rfl⟩
abbrev main_c_14 : Ref sig .tc := ⟨.hbm, 139, rfl⟩
abbrev main_v60 : Ref sig .tc := ⟨.hbm, 140, rfl⟩
abbrev main_v61 : Ref sig .tc := ⟨.hbm, 141, rfl⟩
abbrev main_c_15 : Ref sig .tc := ⟨.hbm, 142, rfl⟩
abbrev main_call6_v0 : Ref sig .tc := ⟨.hbm, 143, rfl⟩
abbrev main_call6_v1 : Ref sig .tc := ⟨.hbm, 144, rfl⟩
abbrev main_call6_v2 : Ref sig .tc := ⟨.hbm, 145, rfl⟩
abbrev main_call6_v3 : Ref sig .tc := ⟨.hbm, 146, rfl⟩
abbrev main_call6_v4 : Ref sig .tc := ⟨.hbm, 147, rfl⟩
abbrev main_call6_v5 : Ref sig .tc := ⟨.hbm, 148, rfl⟩
abbrev main_call6_v6 : Ref sig .tc := ⟨.hbm, 149, rfl⟩
abbrev main_call6_v7 : Ref sig .tc := ⟨.hbm, 150, rfl⟩
abbrev main_call6_v8 : Ref sig .tc := ⟨.hbm, 151, rfl⟩
abbrev main_call6_c : Ref sig .tc := ⟨.hbm, 152, rfl⟩
abbrev main_call6_v9 : Ref sig .tc := ⟨.hbm, 153, rfl⟩
abbrev main_call6_v10 : Ref sig .tc := ⟨.hbm, 154, rfl⟩
abbrev main_call6_v11 : Ref sig .tc := ⟨.hbm, 155, rfl⟩
abbrev main_call6_c_0 : Ref sig .tc := ⟨.hbm, 156, rfl⟩
abbrev main_call6_v12 : Ref sig .tc := ⟨.hbm, 157, rfl⟩
abbrev main_call6_v13 : Ref sig .tc := ⟨.hbm, 158, rfl⟩
abbrev main_v62 : Ref sig .tc := ⟨.hbm, 159, rfl⟩
abbrev main_v63 : Ref sig .tc := ⟨.hbm, 160, rfl⟩
abbrev main_v64 : Ref sig .tc := ⟨.hbm, 161, rfl⟩
abbrev main_v65 : Ref sig .tc := ⟨.hbm, 162, rfl⟩
abbrev main_c_16 : Ref sig .tc := ⟨.hbm, 163, rfl⟩
abbrev main_v66 : Ref sig .tc := ⟨.hbm, 164, rfl⟩
abbrev main_v67 : Ref sig .tc := ⟨.hbm, 165, rfl⟩
abbrev main_v68 : Ref sig .tc := ⟨.hbm, 166, rfl⟩
abbrev main_v69 : Ref sig .tc := ⟨.hbm, 167, rfl⟩
abbrev main_v70 : Ref sig .tc := ⟨.hbm, 168, rfl⟩
abbrev main_c_17 : Ref sig .tc := ⟨.hbm, 169, rfl⟩
abbrev main_c_18 : Ref sig .tc := ⟨.hbm, 170, rfl⟩
abbrev main_call7_v0 : Ref sig .tc := ⟨.hbm, 171, rfl⟩
abbrev main_call7_v1 : Ref sig .tc := ⟨.hbm, 172, rfl⟩
abbrev main_call7_v2 : Ref sig .tc := ⟨.hbm, 173, rfl⟩
abbrev main_call7_v3 : Ref sig .tc := ⟨.hbm, 174, rfl⟩
abbrev main_call7_v4 : Ref sig .tc := ⟨.hbm, 175, rfl⟩
abbrev main_v71 : Ref sig .tc := ⟨.hbm, 176, rfl⟩
abbrev main_c_19 : Ref sig .tc := ⟨.hbm, 177, rfl⟩
abbrev main_v72 : Ref sig .tc := ⟨.hbm, 178, rfl⟩
abbrev main_v73 : Ref sig .tc := ⟨.hbm, 179, rfl⟩
abbrev main_c_20 : Ref sig .tc := ⟨.hbm, 180, rfl⟩
abbrev main_v74 : Ref sig .tc := ⟨.hbm, 181, rfl⟩
abbrev main_v75 : Ref sig .tc := ⟨.hbm, 182, rfl⟩
abbrev main_c_21 : Ref sig .tc := ⟨.hbm, 183, rfl⟩
abbrev main_v76 : Ref sig .tc := ⟨.hbm, 184, rfl⟩
abbrev main_v77 : Ref sig .tc := ⟨.hbm, 185, rfl⟩
abbrev main_v78 : Ref sig .tc := ⟨.hbm, 186, rfl⟩
abbrev main_c_22 : Ref sig .tc := ⟨.hbm, 187, rfl⟩
abbrev main_v79 : Ref sig .tc := ⟨.hbm, 188, rfl⟩
abbrev main_v80 : Ref sig .tc := ⟨.hbm, 189, rfl⟩
abbrev main_v81 : Ref sig .tc := ⟨.hbm, 190, rfl⟩
abbrev main_v82 : Ref sig .tc := ⟨.hbm, 191, rfl⟩
abbrev main_c_23 : Ref sig .tc := ⟨.hbm, 192, rfl⟩
abbrev main_v83 : Ref sig .tc := ⟨.hbm, 193, rfl⟩
abbrev main_v84 : Ref sig .tc := ⟨.hbm, 194, rfl⟩
abbrev main_c_24 : Ref sig .tc := ⟨.hbm, 195, rfl⟩
abbrev main_v85 : Ref sig .tc := ⟨.hbm, 196, rfl⟩
abbrev main_v86 : Ref sig .tc := ⟨.hbm, 197, rfl⟩
abbrev main_v87 : Ref sig .tc := ⟨.hbm, 198, rfl⟩
abbrev main_v88 : Ref sig .tc := ⟨.hbm, 199, rfl⟩
abbrev main_v89 : Ref sig .tc := ⟨.hbm, 200, rfl⟩
abbrev main_cst_25 : Ref sig .tc := ⟨.hbm, 201, rfl⟩
abbrev main_call8_v0 : Ref sig .tc := ⟨.hbm, 202, rfl⟩
abbrev main_call8_v1 : Ref sig .tc := ⟨.hbm, 203, rfl⟩
abbrev main_call8_v2 : Ref sig .tc := ⟨.hbm, 204, rfl⟩
abbrev main_v90 : Ref sig .tc := ⟨.hbm, 205, rfl⟩
abbrev main_c_26 : Ref sig .tc := ⟨.hbm, 206, rfl⟩
abbrev main_v91 : Ref sig .tc := ⟨.hbm, 207, rfl⟩
abbrev main_v92 : Ref sig .tc := ⟨.hbm, 208, rfl⟩
abbrev main_v93 : Ref sig .tc := ⟨.hbm, 209, rfl⟩
abbrev main_v94 : Ref sig .tc := ⟨.hbm, 210, rfl⟩
abbrev main_c_27 : Ref sig .tc := ⟨.hbm, 211, rfl⟩
abbrev main_v95 : Ref sig .tc := ⟨.hbm, 212, rfl⟩
abbrev main_v96 : Ref sig .tc := ⟨.hbm, 213, rfl⟩
abbrev main_c_28 : Ref sig .tc := ⟨.hbm, 214, rfl⟩
abbrev main_v97 : Ref sig .tc := ⟨.hbm, 215, rfl⟩
abbrev main_v98 : Ref sig .tc := ⟨.hbm, 216, rfl⟩
abbrev main_v99 : Ref sig .tc := ⟨.hbm, 217, rfl⟩
abbrev main_v100 : Ref sig .tc := ⟨.hbm, 218, rfl⟩
abbrev main_v101 : Ref sig .tc := ⟨.hbm, 219, rfl⟩
abbrev main_cst_29 : Ref sig .tc := ⟨.hbm, 220, rfl⟩
abbrev main_call9_v0 : Ref sig .tc := ⟨.hbm, 221, rfl⟩
abbrev main_call9_v1 : Ref sig .tc := ⟨.hbm, 222, rfl⟩
abbrev main_call9_v2 : Ref sig .tc := ⟨.hbm, 223, rfl⟩
abbrev main_v102 : Ref sig .tc := ⟨.hbm, 224, rfl⟩
abbrev main_c_30 : Ref sig .tc := ⟨.hbm, 225, rfl⟩
abbrev main_v103 : Ref sig .tc := ⟨.hbm, 226, rfl⟩
abbrev main_v104 : Ref sig .tc := ⟨.hbm, 227, rfl⟩
abbrev main_v105 : Ref sig .tc := ⟨.hbm, 228, rfl⟩
abbrev main_v106 : Ref sig .tc := ⟨.hbm, 229, rfl⟩
abbrev main_c_31 : Ref sig .tc := ⟨.hbm, 230, rfl⟩
abbrev main_v107 : Ref sig .tc := ⟨.hbm, 231, rfl⟩
abbrev main_v108 : Ref sig .tc := ⟨.hbm, 232, rfl⟩
abbrev main_c_32 : Ref sig .tc := ⟨.hbm, 233, rfl⟩
abbrev main_v109 : Ref sig .tc := ⟨.hbm, 234, rfl⟩
abbrev main_v110 : Ref sig .tc := ⟨.hbm, 235, rfl⟩
abbrev main_v111 : Ref sig .tc := ⟨.hbm, 236, rfl⟩
abbrev main_v112 : Ref sig .tc := ⟨.hbm, 237, rfl⟩
abbrev main_v113 : Ref sig .tc := ⟨.hbm, 238, rfl⟩
abbrev main_cst_33 : Ref sig .tc := ⟨.hbm, 239, rfl⟩
abbrev main_call10_v0 : Ref sig .tc := ⟨.hbm, 240, rfl⟩
abbrev main_call10_v1 : Ref sig .tc := ⟨.hbm, 241, rfl⟩
abbrev main_call10_v2 : Ref sig .tc := ⟨.hbm, 242, rfl⟩
abbrev main_v114 : Ref sig .tc := ⟨.hbm, 243, rfl⟩
abbrev main_v115 : Ref sig .tc := ⟨.hbm, 244, rfl⟩
abbrev main_v116 : Ref sig .tc := ⟨.hbm, 245, rfl⟩
abbrev main_v117 : Ref sig .tc := ⟨.hbm, 246, rfl⟩
abbrev main_v118 : Ref sig .tc := ⟨.hbm, 247, rfl⟩
abbrev main_v119_0 : Ref sig .tc := ⟨.hbm, 248, rfl⟩
abbrev main_v119_1 : Ref sig .tc := ⟨.hbm, 249, rfl⟩
abbrev main_v119_2 : Ref sig .tc := ⟨.hbm, 250, rfl⟩
abbrev main_v119_3 : Ref sig .tc := ⟨.hbm, 251, rfl⟩
abbrev main_v119_4 : Ref sig .tc := ⟨.hbm, 252, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c31_i32 : BitVec 32 := 31#32
  let v168 : BitVec 1 := Scalar.cmpi .eq arg1 c31_i32
  let v169 : BitVec 32 := Scalar.extui v168
  let c0_i32_71 : BitVec 32 := 0#32
  let v170 : BitVec 1 := Scalar.cmpi .ne v169 c0_i32_71
  v170

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  let c0_i32_0 : BitVec 32 := 0#32
  let c0_i32_1 : BitVec 32 := 0#32
  ![v0.toNat, arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8704x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8704x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8704x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8704x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2x256x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference2Ideal.lean ====
abbrev S8192x1024 : Shape := ⟨2, ![8192, 1024]⟩
abbrev S16x257 : Shape := ⟨2, ![16, 257]⟩
abbrev S8192x16x64 : Shape := ⟨3, ![8192, 16, 64]⟩
abbrev S8192 : Shape := ⟨1, ![8192]⟩
abbrev S8192x1 : Shape := ⟨2, ![8192, 1]⟩
abbrev S1x8192 : Shape := ⟨2, ![1, 8192]⟩
abbrev S_ : Shape := ⟨0, ![]⟩
abbrev S8192x8192 : Shape := ⟨2, ![8192, 8192]⟩
abbrev S16x8192x8192 : Shape := ⟨3, ![16, 8192, 8192]⟩
abbrev S8192x8192x1 : Shape := ⟨3, ![8192, 8192, 1]⟩
abbrev S16x8192 : Shape := ⟨2, ![16, 8192]⟩
abbrev S16x8192x1 : Shape := ⟨3, ![16, 8192, 1]⟩
abbrev S16x64x8192 : Shape := ⟨3, ![16, 64, 8192]⟩
abbrev S16x8192x64 : Shape := ⟨3, ![16, 8192, 64]⟩
abbrev S8704x1024 : Shape := ⟨2, ![8704, 1024]⟩

abbrev nBuf : Space → Nat
  | .hbm => 200
  | .vmem => 0
  | .smem => 0
  | _ => 0

abbrev hbmTy0_0 (i : Nat) : BufTy := match i % 128 with
  | 0 => ⟨S8192x1024, .bf16⟩
  | 1 => ⟨S8192x1024, .bf16⟩
  | 2 => ⟨S8192x1024, .bf16⟩
  | 3 => ⟨S8192x1024, .f32⟩
  | 4 => ⟨S16x257, .f32⟩
  | 5 => ⟨S8192x1024, .f32⟩
  | 6 => ⟨S8192x1024, .f32⟩
  | 7 => ⟨S8192x1024, .f32⟩
  | 8 => ⟨S8192x1024, .f32⟩
  | 9 => ⟨S8192x16x64, .f32⟩
  | 10 => ⟨S8192x16x64, .f32⟩
  | 11 => ⟨S8192x16x64, .f32⟩
  | 12 => ⟨S8192, .i32⟩
  | 13 => ⟨S8192x1, .i32⟩
  | 14 => ⟨S8192, .i32⟩
  | 15 => ⟨S1x8192, .i32⟩
  | 16 => ⟨S_, .i32⟩
  | 17 => ⟨S_, .i32⟩
  | 18 => ⟨S8192x1, .i32⟩
  | 19 => ⟨S8192x1, .i32⟩
  | 20 => ⟨S8192x1, .i32⟩
  | 21 => ⟨S_, .i32⟩
  | 22 => ⟨S8192x1, .i32⟩
  | 23 => ⟨S8192x1, .i1⟩
  | 24 => ⟨S8192x1, .i32⟩
  | 25 => ⟨S8192x1, .i32⟩
  | 26 => ⟨S_, .i32⟩
  | 27 => ⟨S8192x1, .i32⟩
  | 28 => ⟨S8192x1, .i1⟩
  | 29 => ⟨S8192x1, .i1⟩
  | 30 => ⟨S_, .i32⟩
  | 31 => ⟨S8192x1, .i32⟩
  | 32 => ⟨S8192x1, .i32⟩
  | 33 => ⟨S8192x1, .i32⟩
  | 34 => ⟨S_, .i32⟩
  | 35 => ⟨S_, .i32⟩
  | 36 => ⟨S1x8192, .i32⟩
  | 37 => ⟨S1x8192, .i32⟩
  | 38 => ⟨S1x8192, .i32⟩
  | 39 => ⟨S_, .i32⟩
  | 40 => ⟨S1x8192, .i32⟩
  | 41 => ⟨S1x8192, .i1⟩
  | 42 => ⟨S1x8192, .i32⟩
  | 43 => ⟨S1x8192, .i32⟩
  | 44 => ⟨S_, .i32⟩
  | 45 => ⟨S1x8192, .i32⟩
  | 46 => ⟨S1x8192, .i1⟩
  | 47 => ⟨S1x8192, .i1⟩
  | 48 => ⟨S_, .i32⟩
  | 49 => ⟨S1x8192, .i32⟩
  | 50 => ⟨S1x8192, .i32⟩
  | 51 => ⟨S1x8192, .i32⟩
  | 52 => ⟨S8192x8192, .i32⟩
  | 53 => ⟨S8192x8192, .i32⟩
  | 54 => ⟨S8192x8192, .i32⟩
  | 55 => ⟨S8192x8192, .i32⟩
  | 56 => ⟨S8192x8192, .i32⟩
  | 57 => ⟨S8192x8192, .i32⟩
  | 58 => ⟨S_, .i32⟩
  | 59 => ⟨S_, .i32⟩
  | 60 => ⟨S_, .i32⟩
  | 61 => ⟨S8192x8192, .i32⟩
  | 62 => ⟨S8192x8192, .i32⟩
  | 63 => ⟨S_, .i32⟩
  | 64 => ⟨S8192x8192, .i32⟩
  | 65 => ⟨S8192x8192, .i32⟩
  | 66 => ⟨S_, .i32⟩
  | 67 => ⟨S8192x8192, .i32⟩
  | 68 => ⟨S8192x8192, .i32⟩
  | 69 => ⟨S16x8192x8192, .f32⟩
  | 70 => ⟨S_, .f32⟩
  | 71 => ⟨S16x8192x8192, .f32⟩
  | 72 => ⟨S16x8192x8192, .f32⟩
  | 73 => ⟨S_, .i32⟩
  | 74 => ⟨S8192x8192, .i32⟩
  | 75 => ⟨S8192x8192, .i1⟩
  | 76 => ⟨S_, .i32⟩
  | 77 => ⟨S8192x8192, .i32⟩
  | 78 => ⟨S8192x8192, .i32⟩
  | 79 => ⟨S8192x8192, .i32⟩
  | 80 => ⟨S8192x8192x1, .i32⟩
  | 81 => ⟨S16x8192x8192, .f32⟩
  | 82 => ⟨S16x8192x8192, .f32⟩
  | 83 => ⟨S_, .i32⟩
  | 84 => ⟨S8192x8192, .i32⟩
  | 85 => ⟨S8192x8192, .i1⟩
  | 86 => ⟨S_, .i32⟩
  | 87 => ⟨S8192x8192, .i32⟩
  | 88 => ⟨S8192x8192, .i1⟩
  | 89 => ⟨S8192x8192, .i1⟩
  | 90 => ⟨S_, .f32⟩
  | 91 => ⟨S_, .f32⟩
  | 92 => ⟨S16x8192x8192, .i1⟩
  | 93 => ⟨S16x8192x8192, .f32⟩
  | 94 => ⟨S16x8192x8192, .f32⟩
  | 95 => ⟨S_, .f32⟩
  | 96 => ⟨S16x8192x8192, .f32⟩
  | 97 => ⟨S_, .f32⟩
  | 98 => ⟨S16x8192, .f32⟩
  | 99 => ⟨S16x8192x1, .f32⟩
  | 100 => ⟨S16x8192x8192, .f32⟩
  | 101 => ⟨S16x8192x8192, .i1⟩
  | 102 => ⟨S16x8192x8192, .f32⟩
  | 103 => ⟨S_, .f32⟩
  | 104 => ⟨S16x8192, .f32⟩
  | 105 => ⟨S_, .f32⟩
  | 106 => ⟨S16x8192, .f32⟩
  | 107 => ⟨S16x8192, .f32⟩
  | 108 => ⟨S_, .f32⟩
  | 109 => ⟨S16x8192, .f32⟩
  | 110 => ⟨S16x8192, .i1⟩
  | 111 => ⟨S_, .f32⟩
  | 112 => ⟨S16x8192, .f32⟩
  | 113 => ⟨S16x8192, .i1⟩
  | 114 => ⟨S_, .f32⟩
  | 115 => ⟨S16x8192, .f32⟩
  | 116 => ⟨S_, .f32⟩
  | 117 => ⟨S16x8192, .f32⟩
  | 118 => ⟨S_, .f32⟩
  | 119 => ⟨S16x8192, .f32⟩
  | 120 => ⟨S16x8192, .f32⟩
  | 121 => ⟨S16x8192, .f32⟩
  | 122 => ⟨S16x8192x1, .f32⟩
  | 123 => ⟨S16x8192x8192, .f32⟩
  | 124 => ⟨S16x8192x8192, .f32⟩
  | 125 => ⟨S16x8192x8192, .f32⟩
  | 126 => ⟨S_, .f32⟩
  | 127 => ⟨S16x8192, .f32⟩
  | _ => ⟨S8192x1024, .bf16⟩

abbrev hbmTy0_1 (i : Nat) : BufTy := match i % 128 with
  | 0 => ⟨S16x8192x1, .f32⟩
  | 1 => ⟨S16x8192x8192, .f32⟩
  | 2 => ⟨S16x8192x8192, .f32⟩
  | 3 => ⟨S16x8192x1, .f32⟩
  | 4 => ⟨S_, .f32⟩
  | 5 => ⟨S16x8192x1, .f32⟩
  | 6 => ⟨S16x8192x1, .f32⟩
  | 7 => ⟨S16x64x8192, .f32⟩
  | 8 => ⟨S8192x16x64, .f32⟩
  | 9 => ⟨S8192x1024, .f32⟩
  | 10 => ⟨S8192x1024, .f32⟩
  | 11 => ⟨S8192x1024, .f32⟩
  | 12 => ⟨S_, .f32⟩
  | 13 => ⟨S8192x1024, .f32⟩
  | 14 => ⟨S8192x1024, .f32⟩
  | 15 => ⟨S_, .f32⟩
  | 16 => ⟨S8192x1024, .f32⟩
  | 17 => ⟨S8192x1024, .f32⟩
  | 18 => ⟨S_, .f32⟩
  | 19 => ⟨S8192x1024, .f32⟩
  | 20 => ⟨S8192x1024, .f32⟩
  | 21 => ⟨S8192x1024, .f32⟩
  | 22 => ⟨S8192x1024, .f32⟩
  | 23 => ⟨S8192x1024, .f32⟩
  | 24 => ⟨S8192x1024, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S8192x16x64, .f32⟩
  | 31 => ⟨S16x64x8192, .f32⟩
  | 32 => ⟨S16x8192x8192, .f32⟩
  | 33 => ⟨S16x64x8192, .f32⟩
  | 34 => ⟨S8192x16x64, .f32⟩
  | 35 => ⟨S16x8192x8192, .f32⟩
  | 36 => ⟨S16x8192x8192, .f32⟩
  | 37 => ⟨S16x8192x8192, .f32⟩
  | 38 => ⟨S_, .f32⟩
  | 39 => ⟨S16x8192, .f32⟩
  | 40 => ⟨S16x8192x1, .f32⟩
  | 41 => ⟨S16x8192x1, .f32⟩
  | 42 => ⟨S16x8192x8192, .f32⟩
  | 43 => ⟨S16x8192x8192, .f32⟩
  | 44 => ⟨S_, .f32⟩
  | 45 => ⟨S16x8192, .f32⟩
  | 46 => ⟨S16x8192x8192, .f32⟩
  | 47 => ⟨S16x8192x8192, .f32⟩
  | 48 => ⟨S16x8192x8192, .f32⟩
  | 49 => ⟨S_, .f32⟩
  | 50 => ⟨S16x8192x8192, .f32⟩
  | 51 => ⟨S16x8192x8192, .f32⟩
  | 52 => ⟨S_, .f32⟩
  | 53 => ⟨S16x8192x8192, .f32⟩
  | 54 => ⟨S16x8192x8192, .f32⟩
  | 55 => ⟨S16x8192x64, .f32⟩
  | 56 => ⟨S8192x16x64, .f32⟩
  | 57 => ⟨S16x8192x64, .f32⟩
  | 58 => ⟨S8192x16x64, .f32⟩
  | 59 => ⟨S8192x1024, .f32⟩
  | 60 => ⟨S8192x1024, .f32⟩
  | 61 => ⟨S8192x1024, .f32⟩
  | 62 => ⟨S8192x1024, .bf16⟩
  | 63 => ⟨S8192x1024, .bf16⟩
  | 64 => ⟨S8192x1024, .bf16⟩
  | 65 => ⟨S_, .i32⟩
  | 66 => ⟨S_, .bf16⟩
  | 67 => ⟨S8704x1024, .bf16⟩
  | 68 => ⟨S8192x1024, .bf16⟩
  | 69 => ⟨S_, .i32⟩
  | 70 => ⟨S_, .bf16⟩
  | 71 => ⟨S8704x1024, .bf16⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v10 : Ref sig .tc := ⟨.hbm, 33, rfl⟩
abbrev main_c_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_1 : Ref sig .tc := ⟨.hbm, 58, rfl⟩
abbrev main_c_2 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_v18 : Ref sig .tc := ⟨.hbm, 65, rfl⟩
abbrev main_c_3 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst : Ref sig .tc := ⟨.hbm, 70, rfl⟩
abbrev main_v22 : Ref sig .tc := ⟨.hbm, 71, rfl⟩
abbrev main_v23 : Ref sig .tc := ⟨.hbm, 72, rfl⟩
abbrev main_c_4 : Ref sig .tc := ⟨.hbm, 73, rfl⟩
abbrev main_v24 : Ref sig .tc := ⟨.hbm, 74, rfl⟩
abbrev main_v25 : Ref sig .tc := ⟨.hbm, 75, rfl⟩
abbrev main_c_5 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_c_6 : Ref sig .tc := ⟨.hbm, 83, rfl⟩
abbrev main_v32 : Ref sig .tc := ⟨.hbm, 84, rfl⟩
abbrev main_v33 : Ref sig .tc := ⟨.hbm, 85, rfl⟩
abbrev main_c_7 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_cst_8 : Ref sig .tc := ⟨.hbm, 90, rfl⟩
abbrev main_call3_v0 : Ref sig .tc := ⟨.hbm, 91, rfl⟩
abbrev main_v37_1 : Ref sig .tc := ⟨.hbm, 92, rfl⟩
abbrev main_call3_v2 : Ref sig .tc := ⟨.hbm, 93, rfl⟩
abbrev main_v37_0 : Ref sig .tc := ⟨.hbm, 94, rfl⟩
abbrev main_call3_cst : Ref sig .tc := ⟨.hbm, 95, rfl⟩
abbrev main_v37_2 : Ref sig .tc := ⟨.hbm, 96, rfl⟩
abbrev main_cst_9 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_10 : Ref sig .tc := ⟨.hbm, 103, rfl⟩
abbrev main_v43 : Ref sig .tc := ⟨.hbm, 104, rfl⟩
abbrev main_cst_11 : Ref sig .tc := ⟨.hbm, 105, rfl⟩
abbrev main_v44 : Ref sig .tc := ⟨.hbm, 106, rfl⟩
abbrev main_v45 : Ref sig .tc := ⟨.hbm, 107, rfl⟩
abbrev main_cst_12 : Ref sig .tc := ⟨.hbm, 108, rfl⟩
abbrev main_v46 : Ref sig .tc := ⟨.hbm, 109, rfl⟩
abbrev main_v47 : Ref sig .tc := ⟨.hbm, 110, rfl⟩
abbrev main_cst_13 : Ref sig .tc := ⟨.hbm, 111, rfl⟩
abbrev main_v48 : Ref sig .tc := ⟨.hbm, 112, rfl⟩
abbrev main_v49 : Ref sig .tc := ⟨.hbm, 113, rfl⟩
abbrev main_cst_14 : Ref sig .tc := ⟨.hbm, 114, rfl⟩
abbrev main_v50 : Ref sig .tc := ⟨.hbm, 115, rfl⟩
abbrev main_cst_15 : Ref sig .tc := ⟨.hbm, 116, rfl⟩
abbrev main_v51 : Ref sig .tc := ⟨.hbm, 117, rfl⟩
abbrev main_cst_16 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_cst_17 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_cst_18 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_call4_v0 : Ref sig .tc := ⟨.hbm, 138, rfl⟩
abbrev main_call4_v1 : Ref sig .tc := ⟨.hbm, 139, rfl⟩
abbrev main_call4_cst : Ref sig .tc := ⟨.hbm, 140, rfl⟩
abbrev main_call4_v2 : Ref sig .tc := ⟨.hbm, 141, rfl⟩
abbrev main_call4_v3 : Ref sig .tc := ⟨.hbm, 142, rfl⟩
abbrev main_call4_cst_0 : Ref sig .tc := ⟨.hbm, 143, rfl⟩
abbrev main_call4_v4 : Ref sig .tc := ⟨.hbm, 144, rfl⟩
abbrev main_v69_2 : Ref sig .tc := ⟨.hbm, 145, rfl⟩
abbrev main_call4_cst_1 : Ref sig .tc := ⟨.hbm, 146, rfl⟩
abbrev main_call4_v6 : Ref sig .tc := ⟨.hbm, 147, rfl⟩
abbrev main_call4_v7 : Ref sig .tc := ⟨.hbm, 148, rfl⟩
abbrev main_v69_1 : Ref sig .tc := ⟨.hbm, 149, rfl⟩
abbrev main_v69_0 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_call5_v0 : Ref sig .tc := ⟨.hbm, 154, rfl⟩
abbrev main_call5_v1 : Ref sig .tc := ⟨.hbm, 155, rfl⟩
abbrev main_call5_v2 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev main_cst_19 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_v86 : Ref sig .tc := ⟨.hbm, 171, rfl⟩
abbrev main_cst_20 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_call6_cst : Ref sig .tc := ⟨.hbm, 177, rfl⟩
abbrev main_call6_v0 : Ref sig .tc := ⟨.hbm, 178, rfl⟩
abbrev main_v91 : Ref sig .tc := ⟨.hbm, 179, rfl⟩
abbrev main_cst_21 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_v95 : Ref sig .tc := ⟨.hbm, 184, rfl⟩
abbrev main_v96 : Ref sig .tc := ⟨.hbm, 185, rfl⟩
abbrev main_v97 : Ref sig .tc := ⟨.hbm, 186, rfl⟩
abbrev main_v98 : Ref sig .tc := ⟨.hbm, 187, rfl⟩
abbrev main_v99 : Ref sig .tc := ⟨.hbm, 188, rfl⟩
abbrev main_v100 : Ref sig .tc := ⟨.hbm, 189, rfl⟩
abbrev main_v101 : Ref sig .tc := ⟨.hbm, 190, rfl⟩
abbrev main_v102 : Ref sig .tc := ⟨.hbm, 191, rfl⟩
abbrev main_v103 : Ref sig .tc := ⟨.hbm, 192, rfl⟩
abbrev main_c_22 : Ref sig .tc := ⟨.hbm, 193, rfl⟩
abbrev main_call7_v0 : Ref sig .tc := ⟨.hbm, 194, rfl⟩
abbrev main_v104 : Ref sig .tc := ⟨.hbm, 195, rfl⟩
abbrev main_v105 : Ref sig .tc := ⟨.hbm, 196, rfl⟩
abbrev main_c_23 : Ref sig .tc := ⟨.hbm, 197, rfl⟩
abbrev main_call8_v0 : Ref sig .tc := ⟨.hbm, 198, rfl⟩
abbrev main_v106 : Ref sig .tc := ⟨.hbm, 199, rfl⟩

abbrev nD : Nat := 1
abbrev τ : Topo := Topo.v7x

variable {F : FTy → Type} [FloatOps F]
-- ==== Kernel3.lean ====
abbrev S8192x1024 : Shape := ⟨2, ![8192, 1024]⟩
abbrev S8704x1024 : Shape := ⟨2, ![8704, 1024]⟩
abbrev S1024x4096 : Shape := ⟨2, ![1024, 4096]⟩
abbrev S1x1024 : Shape := ⟨2, ![1, 1024]⟩
abbrev S1024x4x1024 : Shape := ⟨3, ![1024, 4, 1024]⟩
abbrev S4x1024x1024 : Shape := ⟨3, ![4, 1024, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S8704x1024, .bf16⟩
  | .hbm, ⟨2, _⟩ => ⟨S8704x1024, .bf16⟩
  | .hbm, ⟨3, _⟩ => ⟨S8192x1024, .bf16⟩
  | .hbm, ⟨4, _⟩ => ⟨S1024x4096, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S1024x4096, .bf16⟩
  | .hbm, ⟨9, _⟩ => ⟨S1024x4x1024, .bf16⟩
  | .hbm, ⟨10, _⟩ => ⟨S4x1024x1024, .bf16⟩
  | .hbm, ⟨11, _⟩ => ⟨S8192x1024, .f32⟩
  | .hbm, ⟨12, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S4x1024x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S8192x1024 : Shape := ⟨2, ![8192, 1024]⟩
abbrev S8704x1024 : Shape := ⟨2, ![8704, 1024]⟩
abbrev S1024x4096 : Shape := ⟨2, ![1024, 4096]⟩
abbrev S1x1024 : Shape := ⟨2, ![1, 1024]⟩
abbrev S8192x4096 : Shape := ⟨2, ![8192, 4096]⟩
abbrev S1024 : Shape := ⟨1, ![1024]⟩
abbrev S_ : Shape := ⟨0, ![]⟩
abbrev S8192 : Shape := ⟨1, ![8192]⟩
abbrev S8192x1 : Shape := ⟨2, ![8192, 1]⟩
abbrev S4096x1024 : Shape := ⟨2, ![4096, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8704x1024, .bf16⟩
  | .hbm, ⟨2, _⟩ => ⟨S8704x1024, .bf16⟩
  | .hbm, ⟨3, _⟩ => ⟨S8192x1024, .bf16⟩
  | .hbm, ⟨4, _⟩ => ⟨S1024x4096, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S8192x1024, .bf16⟩
  | .hbm, ⟨10, _⟩ => ⟨S8192x4096, .bf16⟩
  | .hbm, ⟨11, _⟩ => ⟨S8192x4096, .f32⟩
  | .hbm, ⟨12, _⟩ => ⟨S1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S4096x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S1x1024, .f32⟩
  | .hbm, ⟨61, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S8192x2048 : Shape := ⟨2, ![8192, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 10
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S1024x4096, .bf16⟩
  | .hbm, ⟨4, _⟩ => ⟨S1024x4x1024, .bf16⟩
  | .hbm, ⟨5, _⟩ => ⟨S4x1024x1024, .bf16⟩
  | .hbm, ⟨6, _⟩ => ⟨S8192x1024, .bf16⟩
  | .hbm, ⟨7, _⟩ => ⟨S8192x2048, .bf16⟩
  | .hbm, ⟨8, _⟩ => ⟨S8192x1024, .f32⟩
  | .hbm, ⟨9, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S8192x1024 : Shape := ⟨2, ![8192, 1024]⟩
abbrev S1x1024 : Shape := ⟨2, ![1, 1024]⟩
abbrev S1024x4096 : Shape := ⟨2, ![1024, 4096]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S8192x2048 : Shape := ⟨2, ![8192, 2048]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | .hbm, ⟨26, _⟩ => ⟨S8192x2048, .f32⟩
  | .hbm, ⟨27, _⟩ => ⟨S8192x2048, .bf16⟩
  | .hbm, ⟨28, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S1024x2560 : Shape := ⟨2, ![1024, 2560]⟩
abbrev S1024x4x640 : Shape := ⟨3, ![1024, 4, 640]⟩
abbrev S4x1024x640 : Shape := ⟨3, ![4, 1024, 640]⟩
abbrev S8192x2560 : Shape := ⟨2, ![8192, 2560]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩
abbrev S1x1024x640 : Shape := ⟨3, ![1, 1024, 640]⟩
abbrev S1024x640 : Shape := ⟨2, ![1024, 640]⟩
abbrev S512x640 : Shape := ⟨2, ![512, 640]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S1024x2560, .bf16⟩
  | .hbm, ⟨4, _⟩ => ⟨S1024x4x640, .bf16⟩
  | .hbm, ⟨5, _⟩ => ⟨S4x1024x640, .bf16⟩
  | .hbm, ⟨6, _⟩ => ⟨S8192x2560, .f32⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x640, .bf16⟩
  | .local _ .vmem, ⟨4, _⟩ => ⟨S512x2560, .f32⟩
  | .local _ .vmem, ⟨5, _⟩ => ⟨S512x2560, .f32⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S8192x1024 : Shape := ⟨2, ![8192, 1024]⟩
abbrev S1x1024 : Shape := ⟨2, ![1, 1024]⟩
abbrev S1024x2560 : Shape := ⟨2, ![1024, 2560]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2560 : Shape := ⟨2, ![8192, 2560]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x2560, .f32⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel6.lean ====
abbrev S8192x2560 : Shape := ⟨2, ![8192, 2560]⟩
abbrev S1024x2560 : Shape := ⟨2, ![1024, 2560]⟩
abbrev S8192x1024 : Shape := ⟨2, ![8192, 1024]⟩
abbrev S1x1024 : Shape := ⟨2, ![1, 1024]⟩
abbrev S1024x4x640 : Shape := ⟨3, ![1024, 4, 640]⟩
abbrev S4x1024x640 : Shape := ⟨3, ![4, 1024, 640]⟩
abbrev S512x2560 : Shape := ⟨2, ![512, 2560]⟩
abbrev S512x1024 : Shape := ⟨2, ![512, 1024]⟩
abbrev S512x640 : Shape := ⟨2, ![512, 640]⟩
abbrev S1x1024x640 : Shape := ⟨3, ![1, 1024, 640]⟩
abbrev S1024x640 : Shape := ⟨2, ![1024, 640]⟩
abbrev S512 : Shape := ⟨1, ![512]⟩
abbrev S512x1 : Shape := ⟨2, ![512, 1]⟩
abbrev S1024 : Shape := ⟨1, ![1024]⟩

abbrev nBuf : Space → Nat
  | .hbm => 10
  | .vmem => 11
  | .smem => 0
  | _ => 0

abbrev bufTy : (tb : Table) → Fin (tcTables nBuf tb) → BufTy
  | .hbm, ⟨0, _⟩ => ⟨S8192x2560, .bf16⟩
  | .hbm, ⟨1, _⟩ => ⟨S1024x2560, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x2560, .bf16⟩
  | .hbm, ⟨6, _⟩ => ⟨S1024x4x640, .bf16⟩
  | .hbm, ⟨7, _⟩ => ⟨S4x1024x640, .bf16⟩
  | .hbm, ⟨8, _⟩ => ⟨S8192x1024, .f32⟩
  | .hbm, ⟨9, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S4x1024x640, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference6Ideal.lean ====
abbrev S8192x2560 : Shape := ⟨2, ![8192, 2560]⟩
abbrev S1024x2560 : Shape := ⟨2, ![1024, 2560]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S2560x1024 : Shape := ⟨2, ![2560, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S1024x2560, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x2560, .f32⟩
  | .hbm, ⟨27, _⟩ => ⟨S2560x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S8192x1024, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S4x256x1024 : Shape := ⟨3, ![4, 256, 1024]⟩
abbrev S512x1024 : Shape := ⟨2, ![512, 1024]⟩
abbrev S1x256x1024 : Shape := ⟨3, ![1, 256, 1024]⟩
abbrev S256x1024 : Shape := ⟨2, ![256, 1024]⟩
abbrev S512x256 : Shape := ⟨2, ![512, 256]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S4x256x1024, .bf16⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S4x256x1024, .bf16⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel8.lean ====
abbrev S8192x1024 : Shape := ⟨2, ![8192, 1024]⟩
abbrev S1x1024 : Shape := ⟨2, ![1, 1024]⟩
abbrev S2x1024x2048 : Shape := ⟨3, ![2, 1024, 2048]⟩
abbrev S256x2048 : Shape := ⟨2, ![256, 2048]⟩
abbrev S2x1024x1024 : Shape := ⟨3, ![2, 1024, 1024]⟩
abbrev S2x1024x4x512 : Shape := ⟨4, ![2, 1024, 4, 512]⟩
abbrev S4x2x1024x512 : Shape := ⟨4, ![4, 2, 1024, 512]⟩
abbrev S2x4x256x1024 : Shape := ⟨4, ![2, 4, 256, 1024]⟩
abbrev S4x2x256x1024 : Shape := ⟨4, ![4, 2, 256, 1024]⟩
abbrev S512x1024 : Shape := ⟨2, ![512, 1024]⟩
abbrev S4x1x1024x512 : Shape := ⟨4, ![4, 1, 1024, 512]⟩
abbrev S4x1x256x1024 : Shape := ⟨4, ![4, 1, 256, 1024]⟩
abbrev S512 : Shape := ⟨1, ![512]⟩
abbrev S512x1 : Shape := ⟨2, ![512, 1]⟩
abbrev S1x1x1024x512 : Shape := ⟨4, ![1, 1, 1024, 512]⟩
abbrev S1024x512 : Shape := ⟨2, ![1024, 512]⟩
abbrev S512x512 : Shape := ⟨2, ![512, 512]⟩
abbrev S512x256 : Shape := ⟨2, ![512, 256]⟩
abbrev S256x256 : Shape := ⟨2, ![256, 256]⟩
abbrev S1x1x256x1024 : Shape := ⟨4, ![1, 1, 256, 1024]⟩
abbrev S256x1024 : Shape := ⟨2, ![256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2x1024x2048, .f32⟩
  | .hbm, ⟨3, _⟩ => ⟨S256x2048, .bf16⟩
  | .hbm, ⟨4, _⟩ => ⟨S2x1024x1024, .f32⟩
  | .hbm, ⟨5, _⟩ => ⟨S2x1024x2048, .bf16⟩
  | .hbm, ⟨6, _⟩ => ⟨S2x1024x4x512, .bf16⟩
  | .hbm, ⟨7, _⟩ => ⟨S4x2x1024x512, .bf16⟩
  | .hbm, ⟨8, _⟩ => ⟨S2x1024x1024, .bf16⟩
  | .hbm, ⟨9, _⟩ => ⟨S2x4x256x1024, .bf16⟩
  | .hbm, ⟨10, _⟩ => ⟨S4x2x256x1024, .bf16⟩
  | .hbm, ⟨11, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1x1024x512, .bf16⟩
  | .local _ .vmem, ⟨4, _⟩ => ⟨S256x2048, .bf16⟩
  | .local _ .vmem, ⟨5, _⟩ => ⟨S4x1x256x1024, .bf16⟩
  | .local _ .vmem, ⟨6, _⟩ => ⟨S512x1024, .f32⟩
  | .local _ .vmem, ⟨7, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S8192x1024 : Shape := ⟨2, ![8192, 1024]⟩
abbrev S1x1024 : Shape := ⟨2, ![1, 1024]⟩
abbrev S2x1024x2048 : Shape := ⟨3, ![2, 1024, 2048]⟩
abbrev S256x2048 : Shape := ⟨2, ![256, 2048]⟩
abbrev S2x1024x1024 : Shape := ⟨3, ![2, 1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024x2048 : Shape := ⟨3, ![1, 1024, 2048]⟩
abbrev S1024x2048 : Shape := ⟨2, ![1024, 2048]⟩
abbrev S8192x2048 : Shape := ⟨2, ![8192, 2048]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩
abbrev S1x1024x1024 : Shape := ⟨3, ![1, 1024, 1024]⟩
abbrev S1024x1024 : Shape := ⟨2, ![1024, 1024]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2x1024x2048, .f32⟩
  | .hbm, ⟨3, _⟩ => ⟨S256x2048, .bf16⟩
  | .hbm, ⟨4, _⟩ => ⟨S2x1024x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1x1024x2048, .f32⟩
  | .hbm, ⟨23, _⟩ => ⟨S1024x2048, .f32⟩
  | .hbm, ⟨24, _⟩ => ⟨S8192x2048, .f32⟩
  | .hbm, ⟨25, _⟩ => ⟨S8192x1024, .f32⟩
  | .hbm, ⟨26, _⟩ => ⟨S8192x1024, .f32⟩
  | .hbm, ⟨27, _⟩ => ⟨S256x2048, .f32⟩
  | .hbm, ⟨28, _⟩ => ⟨S256x1024, .f32⟩
  | .hbm, ⟨29, _⟩ => ⟨S256x1024, .f32⟩
  | .hbm, ⟨30, _⟩ => ⟨S8192x4x256, .f32⟩
  | .hbm, ⟨31, _⟩ => ⟨S256x4x256, .f32⟩
  | .hbm, ⟨32, _⟩ => ⟨S256x4x256, .f32⟩
  | .hbm, ⟨33, _⟩ => ⟨S4x8192x256, .f32⟩
  | .hbm, ⟨34, _⟩ => ⟨S_, .f32⟩
  | .hbm, ⟨35, _⟩ => ⟨S4x8192x256, .f32⟩
  | .hbm, ⟨36, _⟩ => ⟨S4x8192x256, .f32⟩
  | .hbm, ⟨37, _⟩ => ⟨S_, .f32⟩
  | .hbm, ⟨38, _⟩ => ⟨S4x8192, .f32⟩
  | .hbm, ⟨39, _⟩ => ⟨S_, .f32⟩
  | .hbm, ⟨40, _⟩ => ⟨S4x8192, .f32⟩
  | .hbm, ⟨41, _⟩ => ⟨S4x8192, .f32⟩
  | .hbm, ⟨42, _⟩ => ⟨S4x8192x1, .f32⟩
  | .hbm, ⟨43, _⟩ => ⟨S4x8192x256, .f32⟩
  | .hbm, ⟨44, _⟩ => ⟨S4x8192x256, .f32⟩
  | .hbm, ⟨45, _⟩ => ⟨S4x8192x256, .f32⟩
  | .hbm, ⟨46, _⟩ => ⟨S_, .f32⟩
  | .hbm, ⟨47, _⟩ => ⟨S4x8192, .f32⟩
  | .hbm, ⟨48, _⟩ => ⟨S4x8192x1, .f32⟩
  | .hbm, ⟨49, _⟩ => ⟨S4x8192x256, .f32⟩
  | .hbm, ⟨50, _⟩ => ⟨S4x8192x256, .f32⟩
  | .hbm, ⟨51, _⟩ => ⟨S4x256x8192, .f32⟩
  | .hbm, ⟨52, _⟩ => ⟨S8192x4x256, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S1x1024x1024, .f32⟩
  | .hbm, ⟨65, _⟩ => ⟨S1024x1024, .f32⟩
  | .hbm, ⟨66, _⟩ => ⟨S8192x1024, .f32⟩
  | .hbm, ⟨67, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== Kernel9.lean ====
abbrev S8192x1024 : Shape := ⟨2, ![8192, 1024]⟩
abbrev S4x256x1024 : Shape := ⟨3, ![4, 256, 1024]⟩
abbrev S1024x1024 : Shape := ⟨2, ![1024, 1024]⟩
abbrev S256x1024 : Shape := ⟨2, ![256, 1024]⟩
abbrev S1x256x1024 : Shape := ⟨3, ![1, 256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S4x256x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S4x256x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x8192 : Shape := ⟨2, ![1024, 8192]⟩
abbrev S1024x1024 : Shape := ⟨2, ![1024, 1024]⟩
abbrev S4x256x1024 : Shape := ⟨3, ![4, 256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S1024x8192, .f32⟩
  | .hbm, ⟨4, _⟩ => ⟨S1024x1024, .f32⟩
  | .hbm, ⟨5, _⟩ => ⟨S1024x1024, .bf16⟩
  | .hbm, ⟨6, _⟩ => ⟨S4x256x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S8192x1024 : Shape := ⟨2, ![8192, 1024]⟩
abbrev S8192x2560 : Shape := ⟨2, ![8192, 2560]⟩
abbrev S4x1024x640 : Shape := ⟨3, ![4, 1024, 640]⟩
abbrev S1024x1024 : Shape := ⟨2, ![1024, 1024]⟩
abbrev S1024x1280 : Shape := ⟨2, ![1024, 1280]⟩
abbrev S2x1024x640 : Shape := ⟨3, ![2, 1024, 640]⟩
abbrev S1024x640 : Shape := ⟨2, ![1024, 640]⟩
abbrev S1x1024x640 : Shape := ⟨3, ![1, 1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S4x1024x640, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S2x1024x640, .bf16⟩
  | .local _ .vmem, ⟨5, _⟩ => ⟨S2x1024x640, .bf16⟩
  | .local _ .vmem, ⟨6, _⟩ => ⟨S1024x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S8192x2560 : Shape := ⟨2, ![8192, 2560]⟩
abbrev S1024x8192 : Shape := ⟨2, ![1024, 8192]⟩
abbrev S1024x2560 : Shape := ⟨2, ![1024, 2560]⟩
abbrev S1024x4x640 : Shape := ⟨3, ![1024, 4, 640]⟩
abbrev S4x1024x640 : Shape := ⟨3, ![4, 1024, 640]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S8192x1024, .f32⟩
  | .hbm, ⟨3, _⟩ => ⟨S1024x8192, .f32⟩
  | .hbm, ⟨4, _⟩ => ⟨S8192x2560, .f32⟩
  | .hbm, ⟨5, _⟩ => ⟨S1024x2560, .f32⟩
  | .hbm, ⟨6, _⟩ => ⟨S1024x2560, .bf16⟩
  | .hbm, ⟨7, _⟩ => ⟨S1024x4x640, .bf16⟩
  | .hbm, ⟨8, _⟩ => ⟨S4x1024x640, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Proof.Model.lean ====
/- The cross-attention layer's forward and backward pass over the real numbers, row by row. Rows and columns are named by natural numbers, so that a
   tile, a column piece or a head is a shift of the index; a sum over a dimension of length `n` runs over `Fin n`. -/
module

public import Idealize.ShloMosaic.Lib.Pointwise

@[expose] public section

noncomputable section

namespace Cert.Xa

open Idealize.ShloMosaic

/-- A rank-1 array of reals, as an array of extended reals. -/
def R1 {a : ℕ} (f : ℕ → ℝ) : (⟨1, ![a]⟩ : Shape).Idx → EReal :=
  fun y => ((f (y 0).val : ℝ) : EReal)

/-- A rank-2 array of reals, as an array of extended reals. -/
def R2 {a b : ℕ} (f : ℕ → ℕ → ℝ) : (⟨2, ![a, b]⟩ : Shape).Idx → EReal :=
  fun y => ((f (y 0).val (y 1).val : ℝ) : EReal)

/-- A rank-3 array of reals, as an array of extended reals. -/
def R3 {a b c : ℕ} (f : ℕ → ℕ → ℕ → ℝ) : (⟨3, ![a, b, c]⟩ : Shape).Idx → EReal :=
  fun y => ((f (y 0).val (y 1).val (y 2).val : ℝ) : EReal)

/-- A rank-4 array of reals, as an array of extended reals. -/
def R4 {a b c d : ℕ} (f : ℕ → ℕ → ℕ → ℕ → ℝ) : (⟨4, ![a, b, c, d]⟩ : Shape).Idx → EReal :=
  fun y => ((f (y 0).val (y 1).val (y 2).val (y 3).val : ℝ) : EReal)

theorem R1_apply {a : ℕ} (f : ℕ → ℝ) (i : Fin a) :
    (R1 f : (⟨1, ![a]⟩ : Shape).Idx → EReal) (ix1 i) = ((f i.val : ℝ) : EReal) := rfl

theorem R2_apply {a b : ℕ} (f : ℕ → ℕ → ℝ) (i : Fin a) (j : Fin b) :
    (R2 f : (⟨2, ![a, b]⟩ : Shape).Idx → EReal) (ix2 i j) = ((f i.val j.val : ℝ) : EReal) := rfl

theorem R3_apply {a b c : ℕ} (f : ℕ → ℕ → ℕ → ℝ) (i : Fin a) (j : Fin b) (k : Fin c) :
    (R3 f : (⟨3, ![a, b, c]⟩ : Shape).Idx → EReal) (ix3 i j k) = ((f i.val j.val k.val : ℝ) : EReal) := rfl

theorem R4_apply {a b c d : ℕ} (f : ℕ → ℕ → ℕ → ℕ → ℝ) (i : Fin a) (j : Fin b) (k : Fin c) (l : Fin d) :
    (R4 f : (⟨4, ![a, b, c, d]⟩ : Shape).Idx → EReal) (ix4 i j k l) = ((f i.val j.val k.val l.val : ℝ) : EReal) := rfl

/-- An array of rank 1 that agrees with a real one at every index is that array. -/
theorem eq_R1 {a : ℕ} {v : (⟨1, ![a]⟩ : Shape).Idx → EReal} {f : ℕ → ℝ}
    (h : ∀ i : Fin a, v (ix1 i) = ((f i.val : ℝ) : EReal)) : v = R1 f := by
  funext y; rw [eq_ix1 y]; exact h _

/-- An array of rank 2 that agrees with a real one at every index is that array. -/
theorem eq_R2 {a b : ℕ} {v : (⟨2, ![a, b]⟩ : Shape).Idx → EReal} {f : ℕ → ℕ → ℝ}
    (h : ∀ (i : Fin a) (j : Fin b), v (ix2 i j) = ((f i.val j.val : ℝ) : EReal)) : v = R2 f := by
  funext y; rw [eq_ix2 y]; exact h _ _

/-- An array of rank 3 that agrees with a real one at every index is that array. -/
theorem eq_R3 {a b c : ℕ} {v : (⟨3, ![a, b, c]⟩ : Shape).Idx → EReal} {f : ℕ → ℕ → ℕ → ℝ}
    (h : ∀ (i : Fin a) (j : Fin b) (k : Fin c), v (ix3 i j k) = ((f i.val j.val k.val : ℝ) : EReal)) : v = R3 f := by
  funext y; rw [eq_ix3 y]; exact h _ _ _

/-- The sum of finitely many reals is the same among the extended reals. -/
theorem coe_sum {n : ℕ} (f : Fin n → ℝ) : (∑ k, ((f k : ℝ) : EReal)) = ((∑ k, f k : ℝ) : EReal) :=
  (map_sum (⟨⟨Real.toEReal, rfl⟩, EReal.coe_add⟩ : ℝ →+ EReal) f Finset.univ).symm

/-- A quotient of reals by a nonzero one. -/
theorem div_real (x : ℝ) {y : ℝ} (h : y ≠ 0) : Ideal.div (x : EReal) (y : EReal) = ((x / y : ℝ) : EReal) := by
  rw [Ideal.div_coe h, ← EReal.coe_mul, mul_one_div]

/-- The stabiliser under the root, the real number its word names. -/
def eps : ℝ := 8796093 * (2 ^ 43)⁻¹

theorem word_eps : (Ideal.ofBits .f32 0x358637BD#32 : EReal) = ((eps : ℝ) : EReal) := by
  unfold eps
  simp [Ideal.ofBits, Ideal.ieee, ← EReal.coe_mul]

theorem eps_pos : 0 < eps := by
  unfold eps
  positivity

theorem word_1024 : (Ideal.ofBits .f32 0x44800000#32 : EReal) = ((1024 : ℝ) : EReal) := by
  simp [Ideal.ofBits, Ideal.ieee, ← EReal.coe_mul]; norm_num

theorem word_sixteenth : (Ideal.ofBits .f32 0x3D800000#32 : EReal) = ((1 / 16 : ℝ) : EReal) := by
  simp [Ideal.ofBits, Ideal.ieee, ← EReal.coe_mul]; norm_num

theorem word_neg_half : (Ideal.ofBits .f32 0xBF000000#32 : EReal) = ((-(1 / 2) : ℝ) : EReal) := by
  simp [Ideal.ofBits, Ideal.ieee, ← EReal.coe_mul]; norm_num

theorem word_bot : (Ideal.ofBits .f32 0xFF800000#32 : EReal) = ⊥ := by
  simp [Ideal.ofBits, Ideal.ieee]

theorem word_top : (Ideal.ofBits .f32 0x7F800000#32 : EReal) = ⊤ := by
  simp [Ideal.ofBits, Ideal.ieee]

/-- The greatest of `n` reals, as a real. -/
def mx (n : ℕ) (f : ℕ → ℝ) : ℝ :=
  (Finset.univ.fold max (⊥ : EReal) (fun k : Fin n => ((f k.val : ℝ) : EReal))).toReal

theorem fold_max_ne_top (n : ℕ) (f : ℕ → ℝ) (s : Finset (Fin n)) :
    s.fold max (⊥ : EReal) (fun k : Fin n => ((f k.val : ℝ) : EReal)) ≠ ⊤ := by
  induction s using Finset.induction_on with
  | empty => simp
  | insert a s ha ih =>
    rw [Finset.fold_insert ha]
    rcases max_choice ((f a.val : ℝ) : EReal) (s.fold max (⊥ : EReal) (fun k : Fin n => ((f k.val : ℝ) : EReal))) with h | h <;> rw [h]
    · exact EReal.coe_ne_top _
    · exact ih

/-- The maximum over a nonempty dimension, folded from −∞, is a real. -/
theorem fold_max_coe {n : ℕ} [NeZero n] (f : ℕ → ℝ) :
    Finset.univ.fold max (⊥ : EReal) (fun k : Fin n => ((f k.val : ℝ) : EReal)) = ((mx n f : ℝ) : EReal) := by
  refine (EReal.coe_toReal (fold_max_ne_top n f _) ?_).symm
  intro h
  have h0 : ((f (0 : Fin n).val : ℝ) : EReal) ≤ ⊥ := by
    rw [← h]
    exact Finset.le_fold_max _ |>.2 (Or.inr ⟨0, Finset.mem_univ _, le_rfl⟩)
  exact EReal.coe_ne_bot _ (le_bot_iff.1 h0)

/-- A sum over 2048 columns, over its four pieces of 512. -/
theorem sum_2048 (f : ℕ → ℝ) : ∑ k : Fin 2048, f k.val
    = (∑ k : Fin 512, f k.val) + (∑ k : Fin 512, f (512 + k.val)) + (∑ k : Fin 512, f (1024 + k.val))
      + ∑ k : Fin 512, f (1536 + k.val) := by
  simp only [Fin.sum_univ_eq_sum_range (fun k => f k), Fin.sum_univ_eq_sum_range (fun k => f (512 + k)),
    Fin.sum_univ_eq_sum_range (fun k => f (1024 + k)), Fin.sum_univ_eq_sum_range (fun k => f (1536 + k))]
  rw [show 2048 = 512 + 512 + 512 + 512 from rfl, Finset.sum_range_add, Finset.sum_range_add, Finset.sum_range_add]

/-- A quotient by 1024. -/
theorem div_1024 (x : ℝ) : Ideal.div (x : EReal) ((1024 : ℝ) : EReal) = ((x / 1024 : ℝ) : EReal) :=
  div_real x (by norm_num)

/-- A reciprocal root of a positive real. -/
theorem rsqrt_real {r : ℝ} (h : 0 < r) : Ideal.rsqrt (r : EReal) = (((√r)⁻¹ : ℝ) : EReal) := by
  rw [Ideal.rsqrt_coe, if_neg (not_lt.2 h.le), if_neg h.ne']

/-- A quotient by one and an exponential. -/
theorem div_one_add_exp (x y : ℝ) :
    Ideal.div (x : EReal) ((1 + Real.exp y : ℝ) : EReal) = ((x / (1 + Real.exp y) : ℝ) : EReal) :=
  div_real x (by positivity)

section row
variable (g : ℕ → ℝ) (w kv wo : ℕ → ℕ → ℝ) (x d : ℕ → ℝ)

/-- The mean square of a row, stabilised. -/
def ms : ℝ := (∑ c : Fin 1024, x c.val * x c.val) / 1024 + eps
theorem ms_pos : 0 < ms x := by
  have : 0 ≤ ∑ c : Fin 1024, x c.val * x c.val := Finset.sum_nonneg fun c _ => mul_self_nonneg _
  have := eps_pos
  unfold ms
  positivity
/-- The reciprocal root mean square of a row. -/
def inv : ℝ := (√(ms x))⁻¹
theorem rsqrt_ms : Ideal.rsqrt (((∑ c : Fin 1024, x c.val * x c.val) / 1024 + eps : ℝ) : EReal) = ((inv x : ℝ) : EReal) :=
  rsqrt_real (ms_pos x)
/-- The normalised row. -/
def xh (c : ℕ) : ℝ := x c * inv x
/-- The normalised row times the gain. -/
def hh (c : ℕ) : ℝ := xh x c * g c
/-- The row of queries and gates. -/
def qg (c : ℕ) : ℝ := ∑ k : Fin 1024, hh g x k.val * w k.val c
/-- The scaled queries. -/
def qs (c : ℕ) : ℝ := qg g w x c * (1 / 16)
/-- The gates. -/
def ga (c : ℕ) : ℝ := qg g w x (1024 + c)
/-- The score of head `h` at key `k`. -/
def sc (h k : ℕ) : ℝ := ∑ j : Fin 256, qs g w x (256 * h + j.val) * kv k (256 * h + j.val)
/-- The shifted exponential of the score. -/
def ee (h k : ℕ) : ℝ := Real.exp (sc g w kv x h k - mx 256 (sc g w kv x h))
/-- The sum of a head's exponentials. -/
def ll (h : ℕ) : ℝ := ∑ k : Fin 256, ee g w kv x h k.val
theorem ll_pos (h : ℕ) : 0 < ll g w kv x h :=
  Finset.sum_pos (fun _ _ => Real.exp_pos _) Finset.univ_nonempty
/-- Its reciprocal. -/
def li (h : ℕ) : ℝ := 1 / ll g w kv x h
theorem div_ll (y : ℝ) (h : ℕ) :
    Ideal.div (y : EReal) ((ll g w kv x h : ℝ) : EReal) = ((y / ll g w kv x h : ℝ) : EReal) :=
  div_real y (ll_pos g w kv x h).ne'
/-- The attention's result at column `c` (of head `c / 256`). -/
def oo (c : ℕ) : ℝ := (∑ k : Fin 256, ee g w kv x (c / 256) k.val * kv k.val (1024 + c)) * li g w kv x (c / 256)
/-- The gate's logistic. -/
def sg (c : ℕ) : ℝ := 1 / (1 + Real.exp (0 - ga g w x c))
/-- The gate times its logistic. -/
def sl (c : ℕ) : ℝ := ga g w x c * sg g w x c
/-- The derivative of that. -/
def ds (c : ℕ) : ℝ := sg g w x c * (1 + ga g w x c * (1 - sg g w x c))
/-- The gated attention. -/
def rr (c : ℕ) : ℝ := oo g w kv x c * sl g w x c
/-- The gradient at the gated attention. -/
def dr (c : ℕ) : ℝ := ∑ k : Fin 1024, d k.val * wo c k.val
/-- The gradient at the attention's result. -/
def dO (c : ℕ) : ℝ := dr wo d c * sl g w x c
/-- The gradient at the gate. -/
def dgt (c : ℕ) : ℝ := dr wo d c * oo g w kv x c * ds g w x c
/-- The gradient at the attention's weights. -/
def dp (h k : ℕ) : ℝ := ∑ j : Fin 256, dO g w wo x d (256 * h + j.val) * kv k (1024 + (256 * h + j.val))
/-- What the softmax's derivative takes off. -/
def rs (h : ℕ) : ℝ := ∑ j : Fin 256, dO g w wo x d (256 * h + j.val) * oo g w kv x (256 * h + j.val)
/-- The gradient at the scores. -/
def dsc (h k : ℕ) : ℝ := ee g w kv x h k * ((dp g w kv wo x d h k - rs g w kv wo x d h) * li g w kv x h)
/-- The gradient at the queries. -/
def dq (c : ℕ) : ℝ := (∑ k : Fin 256, dsc g w kv wo x d (c / 256) k.val * kv k.val c) * (1 / 16)
/-- The gradient at the queries and the gates. -/
def dqg (c : ℕ) : ℝ := if c < 1024 then dq g w kv wo x d c else dgt g w kv wo x d (c - 1024)
/-- The gradient at the scaled normalised row. -/
def dh (c : ℕ) : ℝ := ∑ k : Fin 2048, dqg g w kv wo x d k.val * w c k.val
/-- The gradient at the layer's input. -/
def dx (c : ℕ) : ℝ := d c + inv x * (dh g w kv wo x d c * g c
  - xh x c * ((∑ k : Fin 1024, dh g w kv wo x d k.val * g k.val * xh x k.val) / 1024))
/-- A row's part of the gradient at the keys (columns below 1024) and the values (the others). -/
def dkv (k c : ℕ) : ℝ := if c < 1024 then dsc g w kv wo x d (c / 256) k * qs g w x c
  else ee g w kv x ((c - 1024) / 256) k * (dO g w wo x d (c - 1024) * li g w kv x ((c - 1024) / 256))
/-- A row's part of the gradient at the gain. -/
def dgn (c : ℕ) : ℝ := dh g w kv wo x d c * xh x c

/-- What the norm's derivative adds to a row, as the derivative of the reciprocal root states it (half of it). -/
def tt : ℝ := (∑ k : Fin 1024, x k.val * (dh g w kv wo x d k.val * g k.val)) * (-(1 / 2) * (inv x / ms x)) / 1024

theorem div_ms (y : ℝ) : Ideal.div (y : EReal) ((ms x : ℝ) : EReal) = ((y / ms x : ℝ) : EReal) :=
  div_real y (ms_pos x).ne'

theorem div_ll2 (y : ℝ) (h : ℕ) : Ideal.div (y : EReal) ((ll g w kv x h * ll g w kv x h : ℝ) : EReal)
    = ((y / (ll g w kv x h * ll g w kv x h) : ℝ) : EReal) :=
  div_real y (mul_pos (ll_pos g w kv x h) (ll_pos g w kv x h)).ne'

theorem sc_eq (h k : ℕ) :
    (∑ j : Fin 256, qg g w x (256 * h + j.val) * kv k (256 * h + j.val)) * (1 / 16) = sc g w kv x h k := by
  rw [sc, Finset.sum_mul]
  exact Finset.sum_congr rfl fun j _ => by rw [qs]; ring

theorem oo_eq (c : ℕ) :
    (∑ k : Fin 256, kv k.val (1024 + c) * (ee g w kv x (c / 256) k.val / ll g w kv x (c / 256))) = oo g w kv x c := by
  rw [oo, Finset.sum_mul]
  exact Finset.sum_congr rfl fun j _ => by rw [li]; ring

/-- The weighted sum of the gradients at a head's weights is the sum, over the head's columns, of the result times its gradient. -/
theorem rs_eq (h : ℕ) :
    (∑ k : Fin 256, dp g w kv wo x d h k.val * (1 / (ll g w kv x h * ll g w kv x h)) * ee g w kv x h k.val)
      = rs g w kv wo x d h * li g w kv x h := by
  have hl := (ll_pos g w kv x h).ne'
  have ho : ∀ j : Fin 256, (256 * h + j.val) / 256 = h := fun j => by omega
  simp only [rs, dp, oo, ho, Finset.sum_mul, Finset.mul_sum]
  rw [Finset.sum_comm]
  refine Finset.sum_congr rfl fun j _ => Finset.sum_congr rfl fun k _ => ?_
  rw [li]
  field_simp

theorem dsc_eq (h k : ℕ) :
    (dp g w kv wo x d h k / ll g w kv x h
      + -(∑ k : Fin 256, dp g w kv wo x d h k.val * (1 / (ll g w kv x h * ll g w kv x h)) * ee g w kv x h k.val))
      * ee g w kv x h k * (1 / 16) = dsc g w kv wo x d h k * (1 / 16) := by
  rw [rs_eq, dsc, li]
  ring

theorem dqg_eq_left {c : ℕ} (h : c < 1024) :
    (∑ k : Fin 256, dsc g w kv wo x d (c / 256) k.val * (1 / 16) * kv k.val c) = dqg g w kv wo x d c := by
  rw [dqg, if_pos h, dq, Finset.sum_mul]
  exact Finset.sum_congr rfl fun j _ => by ring

theorem dqg_eq_right {c : ℕ} (h : ¬ c < 1024) :
    oo g w kv x (c - 1024) * dr wo d (c - 1024) * sg g w x (c - 1024)
      + ga g w x (c - 1024) * (oo g w kv x (c - 1024) * dr wo d (c - 1024))
        * (sg g w x (c - 1024) * (1 - sg g w x (c - 1024))) = dqg g w kv wo x d c := by
  rw [dqg, if_neg h, dgt, ds]
  ring

theorem dkv_eq_left {k c : ℕ} (h : c < 1024) :
    dsc g w kv wo x d (c / 256) k * (1 / 16) * qg g w x c = dkv g w kv wo x d k c := by
  rw [dkv, if_pos h, qs]
  ring

theorem dkv_eq_right {k c : ℕ} (h : ¬ c < 1024) :
    dO g w wo x d (c - 1024) * (ee g w kv x ((c - 1024) / 256) k / ll g w kv x ((c - 1024) / 256))
      = dkv g w kv wo x d k c := by
  rw [dkv, if_neg h, li]
  ring

theorem dx_eq (c : ℕ) :
    d c + (dh g w kv wo x d c * g c * inv x + x c * tt g w kv wo x d + tt g w kv wo x d * x c) = dx g w kv wo x d c := by
  have hi : inv x / ms x = inv x * inv x * inv x := by
    have h : inv x * inv x = (ms x)⁻¹ := by
      rw [inv, ← mul_inv, Real.mul_self_sqrt (ms_pos x).le]
    rw [h, div_eq_mul_inv]; ring
  have hs : (∑ k : Fin 1024, x k.val * (dh g w kv wo x d k.val * g k.val)) * inv x
      = ∑ k : Fin 1024, dh g w kv wo x d k.val * g k.val * xh x k.val := by
    rw [Finset.sum_mul]
    exact Finset.sum_congr rfl fun k _ => by rw [xh]; ring
  rw [dx, ← hs, tt, hi, xh]
  ring

end row

end Cert.Xa

end
-- ==== Proof.Pay.lean ====
module

public import proofs.«01_k».proof.Proof.Model
public import proofs.«01_k».proof.Proof.Gen.KernelIdeal.Value

@[expose] public section

set_option maxRecDepth 16384

noncomputable section

namespace Cert.Xa

open Idealize.ShloMosaic Cert.KernelIdeal Cert.KernelIdeal.Gen

section pay
variable (X D : ℕ → ℕ → ℝ) (g : ℕ → ℝ) (w kv wo : ℕ → ℕ → ℝ)

theorem pay4 :
    k0_pay4 (F := Ideal) (R2 X) (R2 fun _ => g)
      = R2 fun p => hh g (X p) := by
  refine eq_R2 fun i j => ?_
  pointwise [k0_pay4]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024, rsqrt_ms (X i.val)]
  rfl

theorem pay5 :
    k0_pay5 (F := Ideal) (R2 X) (R2 fun _ => g) (R4 fun _ _ r c => w r c) (R4 fun _ _ r c => w r (512 + c))
      = R2 fun p => qs g w (X p) := by
  refine eq_R2 fun i j => ?_
  pointwise [k0_pay5, pay4]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  split
  · simp only [← EReal.coe_mul]; rfl
  · rename_i h
    simp only [← EReal.coe_mul, qs, qg, show 512 + (j.val - 512) = j.val by omega]

theorem pay7 :
    k0_pay7 (F := Ideal) (R2 fun p => hh g (X p)) (R2 fun r c => w r (1024 + c)) (constant S512x512 .f32 0x00000000#32) (R4 fun _ _ r c => w r (1536 + c))
      = R2 fun p => ga g w (X p) := by
  refine eq_R2 fun i j => ?_
  pointwise [k0_pay7]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  split
  · rfl
  · rename_i h
    simp only [ga, qg, show 1536 + (j.val - 512) = 1024 + j.val by omega]

theorem pay6 :
    k0_pay6 (F := Ideal) (R4 fun _ _ r c => w r (1024 + c))
      = R2 fun r c => w r (1024 + c) := by
  refine eq_R2 fun i j => ?_
  pointwise [k0_pay6]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]

theorem pay8 :
    k0_pay8 (F := Ideal) (R2 kv) (R2 fun p => qs g w (X p))
      = R2 fun p => ee g w kv (X p) 0 := by
  refine eq_R2 fun i j => ?_
  pointwise [k0_pay8]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  have e : ∀ k : ℕ, (∑ d : Fin 256, qs g w (X i.val) (d.val) * kv k (d.val)) = sc g w kv (X i.val) 0 k := fun k => by
    simp only [sc, Nat.mul_zero, Nat.reduceMul, Nat.zero_add]
  simp only [e, fold_max_coe (sc g w kv (X i.val) 0), ← EReal.coe_sub, Ideal.exp_coe]
  rfl

theorem pay9 :
    k0_pay9 (F := Ideal) (R2 kv) (R2 fun p => qs g w (X p))
      = R2 fun p _ => li g w kv (X p) 0 := by
  refine eq_R2 fun i j => ?_
  pointwise [k0_pay9, pay8]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  exact div_ll g w kv (X i.val) 1 0

theorem pay10 :
    k0_pay10 (F := Ideal) (R2 kv) (R2 fun p => qs g w (X p))
      = R2 fun p c => oo g w kv (X p) c := by
  refine eq_R2 fun i j => ?_
  pointwise [k0_pay10, pay8, pay9]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  simp only [oo, show j.val / 256 = 0 by omega]

theorem pay11 :
    k0_pay11 (F := Ideal) (R2 kv) (R2 fun p => qs g w (X p))
      = R2 fun p => ee g w kv (X p) 1 := by
  refine eq_R2 fun i j => ?_
  pointwise [k0_pay11]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  have e : ∀ k : ℕ, (∑ d : Fin 256, qs g w (X i.val) (256 + d.val) * kv k (256 + d.val)) = sc g w kv (X i.val) 1 k := fun k => by
    simp only [sc, Nat.mul_zero, Nat.reduceMul, Nat.zero_add]
  simp only [e, fold_max_coe (sc g w kv (X i.val) 1), ← EReal.coe_sub, Ideal.exp_coe]
  rfl

theorem pay12 :
    k0_pay12 (F := Ideal) (R2 kv) (R2 fun p => qs g w (X p))
      = R2 fun p _ => li g w kv (X p) 1 := by
  refine eq_R2 fun i j => ?_
  pointwise [k0_pay12, pay11]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  exact div_ll g w kv (X i.val) 1 1

theorem pay13 :
    k0_pay13 (F := Ideal) (R2 kv) (R2 fun p => qs g w (X p))
      = R2 fun p c => oo g w kv (X p) (256 + c) := by
  refine eq_R2 fun i j => ?_
  pointwise [k0_pay13, pay11, pay12]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  simp only [oo, show (256 + j.val) / 256 = 1 by omega, show ∀ a, 1024 + (256 + a) = 1280 + a from fun a => by omega]

theorem pay14 :
    k0_pay14 (F := Ideal) (R2 kv) (R2 fun p => qs g w (X p))
      = R2 fun p => sc g w kv (X p) 2 := by
  refine eq_R2 fun i j => ?_
  pointwise [k0_pay14]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  rfl

theorem pay15 :
    k0_pay15 (F := Ideal) (R2 kv) (R2 fun p => qs g w (X p))
      = R1 fun p => mx 256 (sc g w kv (X p) 2) := by
  refine eq_R1 fun i => ?_
  pointwise [k0_pay15, pay14]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  exact fold_max_coe _

theorem pay16 :
    k0_pay16 (F := Ideal) (R2 fun p => sc g w kv (X p) 2) (R1 fun p => mx 256 (sc g w kv (X p) 2))
      = R2 fun p => ee g w kv (X p) 2 := by
  refine eq_R2 fun i j => ?_
  pointwise [k0_pay16]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  rfl

theorem pay17 :
    k0_pay17 (F := Ideal) (R2 fun p => sc g w kv (X p) 2) (R1 fun p => mx 256 (sc g w kv (X p) 2))
      = R2 fun p _ => li g w kv (X p) 2 := by
  refine eq_R2 fun i j => ?_
  pointwise [k0_pay17, pay16]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  exact div_ll g w kv (X i.val) 1 2

theorem pay18 :
    k0_pay18 (F := Ideal) (R2 kv) (R2 fun p => qs g w (X p))
      = R2 fun p => ee g w kv (X p) 3 := by
  refine eq_R2 fun i j => ?_
  pointwise [k0_pay18]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  have e : ∀ k : ℕ, (∑ d : Fin 256, qs g w (X i.val) (768 + d.val) * kv k (768 + d.val)) = sc g w kv (X i.val) 3 k := fun k => by
    simp only [sc, Nat.mul_zero, Nat.reduceMul, Nat.zero_add]
  simp only [e, fold_max_coe (sc g w kv (X i.val) 3), ← EReal.coe_sub, Ideal.exp_coe]
  rfl

theorem pay19 :
    k0_pay19 (F := Ideal) (R2 kv) (R2 fun p => qs g w (X p))
      = R2 fun p _ => li g w kv (X p) 3 := by
  refine eq_R2 fun i j => ?_
  pointwise [k0_pay19, pay18]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  exact div_ll g w kv (X i.val) 1 3

theorem pay20 :
    k0_pay20 (F := Ideal) (R2 kv) (R2 fun p => qs g w (X p)) (R2 fun p c => oo g w kv (X p) c) (R2 fun p c => oo g w kv (X p) (256 + c)) (R2 fun p => sc g w kv (X p) 2) (R1 fun p => mx 256 (sc g w kv (X p) 2))
      = R2 fun p => oo g w kv (X p) := by
  refine eq_R2 fun i j => ?_
  pointwise [k0_pay20, pay16, pay17, pay18, pay19]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  have := j.isLt
  split_ifs with h0 h1 h2
  · rfl
  · rw [show 256 + (j.val - 256) = j.val by omega]
  · simp only [oo, show j.val / 256 = 2 by omega, show 1536 + (j.val - 256 - 256) = 1024 + j.val by omega]
  · simp only [oo, show j.val / 256 = 3 by omega, show 1792 + (j.val - 256 - 256 - 256) = 1024 + j.val by omega]

theorem pay21 :
    k0_pay21 (F := Ideal) (R2 fun p => ga g w (X p))
      = R2 fun p => sg g w (X p) := by
  refine eq_R2 fun i j => ?_
  pointwise [k0_pay21]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  exact div_one_add_exp _ _

theorem pay22 :
    k0_pay22 (F := Ideal) (R2 fun p => ga g w (X p))
      = R2 fun p => sl g w (X p) := by
  refine eq_R2 fun i j => ?_
  pointwise [k0_pay22, pay21]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  rfl

theorem pay23 :
    k0_pay23 (F := Ideal) (R2 fun p => ga g w (X p))
      = R2 fun p => ds g w (X p) := by
  refine eq_R2 fun i j => ?_
  pointwise [k0_pay23, pay21]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  rfl

theorem pay24 :
    k0_pay24 (F := Ideal) (R2 fun p => oo g w kv (X p)) (R2 fun p => sl g w (X p))
      = R2 fun p => rr g w kv (X p) := by
  refine eq_R2 fun i j => ?_
  pointwise [k0_pay24]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  rfl

theorem pay25 :
    k0_pay25 (F := Ideal) (R2 D) (R4 fun _ _ r c => wo r c) (R4 fun _ _ r c => wo (256 + r) c) (R4 fun _ _ r c => wo (512 + r) c) (R4 fun _ _ r c => wo (768 + r) c)
      = R2 fun p => dr wo (D p) := by
  refine eq_R2 fun i j => ?_
  pointwise [k0_pay25]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  have := j.isLt
  split_ifs with h0 h1 h2
  · rfl
  · rw [show 256 + (j.val - 256) = j.val by omega]; rfl
  · rw [show 512 + (j.val - 256 - 256) = j.val by omega]; rfl
  · rw [show 768 + (j.val - 256 - 256 - 256) = j.val by omega]; rfl

theorem pay26 :
    k0_pay26 (F := Ideal) (R2 fun p => sl g w (X p)) (R2 D) (R4 fun _ _ r c => wo r c) (R4 fun _ _ r c => wo (256 + r) c) (R4 fun _ _ r c => wo (512 + r) c) (R4 fun _ _ r c => wo (768 + r) c)
      = R2 fun p => dO g w wo (X p) (D p) := by
  refine eq_R2 fun i j => ?_
  pointwise [k0_pay26, pay25]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  rfl

theorem pay27 :
    k0_pay27 (F := Ideal) (R2 fun p => oo g w kv (X p)) (R2 fun p => ds g w (X p)) (R2 D) (R4 fun _ _ r c => wo r c) (R4 fun _ _ r c => wo (256 + r) c) (R4 fun _ _ r c => wo (512 + r) c) (R4 fun _ _ r c => wo (768 + r) c)
      = R2 fun p => dgt g w kv wo (X p) (D p) := by
  refine eq_R2 fun i j => ?_
  pointwise [k0_pay27, pay25]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  rfl

theorem pay28 :
    k0_pay28 (F := Ideal) (R2 fun p => sl g w (X p)) (R2 D) (R4 fun _ _ r c => wo r c) (R4 fun _ _ r c => wo (256 + r) c) (R4 fun _ _ r c => wo (512 + r) c) (R4 fun _ _ r c => wo (768 + r) c)
      = R2 fun p => dO g w wo (X p) (D p) := by
  refine eq_R2 fun i j => ?_
  pointwise [k0_pay28, pay26]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]

theorem pay29 :
    k0_pay29 (F := Ideal) (R2 fun p => oo g w kv (X p)) (R2 fun p => sl g w (X p)) (R2 D) (R4 fun _ _ r c => wo r c) (R4 fun _ _ r c => wo (256 + r) c) (R4 fun _ _ r c => wo (512 + r) c) (R4 fun _ _ r c => wo (768 + r) c)
      = R2 fun p c => dO g w wo (X p) (D p) c * oo g w kv (X p) c := by
  refine eq_R2 fun i j => ?_
  pointwise [k0_pay29, pay26]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]

theorem pay30 :
    k0_pay30 (F := Ideal) (R2 kv) (R2 fun p => sl g w (X p)) (R2 D) (R4 fun _ _ r c => wo r c) (R4 fun _ _ r c => wo (256 + r) c) (R4 fun _ _ r c => wo (512 + r) c) (R4 fun _ _ r c => wo (768 + r) c)
      = R2 fun p => dp g w kv wo (X p) (D p) 0 := by
  refine eq_R2 fun i j => ?_
  pointwise [k0_pay30, pay28]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  simp only [dp, Nat.mul_zero, Nat.zero_add]

theorem pay31 (A : ℕ → ℕ → ℝ) :
    k0_pay31 (F := Ideal) (R2 fun p => ee g w kv (X p) 0) (R2 fun p _ => li g w kv (X p) 0) (R2 fun p => dO g w wo (X p) (D p)) (R2 A)
      = R2 fun k c => A k c + ∑ p : Fin 512, ee g w kv (X p.val) 0 k * (dO g w wo (X p.val) (D p.val) c * li g w kv (X p.val) 0) := by
  refine eq_R2 fun i j => ?_
  pointwise [k0_pay31]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]

theorem pay32 :
    k0_pay32 (F := Ideal) (R2 fun p => ee g w kv (X p) 0) (R2 fun p _ => li g w kv (X p) 0) (R2 fun p c => dO g w wo (X p) (D p) c * oo g w kv (X p) c) (R2 fun p => dp g w kv wo (X p) (D p) 0)
      = R2 fun p => dsc g w kv wo (X p) (D p) 0 := by
  refine eq_R2 fun i j => ?_
  pointwise [k0_pay32]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  simp only [dsc, rs, Nat.mul_zero, Nat.zero_add]

theorem pay33 :
    k0_pay33 (F := Ideal) (R2 kv) (R2 fun p => ee g w kv (X p) 0) (R2 fun p _ => li g w kv (X p) 0) (R2 fun p c => dO g w wo (X p) (D p) c * oo g w kv (X p) c) (R2 fun p => dp g w kv wo (X p) (D p) 0)
      = R2 fun p c => dq g w kv wo (X p) (D p) c := by
  refine eq_R2 fun i j => ?_
  pointwise [k0_pay33, pay32]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  simp only [dq, show j.val / 256 = 0 by omega]

theorem pay34 (A : ℕ → ℕ → ℝ) :
    k0_pay34 (F := Ideal) (R2 fun p => qs g w (X p)) (R2 fun p => ee g w kv (X p) 0) (R2 fun p _ => li g w kv (X p) 0) (R2 fun p c => dO g w wo (X p) (D p) c * oo g w kv (X p) c) (R2 fun p => dp g w kv wo (X p) (D p) 0) (R2 A)
      = R2 fun k c => A k c + ∑ p : Fin 512, dsc g w kv wo (X p.val) (D p.val) 0 k * qs g w (X p.val) c := by
  refine eq_R2 fun i j => ?_
  pointwise [k0_pay34, pay32]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]

theorem pay35 :
    k0_pay35 (F := Ideal) (R2 kv) (R2 fun p => dO g w wo (X p) (D p))
      = R2 fun p => dp g w kv wo (X p) (D p) 1 := by
  refine eq_R2 fun i j => ?_
  pointwise [k0_pay35]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  simp only [dp, Nat.mul_one, show ∀ a, 1024 + (256 + a) = 1280 + a from fun a => by omega]

theorem pay36 (A : ℕ → ℕ → ℝ) :
    k0_pay36 (F := Ideal) (R2 A)
      = R2 A := by
  refine eq_R2 fun i j => ?_
  pointwise [k0_pay36]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]

theorem pay37 :
    k0_pay37 (F := Ideal) (R2 fun p => ee g w kv (X p) 1)
      = R2 fun p => ee g w kv (X p) 1 := by
  refine eq_R2 fun i j => ?_
  pointwise [k0_pay37]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]

theorem pay38 :
    k0_pay38 (F := Ideal) (R2 fun p _ => li g w kv (X p) 1) (R2 fun p => dO g w wo (X p) (D p))
      = R2 fun p c => dO g w wo (X p) (D p) (256 + c) * li g w kv (X p) 1 := by
  refine eq_R2 fun i j => ?_
  pointwise [k0_pay38]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]

theorem pay39 (A : ℕ → ℕ → ℝ) :
    k0_pay39 (F := Ideal) (R2 A) (R2 fun p => ee g w kv (X p) 1) (R2 fun p c => dO g w wo (X p) (D p) (256 + c) * li g w kv (X p) 1)
      = R2 fun k c => A k c + ∑ p : Fin 512, ee g w kv (X p.val) 1 k * (dO g w wo (X p.val) (D p.val) (256 + c) * li g w kv (X p.val) 1) := by
  refine eq_R2 fun i j => ?_
  pointwise [k0_pay39]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]

theorem pay40 :
    k0_pay40 (F := Ideal) (R2 fun p => ee g w kv (X p) 1) (R2 fun p _ => li g w kv (X p) 1) (R2 fun p c => dO g w wo (X p) (D p) c * oo g w kv (X p) c) (R2 fun p => dp g w kv wo (X p) (D p) 1)
      = R2 fun p => dsc g w kv wo (X p) (D p) 1 := by
  refine eq_R2 fun i j => ?_
  pointwise [k0_pay40]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  rfl

theorem pay41 :
    k0_pay41 (F := Ideal) (R2 kv) (R2 fun p => ee g w kv (X p) 1) (R2 fun p _ => li g w kv (X p) 1) (R2 fun p c => dO g w wo (X p) (D p) c * oo g w kv (X p) c) (R2 fun p => dp g w kv wo (X p) (D p) 1)
      = R2 fun p c => dq g w kv wo (X p) (D p) (256 + c) := by
  refine eq_R2 fun i j => ?_
  pointwise [k0_pay41, pay40]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  simp only [dq, show (256 + j.val) / 256 = 1 by omega]

theorem pay42 (A : ℕ → ℕ → ℝ) :
    k0_pay42 (F := Ideal) (R2 fun p => qs g w (X p)) (R2 fun p => ee g w kv (X p) 1) (R2 fun p _ => li g w kv (X p) 1) (R2 fun p c => dO g w wo (X p) (D p) c * oo g w kv (X p) c) (R2 fun p => dp g w kv wo (X p) (D p) 1) (R2 A)
      = R2 fun k c => A k c + ∑ p : Fin 512, dsc g w kv wo (X p.val) (D p.val) 1 k * qs g w (X p.val) (256 + c) := by
  refine eq_R2 fun i j => ?_
  pointwise [k0_pay42, pay40]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]

theorem pay43 :
    k0_pay43 (F := Ideal) (R2 kv) (R2 fun p => dO g w wo (X p) (D p))
      = R2 fun p => dp g w kv wo (X p) (D p) 2 := by
  refine eq_R2 fun i j => ?_
  pointwise [k0_pay43]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  simp only [dp, show ∀ a, 1024 + (256 * 2 + a) = 1536 + a from fun a => by omega, Nat.reduceMul]

theorem pay44 (A : ℕ → ℕ → ℝ) :
    k0_pay44 (F := Ideal) (R2 fun p => ee g w kv (X p) 2) (R2 fun p _ => li g w kv (X p) 2) (R2 fun p => dO g w wo (X p) (D p)) (R2 A)
      = R2 fun k c => A k c + ∑ p : Fin 512, ee g w kv (X p.val) 2 k * (dO g w wo (X p.val) (D p.val) (512 + c) * li g w kv (X p.val) 2) := by
  refine eq_R2 fun i j => ?_
  pointwise [k0_pay44]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]

theorem pay45 :
    k0_pay45 (F := Ideal) (R2 fun p => ee g w kv (X p) 2) (R2 fun p _ => li g w kv (X p) 2) (R2 fun p c => dO g w wo (X p) (D p) c * oo g w kv (X p) c) (R2 fun p => dp g w kv wo (X p) (D p) 2)
      = R2 fun p => dsc g w kv wo (X p) (D p) 2 := by
  refine eq_R2 fun i j => ?_
  pointwise [k0_pay45]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  rfl

theorem pay46 :
    k0_pay46 (F := Ideal) (R2 kv) (R2 fun p => ee g w kv (X p) 2) (R2 fun p _ => li g w kv (X p) 2) (R2 fun p c => dO g w wo (X p) (D p) c * oo g w kv (X p) c) (R2 fun p => dp g w kv wo (X p) (D p) 2)
      = R2 fun p c => dq g w kv wo (X p) (D p) (512 + c) := by
  refine eq_R2 fun i j => ?_
  pointwise [k0_pay46, pay45]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  simp only [dq, show (512 + j.val) / 256 = 2 by omega]

theorem pay47 (A : ℕ → ℕ → ℝ) :
    k0_pay47 (F := Ideal) (R2 fun p => qs g w (X p)) (R2 fun p => ee g w kv (X p) 2) (R2 fun p _ => li g w kv (X p) 2) (R2 fun p c => dO g w wo (X p) (D p) c * oo g w kv (X p) c) (R2 fun p => dp g w kv wo (X p) (D p) 2) (R2 A)
      = R2 fun k c => A k c + ∑ p : Fin 512, dsc g w kv wo (X p.val) (D p.val) 2 k * qs g w (X p.val) (512 + c) := by
  refine eq_R2 fun i j => ?_
  pointwise [k0_pay47, pay45]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]

theorem pay48 (A : ℕ → ℕ → ℝ) :
    k0_pay48 (F := Ideal) (R2 fun p => ee g w kv (X p) 3) (R2 fun p _ => li g w kv (X p) 3) (R2 fun p => dO g w wo (X p) (D p)) (R2 A)
      = R2 fun k c => A k c + ∑ p : Fin 512, ee g w kv (X p.val) 3 k * (dO g w wo (X p.val) (D p.val) (768 + c) * li g w kv (X p.val) 3) := by
  refine eq_R2 fun i j => ?_
  pointwise [k0_pay48]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]

theorem pay49 :
    k0_pay49 (F := Ideal) (R2 kv) (R2 fun p => dO g w wo (X p) (D p)) (R2 fun p c => dO g w wo (X p) (D p) c * oo g w kv (X p) c)
      = R2 fun p k => dp g w kv wo (X p) (D p) 3 k - rs g w kv wo (X p) (D p) 3 := by
  refine eq_R2 fun i j => ?_
  pointwise [k0_pay49]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  simp only [dp, rs, show ∀ a, 1024 + (256 * 3 + a) = 1792 + a from fun a => by omega, Nat.reduceMul]

theorem pay50 :
    k0_pay50 (F := Ideal) (R2 fun p => ee g w kv (X p) 3) (R2 fun p _ => li g w kv (X p) 3) (R2 fun p k => dp g w kv wo (X p) (D p) 3 k - rs g w kv wo (X p) (D p) 3)
      = R2 fun p => dsc g w kv wo (X p) (D p) 3 := by
  refine eq_R2 fun i j => ?_
  pointwise [k0_pay50]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  rfl

theorem pay51 :
    k0_pay51 (F := Ideal) (R2 kv) (R2 fun p => ee g w kv (X p) 3) (R2 fun p _ => li g w kv (X p) 3) (R2 fun p k => dp g w kv wo (X p) (D p) 3 k - rs g w kv wo (X p) (D p) 3)
      = R2 fun p c => dq g w kv wo (X p) (D p) (768 + c) := by
  refine eq_R2 fun i j => ?_
  pointwise [k0_pay51, pay50]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  simp only [dq, show (768 + j.val) / 256 = 3 by omega]

theorem pay52 (A : ℕ → ℕ → ℝ) :
    k0_pay52 (F := Ideal) (R2 fun p => qs g w (X p)) (R2 fun p => ee g w kv (X p) 3) (R2 fun p _ => li g w kv (X p) 3) (R2 fun p k => dp g w kv wo (X p) (D p) 3 k - rs g w kv wo (X p) (D p) 3) (R2 A)
      = R2 fun k c => A k c + ∑ p : Fin 512, dsc g w kv wo (X p.val) (D p.val) 3 k * qs g w (X p.val) (768 + c) := by
  refine eq_R2 fun i j => ?_
  pointwise [k0_pay52, pay50]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]

theorem pay53 :
    k0_pay53 (F := Ideal) (R2 fun p => dqg g w kv wo (X p) (D p))
      = R2 fun p => dqg g w kv wo (X p) (D p) := by
  refine eq_R2 fun i j => ?_
  pointwise [k0_pay53]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]

theorem pay54 :
    k0_pay54 (F := Ideal) (R2 fun p => dqg g w kv wo (X p) (D p))
      = R2 fun p c => dqg g w kv wo (X p) (D p) (1536 + c) := by
  refine eq_R2 fun i j => ?_
  pointwise [k0_pay54, pay53]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]

theorem pay55 :
    k0_pay55 (F := Ideal) (R2 fun p => dqg g w kv wo (X p) (D p)) (R4 fun _ _ r c => w r c) (R4 fun _ _ r c => w r (512 + c))
      = R2 fun p c => (∑ k : Fin 512, dqg g w kv wo (X p) (D p) (k.val) * w c (k.val)) + ∑ k : Fin 512, dqg g w kv wo (X p) (D p) (512 + k.val) * w c (512 + k.val) := by
  refine eq_R2 fun i j => ?_
  pointwise [k0_pay55, pay53]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]

theorem pay56 :
    k0_pay56 (F := Ideal) (R2 fun p => dqg g w kv wo (X p) (D p)) (R4 fun _ _ r c => w r (1024 + c))
      = R2 fun p c => ∑ k : Fin 512, dqg g w kv wo (X p) (D p) (1024 + k.val) * w c (1024 + k.val) := by
  refine eq_R2 fun i j => ?_
  pointwise [k0_pay56, pay53]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]

theorem pay57 :
    k0_pay57 (F := Ideal) (R2 fun p c => dqg g w kv wo (X p) (D p) (1536 + c)) (R2 fun p c => (∑ k : Fin 512, dqg g w kv wo (X p) (D p) (k.val) * w c (k.val)) + ∑ k : Fin 512, dqg g w kv wo (X p) (D p) (512 + k.val) * w c (512 + k.val)) (R2 fun p c => ∑ k : Fin 512, dqg g w kv wo (X p) (D p) (1024 + k.val) * w c (1024 + k.val)) (R4 fun _ _ r c => w r (1536 + c))
      = R2 fun p => dh g w kv wo (X p) (D p) := by
  refine eq_R2 fun i j => ?_
  pointwise [k0_pay57]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  exact congrArg _ (sum_2048 fun k => dqg g w kv wo (X i.val) (D i.val) k * w j.val k).symm

theorem pay58 :
    k0_pay58 (F := Ideal) (R2 X)
      = R2 fun p _ => inv (X p) := by
  refine eq_R2 fun i j => ?_
  pointwise [k0_pay58]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024, rsqrt_ms (X i.val)]

theorem pay59 :
    k0_pay59 (F := Ideal) (R2 X)
      = R2 fun p => xh (X p) := by
  refine eq_R2 fun i j => ?_
  pointwise [k0_pay59, pay58]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  rfl

theorem pay60 :
    k0_pay60 (F := Ideal) (R2 X) (R2 fun p c => dqg g w kv wo (X p) (D p) (1536 + c)) (R2 fun p c => (∑ k : Fin 512, dqg g w kv wo (X p) (D p) (k.val) * w c (k.val)) + ∑ k : Fin 512, dqg g w kv wo (X p) (D p) (512 + k.val) * w c (512 + k.val)) (R2 fun p c => ∑ k : Fin 512, dqg g w kv wo (X p) (D p) (1024 + k.val) * w c (1024 + k.val)) (R4 fun _ _ r c => w r (1536 + c))
      = R2 fun _ c => ∑ p : Fin 512, dgn g w kv wo (X p.val) (D p.val) c := by
  refine eq_R2 fun i j => ?_
  pointwise [k0_pay60, pay57, pay59]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  rfl

theorem pay61 :
    k0_pay61 (F := Ideal) (R2 X) (R2 D) (R2 fun p c => dqg g w kv wo (X p) (D p) (1536 + c)) (R2 fun p c => (∑ k : Fin 512, dqg g w kv wo (X p) (D p) (k.val) * w c (k.val)) + ∑ k : Fin 512, dqg g w kv wo (X p) (D p) (512 + k.val) * w c (512 + k.val)) (R2 fun p c => ∑ k : Fin 512, dqg g w kv wo (X p) (D p) (1024 + k.val) * w c (1024 + k.val)) (R4 fun _ _ r c => w r (1536 + c)) (R2 fun _ => g)
      = R2 fun p => dx g w kv wo (X p) (D p) := by
  refine eq_R2 fun i j => ?_
  pointwise [k0_pay61, pay57, pay58, pay59]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  rfl

theorem pay1 (A B : ℕ → ℝ) :
    k0_pay1 (F := Ideal) (R2 fun _ c => B c) (R2 fun _ c => A c)
      = R2 fun _ c => A c + B c := by
  refine eq_R2 fun i j => ?_
  pointwise [k0_pay1]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]

theorem pay2 :
    k0_pay2 (F := Ideal)
      = R2 fun _ _ => 0 := by
  refine eq_R2 fun i j => ?_
  pointwise [k0_pay2]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]

theorem pay3 :
    k0_pay3 (F := Ideal)
      = R2 fun _ _ => 0 := by
  refine eq_R2 fun i j => ?_
  pointwise [k0_pay3]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]

end pay

end Cert.Xa

end
-- ==== Proof.Blocks.lean ====
module

public import proofs.«01_k».proof.Proof.Pay
public import Idealize.ShloMosaic.Lib.Pipeline.ValueKit
public import Idealize.ShloMosaic.Lib.Pipeline.ReadBack
public import Idealize.ShloMosaic.Lib.Claim

@[expose] public section

set_option maxRecDepth 16384

noncomputable section

namespace Cert.Xa

open Idealize.ShloMosaic Idealize.ShloMosaic.TcCoe Cert.KernelIdeal Cert.KernelIdeal.Gen Cert.KernelIdeal.Value

/-- The `t`-th tile of 512 rows. -/
def tile (X : ℕ → ℕ → ℝ) (t : ℕ) : ℕ → ℕ → ℝ := fun p => X (512 * t + p)

/-- Where each window's block lies at each grid point. -/
theorem idx : ∀ t : Fin cfg0.N,
    win0_0.index t = ![t.val, 0] ∧ win0_1.index t = ![t.val, 0] ∧ win0_2.index t = ![0, 0] ∧ win0_3.index t = ![0, 1, 0, 0]
    ∧ win0_4.index t = ![0, 0] ∧ win0_5.index t = ![0, 1, 0, 0] ∧ win0_6.index t = ![t.val, 0] ∧ win0_7.index t = ![t.val, 0]
    ∧ win0_8.index t = ![t.val, 0] ∧ win0_9.index t = ![t.val, 0] ∧ win0_10.index t = ![0, 0] ∧ win0_11.index t = ![0, 0]
    ∧ t.val < 16 :=
  (by decide +kernel : ∀ t : Fin grid0.N, _)

variable (m : (ℓ : Loc nD τ sig) → Buf (Elt Ideal) ℓ) (c : Dev nD)

/-- The launch's argument buffers on device `c` hold these real arrays (of the weights, the second layer's). -/
structure Holds (X D : ℕ → ℕ → ℝ) (g : ℕ → ℝ) (w kv wo : ℕ → ℕ → ℝ) : Prop where
  x : ∀ (i : Fin 8192) (j : Fin 1024), (m ((c : Thread nD τ).loc main_arg0) (ix2 i j) : EReal) = ((X i j : ℝ) : EReal)
  d : ∀ (i : Fin 8192) (j : Fin 1024), (m ((c : Thread nD τ).loc main_arg1) (ix2 i j) : EReal) = ((D i j : ℝ) : EReal)
  g : ∀ (i : Fin 1) (j : Fin 1024), (m ((c : Thread nD τ).loc main_arg2) (ix2 i j) : EReal) = ((g j : ℝ) : EReal)
  w : ∀ (i : Fin 1024) (j : Fin 2048), (m ((c : Thread nD τ).loc main_arg3) (ix3 1 i j) : EReal) = ((w i j : ℝ) : EReal)
  kv : ∀ (i : Fin 256) (j : Fin 2048), (m ((c : Thread nD τ).loc main_arg4) (ix2 i j) : EReal) = ((kv i j : ℝ) : EReal)
  wo : ∀ (i : Fin 1024) (j : Fin 1024), (m ((c : Thread nD τ).loc main_arg5) (ix3 1 i j) : EReal) = ((wo i j : ℝ) : EReal)

variable {m c} {X D : ℕ → ℕ → ℝ} {g : ℕ → ℝ} {w kv wo : ℕ → ℕ → ℝ} (H : Holds m c X D g w kv wo) (t : Fin cfg0.N)
include H

/-- The block of the layer's input at point `t`. -/
theorem b0 : iblk m c 0 t = R2 (tile X t.val) := by
  refine eq_R2 fun i j => ?_
  refine Eq.trans ?_ (H.x ⟨512 * t.val + i.val, by have := idx t; omega⟩ j)
  blk_ext [iblk, V, idx t]

/-- The block of the output's gradient at point `t`. -/
theorem b1 : iblk m c 1 t = R2 (tile D t.val) := by
  refine eq_R2 fun i j => ?_
  refine Eq.trans ?_ (H.d ⟨512 * t.val + i.val, by have := idx t; omega⟩ j)
  blk_ext [iblk, V, idx t]

/-- The gain. -/
theorem b2 : iblk m c 2 t = R2 (fun _ => g) := by
  refine eq_R2 fun i j => ?_
  refine Eq.trans ?_ (H.g i j)
  blk_ext [iblk, V, idx t]

/-- The keys and values. -/
theorem b4 : iblk m c 4 t = R2 kv := by
  refine eq_R2 fun i j => ?_
  refine Eq.trans ?_ (H.kv i j)
  blk_ext [iblk, V, idx t]

/-- The block of the first weights holds the second layer's matrix as four shards of columns. -/
theorem w3 (s : Fin 4) (r : Fin 1024) (q : Fin 512) : iblk m c 3 t (ix4 s 0 r q) = ((w r (512 * s + q) : ℝ) : EReal) := by
  refine Eq.trans ?_ (H.w r ⟨512 * s.val + q.val, by omega⟩)
  blk_simp [iblk, idx t]
  entry_read
  pointwise []
  blk_ext [idx t]

/-- The block of the second weights holds the second layer's matrix as four shards of rows. -/
theorem w5 (s : Fin 4) (r : Fin 256) (q : Fin 1024) : iblk m c 5 t (ix4 s 0 r q) = ((wo (256 * s + r) q : ℝ) : EReal) := by
  refine Eq.trans ?_ (H.wo ⟨256 * s.val + r.val, by omega⟩ q)
  blk_simp [iblk, idx t]
  entry_read
  pointwise []
  blk_ext [idx t]

/-- Shard 0 of the first weights, as the body loads it. -/
theorem l3_0 : View.ld (Val := Elt Ideal) (S := S4x1x1024x512) (e' := .bf16) (iblk m c 3 t) (Rect.unit ![0, 0, 0, 0] ![1, 1, 1024, 512] inb_S4x1x1024x512_S1x1x1024x512_0_0_0_0)
    = R4 fun _ _ r q => w r (q) := by
  funext y
  obtain ⟨a, b, r, q, rfl⟩ : ∃ (a b : Fin 1) (r : Fin 1024) (q : Fin 512), y = ix4 a b r q := ⟨y 0, y 1, y 2, y 3, eq_ix4 y⟩
  refine Eq.trans ?_ ((w3 H t 0 r q).trans ?_)
  · pointwise []
    blk_ext []
  · simp [R4_apply]

/-- Shard 1 of the first weights, as the body loads it. -/
theorem l3_1 : View.ld (Val := Elt Ideal) (S := S4x1x1024x512) (e' := .bf16) (iblk m c 3 t) (Rect.unit ![1, 0, 0, 0] ![1, 1, 1024, 512] inb_S4x1x1024x512_S1x1x1024x512_1_0_0_0)
    = R4 fun _ _ r q => w r (512 + q) := by
  funext y
  obtain ⟨a, b, r, q, rfl⟩ : ∃ (a b : Fin 1) (r : Fin 1024) (q : Fin 512), y = ix4 a b r q := ⟨y 0, y 1, y 2, y 3, eq_ix4 y⟩
  refine Eq.trans ?_ ((w3 H t 1 r q).trans ?_)
  · pointwise []
    blk_ext []
  · simp [R4_apply]

/-- Shard 2 of the first weights, as the body loads it. -/
theorem l3_2 : View.ld (Val := Elt Ideal) (S := S4x1x1024x512) (e' := .bf16) (iblk m c 3 t) (Rect.unit ![2, 0, 0, 0] ![1, 1, 1024, 512] inb_S4x1x1024x512_S1x1x1024x512_2_0_0_0)
    = R4 fun _ _ r q => w r (1024 + q) := by
  funext y
  obtain ⟨a, b, r, q, rfl⟩ : ∃ (a b : Fin 1) (r : Fin 1024) (q : Fin 512), y = ix4 a b r q := ⟨y 0, y 1, y 2, y 3, eq_ix4 y⟩
  refine Eq.trans ?_ ((w3 H t 2 r q).trans ?_)
  · pointwise []
    blk_ext []
  · simp [R4_apply]

/-- Shard 3 of the first weights, as the body loads it. -/
theorem l3_3 : View.ld (Val := Elt Ideal) (S := S4x1x1024x512) (e' := .bf16) (iblk m c 3 t) (Rect.unit ![3, 0, 0, 0] ![1, 1, 1024, 512] inb_S4x1x1024x512_S1x1x1024x512_3_0_0_0)
    = R4 fun _ _ r q => w r (1536 + q) := by
  funext y
  obtain ⟨a, b, r, q, rfl⟩ : ∃ (a b : Fin 1) (r : Fin 1024) (q : Fin 512), y = ix4 a b r q := ⟨y 0, y 1, y 2, y 3, eq_ix4 y⟩
  refine Eq.trans ?_ ((w3 H t 3 r q).trans ?_)
  · pointwise []
    blk_ext []
  · simp [R4_apply]

/-- Shard 0 of the second weights, as the body loads it. -/
theorem l5_0 : View.ld (Val := Elt Ideal) (S := S4x1x256x1024) (e' := .bf16) (iblk m c 5 t) (Rect.unit ![0, 0, 0, 0] ![1, 1, 256, 1024] inb_S4x1x256x1024_S1x1x256x1024_0_0_0_0)
    = R4 fun _ _ r q => wo (r) q := by
  funext y
  obtain ⟨a, b, r, q, rfl⟩ : ∃ (a b : Fin 1) (r : Fin 256) (q : Fin 1024), y = ix4 a b r q := ⟨y 0, y 1, y 2, y 3, eq_ix4 y⟩
  refine Eq.trans ?_ ((w5 H t 0 r q).trans ?_)
  · pointwise []
    blk_ext []
  · simp [R4_apply]

/-- Shard 1 of the second weights, as the body loads it. -/
theorem l5_1 : View.ld (Val := Elt Ideal) (S := S4x1x256x1024) (e' := .bf16) (iblk m c 5 t) (Rect.unit ![1, 0, 0, 0] ![1, 1, 256, 1024] inb_S4x1x256x1024_S1x1x256x1024_1_0_0_0)
    = R4 fun _ _ r q => wo (256 + r) q := by
  funext y
  obtain ⟨a, b, r, q, rfl⟩ : ∃ (a b : Fin 1) (r : Fin 256) (q : Fin 1024), y = ix4 a b r q := ⟨y 0, y 1, y 2, y 3, eq_ix4 y⟩
  refine Eq.trans ?_ ((w5 H t 1 r q).trans ?_)
  · pointwise []
    blk_ext []
  · simp [R4_apply]

/-- Shard 2 of the second weights, as the body loads it. -/
theorem l5_2 : View.ld (Val := Elt Ideal) (S := S4x1x256x1024) (e' := .bf16) (iblk m c 5 t) (Rect.unit ![2, 0, 0, 0] ![1, 1, 256, 1024] inb_S4x1x256x1024_S1x1x256x1024_2_0_0_0)
    = R4 fun _ _ r q => wo (512 + r) q := by
  funext y
  obtain ⟨a, b, r, q, rfl⟩ : ∃ (a b : Fin 1) (r : Fin 256) (q : Fin 1024), y = ix4 a b r q := ⟨y 0, y 1, y 2, y 3, eq_ix4 y⟩
  refine Eq.trans ?_ ((w5 H t 2 r q).trans ?_)
  · pointwise []
    blk_ext []
  · simp [R4_apply]

/-- Shard 3 of the second weights, as the body loads it. -/
theorem l5_3 : View.ld (Val := Elt Ideal) (S := S4x1x256x1024) (e' := .bf16) (iblk m c 5 t) (Rect.unit ![3, 0, 0, 0] ![1, 1, 256, 1024] inb_S4x1x256x1024_S1x1x256x1024_3_0_0_0)
    = R4 fun _ _ r q => wo (768 + r) q := by
  funext y
  obtain ⟨a, b, r, q, rfl⟩ : ∃ (a b : Fin 1) (r : Fin 256) (q : Fin 1024), y = ix4 a b r q := ⟨y 0, y 1, y 2, y 3, eq_ix4 y⟩
  refine Eq.trans ?_ ((w5 H t 3 r q).trans ?_)
  · pointwise []
    blk_ext []
  · simp [R4_apply]

end Cert.Xa
end
-- ==== Proof.Points.lean ====
module

public import proofs.«01_k».proof.Proof.Blocks

@[expose] public section

set_option maxRecDepth 16384

noncomputable section

namespace Cert.Xa

open Idealize.ShloMosaic Idealize.ShloMosaic.TcCoe Cert.KernelIdeal Cert.KernelIdeal.Gen Cert.KernelIdeal.Value

/-- A stored piece of real numbers whose columns start at `off` is a block of the array `F` if its numbers are `F`'s from that column on. -/
theorem piece {a b p q : ℕ} (off : ℕ) (inb : ∀ x, (![0, off] : Fin 2 → ℕ) x + (![p, q] : Fin 2 → ℕ) x ≤ (![a, b] : Fin 2 → ℕ) x)
    (f F : ℕ → ℕ → ℝ) (h : ∀ i j, j < q → f i j = F i (off + j)) (x : (⟨2, ![p, q]⟩ : Shape).Idx) :
    (R2 f x : EReal) = (R2 F : (⟨2, ![a, b]⟩ : Shape).Idx → EReal) ((Rect.unit (s := ⟨2, ![a, b]⟩) ![0, off] ![p, q] inb).emb x) := by
  show ((f (x 0).val (x 1).val : ℝ) : EReal) = ((F (0 + 1 * (x 0).val) (off + 1 * (x 1).val) : ℝ) : EReal)
  rw [h _ _ (x 1).isLt, Nat.zero_add, Nat.one_mul, Nat.one_mul]

/-- Stored pieces that are blocks of `G` and cover the buffer leave `G`. -/
theorem canon_pieces {S : Shape} {e : EltTy} (G : S.Idx → Elt Ideal e) (L : List (View.Piece (Elt Ideal) S e)) (y : S.Idx)
    (hP : View.PiecesOf G L) (hc : ∃ p ∈ L, y ∈ p.1.set) : View.canon L y = G y := by
  simpa using View.canon_append_of_piecesOf G [] L hP y hc

/-- The same over an earliest store of any contents. -/
theorem canon_pieces_over {S : Shape} {e : EltTy} (G : S.Idx → Elt Ideal e) (L : List (View.Piece (Elt Ideal) S e)) (y : S.Idx)
    (hP : View.PiecesOf G L.dropLast) (hc : ∃ p ∈ L.dropLast, y ∈ p.1.set) : View.canon L y = G y := by
  have hL : L ≠ [] := by rintro rfl; obtain ⟨p, hp, _⟩ := hc; simp at hp
  rw [← List.dropLast_append_getLast hL]
  exact View.canon_append_of_piecesOf G _ _ hP y hc

/-- A load of 256 columns, from column 0 on, of a buffer of real numbers. -/
theorem ldc_0 (A : ℕ → ℕ → ℝ) :
    View.ld (Val := Elt Ideal) (S := S256x2048) (e' := .f32) (R2 A) (Rect.unit ![0, 0] ![256, 256] inb_S256x2048_S256x256_0_0)
      = R2 fun k c => A k (0 + c) := by
  funext y
  obtain ⟨k, c, rfl⟩ : ∃ (k c : Fin 256), y = ix2 k c := ⟨y 0, y 1, eq_ix2 y⟩
  pointwise []
  simp [R2]

/-- A load of 256 columns, from column 256 on, of a buffer of real numbers. -/
theorem ldc_256 (A : ℕ → ℕ → ℝ) :
    View.ld (Val := Elt Ideal) (S := S256x2048) (e' := .f32) (R2 A) (Rect.unit ![0, 256] ![256, 256] inb_S256x2048_S256x256_0_256)
      = R2 fun k c => A k (256 + c) := by
  funext y
  obtain ⟨k, c, rfl⟩ : ∃ (k c : Fin 256), y = ix2 k c := ⟨y 0, y 1, eq_ix2 y⟩
  pointwise []
  simp [R2]

/-- A load of 256 columns, from column 512 on, of a buffer of real numbers. -/
theorem ldc_512 (A : ℕ → ℕ → ℝ) :
    View.ld (Val := Elt Ideal) (S := S256x2048) (e' := .f32) (R2 A) (Rect.unit ![0, 512] ![256, 256] inb_S256x2048_S256x256_0_512)
      = R2 fun k c => A k (512 + c) := by
  funext y
  obtain ⟨k, c, rfl⟩ : ∃ (k c : Fin 256), y = ix2 k c := ⟨y 0, y 1, eq_ix2 y⟩
  pointwise []
  simp [R2]

/-- A load of 256 columns, from column 768 on, of a buffer of real numbers. -/
theorem ldc_768 (A : ℕ → ℕ → ℝ) :
    View.ld (Val := Elt Ideal) (S := S256x2048) (e' := .f32) (R2 A) (Rect.unit ![0, 768] ![256, 256] inb_S256x2048_S256x256_0_768)
      = R2 fun k c => A k (768 + c) := by
  funext y
  obtain ⟨k, c, rfl⟩ : ∃ (k c : Fin 256), y = ix2 k c := ⟨y 0, y 1, eq_ix2 y⟩
  pointwise []
  simp [R2]

/-- A load of 256 columns, from column 1024 on, of a buffer of real numbers. -/
theorem ldc_1024 (A : ℕ → ℕ → ℝ) :
    View.ld (Val := Elt Ideal) (S := S256x2048) (e' := .f32) (R2 A) (Rect.unit ![0, 1024] ![256, 256] inb_S256x2048_S256x256_0_1024)
      = R2 fun k c => A k (1024 + c) := by
  funext y
  obtain ⟨k, c, rfl⟩ : ∃ (k c : Fin 256), y = ix2 k c := ⟨y 0, y 1, eq_ix2 y⟩
  pointwise []
  simp [R2]

/-- A load of 256 columns, from column 1280 on, of a buffer of real numbers. -/
theorem ldc_1280 (A : ℕ → ℕ → ℝ) :
    View.ld (Val := Elt Ideal) (S := S256x2048) (e' := .f32) (R2 A) (Rect.unit ![0, 1280] ![256, 256] inb_S256x2048_S256x256_0_1280)
      = R2 fun k c => A k (1280 + c) := by
  funext y
  obtain ⟨k, c, rfl⟩ : ∃ (k c : Fin 256), y = ix2 k c := ⟨y 0, y 1, eq_ix2 y⟩
  pointwise []
  simp [R2]

/-- A load of 256 columns, from column 1536 on, of a buffer of real numbers. -/
theorem ldc_1536 (A : ℕ → ℕ → ℝ) :
    View.ld (Val := Elt Ideal) (S := S256x2048) (e' := .f32) (R2 A) (Rect.unit ![0, 1536] ![256, 256] inb_S256x2048_S256x256_0_1536)
      = R2 fun k c => A k (1536 + c) := by
  funext y
  obtain ⟨k, c, rfl⟩ : ∃ (k c : Fin 256), y = ix2 k c := ⟨y 0, y 1, eq_ix2 y⟩
  pointwise []
  simp [R2]

/-- A load of 256 columns, from column 1792 on, of a buffer of real numbers. -/
theorem ldc_1792 (A : ℕ → ℕ → ℝ) :
    View.ld (Val := Elt Ideal) (S := S256x2048) (e' := .f32) (R2 A) (Rect.unit ![0, 1792] ![256, 256] inb_S256x2048_S256x256_0_1792)
      = R2 fun k c => A k (1792 + c) := by
  funext y
  obtain ⟨k, c, rfl⟩ : ∃ (k c : Fin 256), y = ix2 k c := ⟨y 0, y 1, eq_ix2 y⟩
  pointwise []
  simp [R2]

variable {m : (ℓ : Loc nD τ sig) → Buf (Elt Ideal) ℓ} {c : Dev nD}
variable {X D : ℕ → ℕ → ℝ} {g : ℕ → ℝ} {w kv wo : ℕ → ℕ → ℝ} (H : Holds m c X D g w kv wo) (t : Fin cfg0.N)
include H

/-- What point `t` leaves in the window of the normalised input. -/
theorem p8 : (outsAt0 m c t.val t.isLt).2.2.1 = R2 fun p => hh g (tile X t.val p) := by
  by_cases h : t.val % 16 = 0
  · rw [outsAt0_A m c t h]
    frame_open
    simp (disch := decide) only [↓ View.readCov_skip, ↓ View.readCov_cons_toLoadRect, ↓ View.readCov_fill]
    frame_out
    simp only [b0 H t, b1 H t, b2 H t, b4 H t, l3_0 H t, l3_1 H t, l3_2 H t, l3_3 H t, l5_0 H t, l5_1 H t, l5_2 H t, l5_3 H t, pay2, pay3, pay4 (tile X t.val) g, pay5 (tile X t.val) g w, pay6 w, pay7 (tile X t.val) g w, pay8 (tile X t.val) g w kv, pay9 (tile X t.val) g w kv, pay10 (tile X t.val) g w kv, pay11 (tile X t.val) g w kv, pay12 (tile X t.val) g w kv, pay13 (tile X t.val) g w kv, pay14 (tile X t.val) g w kv, pay15 (tile X t.val) g w kv, pay16 (tile X t.val) g w kv, pay17 (tile X t.val) g w kv, pay18 (tile X t.val) g w kv, pay19 (tile X t.val) g w kv, pay20 (tile X t.val) g w kv, pay21 (tile X t.val) g w, pay22 (tile X t.val) g w, pay23 (tile X t.val) g w, pay24 (tile X t.val) g w kv, pay25 (tile D t.val) wo, pay26 (tile X t.val) (tile D t.val) g w wo, pay27 (tile X t.val) (tile D t.val) g w kv wo, pay28 (tile X t.val) (tile D t.val) g w wo, pay29 (tile X t.val) (tile D t.val) g w kv wo, pay30 (tile X t.val) (tile D t.val) g w kv wo, pay32 (tile X t.val) (tile D t.val) g w kv wo, pay33 (tile X t.val) (tile D t.val) g w kv wo, pay35 (tile X t.val) (tile D t.val) g w kv wo, pay37 (tile X t.val) g w kv, pay38 (tile X t.val) (tile D t.val) g w kv wo, pay40 (tile X t.val) (tile D t.val) g w kv wo, pay41 (tile X t.val) (tile D t.val) g w kv wo, pay43 (tile X t.val) (tile D t.val) g w kv wo, pay45 (tile X t.val) (tile D t.val) g w kv wo, pay46 (tile X t.val) (tile D t.val) g w kv wo, pay49 (tile X t.val) (tile D t.val) g w kv wo, pay50 (tile X t.val) (tile D t.val) g w kv wo, pay51 (tile X t.val) (tile D t.val) g w kv wo, pay53 (tile X t.val) (tile D t.val) g w kv wo, pay54 (tile X t.val) (tile D t.val) g w kv wo, pay55 (tile X t.val) (tile D t.val) g w kv wo, pay56 (tile X t.val) (tile D t.val) g w kv wo, pay57 (tile X t.val) (tile D t.val) g w kv wo, pay58 (tile X t.val), pay59 (tile X t.val), pay60 (tile X t.val) (tile D t.val) g w kv wo, pay61 (tile X t.val) (tile D t.val) g w kv wo]
  · rw [outsAt0_B m c t h]
    frame_open
    simp (disch := decide) only [↓ View.readCov_skip, ↓ View.readCov_cons_toLoadRect, ↓ View.readCov_fill]
    frame_out
    simp only [b0 H t, b1 H t, b2 H t, b4 H t, l3_0 H t, l3_1 H t, l3_2 H t, l3_3 H t, l5_0 H t, l5_1 H t, l5_2 H t, l5_3 H t, pay2, pay3, pay4 (tile X t.val) g, pay5 (tile X t.val) g w, pay6 w, pay7 (tile X t.val) g w, pay8 (tile X t.val) g w kv, pay9 (tile X t.val) g w kv, pay10 (tile X t.val) g w kv, pay11 (tile X t.val) g w kv, pay12 (tile X t.val) g w kv, pay13 (tile X t.val) g w kv, pay14 (tile X t.val) g w kv, pay15 (tile X t.val) g w kv, pay16 (tile X t.val) g w kv, pay17 (tile X t.val) g w kv, pay18 (tile X t.val) g w kv, pay19 (tile X t.val) g w kv, pay20 (tile X t.val) g w kv, pay21 (tile X t.val) g w, pay22 (tile X t.val) g w, pay23 (tile X t.val) g w, pay24 (tile X t.val) g w kv, pay25 (tile D t.val) wo, pay26 (tile X t.val) (tile D t.val) g w wo, pay27 (tile X t.val) (tile D t.val) g w kv wo, pay28 (tile X t.val) (tile D t.val) g w wo, pay29 (tile X t.val) (tile D t.val) g w kv wo, pay30 (tile X t.val) (tile D t.val) g w kv wo, pay32 (tile X t.val) (tile D t.val) g w kv wo, pay33 (tile X t.val) (tile D t.val) g w kv wo, pay35 (tile X t.val) (tile D t.val) g w kv wo, pay37 (tile X t.val) g w kv, pay38 (tile X t.val) (tile D t.val) g w kv wo, pay40 (tile X t.val) (tile D t.val) g w kv wo, pay41 (tile X t.val) (tile D t.val) g w kv wo, pay43 (tile X t.val) (tile D t.val) g w kv wo, pay45 (tile X t.val) (tile D t.val) g w kv wo, pay46 (tile X t.val) (tile D t.val) g w kv wo, pay49 (tile X t.val) (tile D t.val) g w kv wo, pay50 (tile X t.val) (tile D t.val) g w kv wo, pay51 (tile X t.val) (tile D t.val) g w kv wo, pay53 (tile X t.val) (tile D t.val) g w kv wo, pay54 (tile X t.val) (tile D t.val) g w kv wo, pay55 (tile X t.val) (tile D t.val) g w kv wo, pay56 (tile X t.val) (tile D t.val) g w kv wo, pay57 (tile X t.val) (tile D t.val) g w kv wo, pay58 (tile X t.val), pay59 (tile X t.val), pay60 (tile X t.val) (tile D t.val) g w kv wo, pay61 (tile X t.val) (tile D t.val) g w kv wo]

/-- What point `t` leaves in the window of the gated attention. -/
theorem p9 : (outsAt0 m c t.val t.isLt).2.2.2.1 = R2 fun p => rr g w kv (tile X t.val p) := by
  by_cases h : t.val % 16 = 0
  · rw [outsAt0_A m c t h]
    frame_open
    simp (disch := decide) only [↓ View.readCov_skip, ↓ View.readCov_cons_toLoadRect, ↓ View.readCov_fill]
    frame_out
    simp only [b0 H t, b1 H t, b2 H t, b4 H t, l3_0 H t, l3_1 H t, l3_2 H t, l3_3 H t, l5_0 H t, l5_1 H t, l5_2 H t, l5_3 H t, pay2, pay3, pay4 (tile X t.val) g, pay5 (tile X t.val) g w, pay6 w, pay7 (tile X t.val) g w, pay8 (tile X t.val) g w kv, pay9 (tile X t.val) g w kv, pay10 (tile X t.val) g w kv, pay11 (tile X t.val) g w kv, pay12 (tile X t.val) g w kv, pay13 (tile X t.val) g w kv, pay14 (tile X t.val) g w kv, pay15 (tile X t.val) g w kv, pay16 (tile X t.val) g w kv, pay17 (tile X t.val) g w kv, pay18 (tile X t.val) g w kv, pay19 (tile X t.val) g w kv, pay20 (tile X t.val) g w kv, pay21 (tile X t.val) g w, pay22 (tile X t.val) g w, pay23 (tile X t.val) g w, pay24 (tile X t.val) g w kv, pay25 (tile D t.val) wo, pay26 (tile X t.val) (tile D t.val) g w wo, pay27 (tile X t.val) (tile D t.val) g w kv wo, pay28 (tile X t.val) (tile D t.val) g w wo, pay29 (tile X t.val) (tile D t.val) g w kv wo, pay30 (tile X t.val) (tile D t.val) g w kv wo, pay32 (tile X t.val) (tile D t.val) g w kv wo, pay33 (tile X t.val) (tile D t.val) g w kv wo, pay35 (tile X t.val) (tile D t.val) g w kv wo, pay37 (tile X t.val) g w kv, pay38 (tile X t.val) (tile D t.val) g w kv wo, pay40 (tile X t.val) (tile D t.val) g w kv wo, pay41 (tile X t.val) (tile D t.val) g w kv wo, pay43 (tile X t.val) (tile D t.val) g w kv wo, pay45 (tile X t.val) (tile D t.val) g w kv wo, pay46 (tile X t.val) (tile D t.val) g w kv wo, pay49 (tile X t.val) (tile D t.val) g w kv wo, pay50 (tile X t.val) (tile D t.val) g w kv wo, pay51 (tile X t.val) (tile D t.val) g w kv wo, pay53 (tile X t.val) (tile D t.val) g w kv wo, pay54 (tile X t.val) (tile D t.val) g w kv wo, pay55 (tile X t.val) (tile D t.val) g w kv wo, pay56 (tile X t.val) (tile D t.val) g w kv wo, pay57 (tile X t.val) (tile D t.val) g w kv wo, pay58 (tile X t.val), pay59 (tile X t.val), pay60 (tile X t.val) (tile D t.val) g w kv wo, pay61 (tile X t.val) (tile D t.val) g w kv wo]
  · rw [outsAt0_B m c t h]
    frame_open
    simp (disch := decide) only [↓ View.readCov_skip, ↓ View.readCov_cons_toLoadRect, ↓ View.readCov_fill]
    frame_out
    simp only [b0 H t, b1 H t, b2 H t, b4 H t, l3_0 H t, l3_1 H t, l3_2 H t, l3_3 H t, l5_0 H t, l5_1 H t, l5_2 H t, l5_3 H t, pay2, pay3, pay4 (tile X t.val) g, pay5 (tile X t.val) g w, pay6 w, pay7 (tile X t.val) g w, pay8 (tile X t.val) g w kv, pay9 (tile X t.val) g w kv, pay10 (tile X t.val) g w kv, pay11 (tile X t.val) g w kv, pay12 (tile X t.val) g w kv, pay13 (tile X t.val) g w kv, pay14 (tile X t.val) g w kv, pay15 (tile X t.val) g w kv, pay16 (tile X t.val) g w kv, pay17 (tile X t.val) g w kv, pay18 (tile X t.val) g w kv, pay19 (tile X t.val) g w kv, pay20 (tile X t.val) g w kv, pay21 (tile X t.val) g w, pay22 (tile X t.val) g w, pay23 (tile X t.val) g w, pay24 (tile X t.val) g w kv, pay25 (tile D t.val) wo, pay26 (tile X t.val) (tile D t.val) g w wo, pay27 (tile X t.val) (tile D t.val) g w kv wo, pay28 (tile X t.val) (tile D t.val) g w wo, pay29 (tile X t.val) (tile D t.val) g w kv wo, pay30 (tile X t.val) (tile D t.val) g w kv wo, pay32 (tile X t.val) (tile D t.val) g w kv wo, pay33 (tile X t.val) (tile D t.val) g w kv wo, pay35 (tile X t.val) (tile D t.val) g w kv wo, pay37 (tile X t.val) g w kv, pay38 (tile X t.val) (tile D t.val) g w kv wo, pay40 (tile X t.val) (tile D t.val) g w kv wo, pay41 (tile X t.val) (tile D t.val) g w kv wo, pay43 (tile X t.val) (tile D t.val) g w kv wo, pay45 (tile X t.val) (tile D t.val) g w kv wo, pay46 (tile X t.val) (tile D t.val) g w kv wo, pay49 (tile X t.val) (tile D t.val) g w kv wo, pay50 (tile X t.val) (tile D t.val) g w kv wo, pay51 (tile X t.val) (tile D t.val) g w kv wo, pay53 (tile X t.val) (tile D t.val) g w kv wo, pay54 (tile X t.val) (tile D t.val) g w kv wo, pay55 (tile X t.val) (tile D t.val) g w kv wo, pay56 (tile X t.val) (tile D t.val) g w kv wo, pay57 (tile X t.val) (tile D t.val) g w kv wo, pay58 (tile X t.val), pay59 (tile X t.val), pay60 (tile X t.val) (tile D t.val) g w kv wo, pay61 (tile X t.val) (tile D t.val) g w kv wo]

omit H in
/-- The five stores of the gradient at the queries and the gates leave that gradient. -/
theorem c7 : View.canon (Val := Elt Ideal) (s := S512x2048) (e := .bf16) [⟨Rect.unit ![0, 768] ![512, 256] inb_S512x2048_S512x256_0_768, R2 fun p c => dq g w kv wo (tile X t.val p) (tile D t.val p) (768 + c)⟩, ⟨Rect.unit ![0, 512] ![512, 256] inb_S512x2048_S512x256_0_512, R2 fun p c => dq g w kv wo (tile X t.val p) (tile D t.val p) (512 + c)⟩, ⟨Rect.unit ![0, 256] ![512, 256] inb_S512x2048_S512x256_0_256, R2 fun p c => dq g w kv wo (tile X t.val p) (tile D t.val p) (256 + c)⟩, ⟨Rect.unit ![0, 0] ![512, 256] inb_S512x2048_S512x256_0_0, R2 fun p c => dq g w kv wo (tile X t.val p) (tile D t.val p) c⟩, ⟨Rect.unit ![0, 1024] ![512, 1024] inb_S512x2048_S512x1024_0_1024, R2 fun p => dgt g w kv wo (tile X t.val p) (tile D t.val p)⟩] = R2 (fun p => dqg g w kv wo (tile X t.val p) (tile D t.val p)) := by
  funext y
  refine canon_pieces (S := S512x2048) (e := .bf16) (R2 (fun p => dqg g w kv wo (tile X t.val p) (tile D t.val p))) _ y ?_ ?_
  rotate_left
  · exact View.cover_of_tiledBy _ ![512, 256] (by sl_kernel_rfl) y
  refine ⟨?_, ?_, ?_, ?_, ?_, trivial⟩ <;> intro x <;> dsimp only
  · refine piece (a := 512) (b := 2048) (p := 512) (q := 256) 768 inb_S512x2048_S512x256_0_768 _ (fun p => dqg g w kv wo (tile X t.val p) (tile D t.val p)) (fun i j hj => ?_) x
    rw [dqg, if_pos (by omega)]
  · refine piece (a := 512) (b := 2048) (p := 512) (q := 256) 512 inb_S512x2048_S512x256_0_512 _ (fun p => dqg g w kv wo (tile X t.val p) (tile D t.val p)) (fun i j hj => ?_) x
    rw [dqg, if_pos (by omega)]
  · refine piece (a := 512) (b := 2048) (p := 512) (q := 256) 256 inb_S512x2048_S512x256_0_256 _ (fun p => dqg g w kv wo (tile X t.val p) (tile D t.val p)) (fun i j hj => ?_) x
    rw [dqg, if_pos (by omega)]
  · refine piece (a := 512) (b := 2048) (p := 512) (q := 256) 0 inb_S512x2048_S512x256_0_0 _ (fun p => dqg g w kv wo (tile X t.val p) (tile D t.val p)) (fun i j hj => ?_) x
    rw [dqg, if_pos (by omega), Nat.zero_add]
  · refine piece (a := 512) (b := 2048) (p := 512) (q := 1024) 1024 inb_S512x2048_S512x1024_0_1024 _ (fun p => dqg g w kv wo (tile X t.val p) (tile D t.val p)) (fun i j hj => ?_) x
    rw [dqg, if_neg (by omega), Nat.add_sub_cancel_left]

omit H in
/-- The load of the gradient at the queries and the gates after those stores. -/
theorem r7 : (ms0_7 t).view.readCov (Val := Elt Ideal) [⟨Rect.unit ![0, 768] ![512, 256] inb_S512x2048_S512x256_0_768, R2 fun p c => dq g w kv wo (tile X t.val p) (tile D t.val p) (768 + c)⟩, ⟨Rect.unit ![0, 512] ![512, 256] inb_S512x2048_S512x256_0_512, R2 fun p c => dq g w kv wo (tile X t.val p) (tile D t.val p) (512 + c)⟩, ⟨Rect.unit ![0, 256] ![512, 256] inb_S512x2048_S512x256_0_256, R2 fun p c => dq g w kv wo (tile X t.val p) (tile D t.val p) (256 + c)⟩, ⟨Rect.unit ![0, 0] ![512, 256] inb_S512x2048_S512x256_0_0, R2 fun p c => dq g w kv wo (tile X t.val p) (tile D t.val p) c⟩, ⟨Rect.unit ![0, 1024] ![512, 1024] inb_S512x2048_S512x1024_0_1024, R2 fun p => dgt g w kv wo (tile X t.val p) (tile D t.val p)⟩] (Rect.unit ![0, 0] ![512, 2048] inb_S512x2048_S512x2048_0_0).toLoadRect = R2 (fun p => dqg g w kv wo (tile X t.val p) (tile D t.val p)) := by
  rw [View.readCov_eq_canon', c7]
  funext y
  show ((dqg g w kv wo (tile X t.val (0 + 1 * (y 0).val)) (tile D t.val (0 + 1 * (y 0).val)) (0 + 1 * (y 1).val) : ℝ) : EReal) = _
  simp only [Nat.zero_add, Nat.one_mul]
  rfl

/-- What point `t` leaves in the window of the gradient at the queries and the gates. -/
theorem p7 : (outsAt0 m c t.val t.isLt).2.1 = R2 (fun p => dqg g w kv wo (tile X t.val p) (tile D t.val p)) := by
  by_cases h : t.val % 16 = 0
  · rw [outsAt0_A m c t h]
    frame_open
    simp (disch := decide) only [↓ View.readCov_skip, ↓ View.readCov_cons_toLoadRect, ↓ View.readCov_fill]
    frame_out
    simp only [b0 H t, b1 H t, b2 H t, b4 H t, l3_0 H t, l3_1 H t, l3_2 H t, l3_3 H t, l5_0 H t, l5_1 H t, l5_2 H t, l5_3 H t, pay2, pay3, pay4 (tile X t.val) g, pay5 (tile X t.val) g w, pay6 w, pay7 (tile X t.val) g w, pay8 (tile X t.val) g w kv, pay9 (tile X t.val) g w kv, pay10 (tile X t.val) g w kv, pay11 (tile X t.val) g w kv, pay12 (tile X t.val) g w kv, pay13 (tile X t.val) g w kv, pay14 (tile X t.val) g w kv, pay15 (tile X t.val) g w kv, pay16 (tile X t.val) g w kv, pay17 (tile X t.val) g w kv, pay18 (tile X t.val) g w kv, pay19 (tile X t.val) g w kv, pay20 (tile X t.val) g w kv, pay21 (tile X t.val) g w, pay22 (tile X t.val) g w, pay23 (tile X t.val) g w, pay24 (tile X t.val) g w kv, pay25 (tile D t.val) wo, pay26 (tile X t.val) (tile D t.val) g w wo, pay27 (tile X t.val) (tile D t.val) g w kv wo, pay28 (tile X t.val) (tile D t.val) g w wo, pay29 (tile X t.val) (tile D t.val) g w kv wo, pay30 (tile X t.val) (tile D t.val) g w kv wo, pay32 (tile X t.val) (tile D t.val) g w kv wo, pay33 (tile X t.val) (tile D t.val) g w kv wo, pay35 (tile X t.val) (tile D t.val) g w kv wo, pay37 (tile X t.val) g w kv, pay38 (tile X t.val) (tile D t.val) g w kv wo, pay40 (tile X t.val) (tile D t.val) g w kv wo, pay41 (tile X t.val) (tile D t.val) g w kv wo, pay43 (tile X t.val) (tile D t.val) g w kv wo, pay45 (tile X t.val) (tile D t.val) g w kv wo, pay46 (tile X t.val) (tile D t.val) g w kv wo, pay49 (tile X t.val) (tile D t.val) g w kv wo, pay50 (tile X t.val) (tile D t.val) g w kv wo, pay51 (tile X t.val) (tile D t.val) g w kv wo, pay53 (tile X t.val) (tile D t.val) g w kv wo, pay54 (tile X t.val) (tile D t.val) g w kv wo, pay55 (tile X t.val) (tile D t.val) g w kv wo, pay56 (tile X t.val) (tile D t.val) g w kv wo, pay57 (tile X t.val) (tile D t.val) g w kv wo, pay58 (tile X t.val), pay59 (tile X t.val), pay60 (tile X t.val) (tile D t.val) g w kv wo, pay61 (tile X t.val) (tile D t.val) g w kv wo]
    exact c7 t
  · rw [outsAt0_B m c t h]
    frame_open
    simp (disch := decide) only [↓ View.readCov_skip, ↓ View.readCov_cons_toLoadRect, ↓ View.readCov_fill]
    frame_out
    simp only [b0 H t, b1 H t, b2 H t, b4 H t, l3_0 H t, l3_1 H t, l3_2 H t, l3_3 H t, l5_0 H t, l5_1 H t, l5_2 H t, l5_3 H t, pay2, pay3, pay4 (tile X t.val) g, pay5 (tile X t.val) g w, pay6 w, pay7 (tile X t.val) g w, pay8 (tile X t.val) g w kv, pay9 (tile X t.val) g w kv, pay10 (tile X t.val) g w kv, pay11 (tile X t.val) g w kv, pay12 (tile X t.val) g w kv, pay13 (tile X t.val) g w kv, pay14 (tile X t.val) g w kv, pay15 (tile X t.val) g w kv, pay16 (tile X t.val) g w kv, pay17 (tile X t.val) g w kv, pay18 (tile X t.val) g w kv, pay19 (tile X t.val) g w kv, pay20 (tile X t.val) g w kv, pay21 (tile X t.val) g w, pay22 (tile X t.val) g w, pay23 (tile X t.val) g w, pay24 (tile X t.val) g w kv, pay25 (tile D t.val) wo, pay26 (tile X t.val) (tile D t.val) g w wo, pay27 (tile X t.val) (tile D t.val) g w kv wo, pay28 (tile X t.val) (tile D t.val) g w wo, pay29 (tile X t.val) (tile D t.val) g w kv wo, pay30 (tile X t.val) (tile D t.val) g w kv wo, pay32 (tile X t.val) (tile D t.val) g w kv wo, pay33 (tile X t.val) (tile D t.val) g w kv wo, pay35 (tile X t.val) (tile D t.val) g w kv wo, pay37 (tile X t.val) g w kv, pay38 (tile X t.val) (tile D t.val) g w kv wo, pay40 (tile X t.val) (tile D t.val) g w kv wo, pay41 (tile X t.val) (tile D t.val) g w kv wo, pay43 (tile X t.val) (tile D t.val) g w kv wo, pay45 (tile X t.val) (tile D t.val) g w kv wo, pay46 (tile X t.val) (tile D t.val) g w kv wo, pay49 (tile X t.val) (tile D t.val) g w kv wo, pay50 (tile X t.val) (tile D t.val) g w kv wo, pay51 (tile X t.val) (tile D t.val) g w kv wo, pay53 (tile X t.val) (tile D t.val) g w kv wo, pay54 (tile X t.val) (tile D t.val) g w kv wo, pay55 (tile X t.val) (tile D t.val) g w kv wo, pay56 (tile X t.val) (tile D t.val) g w kv wo, pay57 (tile X t.val) (tile D t.val) g w kv wo, pay58 (tile X t.val), pay59 (tile X t.val), pay60 (tile X t.val) (tile D t.val) g w kv wo, pay61 (tile X t.val) (tile D t.val) g w kv wo]
    exact c7 t

/-- What point `t` leaves in the window of the gradient at the input. -/
theorem p6 : (outsAt0 m c t.val t.isLt).1 = R2 fun p => dx g w kv wo (tile X t.val p) (tile D t.val p) := by
  by_cases h : t.val % 16 = 0
  · rw [outsAt0_A m c t h]
    frame_open
    simp (disch := decide) only [↓ View.readCov_skip, ↓ View.readCov_cons_toLoadRect, ↓ View.readCov_fill]
    frame_out
    simp only [b0 H t, b1 H t, b2 H t, b4 H t, l3_0 H t, l3_1 H t, l3_2 H t, l3_3 H t, l5_0 H t, l5_1 H t, l5_2 H t, l5_3 H t, r7 t, pay2, pay3, pay4 (tile X t.val) g, pay5 (tile X t.val) g w, pay6 w, pay7 (tile X t.val) g w, pay8 (tile X t.val) g w kv, pay9 (tile X t.val) g w kv, pay10 (tile X t.val) g w kv, pay11 (tile X t.val) g w kv, pay12 (tile X t.val) g w kv, pay13 (tile X t.val) g w kv, pay14 (tile X t.val) g w kv, pay15 (tile X t.val) g w kv, pay16 (tile X t.val) g w kv, pay17 (tile X t.val) g w kv, pay18 (tile X t.val) g w kv, pay19 (tile X t.val) g w kv, pay20 (tile X t.val) g w kv, pay21 (tile X t.val) g w, pay22 (tile X t.val) g w, pay23 (tile X t.val) g w, pay24 (tile X t.val) g w kv, pay25 (tile D t.val) wo, pay26 (tile X t.val) (tile D t.val) g w wo, pay27 (tile X t.val) (tile D t.val) g w kv wo, pay28 (tile X t.val) (tile D t.val) g w wo, pay29 (tile X t.val) (tile D t.val) g w kv wo, pay30 (tile X t.val) (tile D t.val) g w kv wo, pay32 (tile X t.val) (tile D t.val) g w kv wo, pay33 (tile X t.val) (tile D t.val) g w kv wo, pay35 (tile X t.val) (tile D t.val) g w kv wo, pay37 (tile X t.val) g w kv, pay38 (tile X t.val) (tile D t.val) g w kv wo, pay40 (tile X t.val) (tile D t.val) g w kv wo, pay41 (tile X t.val) (tile D t.val) g w kv wo, pay43 (tile X t.val) (tile D t.val) g w kv wo, pay45 (tile X t.val) (tile D t.val) g w kv wo, pay46 (tile X t.val) (tile D t.val) g w kv wo, pay49 (tile X t.val) (tile D t.val) g w kv wo, pay50 (tile X t.val) (tile D t.val) g w kv wo, pay51 (tile X t.val) (tile D t.val) g w kv wo, pay53 (tile X t.val) (tile D t.val) g w kv wo, pay54 (tile X t.val) (tile D t.val) g w kv wo, pay55 (tile X t.val) (tile D t.val) g w kv wo, pay56 (tile X t.val) (tile D t.val) g w kv wo, pay57 (tile X t.val) (tile D t.val) g w kv wo, pay58 (tile X t.val), pay59 (tile X t.val), pay60 (tile X t.val) (tile D t.val) g w kv wo, pay61 (tile X t.val) (tile D t.val) g w kv wo]
  · rw [outsAt0_B m c t h]
    frame_open
    simp (disch := decide) only [↓ View.readCov_skip, ↓ View.readCov_cons_toLoadRect, ↓ View.readCov_fill]
    frame_out
    simp only [b0 H t, b1 H t, b2 H t, b4 H t, l3_0 H t, l3_1 H t, l3_2 H t, l3_3 H t, l5_0 H t, l5_1 H t, l5_2 H t, l5_3 H t, r7 t, pay2, pay3, pay4 (tile X t.val) g, pay5 (tile X t.val) g w, pay6 w, pay7 (tile X t.val) g w, pay8 (tile X t.val) g w kv, pay9 (tile X t.val) g w kv, pay10 (tile X t.val) g w kv, pay11 (tile X t.val) g w kv, pay12 (tile X t.val) g w kv, pay13 (tile X t.val) g w kv, pay14 (tile X t.val) g w kv, pay15 (tile X t.val) g w kv, pay16 (tile X t.val) g w kv, pay17 (tile X t.val) g w kv, pay18 (tile X t.val) g w kv, pay19 (tile X t.val) g w kv, pay20 (tile X t.val) g w kv, pay21 (tile X t.val) g w, pay22 (tile X t.val) g w, pay23 (tile X t.val) g w, pay24 (tile X t.val) g w kv, pay25 (tile D t.val) wo, pay26 (tile X t.val) (tile D t.val) g w wo, pay27 (tile X t.val) (tile D t.val) g w kv wo, pay28 (tile X t.val) (tile D t.val) g w wo, pay29 (tile X t.val) (tile D t.val) g w kv wo, pay30 (tile X t.val) (tile D t.val) g w kv wo, pay32 (tile X t.val) (tile D t.val) g w kv wo, pay33 (tile X t.val) (tile D t.val) g w kv wo, pay35 (tile X t.val) (tile D t.val) g w kv wo, pay37 (tile X t.val) g w kv, pay38 (tile X t.val) (tile D t.val) g w kv wo, pay40 (tile X t.val) (tile D t.val) g w kv wo, pay41 (tile X t.val) (tile D t.val) g w kv wo, pay43 (tile X t.val) (tile D t.val) g w kv wo, pay45 (tile X t.val) (tile D t.val) g w kv wo, pay46 (tile X t.val) (tile D t.val) g w kv wo, pay49 (tile X t.val) (tile D t.val) g w kv wo, pay50 (tile X t.val) (tile D t.val) g w kv wo, pay51 (tile X t.val) (tile D t.val) g w kv wo, pay53 (tile X t.val) (tile D t.val) g w kv wo, pay54 (tile X t.val) (tile D t.val) g w kv wo, pay55 (tile X t.val) (tile D t.val) g w kv wo, pay56 (tile X t.val) (tile D t.val) g w kv wo, pay57 (tile X t.val) (tile D t.val) g w kv wo, pay58 (tile X t.val), pay59 (tile X t.val), pay60 (tile X t.val) (tile D t.val) g w kv wo, pay61 (tile X t.val) (tile D t.val) g w kv wo]

/-- The first point leaves its own rows' part of the gradient at the keys and values. -/
theorem a10 (h : t.val % 16 = 0) : (outsAt0 m c t.val t.isLt).2.2.2.2.1 = R2 (fun k q => 0 + ∑ p : Fin 512, dkv g w kv wo (tile X t.val p.val) (tile D t.val p.val) k q) := by
  rw [outsAt0_A m c t h]
  frame_open
  simp (disch := decide) only [↓ View.readCov_skip, ↓ View.readCov_cons_toLoadRect, ↓ View.readCov_fill]
  frame_out
  simp only [pay31 (tile X t.val) (tile D t.val) g w kv wo, pay34 (tile X t.val) (tile D t.val) g w kv wo, pay36, pay39 (tile X t.val) (tile D t.val) g w kv wo, pay42 (tile X t.val) (tile D t.val) g w kv wo, pay44 (tile X t.val) (tile D t.val) g w kv wo, pay47 (tile X t.val) (tile D t.val) g w kv wo, pay48 (tile X t.val) (tile D t.val) g w kv wo, pay52 (tile X t.val) (tile D t.val) g w kv wo, ldc_0, ldc_256, ldc_512, ldc_768, ldc_1024, ldc_1280, ldc_1536, ldc_1792, b0 H t, b1 H t, b2 H t, b4 H t, l3_0 H t, l3_1 H t, l3_2 H t, l3_3 H t, l5_0 H t, l5_1 H t, l5_2 H t, l5_3 H t, pay2, pay3, pay4 (tile X t.val) g, pay5 (tile X t.val) g w, pay6 w, pay7 (tile X t.val) g w, pay8 (tile X t.val) g w kv, pay9 (tile X t.val) g w kv, pay10 (tile X t.val) g w kv, pay11 (tile X t.val) g w kv, pay12 (tile X t.val) g w kv, pay13 (tile X t.val) g w kv, pay14 (tile X t.val) g w kv, pay15 (tile X t.val) g w kv, pay16 (tile X t.val) g w kv, pay17 (tile X t.val) g w kv, pay18 (tile X t.val) g w kv, pay19 (tile X t.val) g w kv, pay20 (tile X t.val) g w kv, pay21 (tile X t.val) g w, pay22 (tile X t.val) g w, pay23 (tile X t.val) g w, pay24 (tile X t.val) g w kv, pay25 (tile D t.val) wo, pay26 (tile X t.val) (tile D t.val) g w wo, pay27 (tile X t.val) (tile D t.val) g w kv wo, pay28 (tile X t.val) (tile D t.val) g w wo, pay29 (tile X t.val) (tile D t.val) g w kv wo, pay30 (tile X t.val) (tile D t.val) g w kv wo, pay32 (tile X t.val) (tile D t.val) g w kv wo, pay33 (tile X t.val) (tile D t.val) g w kv wo, pay35 (tile X t.val) (tile D t.val) g w kv wo, pay37 (tile X t.val) g w kv, pay38 (tile X t.val) (tile D t.val) g w kv wo, pay40 (tile X t.val) (tile D t.val) g w kv wo, pay41 (tile X t.val) (tile D t.val) g w kv wo, pay43 (tile X t.val) (tile D t.val) g w kv wo, pay45 (tile X t.val) (tile D t.val) g w kv wo, pay46 (tile X t.val) (tile D t.val) g w kv wo, pay49 (tile X t.val) (tile D t.val) g w kv wo, pay50 (tile X t.val) (tile D t.val) g w kv wo, pay51 (tile X t.val) (tile D t.val) g w kv wo, pay53 (tile X t.val) (tile D t.val) g w kv wo, pay54 (tile X t.val) (tile D t.val) g w kv wo, pay55 (tile X t.val) (tile D t.val) g w kv wo, pay56 (tile X t.val) (tile D t.val) g w kv wo, pay57 (tile X t.val) (tile D t.val) g w kv wo, pay58 (tile X t.val), pay59 (tile X t.val), pay60 (tile X t.val) (tile D t.val) g w kv wo, pay61 (tile X t.val) (tile D t.val) g w kv wo]
  funext y
  refine canon_pieces_over (S := S256x2048) (e := .f32) (R2 (fun k q => 0 + ∑ p : Fin 512, dkv g w kv wo (tile X t.val p.val) (tile D t.val p.val) k q)) _ y ?_ ?_
  rotate_left
  · exact View.cover_of_tiledBy _ ![256, 256] (by sl_kernel_rfl) y
  refine ⟨?_, ?_, ?_, ?_, ?_, ?_, ?_, ?_, trivial⟩ <;> intro x <;> dsimp only
  · refine piece (a := 256) (b := 2048) (p := 256) (q := 256) 768 inb_S256x2048_S256x256_0_768 _ (fun k q => 0 + ∑ p : Fin 512, dkv g w kv wo (tile X t.val p.val) (tile D t.val p.val) k q) (fun i j hj => ?_) x
    refine congrArg₂ (· + ·) ?_ (Finset.sum_congr rfl fun p _ => ?_)
    · rfl
    · rw [dkv, if_pos (by omega), show (768 + j) / 256 = 3 by omega]
  · refine piece (a := 256) (b := 2048) (p := 256) (q := 256) 1792 inb_S256x2048_S256x256_0_1792 _ (fun k q => 0 + ∑ p : Fin 512, dkv g w kv wo (tile X t.val p.val) (tile D t.val p.val) k q) (fun i j hj => ?_) x
    refine congrArg₂ (· + ·) ?_ (Finset.sum_congr rfl fun p _ => ?_)
    · rfl
    · rw [dkv, if_neg (by omega), show (1792 + j - 1024) / 256 = 3 by omega, show 1792 + j - 1024 = 768 + j by omega]
  · refine piece (a := 256) (b := 2048) (p := 256) (q := 256) 512 inb_S256x2048_S256x256_0_512 _ (fun k q => 0 + ∑ p : Fin 512, dkv g w kv wo (tile X t.val p.val) (tile D t.val p.val) k q) (fun i j hj => ?_) x
    refine congrArg₂ (· + ·) ?_ (Finset.sum_congr rfl fun p _ => ?_)
    · rfl
    · rw [dkv, if_pos (by omega), show (512 + j) / 256 = 2 by omega]
  · refine piece (a := 256) (b := 2048) (p := 256) (q := 256) 1536 inb_S256x2048_S256x256_0_1536 _ (fun k q => 0 + ∑ p : Fin 512, dkv g w kv wo (tile X t.val p.val) (tile D t.val p.val) k q) (fun i j hj => ?_) x
    refine congrArg₂ (· + ·) ?_ (Finset.sum_congr rfl fun p _ => ?_)
    · rfl
    · rw [dkv, if_neg (by omega), show (1536 + j - 1024) / 256 = 2 by omega, show 1536 + j - 1024 = 512 + j by omega]
  · refine piece (a := 256) (b := 2048) (p := 256) (q := 256) 256 inb_S256x2048_S256x256_0_256 _ (fun k q => 0 + ∑ p : Fin 512, dkv g w kv wo (tile X t.val p.val) (tile D t.val p.val) k q) (fun i j hj => ?_) x
    refine congrArg₂ (· + ·) ?_ (Finset.sum_congr rfl fun p _ => ?_)
    · rfl
    · rw [dkv, if_pos (by omega), show (256 + j) / 256 = 1 by omega]
  · refine piece (a := 256) (b := 2048) (p := 256) (q := 256) 1280 inb_S256x2048_S256x256_0_1280 _ (fun k q => 0 + ∑ p : Fin 512, dkv g w kv wo (tile X t.val p.val) (tile D t.val p.val) k q) (fun i j hj => ?_) x
    refine congrArg₂ (· + ·) ?_ (Finset.sum_congr rfl fun p _ => ?_)
    · rfl
    · rw [dkv, if_neg (by omega), show (1280 + j - 1024) / 256 = 1 by omega, show 1280 + j - 1024 = 256 + j by omega]
  · refine piece (a := 256) (b := 2048) (p := 256) (q := 256) 0 inb_S256x2048_S256x256_0_0 _ (fun k q => 0 + ∑ p : Fin 512, dkv g w kv wo (tile X t.val p.val) (tile D t.val p.val) k q) (fun i j hj => ?_) x
    refine congrArg₂ (· + ·) ?_ (Finset.sum_congr rfl fun p _ => ?_)
    · rfl
    · rw [dkv, if_pos (by omega), show (0 + j) / 256 = 0 by omega, Nat.zero_add]
  · refine piece (a := 256) (b := 2048) (p := 256) (q := 256) 1024 inb_S256x2048_S256x256_0_1024 _ (fun k q => 0 + ∑ p : Fin 512, dkv g w kv wo (tile X t.val p.val) (tile D t.val p.val) k q) (fun i j hj => ?_) x
    refine congrArg₂ (· + ·) ?_ (Finset.sum_congr rfl fun p _ => ?_)
    · rfl
    · rw [dkv, if_neg (by omega), show (1024 + j - 1024) / 256 = 0 by omega, show 1024 + j - 1024 = 0 + j by omega, Nat.zero_add]

/-- A later point adds its rows' part of the gradient at the keys and values. -/
theorem s10 (h : ¬ t.val % 16 = 0) (A : ℕ → ℕ → ℝ) (hl : t.val - 1 < cfg0.N) (hA : (outsAt0 m c (t.val - 1) hl).2.2.2.2.1 = R2 A) :
    (outsAt0 m c t.val t.isLt).2.2.2.2.1 = R2 (fun k q => A k q + ∑ p : Fin 512, dkv g w kv wo (tile X t.val p.val) (tile D t.val p.val) k q) := by
  rw [outsAt0_B m c t h]
  frame_open
  simp (disch := decide) only [↓ View.readCov_skip, ↓ View.readCov_cons_toLoadRect, ↓ View.readCov_fill]
  frame_out
  simp only [hA, pay31 (tile X t.val) (tile D t.val) g w kv wo, pay34 (tile X t.val) (tile D t.val) g w kv wo, pay36, pay39 (tile X t.val) (tile D t.val) g w kv wo, pay42 (tile X t.val) (tile D t.val) g w kv wo, pay44 (tile X t.val) (tile D t.val) g w kv wo, pay47 (tile X t.val) (tile D t.val) g w kv wo, pay48 (tile X t.val) (tile D t.val) g w kv wo, pay52 (tile X t.val) (tile D t.val) g w kv wo, ldc_0, ldc_256, ldc_512, ldc_768, ldc_1024, ldc_1280, ldc_1536, ldc_1792, b0 H t, b1 H t, b2 H t, b4 H t, l3_0 H t, l3_1 H t, l3_2 H t, l3_3 H t, l5_0 H t, l5_1 H t, l5_2 H t, l5_3 H t, pay2, pay3, pay4 (tile X t.val) g, pay5 (tile X t.val) g w, pay6 w, pay7 (tile X t.val) g w, pay8 (tile X t.val) g w kv, pay9 (tile X t.val) g w kv, pay10 (tile X t.val) g w kv, pay11 (tile X t.val) g w kv, pay12 (tile X t.val) g w kv, pay13 (tile X t.val) g w kv, pay14 (tile X t.val) g w kv, pay15 (tile X t.val) g w kv, pay16 (tile X t.val) g w kv, pay17 (tile X t.val) g w kv, pay18 (tile X t.val) g w kv, pay19 (tile X t.val) g w kv, pay20 (tile X t.val) g w kv, pay21 (tile X t.val) g w, pay22 (tile X t.val) g w, pay23 (tile X t.val) g w, pay24 (tile X t.val) g w kv, pay25 (tile D t.val) wo, pay26 (tile X t.val) (tile D t.val) g w wo, pay27 (tile X t.val) (tile D t.val) g w kv wo, pay28 (tile X t.val) (tile D t.val) g w wo, pay29 (tile X t.val) (tile D t.val) g w kv wo, pay30 (tile X t.val) (tile D t.val) g w kv wo, pay32 (tile X t.val) (tile D t.val) g w kv wo, pay33 (tile X t.val) (tile D t.val) g w kv wo, pay35 (tile X t.val) (tile D t.val) g w kv wo, pay37 (tile X t.val) g w kv, pay38 (tile X t.val) (tile D t.val) g w kv wo, pay40 (tile X t.val) (tile D t.val) g w kv wo, pay41 (tile X t.val) (tile D t.val) g w kv wo, pay43 (tile X t.val) (tile D t.val) g w kv wo, pay45 (tile X t.val) (tile D t.val) g w kv wo, pay46 (tile X t.val) (tile D t.val) g w kv wo, pay49 (tile X t.val) (tile D t.val) g w kv wo, pay50 (tile X t.val) (tile D t.val) g w kv wo, pay51 (tile X t.val) (tile D t.val) g w kv wo, pay53 (tile X t.val) (tile D t.val) g w kv wo, pay54 (tile X t.val) (tile D t.val) g w kv wo, pay55 (tile X t.val) (tile D t.val) g w kv wo, pay56 (tile X t.val) (tile D t.val) g w kv wo, pay57 (tile X t.val) (tile D t.val) g w kv wo, pay58 (tile X t.val), pay59 (tile X t.val), pay60 (tile X t.val) (tile D t.val) g w kv wo, pay61 (tile X t.val) (tile D t.val) g w kv wo]
  funext y
  refine canon_pieces (S := S256x2048) (e := .f32) (R2 (fun k q => A k q + ∑ p : Fin 512, dkv g w kv wo (tile X t.val p.val) (tile D t.val p.val) k q)) _ y ?_ ?_
  rotate_left
  · exact View.cover_of_tiledBy _ ![256, 256] (by sl_kernel_rfl) y
  refine ⟨?_, ?_, ?_, ?_, ?_, ?_, ?_, ?_, trivial⟩ <;> intro x <;> dsimp only
  · refine piece (a := 256) (b := 2048) (p := 256) (q := 256) 768 inb_S256x2048_S256x256_0_768 _ (fun k q => A k q + ∑ p : Fin 512, dkv g w kv wo (tile X t.val p.val) (tile D t.val p.val) k q) (fun i j hj => ?_) x
    refine congrArg₂ (· + ·) ?_ (Finset.sum_congr rfl fun p _ => ?_)
    · rfl
    · rw [dkv, if_pos (by omega), show (768 + j) / 256 = 3 by omega]
  · refine piece (a := 256) (b := 2048) (p := 256) (q := 256) 1792 inb_S256x2048_S256x256_0_1792 _ (fun k q => A k q + ∑ p : Fin 512, dkv g w kv wo (tile X t.val p.val) (tile D t.val p.val) k q) (fun i j hj => ?_) x
    refine congrArg₂ (· + ·) ?_ (Finset.sum_congr rfl fun p _ => ?_)
    · rfl
    · rw [dkv, if_neg (by omega), show (1792 + j - 1024) / 256 = 3 by omega, show 1792 + j - 1024 = 768 + j by omega]
  · refine piece (a := 256) (b := 2048) (p := 256) (q := 256) 512 inb_S256x2048_S256x256_0_512 _ (fun k q => A k q + ∑ p : Fin 512, dkv g w kv wo (tile X t.val p.val) (tile D t.val p.val) k q) (fun i j hj => ?_) x
    refine congrArg₂ (· + ·) ?_ (Finset.sum_congr rfl fun p _ => ?_)
    · rfl
    · rw [dkv, if_pos (by omega), show (512 + j) / 256 = 2 by omega]
  · refine piece (a := 256) (b := 2048) (p := 256) (q := 256) 1536 inb_S256x2048_S256x256_0_1536 _ (fun k q => A k q + ∑ p : Fin 512, dkv g w kv wo (tile X t.val p.val) (tile D t.val p.val) k q) (fun i j hj => ?_) x
    refine congrArg₂ (· + ·) ?_ (Finset.sum_congr rfl fun p _ => ?_)
    · rfl
    · rw [dkv, if_neg (by omega), show (1536 + j - 1024) / 256 = 2 by omega, show 1536 + j - 1024 = 512 + j by omega]
  · refine piece (a := 256) (b := 2048) (p := 256) (q := 256) 256 inb_S256x2048_S256x256_0_256 _ (fun k q => A k q + ∑ p : Fin 512, dkv g w kv wo (tile X t.val p.val) (tile D t.val p.val) k q) (fun i j hj => ?_) x
    refine congrArg₂ (· + ·) ?_ (Finset.sum_congr rfl fun p _ => ?_)
    · rfl
    · rw [dkv, if_pos (by omega), show (256 + j) / 256 = 1 by omega]
  · refine piece (a := 256) (b := 2048) (p := 256) (q := 256) 1280 inb_S256x2048_S256x256_0_1280 _ (fun k q => A k q + ∑ p : Fin 512, dkv g w kv wo (tile X t.val p.val) (tile D t.val p.val) k q) (fun i j hj => ?_) x
    refine congrArg₂ (· + ·) ?_ (Finset.sum_congr rfl fun p _ => ?_)
    · rfl
    · rw [dkv, if_neg (by omega), show (1280 + j - 1024) / 256 = 1 by omega, show 1280 + j - 1024 = 256 + j by omega]
  · refine piece (a := 256) (b := 2048) (p := 256) (q := 256) 0 inb_S256x2048_S256x256_0_0 _ (fun k q => A k q + ∑ p : Fin 512, dkv g w kv wo (tile X t.val p.val) (tile D t.val p.val) k q) (fun i j hj => ?_) x
    refine congrArg₂ (· + ·) ?_ (Finset.sum_congr rfl fun p _ => ?_)
    · rw [Nat.zero_add]
    · rw [dkv, if_pos (by omega), show (0 + j) / 256 = 0 by omega, Nat.zero_add]
  · refine piece (a := 256) (b := 2048) (p := 256) (q := 256) 1024 inb_S256x2048_S256x256_0_1024 _ (fun k q => A k q + ∑ p : Fin 512, dkv g w kv wo (tile X t.val p.val) (tile D t.val p.val) k q) (fun i j hj => ?_) x
    refine congrArg₂ (· + ·) ?_ (Finset.sum_congr rfl fun p _ => ?_)
    · rfl
    · rw [dkv, if_neg (by omega), show (1024 + j - 1024) / 256 = 0 by omega, show 1024 + j - 1024 = 0 + j by omega, Nat.zero_add]

/-- The first point leaves its own rows' part of the gradient at the gain. -/
theorem a11 (h : t.val % 16 = 0) : (outsAt0 m c t.val t.isLt).2.2.2.2.2
    = R2 fun _ q => 0 + ∑ p : Fin 512, dgn g w kv wo (tile X t.val p.val) (tile D t.val p.val) q := by
  rw [outsAt0_A m c t h]
  frame_open
  simp (disch := decide) only [↓ View.readCov_skip, ↓ View.readCov_cons_toLoadRect, ↓ View.readCov_fill]
  frame_out
  simp only [b0 H t, b1 H t, b2 H t, b4 H t, l3_0 H t, l3_1 H t, l3_2 H t, l3_3 H t, l5_0 H t, l5_1 H t, l5_2 H t, l5_3 H t, r7 t, pay2, pay3, pay4 (tile X t.val) g, pay5 (tile X t.val) g w, pay6 w, pay7 (tile X t.val) g w, pay8 (tile X t.val) g w kv, pay9 (tile X t.val) g w kv, pay10 (tile X t.val) g w kv, pay11 (tile X t.val) g w kv, pay12 (tile X t.val) g w kv, pay13 (tile X t.val) g w kv, pay14 (tile X t.val) g w kv, pay15 (tile X t.val) g w kv, pay16 (tile X t.val) g w kv, pay17 (tile X t.val) g w kv, pay18 (tile X t.val) g w kv, pay19 (tile X t.val) g w kv, pay20 (tile X t.val) g w kv, pay21 (tile X t.val) g w, pay22 (tile X t.val) g w, pay23 (tile X t.val) g w, pay24 (tile X t.val) g w kv, pay25 (tile D t.val) wo, pay26 (tile X t.val) (tile D t.val) g w wo, pay27 (tile X t.val) (tile D t.val) g w kv wo, pay28 (tile X t.val) (tile D t.val) g w wo, pay29 (tile X t.val) (tile D t.val) g w kv wo, pay30 (tile X t.val) (tile D t.val) g w kv wo, pay32 (tile X t.val) (tile D t.val) g w kv wo, pay33 (tile X t.val) (tile D t.val) g w kv wo, pay35 (tile X t.val) (tile D t.val) g w kv wo, pay37 (tile X t.val) g w kv, pay38 (tile X t.val) (tile D t.val) g w kv wo, pay40 (tile X t.val) (tile D t.val) g w kv wo, pay41 (tile X t.val) (tile D t.val) g w kv wo, pay43 (tile X t.val) (tile D t.val) g w kv wo, pay45 (tile X t.val) (tile D t.val) g w kv wo, pay46 (tile X t.val) (tile D t.val) g w kv wo, pay49 (tile X t.val) (tile D t.val) g w kv wo, pay50 (tile X t.val) (tile D t.val) g w kv wo, pay51 (tile X t.val) (tile D t.val) g w kv wo, pay53 (tile X t.val) (tile D t.val) g w kv wo, pay54 (tile X t.val) (tile D t.val) g w kv wo, pay55 (tile X t.val) (tile D t.val) g w kv wo, pay56 (tile X t.val) (tile D t.val) g w kv wo, pay57 (tile X t.val) (tile D t.val) g w kv wo, pay58 (tile X t.val), pay59 (tile X t.val), pay60 (tile X t.val) (tile D t.val) g w kv wo, pay61 (tile X t.val) (tile D t.val) g w kv wo]
  exact pay1 (fun _ => 0) _

/-- A later point adds its rows' part of the gradient at the gain. -/
theorem s11 (h : ¬ t.val % 16 = 0) (A : ℕ → ℝ) (hl : t.val - 1 < cfg0.N) (hA : (outsAt0 m c (t.val - 1) hl).2.2.2.2.2 = R2 fun _ => A) :
    (outsAt0 m c t.val t.isLt).2.2.2.2.2
      = R2 fun _ q => A q + ∑ p : Fin 512, dgn g w kv wo (tile X t.val p.val) (tile D t.val p.val) q := by
  rw [outsAt0_B m c t h]
  frame_open
  simp (disch := decide) only [↓ View.readCov_skip, ↓ View.readCov_cons_toLoadRect, ↓ View.readCov_fill]
  frame_out
  simp only [hA, b0 H t, b1 H t, b2 H t, b4 H t, l3_0 H t, l3_1 H t, l3_2 H t, l3_3 H t, l5_0 H t, l5_1 H t, l5_2 H t, l5_3 H t, r7 t, pay2, pay3, pay4 (tile X t.val) g, pay5 (tile X t.val) g w, pay6 w, pay7 (tile X t.val) g w, pay8 (tile X t.val) g w kv, pay9 (tile X t.val) g w kv, pay10 (tile X t.val) g w kv, pay11 (tile X t.val) g w kv, pay12 (tile X t.val) g w kv, pay13 (tile X t.val) g w kv, pay14 (tile X t.val) g w kv, pay15 (tile X t.val) g w kv, pay16 (tile X t.val) g w kv, pay17 (tile X t.val) g w kv, pay18 (tile X t.val) g w kv, pay19 (tile X t.val) g w kv, pay20 (tile X t.val) g w kv, pay21 (tile X t.val) g w, pay22 (tile X t.val) g w, pay23 (tile X t.val) g w, pay24 (tile X t.val) g w kv, pay25 (tile D t.val) wo, pay26 (tile X t.val) (tile D t.val) g w wo, pay27 (tile X t.val) (tile D t.val) g w kv wo, pay28 (tile X t.val) (tile D t.val) g w wo, pay29 (tile X t.val) (tile D t.val) g w kv wo, pay30 (tile X t.val) (tile D t.val) g w kv wo, pay32 (tile X t.val) (tile D t.val) g w kv wo, pay33 (tile X t.val) (tile D t.val) g w kv wo, pay35 (tile X t.val) (tile D t.val) g w kv wo, pay37 (tile X t.val) g w kv, pay38 (tile X t.val) (tile D t.val) g w kv wo, pay40 (tile X t.val) (tile D t.val) g w kv wo, pay41 (tile X t.val) (tile D t.val) g w kv wo, pay43 (tile X t.val) (tile D t.val) g w kv wo, pay45 (tile X t.val) (tile D t.val) g w kv wo, pay46 (tile X t.val) (tile D t.val) g w kv wo, pay49 (tile X t.val) (tile D t.val) g w kv wo, pay50 (tile X t.val) (tile D t.val) g w kv wo, pay51 (tile X t.val) (tile D t.val) g w kv wo, pay53 (tile X t.val) (tile D t.val) g w kv wo, pay54 (tile X t.val) (tile D t.val) g w kv wo, pay55 (tile X t.val) (tile D t.val) g w kv wo, pay56 (tile X t.val) (tile D t.val) g w kv wo, pay57 (tile X t.val) (tile D t.val) g w kv wo, pay58 (tile X t.val), pay59 (tile X t.val), pay60 (tile X t.val) (tile D t.val) g w kv wo, pay61 (tile X t.val) (tile D t.val) g w kv wo]
  exact pay1 A _

end Cert.Xa
end
-- ==== Proof.Final.lean ====
module

public import proofs.«01_k».proof.Proof.Points

@[expose] public section

set_option maxRecDepth 16384

noncomputable section

namespace Cert.Xa

open Idealize.ShloMosaic Idealize.ShloMosaic.TcCoe Cert.KernelIdeal Cert.KernelIdeal.Gen Cert.KernelIdeal.Value

/-- A sum over the rows of the first `n + 1` tiles is the sum over the first `n` tiles and the sum over the next. -/
theorem range_tiles (f : (ℕ → ℝ) → (ℕ → ℝ) → ℝ) (X D : ℕ → ℕ → ℝ) (n : ℕ) :
    ∑ p ∈ Finset.range (512 * (n + 1)), f (X p) (D p)
      = ∑ p ∈ Finset.range (512 * n), f (X p) (D p) + ∑ p : Fin 512, f (tile X n p.val) (tile D n p.val) := by
  rw [Nat.mul_succ, Finset.sum_range_add, Finset.sum_range fun p => f (X (512 * n + p)) (D (512 * n + p))]
  rfl

variable {m : (ℓ : Loc nD τ sig) → Buf (Elt Ideal) ℓ} {c : Dev nD}
variable {X D : ℕ → ℕ → ℝ} {g : ℕ → ℝ} {w kv wo : ℕ → ℕ → ℝ} (H : Holds m c X D g w kv wo)
include H

/-- After point `n` the gradient at the keys and values is the sum over the rows of the first `n + 1` tiles. -/
theorem acc10 : ∀ (n : ℕ) (hn : n < cfg0.N), (outsAt0 m c n hn).2.2.2.2.1
    = R2 fun k q => ∑ p ∈ Finset.range (512 * (n + 1)), dkv g w kv wo (X p) (D p) k q
  | 0, hn => by
    rw [a10 H ⟨0, hn⟩ rfl]
    refine congrArg R2 (funext fun k => funext fun q => ?_)
    rw [range_tiles fun x d => dkv g w kv wo x d k q, Nat.mul_zero, Finset.sum_range_zero]
  | n + 1, hn => by
    have h16 : n + 1 < 16 := Nat.lt_of_lt_of_eq hn N_0
    rw [s10 H ⟨n + 1, hn⟩ (by show ¬ (n + 1) % 16 = 0; omega) _ (Nat.lt_of_succ_lt hn) (acc10 n (Nat.lt_of_succ_lt hn))]
    refine congrArg R2 (funext fun k => funext fun q => ?_)
    rw [range_tiles (fun x d => dkv g w kv wo x d k q) X D (n + 1)]

/-- After point `n` the gradient at the gain is the sum over the rows of the first `n + 1` tiles. -/
theorem acc11 : ∀ (n : ℕ) (hn : n < cfg0.N), (outsAt0 m c n hn).2.2.2.2.2
    = R2 fun _ q => ∑ p ∈ Finset.range (512 * (n + 1)), dgn g w kv wo (X p) (D p) q
  | 0, hn => by
    rw [a11 H ⟨0, hn⟩ rfl]
    refine congrArg R2 (funext fun k => funext fun q => ?_)
    rw [range_tiles fun x d => dgn g w kv wo x d q, Nat.mul_zero, Finset.sum_range_zero]
  | n + 1, hn => by
    have h16 : n + 1 < 16 := Nat.lt_of_lt_of_eq hn N_0
    rw [s11 H ⟨n + 1, hn⟩ (by show ¬ (n + 1) % 16 = 0; omega) _ (Nat.lt_of_succ_lt hn) (acc11 n (Nat.lt_of_succ_lt hn))]
    refine congrArg R2 (funext fun k => funext fun q => ?_)
    rw [range_tiles (fun x d => dgn g w kv wo x d q) X D (n + 1)]

/-- The kernel's gradient at the input. -/
theorem f6 : (dats m 0 c).arrAt 6 cfg0.N = R2 fun p => dx g w kv wo (X p) (D p) := by
  refine (dats m 0 c).arrAt_eq_of_covers 6 _ (by decide +kernel) fun t hf y => ?_
  blk_simp
  rw [after0_6, p6 H t]
  blk_simp [R2, tile, idx t]
  rw [Nat.mul_comm 512 t.val]

/-- The kernel's gradient at the queries and the gates. -/
theorem f7 : (dats m 0 c).arrAt 7 cfg0.N = R2 fun p => dqg g w kv wo (X p) (D p) := by
  refine (dats m 0 c).arrAt_eq_of_covers 7 _ (by decide +kernel) fun t hf y => ?_
  blk_simp
  rw [after0_7, p7 H t]
  blk_simp [R2, tile, idx t]
  rw [Nat.mul_comm 512 t.val]

/-- The kernel's normalised input. -/
theorem f8 : (dats m 0 c).arrAt 8 cfg0.N = R2 fun p => hh g (X p) := by
  refine (dats m 0 c).arrAt_eq_of_covers 8 _ (by decide +kernel) fun t hf y => ?_
  blk_simp
  rw [after0_8, p8 H t]
  blk_simp [R2, tile, idx t]
  rw [Nat.mul_comm 512 t.val]

/-- The kernel's gated attention. -/
theorem f9 : (dats m 0 c).arrAt 9 cfg0.N = R2 fun p => rr g w kv (X p) := by
  refine (dats m 0 c).arrAt_eq_of_covers 9 _ (by decide +kernel) fun t hf y => ?_
  blk_simp
  rw [after0_9, p9 H t]
  blk_simp [R2, tile, idx t]
  rw [Nat.mul_comm 512 t.val]

/-- The kernel's gradient at the keys and values. -/
theorem f10 : (dats m 0 c).arrAt 10 cfg0.N = R2 fun k q => ∑ p : Fin 8192, dkv g w kv wo (X p.val) (D p.val) k q := by
  refine (dats m 0 c).arrAt_eq_of_after_last 10 t0_15 (by decide +kernel) _ fun y => ?_
  blk_simp
  rw [after0_10, acc10 H]
  simp only [Finset.sum_range]
  rfl

/-- The kernel's gradient at the gain. -/
theorem f11 : (dats m 0 c).arrAt 11 cfg0.N = R2 fun _ q => ∑ p : Fin 8192, dgn g w kv wo (X p.val) (D p.val) q := by
  refine (dats m 0 c).arrAt_eq_of_after_last 11 t0_15 (by decide +kernel) _ fun y => ?_
  blk_simp
  rw [after0_11, acc11 H]
  simp only [Finset.sum_range]
  rfl

end Cert.Xa
end
-- ==== Proof.Ref.lean ====
module

public import proofs.«01_k».proof.Proof.Model
public import proofs.«01_k».proof.Proof.Gen.ReferenceIdeal.Run
public import Idealize.ShloMosaic.Lib.Tactic.CleanTypes

@[expose] public section

set_option maxRecDepth 16384

noncomputable section

namespace Cert.Xa.Ref

open Idealize.ShloMosaic Idealize.ShloMosaic.TcCoe Idealize.ShloMosaic.StableHlo Cert.ReferenceIdeal Cert.ReferenceIdeal.Gen Cert.ReferenceIdeal.Value

section ref
variable (V0 : Valuation τ sig (Elt Ideal)) (X D : ℕ → ℕ → ℝ) (g : ℕ → ℝ) (w kv wo : ℕ → ℕ → ℝ)
  (hx : V0 (Proc.devRef .tc main_arg0) = (R2 X : FVec Ideal S8192x1024 .f32))
  (hd : V0 (Proc.devRef .tc main_arg1) = (R2 D : FVec Ideal S8192x1024 .f32))
  (hg : V0 (Proc.devRef .tc main_arg2) = (R2 fun _ => g : FVec Ideal S1x1024 .f32))
  (hw : ∀ (r : Fin 1024) (c : Fin 2048), (V0 (Proc.devRef .tc main_arg3) : FVec Ideal S2x1024x2048 .f32) (ix3 1 r c) = ((w r.val c.val : ℝ) : EReal))
  (hkv : V0 (Proc.devRef .tc main_arg4) = (R2 kv : FVec Ideal S256x2048 .bf16))
  (hwo : ∀ (r c : Fin 1024), (V0 (Proc.devRef .tc main_arg5) : FVec Ideal S2x1024x1024 .f32) (ix3 1 r c) = ((wo r.val c.val : ℝ) : EReal))

include hx in
theorem r8 : res_main_v8 (F := Ideal) V0 = (R2 fun p _ => ms (X p) : FVec Ideal S8192x1 .f32) := by
  refine eq_R2 fun i j => ?_
  unfold res_main_v8
  clean_types
  pointwise [hx]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024]
  rfl

include hx in
theorem r9 : res_main_v9 (F := Ideal) V0 = (R2 fun p _ => inv (X p) : FVec Ideal S8192x1 .f32) := by
  refine eq_R2 fun i j => ?_
  unfold res_main_v9
  clean_types
  pointwise [r8 V0 X hx]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024, rsqrt_real (ms_pos (X i.val))]
  rfl

include hx in
theorem r14 : res_main_v14 (F := Ideal) V0 = (R2 fun p => xh (X p) : FVec Ideal S8192x1024 .f32) := by
  refine eq_R2 fun i j => ?_
  unfold res_main_v14
  clean_types
  pointwise [hx, r9 V0 X hx]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024]
  rfl

include hg in
theorem r15 : res_main_v15 (F := Ideal) V0 = (R2 fun _ => g : FVec Ideal S1x1024 .f32) := by
  refine eq_R2 fun i j => ?_
  unfold res_main_v15
  clean_types
  pointwise [hg]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024]

include hx hg in
theorem r17 : res_main_v17 (F := Ideal) V0 = (R2 fun p => hh g (X p) : FVec Ideal S8192x1024 .f32) := by
  refine eq_R2 fun i j => ?_
  unfold res_main_v17
  clean_types
  pointwise [r14 V0 X hx, r15 V0 g hg]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024]
  rfl

include hx hg hw in
theorem r20 : res_main_v20 (F := Ideal) V0 = (R2 fun p => qg g w (X p) : FVec Ideal S8192x2048 .f32) := by
  refine eq_R2 fun i j => ?_
  unfold res_main_v20
  clean_types
  pointwise [hw, r17 V0 X g hx hg]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024]
  rfl

include hx hg hw in
theorem r22 : res_main_v22 (F := Ideal) V0 = (R2 fun p => ga g w (X p) : FVec Ideal S8192x1024 .f32) := by
  refine eq_R2 fun i j => ?_
  unfold res_main_v22
  clean_types
  pointwise [r20 V0 X g w hx hg hw]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024]
  rfl

include hx hg hw in
theorem r25 : res_main_v25 (F := Ideal) V0 = (R3 fun p h d => qg g w (X p) (256 * h + d) : FVec Ideal S8192x4x256 .f32) := by
  refine eq_R3 fun i j k => ?_
  unfold res_main_v25
  clean_types
  pointwise [r20 V0 X g w hx hg hw]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024, Nat.mul_comm _ 256]

include hkv in
theorem r0 : res_main_v0 (F := Ideal) V0 = (R2 kv : FVec Ideal S256x2048 .f32) := by
  refine eq_R2 fun i j => ?_
  unfold res_main_v0
  clean_types
  pointwise [hkv]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024]

include hkv in
theorem r26 : res_main_v26 (F := Ideal) V0 = (R3 fun k h d => kv k (256 * h + d) : FVec Ideal S256x4x256 .f32) := by
  refine eq_R3 fun i j k => ?_
  unfold res_main_v26
  clean_types
  pointwise [r0 V0 kv hkv]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024, Nat.mul_comm _ 256]

include hkv in
theorem r27 : res_main_v27 (F := Ideal) V0 = (R3 fun k h d => kv k (1024 + (256 * h + d)) : FVec Ideal S256x4x256 .f32) := by
  refine eq_R3 fun i j k => ?_
  unfold res_main_v27
  clean_types
  pointwise [r0 V0 kv hkv]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024, Nat.mul_comm _ 256]

include hx hg hw hkv in
theorem r30 : res_main_v30 (F := Ideal) V0 = (R3 fun h p => sc g w kv (X p) h : FVec Ideal S4x8192x256 .f32) := by
  refine eq_R3 fun i j k => ?_
  unfold res_main_v30
  clean_types
  pointwise [r25 V0 X g w hx hg hw, r26 V0 kv hkv]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024]
  exact congrArg _ (sc_eq g w kv (X j.val) i.val k.val)

include hx hg hw hkv in
theorem r31 : res_main_v31 (F := Ideal) V0 = (R2 fun h p => mx 256 (sc g w kv (X p) h) : FVec Ideal S4x8192 .f32) := by
  refine eq_R2 fun i j => ?_
  unfold res_main_v31
  clean_types
  pointwise [r30 V0 X g w kv hx hg hw hkv]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024]
  exact fold_max_coe (sc g w kv (X j.val) i.val)

include hx hg hw hkv in
theorem r51 : res_main_v51 (F := Ideal) V0 = (R3 fun h p => ee g w kv (X p) h : FVec Ideal S4x8192x256 .f32) := by
  refine eq_R3 fun i j k => ?_
  unfold res_main_v51
  clean_types
  pointwise [r30 V0 X g w kv hx hg hw hkv, r31 V0 X g w kv hx hg hw hkv]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024, bot_sup_eq, max_bot_left]
  rfl

include hx hg hw hkv in
theorem r53 : res_main_v53 (F := Ideal) V0 = (R3 fun h p _ => ll g w kv (X p) h : FVec Ideal S4x8192x1 .f32) := by
  refine eq_R3 fun i j k => ?_
  unfold res_main_v53
  clean_types
  pointwise [r51 V0 X g w kv hx hg hw hkv]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024]
  rfl

include hx hg hw hkv in
theorem r55 : res_main_v55 (F := Ideal) V0 = (R3 fun h p k => ee g w kv (X p) h k / ll g w kv (X p) h : FVec Ideal S4x8192x256 .f32) := by
  refine eq_R3 fun i j k => ?_
  unfold res_main_v55
  clean_types
  pointwise [r51 V0 X g w kv hx hg hw hkv, r53 V0 X g w kv hx hg hw hkv]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024, div_ll g w kv (X j.val)]

include hx hg hw hkv in
theorem r61 : res_main_v61 (F := Ideal) V0 = (R2 fun p => oo g w kv (X p) : FVec Ideal S8192x1024 .f32) := by
  refine eq_R2 fun i j => ?_
  unfold res_main_v61
  clean_types
  pointwise [r27 V0 kv hkv, r55 V0 X g w kv hx hg hw hkv]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024, Nat.div_add_mod]
  exact congrArg _ (oo_eq g w kv (X i.val) j.val)

include hx hg hw in
theorem r62_2 : res_main_v62_2 (F := Ideal) V0 = (R2 fun p => sg g w (X p) : FVec Ideal S8192x1024 .f32) := by
  refine eq_R2 fun i j => ?_
  unfold res_main_v62_2
  clean_types
  pointwise [r22 V0 X g w hx hg hw]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024, div_one_add_exp]
  simp only [sg, zero_sub]

include hx hg hw in
theorem r62_0 : res_main_v62_0 (F := Ideal) V0 = (R2 fun p => sl g w (X p) : FVec Ideal S8192x1024 .f32) := by
  refine eq_R2 fun i j => ?_
  unfold res_main_v62_0
  clean_types
  pointwise [r22 V0 X g w hx hg hw, r62_2 V0 X g w hx hg hw]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024]
  rfl

include hd hwo in
theorem r67 : res_main_v67 (F := Ideal) V0 = (R2 fun p => dr wo (D p) : FVec Ideal S8192x1024 .f32) := by
  refine eq_R2 fun i j => ?_
  unfold res_main_v67
  clean_types
  pointwise [hd, hwo]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024]
  rfl

include hx hd hg hw hkv hwo in
theorem r68 : res_main_v68 (F := Ideal) V0 = (R2 fun p c => oo g w kv (X p) c * dr wo (D p) c : FVec Ideal S8192x1024 .f32) := by
  refine eq_R2 fun i j => ?_
  unfold res_main_v68
  clean_types
  pointwise [r61 V0 X g w kv hx hg hw hkv, r67 V0 D wo hd hwo]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024]

include hx hd hg hw hwo in
theorem r72 : res_main_v72 (F := Ideal) V0 = (R3 fun h d p => dO g w wo (X p) (D p) (256 * h + d) : FVec Ideal S4x256x8192 .f32) := by
  refine eq_R3 fun i j k => ?_
  unfold res_main_v72
  clean_types
  pointwise [r67 V0 D wo hd hwo, r62_0 V0 X g w hx hg hw]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024, Nat.mul_comm _ 256]
  rfl

include hx hd hg hw hkv hwo in
theorem r73 : res_main_v73 (F := Ideal) V0 = (R3 fun h p => dp g w kv wo (X p) (D p) h : FVec Ideal S4x8192x256 .f32) := by
  refine eq_R3 fun i j k => ?_
  unfold res_main_v73
  clean_types
  pointwise [r72 V0 X D g w wo hx hd hg hw hwo, r27 V0 kv hkv]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024]
  rfl

include hx hd hg hw hkv hwo in
theorem r89 : res_main_v89 (F := Ideal) V0 = (R3 fun h p k => dsc g w kv wo (X p) (D p) h k * (1 / 16) : FVec Ideal S4x8192x256 .f32) := by
  refine eq_R3 fun i j k => ?_
  unfold res_main_v89
  clean_types
  pointwise [r73 V0 X D g w kv wo hx hd hg hw hkv hwo, r53 V0 X g w kv hx hg hw hkv, r51 V0 X g w kv hx hg hw hkv]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024, Fin.sum_univ_one, div_ll g w kv (X j.val), div_ll2 g w kv (X j.val)]
  exact congrArg _ (dsc_eq g w kv wo (X j.val) (D j.val) i.val k.val)

include hx hd hg hw hkv hwo in
theorem r98 : res_main_v98 (F := Ideal) V0 = (R2 fun p => dqg g w kv wo (X p) (D p) : FVec Ideal S8192x2048 .f32) := by
  refine eq_R2 fun i j => ?_
  unfold res_main_v98
  clean_types
  pointwise [r89 V0 X D g w kv wo hx hd hg hw hkv hwo, r26 V0 kv hkv, r68 V0 X D g w kv wo hx hd hg hw hkv hwo, r62_2 V0 X g w hx hg hw, r22 V0 X g w hx hg hw]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024, Nat.div_add_mod]
  split
  · rename_i h
    exact congrArg _ (dqg_eq_left g w kv wo (X i.val) (D i.val) h)
  · rename_i h
    exact congrArg _ (dqg_eq_right g w kv wo (X i.val) (D i.val) h)

include hx hd hg hw hkv hwo in
theorem r102 : res_main_v102 (F := Ideal) V0 = (R2 fun p => dh g w kv wo (X p) (D p) : FVec Ideal S8192x1024 .f32) := by
  refine eq_R2 fun i j => ?_
  unfold res_main_v102
  clean_types
  pointwise [hw, r98 V0 X D g w kv wo hx hd hg hw hkv hwo]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024]
  rfl

include hx hd hg hw hkv hwo in
theorem r107 : res_main_v107 (F := Ideal) V0 = (R2 fun p c => dh g w kv wo (X p) (D p) c * g c : FVec Ideal S8192x1024 .f32) := by
  refine eq_R2 fun i j => ?_
  unfold res_main_v107
  clean_types
  pointwise [r102 V0 X D g w kv wo hx hd hg hw hkv hwo, r15 V0 g hg]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024]

include hx hd hg hw hkv hwo in
theorem r118 : res_main_v118 (F := Ideal) V0 = (R2 fun p _ => tt g w kv wo (X p) (D p) : FVec Ideal S8192x1024 .f32) := by
  refine eq_R2 fun i j => ?_
  unfold res_main_v118
  clean_types
  pointwise [hx, r107 V0 X D g w kv wo hx hd hg hw hkv hwo, r9 V0 X hx, r8 V0 X hx]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024, Fin.sum_univ_one, div_ms (X i.val)]
  rfl

include hx hd hg hw hkv hwo in
theorem out0 : (addf (V0 (Proc.devRef .tc main_arg1)) (addf (addf (mulf (res_main_v107 V0) (broadcastInDim S8192x1024 ![0, 1] bcast_S8192x1_S8192x1024_0_1 (res_main_v9 V0))) (mulf (V0 (Proc.devRef .tc main_arg0)) (res_main_v118 V0))) (mulf (res_main_v118 V0) (V0 (Proc.devRef .tc main_arg0)))) : FVec Ideal S8192x1024 .f32) = (R2 fun p => dx g w kv wo (X p) (D p) : FVec Ideal S8192x1024 .f32) := by
  refine eq_R2 fun i j => ?_
  clean_types
  pointwise [hx, hd, r107 V0 X D g w kv wo hx hd hg hw hkv hwo, r9 V0 X hx, r118 V0 X D g w kv wo hx hd hg hw hkv hwo]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024]
  exact congrArg _ (dx_eq g w kv wo (X i.val) (D i.val) j.val)

include hx hd hg hw hkv hwo in
theorem out1 : (truncf .bf16 (res_main_v98 V0) bitsLt_bf16_f32 : FVec Ideal S8192x2048 .bf16) = (R2 fun p => dqg g w kv wo (X p) (D p) : FVec Ideal S8192x2048 .bf16) := by
  refine eq_R2 fun i j => ?_
  clean_types
  pointwise [r98 V0 X D g w kv wo hx hd hg hw hkv hwo]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024]

include hx hd hg hw hkv hwo in
theorem out2 : (truncf .bf16 (res_main_v17 V0) bitsLt_bf16_f32 : FVec Ideal S8192x1024 .bf16) = (R2 fun p => hh g (X p) : FVec Ideal S8192x1024 .bf16) := by
  refine eq_R2 fun i j => ?_
  clean_types
  pointwise [r17 V0 X g hx hg]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024]

include hx hd hg hw hkv hwo in
theorem out3 : (truncf .bf16 (mulf (res_main_v61 V0) (res_main_v62_0 V0)) bitsLt_bf16_f32 : FVec Ideal S8192x1024 .bf16) = (R2 fun p => rr g w kv (X p) : FVec Ideal S8192x1024 .bf16) := by
  refine eq_R2 fun i j => ?_
  clean_types
  pointwise [r61 V0 X g w kv hx hg hw hkv, r62_0 V0 X g w hx hg hw]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024]
  rfl

include hx hd hg hw hkv hwo in
theorem out4 : (concatenate S256x2048 1 [⟨S256x1024, (shapeCast _ (transpose S256x4x256 [1, 0, 2] (@Host.dotGeneral Ideal _ _ _ _ .f32 .f32 dot_S4x8192x256_S8192x4x256_S4x256x256_1_0_2_2_0_1 none (res_main_v89 V0) (res_main_v25 V0)) transposes_S4x256x256_S256x4x256_1_0_2) shapeCasts_S256x4x256_S256x1024)⟩, ⟨S256x1024, (shapeCast _ (transpose S256x4x256 [2, 0, 1] (@Host.dotGeneral Ideal _ _ _ _ .f32 .f32 dot_S4x256x8192_S4x8192x256_S4x256x256_2_1_1_2_0_0 none (res_main_v72 V0) (res_main_v55 V0)) transposes_S4x256x256_S256x4x256_2_0_1) shapeCasts_S256x4x256_S256x1024)⟩] concatenates_S256x1024_S256x1024_S256x2048_d1 : FVec Ideal S256x2048 .f32) = (R2 fun k c => ∑ p : Fin 8192, dkv g w kv wo (X p.val) (D p.val) k c : FVec Ideal S256x2048 .f32) := by
  refine eq_R2 fun i j => ?_
  clean_types
  pointwise [r89 V0 X D g w kv wo hx hd hg hw hkv hwo, r25 V0 X g w hx hg hw, r72 V0 X D g w wo hx hd hg hw hwo, r55 V0 X g w kv hx hg hw hkv]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024, Nat.div_add_mod]
  split
  · rename_i h
    exact congrArg _ (Finset.sum_congr rfl fun p _ => dkv_eq_left g w kv wo (X p.val) (D p.val) h)
  · rename_i h
    exact congrArg _ (Finset.sum_congr rfl fun p _ => dkv_eq_right g w kv wo (X p.val) (D p.val) h)

include hx hd hg hw hkv hwo in
theorem out5 : (broadcastInDim S1x1024 ![1] bcast_S1024_S1x1024_1 (Host.reduceAdd (shapeCast _ (Host.reduceAdd (mulf (res_main_v14 V0) (res_main_v102 V0)) (constant S_ .f32 0x00000000#32) reducesTo_S8192x1024_S1024_d0 h_S_) shapeCasts_S1024_S1x1024) (constant S_ .f32 0x00000000#32) reducesTo_S1x1024_S1024_d0 h_S_) : FVec Ideal S1x1024 .f32) = (R2 fun _ c => ∑ p : Fin 8192, dgn g w kv wo (X p.val) (D p.val) c : FVec Ideal S1x1024 .f32) := by
  refine eq_R2 fun i j => ?_
  clean_types
  pointwise [r14 V0 X hx, r102 V0 X D g w kv wo hx hd hg hw hkv hwo]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_neg_half, word_bot, div_1024, Fin.sum_univ_one]
  exact congrArg _ (Finset.sum_congr rfl fun p _ => mul_comm _ _)

end ref

end Cert.Xa.Ref

end
-- ==== Proof.Finite.lean ====
module

public import proofs.«01_k».proof.Proof.Blocks
public import proofs.«01_k».proof.Defs
public import Idealize.ShloMosaic.Lib.Decide

@[expose] public section

set_option maxRecDepth 16384

noncomputable section

namespace Cert.Xa

open Idealize.ShloMosaic Idealize.ShloMosaic.TcCoe

/-- The shape facts of the precondition's function. -/
theorem finiteFacts : Cert.Pre_finite.Facts where
  bitsLt_bf16_f32 := by decide
  bcast_S_S8192x1024 := by decide
  bcast_S_S1x1024 := by decide
  bcast_S_S2x1024x2048 := by decide
  bcast_S_S256x2048 := by decide
  bcast_S_S2x1024x1024 := by decide

/-- An extended real whose absolute value compares below infinity is a real number. -/
theorem eq_toReal (x : EReal) (h : FloatOps.cmpf .olt (FloatOps.absf (φ := .f32) (x : Ideal .f32)) (FloatOps.ofBits .f32 0x7F800000#32 : Ideal .f32) = 1#1) :
    x = ((x.toReal : ℝ) : EReal) := by
  induction x using EReal.rec with
  | coe x => rfl
  | bot => exfalso; revert h; pointwise [word_top]; simp [Ideal.absf_def]
  | top => exfalso; revert h; pointwise [word_top]; simp [Ideal.absf_def]

/-- What the precondition says of one array of rank two. -/
theorem finite2 {n k : ℕ} (A : FVec Ideal ⟨2, ![n, k]⟩ .f32) (hb : Cert.Pre_finite.S_.BroadcastsInDim ⟨2, ![n, k]⟩ (![] : Fin 0 → Fin 2))
    (h : cmpf .olt (Host.absf A) (broadcastInDim ⟨2, ![n, k]⟩ ![] hb (constant Cert.Pre_finite.S_ .f32 0x7F800000#32)) = fun _ => 1#1)
    (i : Fin n) (j : Fin k) : (A (ix2 i j) : EReal) = (((A (ix2 i j) : EReal).toReal : ℝ) : EReal) := by
  refine eq_toReal _ (Eq.trans ?_ (congrFun h (ix2 i j)))
  pointwise []

/-- What the precondition says of one array of rank three. -/
theorem finite3 {n k l : ℕ} (A : FVec Ideal ⟨3, ![n, k, l]⟩ .f32) (hb : Cert.Pre_finite.S_.BroadcastsInDim ⟨3, ![n, k, l]⟩ (![] : Fin 0 → Fin 3))
    (h : cmpf .olt (Host.absf A) (broadcastInDim ⟨3, ![n, k, l]⟩ ![] hb (constant Cert.Pre_finite.S_ .f32 0x7F800000#32)) = fun _ => 1#1)
    (a : Fin n) (i : Fin k) (j : Fin l) : (A (ix3 a i j) : EReal) = (((A (ix3 a i j) : EReal).toReal : ℝ) : EReal) := by
  refine eq_toReal _ (Eq.trans ?_ (congrFun h (ix3 a i j)))
  pointwise []

/-- A rank-two array as a real function of two naturals, zero outside. -/
def real2 {n k : ℕ} (A : Shape.Idx ⟨2, ![n, k]⟩ → EReal) : ℕ → ℕ → ℝ := fun i j =>
  if h : i < n ∧ j < k then (A (ix2 ⟨i, h.1⟩ ⟨j, h.2⟩) : EReal).toReal else 0

/-- One layer of a rank-three array as a real function of two naturals, zero outside. -/
def real3 {n k l : ℕ} (A : Shape.Idx ⟨3, ![n, k, l]⟩ → EReal) (a : Fin n) : ℕ → ℕ → ℝ := fun i j =>
  if h : i < k ∧ j < l then (A (ix3 a ⟨i, h.1⟩ ⟨j, h.2⟩) : EReal).toReal else 0

theorem real2_at {n k : ℕ} (A : Shape.Idx ⟨2, ![n, k]⟩ → EReal) (i : Fin n) (j : Fin k) :
    real2 A i j = (A (ix2 i j) : EReal).toReal := by
  simp [real2]

theorem real3_at {n k l : ℕ} (A : Shape.Idx ⟨3, ![n, k, l]⟩ → EReal) (a : Fin n) (i : Fin k) (j : Fin l) :
    real3 A a i j = (A (ix3 a i j) : EReal).toReal := by
  simp [real3]

section holds
open Cert.KernelIdeal
attribute [local instance] finiteFacts

/-- Under the precondition every argument array holds real numbers. -/
theorem holds (m : (ℓ : Loc nD τ sig) → Buf (Elt Ideal) ℓ) (h : Cert.Pre_KernelIdeal_finite m) (c : Dev nD) :
    Holds m c (real2 (fun i => (m ((c : Thread nD τ).loc main_arg0) i : EReal)))
      (real2 (fun i => (m ((c : Thread nD τ).loc main_arg1) i : EReal)))
      (fun j => real2 (fun i => (m ((c : Thread nD τ).loc main_arg2) i : EReal)) 0 j)
      (real3 (fun i => (m ((c : Thread nD τ).loc main_arg3) i : EReal)) 1)
      (real2 (fun i => (m ((c : Thread nD τ).loc main_arg4) i : EReal)))
      (real3 (fun i => (m ((c : Thread nD τ).loc main_arg5) i : EReal)) 1) := by
  obtain ⟨h0, h1, h2, h3, h4, h5⟩ := h c
  exact {
    x := fun i j => (finite2 _ _ h0 i j).trans (by rw [real2_at])
    d := fun i j => (finite2 _ _ h1 i j).trans (by rw [real2_at])
    g := fun i j => (finite2 _ _ h2 i j).trans (by
      obtain rfl : i = 0 := Subsingleton.elim _ _
      rw [← real2_at]; rfl)
    w := fun i j => (finite3 _ _ h3 1 i j).trans (by rw [real3_at])
    kv := fun i j => (finite2 _ _ h4 i j).trans (by rw [real2_at]; rfl)
    wo := fun i j => (finite3 _ _ h5 1 i j).trans (by rw [real3_at]) }

end holds

end Cert.Xa

end
-- ==== Proof.ChunkModel.lean ====
/- The chunked attention's backward pass over the real numbers. Queries are named by their row `i`; keys by their padded row `r`, which is
   512 more than the key's own, so that the band of a query's chunk starts at the query's chunk itself; columns of all sixteen heads by `c`,
   head `c / 64`. -/
module

public import proofs.«01_k».proof.Proof.Model

@[expose] public section

noncomputable section

namespace Cert.Ca

open Idealize.ShloMosaic Cert.Xa

theorem word_eighth : (Ideal.ofBits .f32 0x3E000000#32 : EReal) = ((1 / 8 : ℝ) : EReal) := by
  simp [Ideal.ofBits, Ideal.ieee, ← EReal.coe_mul]; norm_num

/-- A real where a condition holds, −∞ elsewhere. -/
def bot (P : Prop) [Decidable P] (x : ℝ) : EReal := if P then ((x : ℝ) : EReal) else ⊥

/-- The greatest of those of `n` reals that satisfy a condition, as a real. -/
def mxp (n : ℕ) (P : ℕ → Prop) [DecidablePred P] (f : ℕ → ℝ) : ℝ :=
  (Finset.univ.fold max (⊥ : EReal) (fun k : Fin n => bot (P k.val) (f k.val))).toReal

theorem fold_bot_ne_top (n : ℕ) (P : ℕ → Prop) [DecidablePred P] (f : ℕ → ℝ) (s : Finset (Fin n)) :
    s.fold max (⊥ : EReal) (fun k : Fin n => bot (P k.val) (f k.val)) ≠ ⊤ := by
  induction s using Finset.induction_on with
  | empty => simp
  | insert a s ha ih =>
    rw [Finset.fold_insert ha]
    rcases max_choice (bot (P a.val) (f a.val)) (s.fold max (⊥ : EReal) (fun k : Fin n => bot (P k.val) (f k.val))) with h | h <;> rw [h]
    · unfold bot; split
      · exact EReal.coe_ne_top _
      · exact bot_ne_top
    · exact ih

/-- A maximum over a dimension in which the condition holds somewhere, folded from −∞, is a real. -/
theorem fold_bot {n : ℕ} (P : ℕ → Prop) [DecidablePred P] (f : ℕ → ℝ) (h : ∃ k < n, P k) :
    Finset.univ.fold max (⊥ : EReal) (fun k : Fin n => bot (P k.val) (f k.val)) = ((mxp n P f : ℝ) : EReal) := by
  refine (EReal.coe_toReal (fold_bot_ne_top n P f _) ?_).symm
  obtain ⟨k, hk, hP⟩ := h
  intro h
  have h0 : bot (P k) (f k) ≤ ⊥ := by
    rw [← h]
    exact Finset.le_fold_max _ |>.2 (Or.inr ⟨(⟨k, hk⟩ : Fin n), Finset.mem_univ _, le_rfl⟩)
  rw [bot, if_pos hP] at h0
  exact EReal.coe_ne_bot _ (le_bot_iff.1 h0)

/-- The shifted exponential of a masked score: nothing outside the mask. -/
theorem exp_bot (P : Prop) [Decidable P] (x y : ℝ) :
    Ideal.exp (bot P x - ((y : ℝ) : EReal)) = (((if P then Real.exp x else 0) * Real.exp (-y) : ℝ) : EReal) := by
  unfold bot
  split
  · rw [← EReal.coe_sub, Ideal.exp_coe, sub_eq_add_neg, Real.exp_add]
  · rw [EReal.bot_sub, zero_mul]; rfl

theorem add_bot (P : Prop) [Decidable P] (x y : ℝ) : ((x : ℝ) : EReal) + bot P y = bot P (x + y) := by
  unfold bot
  split
  · rw [EReal.coe_add]
  · exact EReal.add_bot _

/-- A query sees the key at padded row `r`: a real key of the query's own chunk or of the eight before it. -/
def bnd (i r : ℕ) : Prop := 512 ≤ r ∧ i / 64 ≤ r / 64 ∧ r / 64 ≤ i / 64 + 8

instance (i r : ℕ) : Decidable (bnd i r) := inferInstanceAs (Decidable (_ ∧ _ ∧ _))

/-- The entry of the table of relative positions. -/
def rel (i r : ℕ) : ℕ := min 256 (i + 640 - r)

/-- The keys or values, below 512 rows of zeros. -/
def pad (K : ℕ → ℕ → ℝ) (r c : ℕ) : ℝ := if r < 512 then 0 else K (r - 512) c

theorem pad_at (K : ℕ → ℕ → ℝ) (k c : ℕ) : pad K (512 + k) c = K k c := by
  rw [pad, if_neg (by omega), Nat.add_sub_cancel_left]

/-- Every query sees its own key. -/
theorem bnd_self (i : ℕ) : bnd i (512 + i) := ⟨by omega, by omega, by omega⟩

/-- The keys that a query of the tile of rows `256 b` sees lie in the tile's window of 768 padded rows. -/
theorem bnd_window {i r b : ℕ} (h0 : 256 * b ≤ i) (h1 : i < 256 * b + 256) (h : bnd i r) : 256 * b ≤ r ∧ r < 256 * b + 768 := by
  obtain ⟨_, h2, h3⟩ := h
  constructor <;> omega

theorem bnd_all {i r : ℕ} (hi : i < 8192) (h : bnd i r) : 512 ≤ r ∧ r < 8704 := by
  obtain ⟨h1, h2, h3⟩ := h
  constructor <;> omega

/-- A sum over a window of a function that vanishes outside the band is its sum over all padded rows. -/
theorem sum_window (f : ℕ → ℝ) {i b : ℕ} (h0 : 256 * b ≤ i) (h1 : i < 256 * b + 256) (hb : b < 32)
    (hf : ∀ r, ¬ bnd i r → f r = 0) : (∑ j : Fin 768, f (256 * b + j.val)) = ∑ k : Fin 8192, f (512 + k.val) := by
  have key : ∀ s n : ℕ, s + n ≤ 8704 → (∀ r, bnd i r → s ≤ r ∧ r < s + n) →
      (∑ j : Fin n, f (s + j.val)) = ∑ r ∈ Finset.range 8704, f r := by
    intro s n hn hw
    rw [Fin.sum_univ_eq_sum_range (fun j => f (s + j)),
      show (∑ j ∈ Finset.range n, f (s + j)) = ∑ r ∈ Finset.Ico s (s + n), f r by
        rw [Finset.sum_Ico_eq_sum_range, Nat.add_sub_cancel_left]]
    refine Finset.sum_subset (fun r hr => ?_) fun r _ hr => hf r fun hb' => hr ?_
    · rw [Finset.mem_Ico] at hr; rw [Finset.mem_range]; omega
    · rw [Finset.mem_Ico]; exact hw r hb'
  rw [key (256 * b) 768 (by omega) fun r hr => bnd_window h0 h1 hr,
    key 512 8192 (by omega) fun r hr => bnd_all (by omega) hr]

/-- A sum over 128 columns of which the second 64 are masked away. -/
theorem sum_lo (f : ℕ → ℝ) : (∑ c : Fin 128, if c.val < 64 then f c.val else 0) = ∑ d : Fin 64, f d.val := by
  rw [Fin.sum_univ_eq_sum_range (fun c => if c < 64 then f c else 0), Fin.sum_univ_eq_sum_range (fun c => f c),
    show 128 = 64 + 64 from rfl, Finset.sum_range_add, Finset.sum_congr rfl (g := f) fun c hc => if_pos (Finset.mem_range.1 hc),
    Finset.sum_eq_zero fun c _ => if_neg (show ¬ 64 + c < 64 by omega), add_zero]

/-- A sum over 128 columns of which the first 64 are masked away. -/
theorem sum_hi (f : ℕ → ℝ) : (∑ c : Fin 128, if c.val < 64 then 0 else f c.val) = ∑ d : Fin 64, f (64 + d.val) := by
  rw [Fin.sum_univ_eq_sum_range (fun c => if c < 64 then 0 else f c), Fin.sum_univ_eq_sum_range (fun c => f (64 + c)),
    show 128 = 64 + 64 from rfl, Finset.sum_range_add, Finset.sum_eq_zero fun c hc => if_pos (Finset.mem_range.1 hc), zero_add]
  exact Finset.sum_congr rfl fun c _ => if_neg (by omega)

section model
variable (Q K V G T D : ℕ → ℕ → ℝ)

/-- The score of head `h`, query `i` and key `r`. -/
def sc (h i r : ℕ) : ℝ := (∑ d : Fin 64, Q i (64 * h + d.val) * (1 / 8) * pad K r (64 * h + d.val)) + T h (rel i r)
/-- Its exponential, nothing outside the band. -/
def pe (h i r : ℕ) : ℝ := if bnd i r then Real.exp (sc Q K T h i r) else 0
/-- The sum of a row's exponentials. -/
def zz (h i : ℕ) : ℝ := ∑ k : Fin 8192, pe Q K T h i (512 + k.val)
/-- The attention's weight. -/
def wt (h i r : ℕ) : ℝ := pe Q K T h i r / zz Q K T h i
/-- The attention's result. -/
def oo (i c : ℕ) : ℝ := ∑ k : Fin 8192, wt Q K T (c / 64) i (512 + k.val) * V k.val c
/-- The gate's logistic. -/
def sg (i c : ℕ) : ℝ := 1 / (1 + Real.exp (-G i c))
/-- The gradient at the attention's result. -/
def dO (i c : ℕ) : ℝ := D i c * (G i c * sg G i c)
/-- The gradient at the gate. -/
def dgt (i c : ℕ) : ℝ := D i c * oo Q K V T i c * (sg G i c * (1 + G i c * (1 - sg G i c)))
/-- The gradient at the attention's weights. -/
def dp (h i r : ℕ) : ℝ := ∑ d : Fin 64, dO G D i (64 * h + d.val) * pad V r (64 * h + d.val)
/-- What the softmax's derivative takes off. -/
def rs (h i : ℕ) : ℝ := ∑ d : Fin 64, dO G D i (64 * h + d.val) * oo Q K V T i (64 * h + d.val)
/-- The gradient at the scores. -/
def ds (h i r : ℕ) : ℝ := wt Q K T h i r * (dp V G D h i r - rs Q K V G T D h i)
/-- The gradient at the queries. -/
def dq (i c : ℕ) : ℝ := (∑ k : Fin 8192, ds Q K V G T D (c / 64) i (512 + k.val) * K k.val c) * (1 / 8)
/-- The gradient at the padded keys, from the first `n` queries. -/
def dk (n r c : ℕ) : ℝ := ∑ i ∈ Finset.range n, ds Q K V G T D (c / 64) i r * (Q i c * (1 / 8))
/-- The gradient at the padded values, from the first `n` queries. -/
def dv (n r c : ℕ) : ℝ := ∑ i ∈ Finset.range n, wt Q K T (c / 64) i r * dO G D i c

theorem pe_out {h i r : ℕ} (hb : ¬ bnd i r) : pe Q K T h i r = 0 := if_neg hb
theorem wt_out {h i r : ℕ} (hb : ¬ bnd i r) : wt Q K T h i r = 0 := by rw [wt, pe_out Q K T hb, zero_div]
theorem ds_out {h i r : ℕ} (hb : ¬ bnd i r) : ds Q K V G T D h i r = 0 := by rw [ds, wt_out Q K T hb, zero_mul]

theorem pe_nonneg (h i r : ℕ) : 0 ≤ pe Q K T h i r := by
  unfold pe; split
  · exact (Real.exp_pos _).le
  · exact le_rfl

theorem zz_pos {h i : ℕ} (hi : i < 8192) : 0 < zz Q K T h i := by
  refine Finset.sum_pos' (fun k _ => pe_nonneg Q K T h i _) ⟨⟨i, hi⟩, Finset.mem_univ _, ?_⟩
  show 0 < pe Q K T h i (512 + i)
  rw [pe, if_pos (bnd_self i)]
  exact Real.exp_pos _

theorem dk_out {n r c : ℕ} (h : r < 512) : dk Q K V G T D n r c = 0 :=
  Finset.sum_eq_zero fun i _ => by rw [ds_out Q K V G T D (fun hb => by have := hb.1; omega), zero_mul]
theorem dv_out {n r c : ℕ} (h : r < 512) : dv Q K G T D n r c = 0 :=
  Finset.sum_eq_zero fun i _ => by rw [wt_out Q K T (fun hb => by have := hb.1; omega), zero_mul]

section window
/-- The greatest score that the query `i` has in the window of padded rows from `256 b`. -/
def wm (b h i : ℕ) : ℝ := mxp 768 (fun j => bnd i (256 * b + j)) (fun j => sc Q K T h i (256 * b + j))
/-- The shifted exponential in that window. -/
def we (b h i j : ℕ) : ℝ := pe Q K T h i (256 * b + j) * Real.exp (-wm Q K T b h i)
/-- Their sum. -/
def wl (b h i : ℕ) : ℝ := ∑ j : Fin 768, we Q K T b h i j.val

theorem window_self {b i : ℕ} (h0 : 256 * b ≤ i) (h1 : i < 256 * b + 256) : ∃ j < 768, bnd i (256 * b + j) :=
  ⟨512 + i - 256 * b, by omega, by rw [show 256 * b + (512 + i - 256 * b) = 512 + i by omega]; exact bnd_self i⟩

theorem wl_eq {b h i : ℕ} (h0 : 256 * b ≤ i) (h1 : i < 256 * b + 256) (hb : b < 32) :
    wl Q K T b h i = zz Q K T h i * Real.exp (-wm Q K T b h i) := by
  simp only [wl, we, ← Finset.sum_mul, zz]
  rw [sum_window (fun r => pe Q K T h i r) h0 h1 hb fun r hr => pe_out Q K T hr]

theorem wl_ne {b h i : ℕ} (h0 : 256 * b ≤ i) (h1 : i < 256 * b + 256) (hb : b < 32) : wl Q K T b h i ≠ 0 := by
  rw [wl_eq Q K T h0 h1 hb]
  exact (mul_pos (zz_pos Q K T (by omega)) (Real.exp_pos _)).ne'

/-- The window's exponential over the window's sum is the attention's weight. -/
theorem we_div {b h i : ℕ} (j : ℕ) (h0 : 256 * b ≤ i) (h1 : i < 256 * b + 256) (hb : b < 32) :
    we Q K T b h i j * (1 / wl Q K T b h i) = wt Q K T h i (256 * b + j) := by
  have hz := (zz_pos Q K T (h := h) (i := i) (by omega)).ne'
  rw [wl_eq Q K T h0 h1 hb, we, wt]
  have := (Real.exp_pos (-wm Q K T b h i)).ne'
  field_simp

theorem we_div_mul {b h i : ℕ} (j : ℕ) (x : ℝ) (h0 : 256 * b ≤ i) (h1 : i < 256 * b + 256) (hb : b < 32) :
    we Q K T b h i j * (x * (1 / wl Q K T b h i)) = wt Q K T h i (256 * b + j) * x := by
  rw [← we_div Q K T j h0 h1 hb]; ring

end window

section whole
/-- The greatest score of a row. -/
def rm (h i : ℕ) : ℝ := mxp 8192 (fun k => bnd i (512 + k)) (fun k => sc Q K T h i (512 + k))
/-- The shifted exponential. -/
def re (h i k : ℕ) : ℝ := pe Q K T h i (512 + k) * Real.exp (-rm Q K T h i)
/-- Their sum. -/
def rl (h i : ℕ) : ℝ := ∑ k : Fin 8192, re Q K T h i k.val

theorem rl_eq (h i : ℕ) : rl Q K T h i = zz Q K T h i * Real.exp (-rm Q K T h i) := by
  simp only [rl, re, ← Finset.sum_mul, zz]

theorem rl_pos {h i : ℕ} (hi : i < 8192) : 0 < rl Q K T h i := by
  rw [rl_eq]
  exact mul_pos (zz_pos Q K T hi) (Real.exp_pos _)

theorem re_div {h i : ℕ} (k : ℕ) (hi : i < 8192) : re Q K T h i k / rl Q K T h i = wt Q K T h i (512 + k) := by
  have hz := (zz_pos Q K T (h := h) hi).ne'
  rw [rl_eq, re, wt]
  have := (Real.exp_pos (-rm Q K T h i)).ne'
  field_simp

theorem div_rl {h i : ℕ} (x : ℝ) (hi : i < 8192) :
    Ideal.div (x : EReal) ((rl Q K T h i : ℝ) : EReal) = ((x / rl Q K T h i : ℝ) : EReal) :=
  div_real x (rl_pos Q K T hi).ne'

theorem div_rl2 {h i : ℕ} (x : ℝ) (hi : i < 8192) :
    Ideal.div (x : EReal) ((rl Q K T h i * rl Q K T h i : ℝ) : EReal) = ((x / (rl Q K T h i * rl Q K T h i) : ℝ) : EReal) :=
  div_real x (mul_pos (rl_pos Q K T hi) (rl_pos Q K T hi)).ne'

/-- The gradients at a row's weights, weighted, sum to what the softmax's derivative takes off. -/
theorem rs_eq (h i : ℕ) :
    (∑ k : Fin 8192, dp V G D h i (512 + k.val) * wt Q K T h i (512 + k.val)) = rs Q K V G T D h i := by
  have ho : ∀ d : Fin 64, (64 * h + d.val) / 64 = h := fun d => by omega
  simp only [rs, dp, oo, ho, Finset.sum_mul, Finset.mul_sum, pad_at]
  rw [Finset.sum_comm]
  exact Finset.sum_congr rfl fun d _ => Finset.sum_congr rfl fun k _ => by ring

theorem ds_eq {h i : ℕ} (k : ℕ) (hi : i < 8192) :
    (dp V G D h i (512 + k) / rl Q K T h i
      + -(∑ k : Fin 8192, dp V G D h i (512 + k.val) * (1 / (rl Q K T h i * rl Q K T h i)) * re Q K T h i k.val)) * re Q K T h i k
      = ds Q K V G T D h i (512 + k) := by
  have hl := (rl_pos Q K T (h := h) hi).ne'
  have hs : (∑ k : Fin 8192, dp V G D h i (512 + k.val) * (1 / (rl Q K T h i * rl Q K T h i)) * re Q K T h i k.val)
      = rs Q K V G T D h i / rl Q K T h i := by
    rw [← rs_eq, Finset.sum_div]
    refine Finset.sum_congr rfl fun k _ => ?_
    rw [← re_div Q K T k.val hi]
    field_simp
  rw [hs, ds, ← re_div Q K T k hi]
  field_simp
  ring

end whole

end model

end Cert.Ca

end
-- ==== Proof.ChunkPay.lean ====
/- What each value that the chunked attention's backward call computes on a tile is: rows `256 b` to `256 b + 255` of the queries, padded
   rows `256 b` to `256 b + 767` of the keys and values, and the two heads `2 hp` and `2 hp + 1`, 64 columns each of 128. -/
module

public import proofs.«01_k».proof.Proof.ChunkModel
public import proofs.«01_k».proof.Proof.Gen.Kernel2Ideal.Skeleton

@[expose] public section

set_option maxRecDepth 16384

noncomputable section

namespace Cert.Ca

open Idealize.ShloMosaic Cert.Xa Cert.Kernel2Ideal Cert.Kernel2Ideal.Gen

theorem word_eighth_bf16 : (Ideal.ofBits .bf16 0x3E00#16 : EReal) = ((1 / 8 : ℝ) : EReal) := by
  simp [Ideal.ofBits, Ideal.ieee, ← EReal.coe_mul]; norm_num

theorem word_zero_bf16 : (Ideal.ofBits .bf16 0x0000#16 : EReal) = ((0 : ℝ) : EReal) := by
  simp [Ideal.ofBits, Ideal.ieee]

/-- The columns of the first head. -/
def lo : IVec S1x128 1 := fun y => if (y 1).val < 64 then 1#1 else 0#1
/-- The columns of the second head. -/
def hi : IVec S1x128 1 := fun y => if (y 1).val < 64 then 0#1 else 1#1

theorem lo_apply (i : Fin 1) (j : Fin 128) : lo (ix2 i j) = if j.val < 64 then 1#1 else 0#1 := rfl
theorem hi_apply (i : Fin 1) (j : Fin 128) : hi (ix2 i j) = if j.val < 64 then 0#1 else 1#1 := rfl

theorem select_lo {α : Type} (c : ℕ) (x y : α) : Scalar.select (if c < 64 then 1#1 else 0#1) x y = if c < 64 then x else y := by
  split <;> rfl
theorem select_hi {α : Type} (c : ℕ) (x y : α) : Scalar.select (if c < 64 then 0#1 else 1#1) x y = if c < 64 then y else x := by
  split <;> rfl
theorem coe_ite (P : Prop) [Decidable P] (x y : ℝ) : (if P then ((x : ℝ) : EReal) else ((y : ℝ) : EReal)) = ((if P then x else y : ℝ) : EReal) := by
  split <;> rfl

theorem dot_lo (f g : ℕ → ℝ) : (∑ c : Fin 128, (if c.val < 64 then f c.val else 0) * g c.val) = ∑ d : Fin 64, f d.val * g d.val := by
  simp only [ite_mul, zero_mul]
  exact sum_lo fun c => f c * g c
theorem dot_hi (f g : ℕ → ℝ) : (∑ c : Fin 128, (if c.val < 64 then 0 else f c.val) * g c.val) = ∑ d : Fin 64, f (64 + d.val) * g (64 + d.val) := by
  simp only [ite_mul, zero_mul]
  exact sum_hi fun c => f c * g c

theorem mlo : k0_pay15 = lo := by
  have h : ∀ (i : Fin 1) (j : Fin 128), k0_pay15 (ix2 i j) = lo (ix2 i j) := by decide +kernel
  funext y
  rw [eq_ix2 y]
  exact h _ _

theorem mhi : k0_pay17 lo = hi := by
  have h : ∀ (i : Fin 1) (j : Fin 128), k0_pay17 lo (ix2 i j) = hi (ix2 i j) := by decide +kernel
  funext y
  rw [eq_ix2 y]
  exact h _ _

section pay
variable (Q K V G T D : ℕ → ℕ → ℝ) (b hp : ℕ)

/-- A tile of rows from `256 b` and columns from `128 hp`. -/
def tl (A : ℕ → ℕ → ℝ) (p c : ℕ) : ℝ := A (256 * b + p) (128 * hp + c)

/-- The tile's biases of head `h`: −∞ outside the band. -/
def bb (h : ℕ) : FVec Ideal S1x1x256x768 .f32 :=
  fun y => bot (bnd (256 * b + (y 2).val) (256 * b + (y 3).val)) (T h (rel (256 * b + (y 2).val) (256 * b + (y 3).val)))

theorem bb_apply (h : ℕ) (i j : Fin 1) (k : Fin 256) (l : Fin 768) :
    bb T b h (ix4 i j k l) = bot (bnd (256 * b + k.val) (256 * b + l.val)) (T h (rel (256 * b + k.val) (256 * b + l.val))) := rfl

theorem sc_lo (i r : ℕ) : (∑ c : Fin 128, (if c.val < 64 then Q i (128 * hp + c.val) * (1 / 8) else 0) * pad K r (128 * hp + c.val))
    + T (2 * hp) (rel i r) = sc Q K T (2 * hp) i r := by
  rw [dot_lo (fun c => Q i (128 * hp + c) * (1 / 8)) (fun c => pad K r (128 * hp + c)), sc]
  simp only [show ∀ d, 64 * (2 * hp) + d = 128 * hp + d from fun d => by omega]
theorem sc_hi (i r : ℕ) : (∑ c : Fin 128, (if c.val < 64 then 0 else Q i (128 * hp + c.val) * (1 / 8)) * pad K r (128 * hp + c.val))
    + T (2 * hp + 1) (rel i r) = sc Q K T (2 * hp + 1) i r := by
  rw [dot_hi (fun c => Q i (128 * hp + c) * (1 / 8)) (fun c => pad K r (128 * hp + c)), sc]
  simp only [show ∀ d, 64 * (2 * hp + 1) + d = 128 * hp + (64 + d) from fun d => by omega]
theorem dp_lo (i r : ℕ) : (∑ c : Fin 128, (if c.val < 64 then dO G D i (128 * hp + c.val) else 0) * pad V r (128 * hp + c.val))
    = dp V G D (2 * hp) i r := by
  rw [dot_lo (fun c => dO G D i (128 * hp + c)) (fun c => pad V r (128 * hp + c)), dp]
  simp only [show ∀ d, 64 * (2 * hp) + d = 128 * hp + d from fun d => by omega]
theorem dp_hi (i r : ℕ) : (∑ c : Fin 128, (if c.val < 64 then 0 else dO G D i (128 * hp + c.val)) * pad V r (128 * hp + c.val))
    = dp V G D (2 * hp + 1) i r := by
  rw [dot_hi (fun c => dO G D i (128 * hp + c)) (fun c => pad V r (128 * hp + c)), dp]
  simp only [show ∀ d, 64 * (2 * hp + 1) + d = 128 * hp + (64 + d) from fun d => by omega]
theorem rs_lo (i : ℕ) : (∑ c : Fin 64, dO G D i (128 * hp + c.val) * oo Q K V T i (128 * hp + c.val))
    = rs Q K V G T D (2 * hp) i := by
  rw [rs]
  simp only [show ∀ d, 64 * (2 * hp) + d = 128 * hp + d from fun d => by omega]
theorem rs_hi (i : ℕ) : (∑ c : Fin 64, dO G D i (128 * hp + (64 + c.val)) * oo Q K V T i (128 * hp + (64 + c.val)))
    = rs Q K V G T D (2 * hp + 1) i := by
  rw [rs]
  simp only [show ∀ d, 64 * (2 * hp + 1) + d = 128 * hp + (64 + d) from fun d => by omega]

theorem p5 :
    k0_pay5 (F := Ideal)
      = R2 fun _ _ => 0 := by
  refine eq_R2 fun i j => ?_
  pointwise [k0_pay5]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add]

theorem p6 :
    k0_pay6 (F := Ideal)
      = R2 fun _ _ => 0 := by
  refine eq_R2 fun i j => ?_
  pointwise [k0_pay6]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add]

theorem p8 (A : ℕ → ℕ → ℝ) :
    k0_pay8 (F := Ideal) (R2 A)
      = R2 A := by
  refine eq_R2 fun i j => ?_
  pointwise [k0_pay8]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add]

theorem p9 (A : ℕ → ℕ → ℝ) :
    k0_pay9 (F := Ideal) (R2 A)
      = R2 A := by
  refine eq_R2 fun i j => ?_
  pointwise [k0_pay9]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add]

theorem p10 (A : ℕ → ℕ → ℝ) :
    k0_pay10 (F := Ideal) (R2 A)
      = R2 A := by
  refine eq_R2 fun i j => ?_
  pointwise [k0_pay10]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add]

theorem p1 (A : ℕ → ℕ → ℝ) :
    k0_pay1 (F := Ideal) (R2 A)
      = R2 A := by
  refine eq_R2 fun i j => ?_
  pointwise [k0_pay1]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add]

theorem p3 (A : ℕ → ℕ → ℝ) :
    k0_pay3 (F := Ideal) (R2 A)
      = R2 A := by
  refine eq_R2 fun i j => ?_
  pointwise [k0_pay3]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add]

theorem p4 (A : ℕ → ℕ → ℝ) :
    k0_pay4 (F := Ideal) (R2 A)
      = R2 A := by
  refine eq_R2 fun i j => ?_
  pointwise [k0_pay4]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add]

theorem p2 (A B : ℕ → ℕ → ℝ) :
    k0_pay2 (F := Ideal) (R2 A) (R2 B)
      = R2 fun j c => B j c + A j c := by
  refine eq_R2 fun i j => ?_
  pointwise [k0_pay2]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add]

theorem p11 :
    k0_pay11 (F := Ideal) (R2 (tl b hp G))
      = R2 (tl b hp (sg G)) := by
  refine eq_R2 fun i j => ?_
  pointwise [k0_pay11]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add]
  rw [div_one_add_exp, zero_sub]
  rfl

theorem p12 :
    k0_pay12 (F := Ideal) (R2 (tl b hp G))
      = R2 (tl b hp fun i c => sg G i c * (1 + G i c * (1 - sg G i c))) := by
  refine eq_R2 fun i j => ?_
  pointwise [k0_pay12, p11]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add]
  rfl

theorem p13 :
    k0_pay13 (F := Ideal) (R2 (tl b hp G)) (R2 (tl b hp D))
      = R2 (tl b hp (dO G D)) := by
  refine eq_R2 fun i j => ?_
  pointwise [k0_pay13, p11]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add]
  rfl

theorem p14 :
    k0_pay14 (F := Ideal) (R2 (tl b hp G)) (R2 (tl b hp D)) (R2 (tl b hp (oo Q K V T)))
      = R2 (tl b hp fun i c => dO G D i c * oo Q K V T i c) := by
  refine eq_R2 fun i j => ?_
  pointwise [k0_pay14, p13, p10]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add]
  rfl

theorem p16 :
    k0_pay16 (F := Ideal)
      = R2 fun _ _ => 0 := by
  refine eq_R2 fun i j => ?_
  pointwise [k0_pay16]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add]

theorem p18 :
    k0_pay18 (F := Ideal) (R2 (tl b hp Q)) lo
      = R2 fun p c => if c < 64 then tl b hp Q p c * (1 / 8) else 0 := by
  refine eq_R2 fun i j => ?_
  pointwise [k0_pay18, lo_apply]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add, select_lo, coe_ite]

theorem p29 :
    k0_pay29 (F := Ideal) (R2 (tl b hp Q)) hi
      = R2 fun p c => if c < 64 then 0 else tl b hp Q p c * (1 / 8) := by
  refine eq_R2 fun i j => ?_
  pointwise [k0_pay29, hi_apply]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add, select_hi, coe_ite]

theorem p19 :
    k0_pay19 (F := Ideal) (R2 (tl b hp (pad K))) (R2 (tl b hp Q)) lo (bb T b (2 * hp))
      = R2 fun p j => we Q K T b (2 * hp) (256 * b + p) j := by
  refine eq_R2 fun i j => ?_
  pointwise [k0_pay19, p18, bb_apply]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add]
  have e : (fun x : Fin 768 => (((∑ k : Fin 128, (if k.val < 64 then Q (256 * b + i.val) (128 * hp + k.val) * (1 / 8) else 0) * pad K (256 * b + x.val) (128 * hp + k.val) : ℝ)) : EReal)
      + bot (bnd (256 * b + i.val) (256 * b + x.val)) (T (2 * hp) (rel (256 * b + i.val) (256 * b + x.val))))
      = fun x => bot (bnd (256 * b + i.val) (256 * b + x.val)) (sc Q K T (2 * hp) (256 * b + i.val) (256 * b + x.val)) := by
    funext x
    rw [add_bot, sc_lo]
  simp only [tl, add_bot, sc_lo]
  change Ideal.exp (_ - Finset.fold max ⊥ (fun x : Fin 768 => (((∑ k : Fin 128, (if k.val < 64 then Q (256 * b + i.val) (128 * hp + k.val) * (1 / 8) else 0) * pad K (256 * b + x.val) (128 * hp + k.val) : ℝ)) : EReal)
      + bot (bnd (256 * b + i.val) (256 * b + x.val)) (T (2 * hp) (rel (256 * b + i.val) (256 * b + x.val)))) Finset.univ) = _
  rw [e, fold_bot (n := 768) (fun j => bnd (256 * b + i.val) (256 * b + j)) (fun j => sc Q K T (2 * hp) (256 * b + i.val) (256 * b + j))
    (window_self (Nat.le_add_right _ _) (Nat.add_lt_add_left i.isLt _)), exp_bot]
  rfl

theorem p20 (hb : b < 32) :
    k0_pay20 (F := Ideal) (R2 (tl b hp (pad K))) (R2 (tl b hp Q)) lo (bb T b (2 * hp))
      = R2 fun p _ => 1 / wl Q K T b (2 * hp) (256 * b + p) := by
  refine eq_R2 fun i j => ?_
  pointwise [k0_pay20, p19]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add]
  exact div_real _ (wl_ne Q K T (by omega) (by omega) hb)

theorem p30 :
    k0_pay30 (F := Ideal) (R2 (tl b hp (pad K))) (R2 (tl b hp Q)) hi (bb T b (2 * hp + 1))
      = R2 fun p j => we Q K T b (2 * hp + 1) (256 * b + p) j := by
  refine eq_R2 fun i j => ?_
  pointwise [k0_pay30, p29, bb_apply]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add]
  have e : (fun x : Fin 768 => (((∑ k : Fin 128, (if k.val < 64 then 0 else Q (256 * b + i.val) (128 * hp + k.val) * (1 / 8)) * pad K (256 * b + x.val) (128 * hp + k.val) : ℝ)) : EReal)
      + bot (bnd (256 * b + i.val) (256 * b + x.val)) (T (2 * hp + 1) (rel (256 * b + i.val) (256 * b + x.val))))
      = fun x => bot (bnd (256 * b + i.val) (256 * b + x.val)) (sc Q K T (2 * hp + 1) (256 * b + i.val) (256 * b + x.val)) := by
    funext x
    rw [add_bot, sc_hi]
  simp only [tl, add_bot, sc_hi]
  change Ideal.exp (_ - Finset.fold max ⊥ (fun x : Fin 768 => (((∑ k : Fin 128, (if k.val < 64 then 0 else Q (256 * b + i.val) (128 * hp + k.val) * (1 / 8)) * pad K (256 * b + x.val) (128 * hp + k.val) : ℝ)) : EReal)
      + bot (bnd (256 * b + i.val) (256 * b + x.val)) (T (2 * hp + 1) (rel (256 * b + i.val) (256 * b + x.val)))) Finset.univ) = _
  rw [e, fold_bot (n := 768) (fun j => bnd (256 * b + i.val) (256 * b + j)) (fun j => sc Q K T (2 * hp + 1) (256 * b + i.val) (256 * b + j))
    (window_self (Nat.le_add_right _ _) (Nat.add_lt_add_left i.isLt _)), exp_bot]
  rfl

theorem p31 (hb : b < 32) :
    k0_pay31 (F := Ideal) (R2 (tl b hp (pad K))) (R2 (tl b hp Q)) hi (bb T b (2 * hp + 1))
      = R2 fun p _ => 1 / wl Q K T b (2 * hp + 1) (256 * b + p) := by
  refine eq_R2 fun i j => ?_
  pointwise [k0_pay31, p30]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add]
  exact div_real _ (wl_ne Q K T (by omega) (by omega) hb)

theorem p21 :
    k0_pay21 (F := Ideal) (R2 (tl b hp (dO G D))) lo
      = R2 fun p c => if c < 64 then tl b hp (dO G D) p c else 0 := by
  refine eq_R2 fun i j => ?_
  pointwise [k0_pay21, lo_apply]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add, select_lo, coe_ite]

theorem p33 :
    k0_pay33 (F := Ideal) (R2 (tl b hp (dO G D))) hi
      = R2 fun p c => if c < 64 then 0 else tl b hp (dO G D) p c := by
  refine eq_R2 fun i j => ?_
  pointwise [k0_pay33, hi_apply]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add, select_hi, coe_ite]

theorem p22 (hb : b < 32) :
    k0_pay22 (F := Ideal) (R2 (tl b hp (pad K))) (R2 (tl b hp Q)) (R2 (tl b hp (dO G D))) lo (bb T b (2 * hp))
      = R2 fun j c => ∑ p : Fin 256, we Q K T b (2 * hp) (256 * b + p.val) j * ((if c < 64 then tl b hp (dO G D) p.val c else 0) * (1 / wl Q K T b (2 * hp) (256 * b + p.val))) := by
  refine eq_R2 fun i j => ?_
  pointwise [k0_pay22, p19, p20 (hb := hb), p21]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add]

theorem p32 :
    k0_pay32 (F := Ideal) (R2 (tl b hp (pad K))) (R2 (tl b hp Q)) hi (bb T b (2 * hp + 1))
      = R2 fun p j => we Q K T b (2 * hp + 1) (256 * b + p) j := by
  refine eq_R2 fun i j => ?_
  pointwise [k0_pay32, p30]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add]

theorem p35 (hb : b < 32) :
    k0_pay35 (F := Ideal) (R2 (tl b hp (pad K))) (R2 (tl b hp Q)) (R2 (tl b hp (dO G D))) hi (bb T b (2 * hp + 1))
      = R2 fun p c => (if c < 64 then 0 else tl b hp (dO G D) p c) * (1 / wl Q K T b (2 * hp + 1) (256 * b + p)) := by
  refine eq_R2 fun i j => ?_
  pointwise [k0_pay35, p31 (hb := hb), p33]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add]

theorem p36 (hb : b < 32) :
    k0_pay36
 (F := Ideal)        (R2 fun j c => ∑ p : Fin 256, we Q K T b (2 * hp) (256 * b + p.val) j * ((if c < 64 then tl b hp (dO G D) p.val c else 0) * (1 / wl Q K T b (2 * hp) (256 * b + p.val))))
        (R2 fun p j => we Q K T b (2 * hp + 1) (256 * b + p) j)
        (R2 fun p c => (if c < 64 then 0 else tl b hp (dO G D) p c) * (1 / wl Q K T b (2 * hp + 1) (256 * b + p)))
      = R2 fun j c => ∑ p : Fin 256, wt Q K T ((128 * hp + c) / 64) (256 * b + p.val) (256 * b + j) * dO G D (256 * b + p.val) (128 * hp + c) := by
  refine eq_R2 fun i j => ?_
  pointwise [k0_pay36]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add]
  simp only [we_div_mul Q K T _ _ (Nat.le_add_right _ _) (Nat.add_lt_add_left (Fin.isLt _) _) hb]
  split
  · rename_i h
    simp only [mul_zero, Finset.sum_const_zero, add_zero, tl, show (128 * hp + j.val) / 64 = 2 * hp by omega]
  · rename_i h
    simp only [mul_zero, Finset.sum_const_zero, zero_add, tl, show (128 * hp + j.val) / 64 = 2 * hp + 1 by omega]

theorem p23 (hb : b < 32) :
    k0_pay23 (F := Ideal) (R2 (tl b hp (pad K))) (R2 (tl b hp (pad V))) (R2 (tl b hp Q)) (R2 (tl b hp (dO G D))) (R2 (tl b hp fun i c => dO G D i c * oo Q K V T i c)) lo (bb T b (2 * hp))
      = R2 fun p j => (dp V G D (2 * hp) (256 * b + p) (256 * b + j) - rs Q K V G T D (2 * hp) (256 * b + p)) * (1 / wl Q K T b (2 * hp) (256 * b + p)) := by
  refine eq_R2 fun i j => ?_
  pointwise [k0_pay23, p20 (hb := hb), p21, lo_apply]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add, select_lo, coe_ite]
  simp only [tl, dp_lo, rs_lo, Finset.sum_const_zero, add_zero, zero_add]

theorem p24 (hb : b < 32) :
    k0_pay24 (F := Ideal) (R2 fun p j => we Q K T b (2 * hp) (256 * b + p) j)
        (R2 fun p j => (dp V G D (2 * hp) (256 * b + p) (256 * b + j) - rs Q K V G T D (2 * hp) (256 * b + p)) * (1 / wl Q K T b (2 * hp) (256 * b + p)))
      = R2 fun p j => ds Q K V G T D (2 * hp) (256 * b + p) (256 * b + j) := by
  refine eq_R2 fun i j => ?_
  pointwise [k0_pay24]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add]
  rw [we_div_mul Q K T _ _ (Nat.le_add_right _ _) (Nat.add_lt_add_left (Fin.isLt _) _) hb]
  rfl

theorem p26 (hb : b < 32) :
    k0_pay26 (F := Ideal) (R2 fun p j => we Q K T b (2 * hp) (256 * b + p) j)
        (R2 fun p j => (dp V G D (2 * hp) (256 * b + p) (256 * b + j) - rs Q K V G T D (2 * hp) (256 * b + p)) * (1 / wl Q K T b (2 * hp) (256 * b + p)))
      = R2 fun p j => ds Q K V G T D (2 * hp) (256 * b + p) (256 * b + j) := by
  refine eq_R2 fun i j => ?_
  pointwise [k0_pay26, p24 (hb := hb)]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add]

theorem p27 (hb : b < 32) :
    k0_pay27 (F := Ideal) (R2 (tl b hp (pad K))) (R2 fun p j => we Q K T b (2 * hp) (256 * b + p) j)
        (R2 fun p j => (dp V G D (2 * hp) (256 * b + p) (256 * b + j) - rs Q K V G T D (2 * hp) (256 * b + p)) * (1 / wl Q K T b (2 * hp) (256 * b + p)))
      = R2 fun p c => ∑ j : Fin 768, ds Q K V G T D (2 * hp) (256 * b + p) (256 * b + j.val) * pad K (256 * b + j.val) (128 * hp + c) := by
  refine eq_R2 fun i j => ?_
  pointwise [k0_pay27, p26 (hb := hb)]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add]
  rfl

theorem p28 (hb : b < 32) :
    k0_pay28 (F := Ideal) (R2 fun _ _ => 0) (R2 fun p c => if c < 64 then tl b hp Q p c * (1 / 8) else 0) (R2 fun p j => we Q K T b (2 * hp) (256 * b + p) j)
        (R2 fun p j => (dp V G D (2 * hp) (256 * b + p) (256 * b + j) - rs Q K V G T D (2 * hp) (256 * b + p)) * (1 / wl Q K T b (2 * hp) (256 * b + p)))
      = R2 fun j c => ∑ p : Fin 256, ds Q K V G T D (2 * hp) (256 * b + p.val) (256 * b + j) * (if c < 64 then tl b hp Q p.val c * (1 / 8) else 0) := by
  refine eq_R2 fun i j => ?_
  pointwise [k0_pay28, p26 (hb := hb)]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add]

theorem p34 :
    k0_pay34 (F := Ideal) (R2 (tl b hp (pad V))) (R2 (tl b hp (dO G D))) hi
      = R2 fun p j => dp V G D (2 * hp + 1) (256 * b + p) (256 * b + j) := by
  refine eq_R2 fun i j => ?_
  pointwise [k0_pay34, p33]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add]
  simp only [tl, dp_hi]

theorem p37 (hb : b < 32) :
    k0_pay37 (F := Ideal) (R2 (tl b hp fun i c => dO G D i c * oo Q K V T i c)) hi
        (R2 fun p j => we Q K T b (2 * hp + 1) (256 * b + p) j)
        (R2 fun p _ => 1 / wl Q K T b (2 * hp + 1) (256 * b + p))
        (R2 fun p j => dp V G D (2 * hp + 1) (256 * b + p) (256 * b + j))
      = R2 fun p j => ds Q K V G T D (2 * hp + 1) (256 * b + p) (256 * b + j) := by
  refine eq_R2 fun i j => ?_
  pointwise [k0_pay37, hi_apply]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add, select_hi, coe_ite]
  simp only [tl, rs_hi, Finset.sum_const_zero, add_zero, zero_add]
  rw [we_div_mul Q K T _ _ (Nat.le_add_right _ _) (Nat.add_lt_add_left (Fin.isLt _) _) hb]
  rfl

theorem p39 (hb : b < 32) :
    k0_pay39 (F := Ideal) (R2 (tl b hp fun i c => dO G D i c * oo Q K V T i c)) hi
        (R2 fun p j => we Q K T b (2 * hp + 1) (256 * b + p) j)
        (R2 fun p _ => 1 / wl Q K T b (2 * hp + 1) (256 * b + p))
        (R2 fun p j => dp V G D (2 * hp + 1) (256 * b + p) (256 * b + j))
      = R2 fun p j => ds Q K V G T D (2 * hp + 1) (256 * b + p) (256 * b + j) := by
  refine eq_R2 fun i j => ?_
  pointwise [k0_pay39, p37 (hb := hb)]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add]

theorem p40 :
    k0_pay40 (F := Ideal) (R2 (tl b hp D)) (R2 (tl b hp (oo Q K V T))) (R2 (tl b hp fun i c => sg G i c * (1 + G i c * (1 - sg G i c))))
      = R2 (tl b hp (dgt Q K V G T D)) := by
  refine eq_R2 fun i j => ?_
  pointwise [k0_pay40]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add]
  rfl

theorem p41 (hb : b < 32) :
    k0_pay41 (F := Ideal) (R2 (tl b hp (pad K))) (R2 (tl b hp fun i c => dO G D i c * oo Q K V T i c)) lo hi
        (R2 fun p c => ∑ j : Fin 768, ds Q K V G T D (2 * hp) (256 * b + p) (256 * b + j.val) * pad K (256 * b + j.val) (128 * hp + c))
        (R2 fun p j => we Q K T b (2 * hp + 1) (256 * b + p) j)
        (R2 fun p _ => 1 / wl Q K T b (2 * hp + 1) (256 * b + p))
        (R2 fun p j => dp V G D (2 * hp + 1) (256 * b + p) (256 * b + j))
      = R2 (tl b hp (dq Q K V G T D)) := by
  refine eq_R2 fun i j => ?_
  pointwise [k0_pay41, p39 (hb := hb), lo_apply]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add, select_lo, coe_ite]
  have w : ∀ h, (∑ x : Fin 768, ds Q K V G T D h (256 * b + i.val) (256 * b + x.val) * pad K (256 * b + x.val) (128 * hp + j.val))
      = ∑ k : Fin 8192, ds Q K V G T D h (256 * b + i.val) (512 + k.val) * K k.val (128 * hp + j.val) := fun h => by
    rw [sum_window (fun r => ds Q K V G T D h (256 * b + i.val) r * pad K r (128 * hp + j.val)) (Nat.le_add_right _ _)
      (Nat.add_lt_add_left i.isLt _) hb fun r hr => by rw [ds_out Q K V G T D hr, zero_mul]]
    simp only [pad_at]
  simp only [tl, w]
  split
  · rename_i h
    simp only [dq, show (128 * hp + j.val) / 64 = 2 * hp by omega]
  · rename_i h
    simp only [dq, show (128 * hp + j.val) / 64 = 2 * hp + 1 by omega]

theorem p42 (hb : b < 32) (A : ℕ → ℕ → ℝ) :
    k0_pay42 (F := Ideal) (R2 (tl b hp fun i c => dO G D i c * oo Q K V T i c)) hi
        (R2 fun j c => ∑ p : Fin 256, ds Q K V G T D (2 * hp) (256 * b + p.val) (256 * b + j) * (if c < 64 then tl b hp Q p.val c * (1 / 8) else 0))
        (R2 fun p c => if c < 64 then 0 else tl b hp Q p c * (1 / 8))
        (R2 fun p j => we Q K T b (2 * hp + 1) (256 * b + p) j)
        (R2 fun p _ => 1 / wl Q K T b (2 * hp + 1) (256 * b + p))
        (R2 fun p j => dp V G D (2 * hp + 1) (256 * b + p) (256 * b + j)) (R2 A)
      = R2 fun j c => A j c + ∑ p : Fin 256, ds Q K V G T D ((128 * hp + c) / 64) (256 * b + p.val) (256 * b + j) * (Q (256 * b + p.val) (128 * hp + c) * (1 / 8)) := by
  refine eq_R2 fun i j => ?_
  pointwise [k0_pay42, p39 (hb := hb)]
  simp only [R1_apply, R2_apply, ← EReal.coe_mul, ← EReal.coe_add, ← EReal.coe_sub, ← EReal.coe_one, ← EReal.coe_zero, coe_sum, Ideal.exp_coe, word_eighth, word_eighth_bf16, word_zero_bf16, word_bot, zero_add]
  split
  · rename_i h
    simp only [mul_zero, Finset.sum_const_zero, add_zero, tl, show (128 * hp + j.val) / 64 = 2 * hp by omega]
  · rename_i h
    simp only [mul_zero, Finset.sum_const_zero, zero_add, tl, show (128 * hp + j.val) / 64 = 2 * hp + 1 by omega]

end pay

end Cert.Ca

end
-- ==== Proof.ChunkWords.lean ====
/- The integer words by which the host lines name the band of chunks and the table of relative positions, and the table's lookup. -/
module

public import proofs.«01_k».proof.Proof.ChunkModel
public import Idealize.ShloMosaic.Lib.WordCmp

@[expose] public section

noncomputable section

namespace Cert.Ca

open Idealize.ShloMosaic

theorem toInt_ofNat {n : ℕ} (h : n < 65536) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

theorem toInt_sub {x y : BitVec 32} {a b : ℤ} (hx : x.toInt = a) (hy : y.toInt = b) (ha : -65536 ≤ a ∧ a ≤ 65536) (hb : -65536 ≤ b ∧ b ≤ 65536) :
    (x - y).toInt = a - b := by
  rw [BitVec.toInt_sub, hx, hy]
  exact Int.bmod_eq_of_le (by omega) (by omega)

theorem toInt_add {x y : BitVec 32} {a b : ℤ} (hx : x.toInt = a) (hy : y.toInt = b) (ha : -65536 ≤ a ∧ a ≤ 65536) (hb : -65536 ≤ b ∧ b ≤ 65536) :
    (x + y).toInt = a + b := by
  rw [BitVec.toInt_add, hx, hy]
  exact Int.bmod_eq_of_le (by omega) (by omega)

/-- The quotient by 64, rounded down, of a word that is not negative. -/
theorem chunk_word {n : ℕ} (h : n < 65536) :
    IntOp.divsi .host (BitVec.ofNat 32 n) 64#32 = BitVec.ofNat 32 (n / 64) := by
  have hc : ¬ IntOp.SDivCorner (BitVec.ofNat 32 n) 64#32 := by
    rintro (h | ⟨_, h⟩) <;> exact absurd h (by decide)
  rw [IntOp.divsi, if_neg hc, BitVec.sdiv_eq]
  have hm : (BitVec.ofNat 32 n).msb = false := by
    rw [BitVec.msb_eq_decide, decide_eq_false_iff_not, BitVec.toNat_ofNat, Nat.mod_eq_of_lt (by omega)]; omega
  rw [hm, show (64#32).msb = false from by decide]
  apply BitVec.eq_of_toNat_eq
  simp only [BitVec.udiv_eq, BitVec.toNat_udiv, BitVec.toNat_ofNat]
  rw [Nat.mod_eq_of_lt (show n < 2 ^ 32 by omega), Nat.mod_eq_of_lt (show n / 64 < 2 ^ 32 by omega)]

/-- The sign word of a word that is positive. -/
theorem sign_word {s : Shape} (x : IVec s 32) (i : s.Idx) {n : ℕ} (h : n < 65536) (h0 : n ≠ 0) (hx : x i = BitVec.ofNat 32 n) :
    signi x i = 1#32 := by
  have e : (BitVec.ofNat 32 n).toNat = n := by rw [BitVec.toNat_ofNat, Nat.mod_eq_of_lt (by omega)]
  have hz : ¬ x i = 0 := by
    rw [hx]; intro hh; have := congrArg BitVec.toNat hh; rw [e] at this; exact h0 this
  have hm : ¬ (x i).msb = true := by
    rw [hx, BitVec.msb_eq_decide, decide_eq_true_iff, e]; omega
  unfold signi
  rw [if_neg hz, if_neg hm]
  rfl

/-- The quotient by 64 as the host rounds it down, from the quotient rounded to zero. -/
theorem floor64_apply {s : Shape} (x a b z y q : IVec s 32) (i : s.Idx) {n : ℕ} (h : n < 65536) (hx : x i = BitVec.ofNat 32 n)
    (ha : a i = 1#32) (hb : b i = 64#32) (hz : z i = 0#32) (hq : q i = BitVec.ofNat 32 (n / 64)) :
    select (andi (cmpi .ne (signi x) a) (cmpi .ne (Host.remsi x b) z)) y q i = BitVec.ofNat 32 (n / 64) := by
  have key : IntOp.andi (IntOp.cmpi .ne (signi x i) (a i)) (IntOp.cmpi .ne (IntOp.remsi .host (x i) (b i)) (z i)) = 0#1 := by
    rcases Nat.eq_zero_or_pos n with rfl | h0
    · rw [hx, hb, hz, show IntOp.remsi .host (BitVec.ofNat 32 0) 64#32 = 0#32 by decide,
        show IntOp.cmpi .ne 0#32 0#32 = 0#1 by decide]
      exact BitVec.and_zero
    · rw [sign_word x i h (by omega) hx, ha, show IntOp.cmpi .ne 1#32 1#32 = 0#1 by decide]
      exact BitVec.zero_and
  show Scalar.select (IntOp.andi (IntOp.cmpi .ne (signi x i) (a i)) (IntOp.cmpi .ne (IntOp.remsi .host (x i) (b i)) (z i))) (y i) (q i) = _
  rw [key, hq]
  rfl

/-- The same of single words. -/
theorem floor64_word {n : ℕ} (h : n < 65536) (y : BitVec 32) :
    Scalar.select (IntOp.andi
        (IntOp.cmpi .ne ((if BitVec.ofNat 32 n = 0 then 0 else if (BitVec.ofNat 32 n).msb = true then -1 else 1) : BitVec 32)
          ((if (64#32 : BitVec 32) = 0 then 0 else if (64#32 : BitVec 32).msb = true then -1 else 1) : BitVec 32))
        (IntOp.cmpi .ne (IntOp.remsi .host (BitVec.ofNat 32 n) 64#32) 0#32)) y (IntOp.divsi .host (BitVec.ofNat 32 n) 64#32)
      = BitVec.ofNat 32 (n / 64) :=
  floor64_apply (s := ⟨0, ![]⟩) (fun _ => BitVec.ofNat 32 n) (fun _ => 1#32) (fun _ => 64#32) (fun _ => 0#32) (fun _ => y)
    (fun _ => IntOp.divsi .host (BitVec.ofNat 32 n) 64#32) ix0 h rfl rfl rfl rfl (chunk_word h)

theorem select_bool {α : Type} (P : Prop) [Decidable P] (x y : α) :
    Scalar.select (BitVec.ofBool (decide P)) x y = if P then x else y := by
  by_cases h : P <;> simp [h, Scalar.select]

/-- The test that a difference of chunks lies from 0 to 8. -/
theorem band_word {x : BitVec 32} {a : ℤ} (hx : x.toInt = a) :
    IntOp.andi (IntOp.cmpi .sge x 0#32) (IntOp.cmpi .sle x 8#32) = BitVec.ofBool (decide (0 ≤ a ∧ a ≤ 8)) := by
  rw [WordCmp.cmpi_sge_eq, WordCmp.cmpi_sle_eq, hx, show (0#32).toInt = 0 by decide, show (8#32).toInt = 8 by decide]
  by_cases h1 : 0 ≤ a <;> by_cases h2 : a ≤ 8 <;> simp [h1, h2] <;> decide

/-- The relative position, clipped to 128 either way and counted from zero. -/
theorem rel_word {x : BitVec 32} {a : ℤ} (hx : x.toInt = a) (ha : -65536 ≤ a ∧ a ≤ 65536) :
    (IntOp.addi (IntOp.minsi 128#32 (IntOp.maxsi 4294967168#32 x)) 128#32).toInt = min 128 (max (-128) a) + 128 := by
  have h1 : (IntOp.maxsi 4294967168#32 x).toInt = max (-128) a := by
    unfold IntOp.maxsi
    rw [BitVec.slt, hx, show (4294967168#32).toInt = -128 by decide]
    split <;> rename_i h <;> simp at h
    · rw [show (4294967168#32).toInt = -128 by decide]; omega
    · rw [hx]; omega
  have h2 : (IntOp.minsi 128#32 (IntOp.maxsi 4294967168#32 x)).toInt = min 128 (max (-128) a) := by
    unfold IntOp.minsi
    rw [BitVec.slt, h1, show (128#32).toInt = 128 by decide]
    split <;> rename_i h <;> simp at h
    · rw [show (128#32).toInt = 128 by decide]; omega
    · rw [h1]; omega
  exact toInt_add h2 (by decide) (by omega) (by omega)

/-- An index that is not negative is left as it is. -/
theorem wrap_word {x y : BitVec 32} (hx : 0 ≤ x.toInt) : Scalar.select (IntOp.cmpi .slt x 0#32) y x = x := by
  rw [WordCmp.cmpi_slt_eq, show (0#32).toInt = 0 by decide, decide_eq_false (by omega)]
  rfl

/-! ## The lookup `table[:, index]` -/

section lookup
variable {α : Type}

/-- The index in the array of start words of the result's entry `(h, i, j)`. -/
abbrev colIdx {H A B : ℕ} (y : (⟨3, ![H, A, B]⟩ : Shape).Idx) : (⟨3, ![A, B, 1]⟩ : Shape).Idx :=
  fun a => match a with | ⟨0, _⟩ => ⟨(y 1).val, (y 1).isLt⟩ | ⟨1, _⟩ => ⟨(y 2).val, (y 2).isLt⟩ | ⟨2, _⟩ => ⟨0, Nat.one_pos⟩

/-- The lookup's dimension numbers. -/
abbrev colDims (H N A B : ℕ) (wf : GatherDims.WF ⟨2, ![H, N]⟩ ⟨3, ![A, B, 1]⟩ ⟨3, ![H, A, B]⟩ [0] [1] [] [1] [] 2 ![H, 1]) :
    GatherDims ⟨2, ![H, N]⟩ ⟨3, ![A, B, 1]⟩ ⟨3, ![H, A, B]⟩ where
  offsetDims := [0]
  collapsedSliceDims := [1]
  operandBatchingDims := []
  startIndicesBatchingDims := []
  startIndexMap := [1]
  indexVectorDim := 2
  sliceSizes := ![H, 1]
  wf := wf

/-- A lookup of columns read at `(h, i, j)`: row `h`, and the column that the start word at `(i, j)` names. -/
theorem lookup_apply {H N A B w : ℕ} (hN : 0 < N)
    (wf : GatherDims.WF ⟨2, ![H, N]⟩ ⟨3, ![A, B, 1]⟩ ⟨3, ![H, A, B]⟩ [0] [1] [] [1] [] 2 ![H, 1])
    (x : (⟨2, ![H, N]⟩ : Shape).Idx → α) (idx : IVec ⟨3, ![A, B, 1]⟩ w) (y : (⟨3, ![H, A, B]⟩ : Shape).Idx) :
    Host.gather (colDims H N A B wf) x idx y
      = x (ix2 (⟨(y 0).val, (y 0).isLt⟩ : Fin H) ⟨min (idx (colIdx y)).toInt.toNat (N - 1), by omega⟩) := by
  unfold Host.gather
  congr 1
  funext a
  refine Fin.ext ?_
  show (colDims H N A B wf).start y idx a + (colDims H N A B wf).batchCoord y a + (colDims H N A B wf).offCoord y a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · have h0 : (colDims H N A B wf).start y idx 0 = 0 := by
      unfold GatherDims.start
      exact dif_neg (by simp)
    rw [h0]
    unfold GatherDims.offCoord
    rw [dif_pos ((GatherDims.mem_sKept _ _).mpr ⟨by simp, by simp⟩)]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims H N A B wf).startIndexMap from List.mem_singleton.mpr rfl)]
    have hsi : (colDims H N A B wf).siIdx y ⟨List.idxOf (1 : Fin 2) (colDims H N A B wf).startIndexMap,
        List.idxOf_lt_length_iff.2 (List.mem_singleton.mpr rfl)⟩ = colIdx y := by
      funext b; refine Fin.ext ?_
      match b with
      | ⟨0, _⟩ => rfl
      | ⟨1, _⟩ => rfl
      | ⟨2, _⟩ => rfl
    rw [hsi]
    rfl

theorem colIdx_ix3 {H A B : ℕ} (h : Fin H) (i : Fin A) (j : Fin B) : colIdx (ix3 h i j) = ix3 i j (0 : Fin 1) := by
  funext a
  match a with
  | ⟨0, _⟩ => rfl
  | ⟨1, _⟩ => rfl
  | ⟨2, _⟩ => rfl

/-- The lookup where the start word is in range. -/
theorem lookup_at {H N A B w : ℕ} (wf : GatherDims.WF ⟨2, ![H, N]⟩ ⟨3, ![A, B, 1]⟩ ⟨3, ![H, A, B]⟩ [0] [1] [] [1] [] 2 ![H, 1])
    (x : (⟨2, ![H, N]⟩ : Shape).Idx → α) (idx : IVec ⟨3, ![A, B, 1]⟩ w) (h : Fin H) (i : Fin A) (j : Fin B) {n : ℕ} (hn : n < N)
    (e : (idx (ix3 i j (0 : Fin 1))).toInt = n) : Host.gather (colDims H N A B wf) x idx (ix3 h i j) = x (ix2 h ⟨n, hn⟩) := by
  rw [lookup_apply (by omega)]
  congr 1
  refine congrArg (ix2 h) (Fin.ext ?_)
  show min (idx (colIdx (ix3 h i j))).toInt.toNat (N - 1) = n
  rw [colIdx_ix3, e]
  omega

end lookup

end Cert.Ca

end
-- ==== Proof.ChunkLines.lean ====
/- What the host lines leave for the chunked attention's backward call: the padded keys and values, the three arrays of biases, and the
   forward pass's result. -/
module

public import proofs.«01_k».proof.Proof.ChunkPay
public import proofs.«01_k».proof.Proof.ChunkWords
public import proofs.«01_k».proof.Proof.Gen.Kernel2Ideal.Frame.Runs
public import Idealize.ShloMosaic.Lib.Tactic.CleanTypes

@[expose] public section

set_option maxRecDepth 16384

noncomputable section

namespace Cert.Ca.Host

open Idealize.ShloMosaic Idealize.ShloMosaic.TcCoe Idealize.ShloMosaic.StableHlo Cert.Xa Cert.Kernel2Ideal Cert.Kernel2Ideal.Gen

/-- The buffers after 1 stretches of host lines. -/
def W0 (V0 : Valuation τ sig (Elt Ideal)) : Valuation τ sig (Elt Ideal) := after hostOps0 V0
theorem keep0 (V0 : Valuation τ sig (Elt Ideal)) (r : Ref sig .tc) (h : r ∉ [main_v0, main_v1, main_v2, main_v3, main_v4, main_v5, main_v6, main_v7, main_v8, main_v9, main_c]) :
    W0 V0 (Proc.devRef .tc r) = V0 (Proc.devRef .tc r) :=
  after_of_writes_sub hostOps0 _ (by
    simp only [hostOps0, List.Forall, nullary_writes, unary_writes, binary_writes, ternary_writes, reshape_writes, nary_writes, TRef.unary, TRef.binary, TRef.ternary, TRef.nullary, Finset.singleton_subset_iff, List.mem_toFinset]
    repeat' apply And.intro
    all_goals exact List.mem_map_of_mem (by decide)) h

/-- The buffers after 2 stretches of host lines. -/
def W1 (V0 : Valuation τ sig (Elt Ideal)) : Valuation τ sig (Elt Ideal) := after hostOps0_1 (W0 V0)
theorem keep1 (V0 : Valuation τ sig (Elt Ideal)) (r : Ref sig .tc) (h : r ∉ [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v10]) :
    W1 V0 (Proc.devRef .tc r) = (W0 V0) (Proc.devRef .tc r) :=
  after_of_writes_sub hostOps0_1 _ (by
    simp only [hostOps0_1, List.Forall, nullary_writes, unary_writes, binary_writes, ternary_writes, reshape_writes, nary_writes, TRef.unary, TRef.binary, TRef.ternary, TRef.nullary, Finset.singleton_subset_iff, List.mem_toFinset]
    repeat' apply And.intro
    all_goals exact List.mem_map_of_mem (by decide)) h

/-- The buffers after 3 stretches of host lines. -/
def W2 (V0 : Valuation τ sig (Elt Ideal)) : Valuation τ sig (Elt Ideal) := after hostOps0_2 (W1 V0)
theorem keep2 (V0 : Valuation τ sig (Elt Ideal)) (r : Ref sig .tc) (h : r ∉ [main_c_0]) :
    W2 V0 (Proc.devRef .tc r) = (W1 V0) (Proc.devRef .tc r) :=
  after_of_writes_sub hostOps0_2 _ (by
    simp only [hostOps0_2, List.Forall, nullary_writes, unary_writes, binary_writes, ternary_writes, reshape_writes, nary_writes, TRef.unary, TRef.binary, TRef.ternary, TRef.nullary, Finset.singleton_subset_iff, List.mem_toFinset]
    repeat' apply And.intro
    all_goals exact List.mem_map_of_mem (by decide)) h

/-- The buffers after 4 stretches of host lines. -/
def W3 (V0 : Valuation τ sig (Elt Ideal)) : Valuation τ sig (Elt Ideal) := after hostOps0_3 (W2 V0)
theorem keep3 (V0 : Valuation τ sig (Elt Ideal)) (r : Ref sig .tc) (h : r ∉ [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v11]) :
    W3 V0 (Proc.devRef .tc r) = (W2 V0) (Proc.devRef .tc r) :=
  after_of_writes_sub hostOps0_3 _ (by
    simp only [hostOps0_3, List.Forall, nullary_writes, unary_writes, binary_writes, ternary_writes, reshape_writes, nary_writes, TRef.unary, TRef.binary, TRef.ternary, TRef.nullary, Finset.singleton_subset_iff, List.mem_toFinset]
    repeat' apply And.intro
    all_goals exact List.mem_map_of_mem (by decide)) h

/-- The buffers after 5 stretches of host lines. -/
def W4 (V0 : Valuation τ sig (Elt Ideal)) : Valuation τ sig (Elt Ideal) := after hostOps0_4 (W3 V0)
theorem keep4 (V0 : Valuation τ sig (Elt Ideal)) (r : Ref sig .tc) (h : r ∉ [main_v12, main_v13, main_v14, main_v15, main_v16, main_v17, main_c_1, main_c_2]) :
    W4 V0 (Proc.devRef .tc r) = (W3 V0) (Proc.devRef .tc r) :=
  after_of_writes_sub hostOps0_4 _ (by
    simp only [hostOps0_4, List.Forall, nullary_writes, unary_writes, binary_writes, ternary_writes, reshape_writes, nary_writes, TRef.unary, TRef.binary, TRef.ternary, TRef.nullary, Finset.singleton_subset_iff, List.mem_toFinset]
    repeat' apply And.intro
    all_goals exact List.mem_map_of_mem (by decide)) h

/-- The buffers after 6 stretches of host lines. -/
def W5 (V0 : Valuation τ sig (Elt Ideal)) : Valuation τ sig (Elt Ideal) := after hostOps0_5 (W4 V0)
theorem keep5 (V0 : Valuation τ sig (Elt Ideal)) (r : Ref sig .tc) (h : r ∉ [main_call2_v0, main_call2_v1, main_call2_v2, main_call2_v3, main_call2_v4, main_v18]) :
    W5 V0 (Proc.devRef .tc r) = (W4 V0) (Proc.devRef .tc r) :=
  after_of_writes_sub hostOps0_5 _ (by
    simp only [hostOps0_5, List.Forall, nullary_writes, unary_writes, binary_writes, ternary_writes, reshape_writes, nary_writes, TRef.unary, TRef.binary, TRef.ternary, TRef.nullary, Finset.singleton_subset_iff, List.mem_toFinset]
    repeat' apply And.intro
    all_goals exact List.mem_map_of_mem (by decide)) h

/-- The buffers after 7 stretches of host lines. -/
def W6 (V0 : Valuation τ sig (Elt Ideal)) : Valuation τ sig (Elt Ideal) := after hostOps0_6 (W5 V0)
theorem keep6 (V0 : Valuation τ sig (Elt Ideal)) (r : Ref sig .tc) (h : r ∉ [main_c_3, main_v19, main_v20, main_v21, main_cst, main_v22, main_v23, main_c_4, main_v24, main_v25, main_c_5, main_v26, main_v27, main_v28, main_v29, main_v30, main_v31, main_c_6, main_v32, main_v33, main_c_7, main_v34, main_v35, main_v36, main_cst_8]) :
    W6 V0 (Proc.devRef .tc r) = (W5 V0) (Proc.devRef .tc r) :=
  after_of_writes_sub hostOps0_6 _ (by
    simp only [hostOps0_6, List.Forall, nullary_writes, unary_writes, binary_writes, ternary_writes, reshape_writes, nary_writes, TRef.unary, TRef.binary, TRef.ternary, TRef.nullary, Finset.singleton_subset_iff, List.mem_toFinset]
    repeat' apply And.intro
    all_goals exact List.mem_map_of_mem (by decide)) h

/-- The buffers after 8 stretches of host lines. -/
def W7 (V0 : Valuation τ sig (Elt Ideal)) : Valuation τ sig (Elt Ideal) := after hostOps0_7 (W6 V0)
theorem keep7 (V0 : Valuation τ sig (Elt Ideal)) (r : Ref sig .tc) (h : r ∉ [main_call3_v0, main_call3_v1, main_call3_v2, main_v37]) :
    W7 V0 (Proc.devRef .tc r) = (W6 V0) (Proc.devRef .tc r) :=
  after_of_writes_sub hostOps0_7 _ (by
    simp only [hostOps0_7, List.Forall, nullary_writes, unary_writes, binary_writes, ternary_writes, reshape_writes, nary_writes, TRef.unary, TRef.binary, TRef.ternary, TRef.nullary, Finset.singleton_subset_iff, List.mem_toFinset]
    repeat' apply And.intro
    all_goals exact List.mem_map_of_mem (by decide)) h

/-- The buffers after 9 stretches of host lines. -/
def W8 (V0 : Valuation τ sig (Elt Ideal)) : Valuation τ sig (Elt Ideal) := after hostOps0_8 (W7 V0)
theorem keep8 (V0 : Valuation τ sig (Elt Ideal)) (r : Ref sig .tc) (h : r ∉ [main_cst_9, main_v38, main_cst_10, main_v39, main_v40, main_v41, main_v42, main_v43, main_v44, main_cst_11, main_v45, main_v46, main_v47, main_v48, main_v49, main_v50, main_v51, main_v52, main_v53, main_c_12]) :
    W8 V0 (Proc.devRef .tc r) = (W7 V0) (Proc.devRef .tc r) :=
  after_of_writes_sub hostOps0_8 _ (by
    simp only [hostOps0_8, List.Forall, nullary_writes, unary_writes, binary_writes, ternary_writes, reshape_writes, nary_writes, TRef.unary, TRef.binary, TRef.ternary, TRef.nullary, Finset.singleton_subset_iff, List.mem_toFinset]
    repeat' apply And.intro
    all_goals exact List.mem_map_of_mem (by decide)) h

/-- The buffers after 10 stretches of host lines. -/
def W9 (V0 : Valuation τ sig (Elt Ideal)) : Valuation τ sig (Elt Ideal) := after hostOps0_9 (W8 V0)
theorem keep9 (V0 : Valuation τ sig (Elt Ideal)) (r : Ref sig .tc) (h : r ∉ [main_call4_v0, main_v54]) :
    W9 V0 (Proc.devRef .tc r) = (W8 V0) (Proc.devRef .tc r) :=
  after_of_writes_sub hostOps0_9 _ (by
    simp only [hostOps0_9, List.Forall, nullary_writes, unary_writes, binary_writes, ternary_writes, reshape_writes, nary_writes, TRef.unary, TRef.binary, TRef.ternary, TRef.nullary, Finset.singleton_subset_iff, List.mem_toFinset]
    repeat' apply And.intro
    all_goals exact List.mem_map_of_mem (by decide)) h

/-- The buffers after 11 stretches of host lines. -/
def W10 (V0 : Valuation τ sig (Elt Ideal)) : Valuation τ sig (Elt Ideal) := after hostOps0_10 (W9 V0)
theorem keep10 (V0 : Valuation τ sig (Elt Ideal)) (r : Ref sig .tc) (h : r ∉ [main_v55, main_v56, main_v57, main_v58, main_c_13]) :
    W10 V0 (Proc.devRef .tc r) = (W9 V0) (Proc.devRef .tc r) :=
  after_of_writes_sub hostOps0_10 _ (by
    simp only [hostOps0_10, List.Forall, nullary_writes, unary_writes, binary_writes, ternary_writes, reshape_writes, nary_writes, TRef.unary, TRef.binary, TRef.ternary, TRef.nullary, Finset.singleton_subset_iff, List.mem_toFinset]
    repeat' apply And.intro
    all_goals exact List.mem_map_of_mem (by decide)) h

/-- The buffers after 12 stretches of host lines. -/
def W11 (V0 : Valuation τ sig (Elt Ideal)) : Valuation τ sig (Elt Ideal) := after hostOps0_11 (W10 V0)
theorem keep11 (V0 : Valuation τ sig (Elt Ideal)) (r : Ref sig .tc) (h : r ∉ [main_call5_v0, main_call5_v1, main_call5_v2, main_call5_v3, main_call5_v4, main_call5_v5, main_call5_v6, main_call5_v7, main_call5_v8, main_call5_c, main_call5_v9, main_call5_v10, main_call5_v11, main_call5_c_0, main_call5_v12, main_call5_v13, main_v59]) :
    W11 V0 (Proc.devRef .tc r) = (W10 V0) (Proc.devRef .tc r) :=
  after_of_writes_sub hostOps0_11 _ (by
    simp only [hostOps0_11, List.Forall, nullary_writes, unary_writes, binary_writes, ternary_writes, reshape_writes, nary_writes, TRef.unary, TRef.binary, TRef.ternary, TRef.nullary, Finset.singleton_subset_iff, List.mem_toFinset]
    repeat' apply And.intro
    all_goals exact List.mem_map_of_mem (by decide)) h

/-- The buffers after 13 stretches of host lines. -/
def W12 (V0 : Valuation τ sig (Elt Ideal)) : Valuation τ sig (Elt Ideal) := after hostOps0_12 (W11 V0)
theorem keep12 (V0 : Valuation τ sig (Elt Ideal)) (r : Ref sig .tc) (h : r ∉ [main_c_14, main_v60, main_v61, main_c_15]) :
    W12 V0 (Proc.devRef .tc r) = (W11 V0) (Proc.devRef .tc r) :=
  after_of_writes_sub hostOps0_12 _ (by
    simp only [hostOps0_12, List.Forall, nullary_writes, unary_writes, binary_writes, ternary_writes, reshape_writes, nary_writes, TRef.unary, TRef.binary, TRef.ternary, TRef.nullary, Finset.singleton_subset_iff, List.mem_toFinset]
    repeat' apply And.intro
    all_goals exact List.mem_map_of_mem (by decide)) h

/-- The buffers after 14 stretches of host lines. -/
def W13 (V0 : Valuation τ sig (Elt Ideal)) : Valuation τ sig (Elt Ideal) := after hostOps0_13 (W12 V0)
theorem keep13 (V0 : Valuation τ sig (Elt Ideal)) (r : Ref sig .tc) (h : r ∉ [main_call6_v0, main_call6_v1, main_call6_v2, main_call6_v3, main_call6_v4, main_call6_v5, main_call6_v6, main_call6_v7, main_call6_v8, main_call6_c, main_call6_v9, main_call6_v10, main_call6_v11, main_call6_c_0, main_call6_v12, main_call6_v13, main_v62]) :
    W13 V0 (Proc.devRef .tc r) = (W12 V0) (Proc.devRef .tc r) :=
  after_of_writes_sub hostOps0_13 _ (by
    simp only [hostOps0_13, List.Forall, nullary_writes, unary_writes, binary_writes, ternary_writes, reshape_writes, nary_writes, TRef.unary, TRef.binary, TRef.ternary, TRef.nullary, Finset.singleton_subset_iff, List.mem_toFinset]
    repeat' apply And.intro
    all_goals exact List.mem_map_of_mem (by decide)) h

/-- The buffers after 15 stretches of host lines. -/
def W14 (V0 : Valuation τ sig (Elt Ideal)) : Valuation τ sig (Elt Ideal) := after hostOps0_14 (W13 V0)
theorem keep14 (V0 : Valuation τ sig (Elt Ideal)) (r : Ref sig .tc) (h : r ∉ [main_v63, main_v64, main_v65, main_c_16, main_v66, main_v67, main_v68, main_v69, main_v70, main_c_17, main_c_18]) :
    W14 V0 (Proc.devRef .tc r) = (W13 V0) (Proc.devRef .tc r) :=
  after_of_writes_sub hostOps0_14 _ (by
    simp only [hostOps0_14, List.Forall, nullary_writes, unary_writes, binary_writes, ternary_writes, reshape_writes, nary_writes, TRef.unary, TRef.binary, TRef.ternary, TRef.nullary, Finset.singleton_subset_iff, List.mem_toFinset]
    repeat' apply And.intro
    all_goals exact List.mem_map_of_mem (by decide)) h

/-- The buffers after 16 stretches of host lines. -/
def W15 (V0 : Valuation τ sig (Elt Ideal)) : Valuation τ sig (Elt Ideal) := after hostOps0_15 (W14 V0)
theorem keep15 (V0 : Valuation τ sig (Elt Ideal)) (r : Ref sig .tc) (h : r ∉ [main_call7_v0, main_call7_v1, main_call7_v2, main_call7_v3, main_call7_v4, main_v71]) :
    W15 V0 (Proc.devRef .tc r) = (W14 V0) (Proc.devRef .tc r) :=
  after_of_writes_sub hostOps0_15 _ (by
    simp only [hostOps0_15, List.Forall, nullary_writes, unary_writes, binary_writes, ternary_writes, reshape_writes, nary_writes, TRef.unary, TRef.binary, TRef.ternary, TRef.nullary, Finset.singleton_subset_iff, List.mem_toFinset]
    repeat' apply And.intro
    all_goals exact List.mem_map_of_mem (by decide)) h

/-- The buffers after 17 stretches of host lines. -/
def W16 (V0 : Valuation τ sig (Elt Ideal)) : Valuation τ sig (Elt Ideal) := after hostOps0_16 (W15 V0)
theorem keep16 (V0 : Valuation τ sig (Elt Ideal)) (r : Ref sig .tc) (h : r ∉ [main_c_19, main_v72, main_v73, main_c_20, main_v74, main_v75, main_c_21, main_v76, main_v77, main_v78, main_c_22, main_v79, main_v80, main_v81, main_v82, main_c_23, main_v83, main_v84, main_c_24, main_v85, main_v86, main_v87, main_v88, main_v89, main_cst_25]) :
    W16 V0 (Proc.devRef .tc r) = (W15 V0) (Proc.devRef .tc r) :=
  after_of_writes_sub hostOps0_16 _ (by
    simp only [hostOps0_16, List.Forall, nullary_writes, unary_writes, binary_writes, ternary_writes, reshape_writes, nary_writes, TRef.unary, TRef.binary, TRef.ternary, TRef.nullary, Finset.singleton_subset_iff, List.mem_toFinset]
    repeat' apply And.intro
    all_goals exact List.mem_map_of_mem (by decide)) h

/-- The buffers after 18 stretches of host lines. -/
def W17 (V0 : Valuation τ sig (Elt Ideal)) : Valuation τ sig (Elt Ideal) := after hostOps0_17 (W16 V0)
theorem keep17 (V0 : Valuation τ sig (Elt Ideal)) (r : Ref sig .tc) (h : r ∉ [main_call8_v0, main_call8_v1, main_call8_v2, main_v90]) :
    W17 V0 (Proc.devRef .tc r) = (W16 V0) (Proc.devRef .tc r) :=
  after_of_writes_sub hostOps0_17 _ (by
    simp only [hostOps0_17, List.Forall, nullary_writes, unary_writes, binary_writes, ternary_writes, reshape_writes, nary_writes, TRef.unary, TRef.binary, TRef.ternary, TRef.nullary, Finset.singleton_subset_iff, List.mem_toFinset]
    repeat' apply And.intro
    all_goals exact List.mem_map_of_mem (by decide)) h

/-- The buffers after 19 stretches of host lines. -/
def W18 (V0 : Valuation τ sig (Elt Ideal)) : Valuation τ sig (Elt Ideal) := after hostOps0_18 (W17 V0)
theorem keep18 (V0 : Valuation τ sig (Elt Ideal)) (r : Ref sig .tc) (h : r ∉ [main_c_26, main_v91, main_v92, main_v93, main_v94, main_c_27, main_v95, main_v96, main_c_28, main_v97, main_v98, main_v99, main_v100, main_v101, main_cst_29]) :
    W18 V0 (Proc.devRef .tc r) = (W17 V0) (Proc.devRef .tc r) :=
  after_of_writes_sub hostOps0_18 _ (by
    simp only [hostOps0_18, List.Forall, nullary_writes, unary_writes, binary_writes, ternary_writes, reshape_writes, nary_writes, TRef.unary, TRef.binary, TRef.ternary, TRef.nullary, Finset.singleton_subset_iff, List.mem_toFinset]
    repeat' apply And.intro
    all_goals exact List.mem_map_of_mem (by decide)) h

/-- The buffers after 20 stretches of host lines. -/
def W19 (V0 : Valuation τ sig (Elt Ideal)) : Valuation τ sig (Elt Ideal) := after hostOps0_19 (W18 V0)
theorem keep19 (V0 : Valuation τ sig (Elt Ideal)) (r : Ref sig .tc) (h : r ∉ [main_call9_v0, main_call9_v1, main_call9_v2, main_v102]) :
    W19 V0 (Proc.devRef .tc r) = (W18 V0) (Proc.devRef .tc r) :=
  after_of_writes_sub hostOps0_19 _ (by
    simp only [hostOps0_19, List.Forall, nullary_writes, unary_writes, binary_writes, ternary_writes, reshape_writes, nary_writes, TRef.unary, TRef.binary, TRef.ternary, TRef.nullary, Finset.singleton_subset_iff, List.mem_toFinset]
    repeat' apply And.intro
    all_goals exact List.mem_map_of_mem (by decide)) h

/-- The buffers after 21 stretches of host lines. -/
def W20 (V0 : Valuation τ sig (Elt Ideal)) : Valuation τ sig (Elt Ideal) := after hostOps0_20 (W19 V0)
theorem keep20 (V0 : Valuation τ sig (Elt Ideal)) (r : Ref sig .tc) (h : r ∉ [main_c_30, main_v103, main_v104, main_v105, main_v106, main_c_31, main_v107, main_v108, main_c_32, main_v109, main_v110, main_v111, main_v112, main_v113, main_cst_33]) :
    W20 V0 (Proc.devRef .tc r) = (W19 V0) (Proc.devRef .tc r) :=
  after_of_writes_sub hostOps0_20 _ (by
    simp only [hostOps0_20, List.Forall, nullary_writes, unary_writes, binary_writes, ternary_writes, reshape_writes, nary_writes, TRef.unary, TRef.binary, TRef.ternary, TRef.nullary, Finset.singleton_subset_iff, List.mem_toFinset]
    repeat' apply And.intro
    all_goals exact List.mem_map_of_mem (by decide)) h

/-- The buffers after 22 stretches of host lines. -/
def W21 (V0 : Valuation τ sig (Elt Ideal)) : Valuation τ sig (Elt Ideal) := after hostOps0_21 (W20 V0)
theorem keep21 (V0 : Valuation τ sig (Elt Ideal)) (r : Ref sig .tc) (h : r ∉ [main_call10_v0, main_call10_v1, main_call10_v2, main_v114]) :
    W21 V0 (Proc.devRef .tc r) = (W20 V0) (Proc.devRef .tc r) :=
  after_of_writes_sub hostOps0_21 _ (by
    simp only [hostOps0_21, List.Forall, nullary_writes, unary_writes, binary_writes, ternary_writes, reshape_writes, nary_writes, TRef.unary, TRef.binary, TRef.ternary, TRef.nullary, Finset.singleton_subset_iff, List.mem_toFinset]
    repeat' apply And.intro
    all_goals exact List.mem_map_of_mem (by decide)) h

/-- The buffers after 23 stretches of host lines. -/
def W22 (V0 : Valuation τ sig (Elt Ideal)) : Valuation τ sig (Elt Ideal) := after hostOps0_22 (W21 V0)
theorem keep22 (V0 : Valuation τ sig (Elt Ideal)) (r : Ref sig .tc) (h : r ∉ [main_v115, main_v116, main_v117, main_v118]) :
    W22 V0 (Proc.devRef .tc r) = (W21 V0) (Proc.devRef .tc r) :=
  after_of_writes_sub hostOps0_22 _ (by
    simp only [hostOps0_22, List.Forall, nullary_writes, unary_writes, binary_writes, ternary_writes, reshape_writes, nary_writes, TRef.unary, TRef.binary, TRef.ternary, TRef.nullary, Finset.singleton_subset_iff, List.mem_toFinset]
    repeat' apply And.intro
    all_goals exact List.mem_map_of_mem (by decide)) h

end Cert.Ca.Host

end
-- ==== Proof.ChunkHost.lean ====
/- What the host lines leave for the chunked attention's backward call: the padded keys and values, the three arrays of biases, and the
   forward pass's result. -/
module

public import proofs.«01_k».proof.Proof.ChunkLines
public import Idealize.ShloMosaic.Lib.Tactic.CleanTypes

@[expose] public section

set_option maxRecDepth 16384

noncomputable section

namespace Cert.Ca.Host

open Idealize.ShloMosaic Idealize.ShloMosaic.TcCoe Idealize.ShloMosaic.StableHlo Cert.Xa Cert.Kernel2Ideal Cert.Kernel2Ideal.Gen

section lines
variable (V0 : Valuation τ sig (Elt Ideal)) (Q K V T : ℕ → ℕ → ℝ)
  (hq : V0 (Proc.devRef .tc main_arg0) = (R2 Q : FVec Ideal S8192x1024 .bf16))
  (hk : V0 (Proc.devRef .tc main_arg1) = (R2 K : FVec Ideal S8192x1024 .bf16))
  (hv : V0 (Proc.devRef .tc main_arg2) = (R2 V : FVec Ideal S8192x1024 .bf16))
  (ht : V0 (Proc.devRef .tc main_arg4) = (R2 T : FVec Ideal S16x257 .f32))

include hq in
theorem a1 : W0 V0 (Proc.devRef .tc main_v1) = (R3 fun i h d => Q i (64 * h + d) : FVec Ideal S8192x16x64 .f32) := by
  refine eq_R3 fun i j k => ?_
  unfold W0
  simp only [hostOps0, TRef.binary, TRef.nullary, TRef.ternary, TRef.unary, TRef.toBuf, TRef.ofBuf, cast_eq]
  after_results_simp
  clean_types
  pointwise [hq]
  simp only [R2_apply, Nat.mul_comm _ 64]

include hk in
theorem a3 : W0 V0 (Proc.devRef .tc main_v3) = (R3 fun i h d => K i (64 * h + d) : FVec Ideal S8192x16x64 .f32) := by
  refine eq_R3 fun i j k => ?_
  unfold W0
  simp only [hostOps0, TRef.binary, TRef.nullary, TRef.ternary, TRef.unary, TRef.toBuf, TRef.ofBuf, cast_eq]
  after_results_simp
  clean_types
  pointwise [hk]
  simp only [R2_apply, Nat.mul_comm _ 64]

include hv in
theorem a5 : W0 V0 (Proc.devRef .tc main_v5) = (R3 fun i h d => V i (64 * h + d) : FVec Ideal S8192x16x64 .f32) := by
  refine eq_R3 fun i j k => ?_
  unfold W0
  simp only [hostOps0, TRef.binary, TRef.nullary, TRef.ternary, TRef.unary, TRef.toBuf, TRef.ofBuf, cast_eq]
  after_results_simp
  clean_types
  pointwise [hv]
  simp only [R2_apply, Nat.mul_comm _ 64]

theorem a7 (i : Fin 8192) (j : Fin 1) : (W0 V0 (no_index (Proc.devRef .tc main_v7)) : IVec S8192x1 32) (ix2 i j) = BitVec.ofNat 32 i.val := by
  unfold W0
  simp only [hostOps0, TRef.binary, TRef.nullary, TRef.ternary, TRef.unary, TRef.toBuf, TRef.ofBuf, cast_eq]
  after_results_simp
  clean_types
  pointwise [id_eq]

theorem a9 (i : Fin 1) (j : Fin 8192) : (W0 V0 (no_index (Proc.devRef .tc main_v9)) : IVec S1x8192 32) (ix2 i j) = BitVec.ofNat 32 j.val := by
  unfold W0
  simp only [hostOps0, TRef.binary, TRef.nullary, TRef.ternary, TRef.unary, TRef.toBuf, TRef.ofBuf, cast_eq]
  after_results_simp
  clean_types
  pointwise [id_eq]

theorem ac  : (W0 V0 (no_index (Proc.devRef .tc main_c)) : IVec S_ 32) = constantI S_ 32 64#32 := by
  unfold W0
  simp only [hostOps0, TRef.binary, TRef.nullary, TRef.ternary, TRef.unary, TRef.toBuf, TRef.ofBuf, cast_eq]
  after_results_simp

theorem a10 (i : Fin 8192) (j : Fin 1) : (W1 V0 (no_index (Proc.devRef .tc main_v10)) : IVec S8192x1 32) (ix2 i j) = BitVec.ofNat 32 (i.val / 64) := by
  unfold W1
  simp only [hostOps0_1, TRef.binary, TRef.nullary, TRef.ternary, TRef.unary, TRef.toBuf, TRef.ofBuf, cast_eq]
  after_results_simp
  clean_types
  pointwise [id_eq, a7, ac]
  exact floor64_word (by omega) _

theorem ac0  : (W2 V0 (no_index (Proc.devRef .tc main_c_0)) : IVec S_ 32) = constantI S_ 32 64#32 := by
  unfold W2
  simp only [hostOps0_2, TRef.binary, TRef.nullary, TRef.ternary, TRef.unary, TRef.toBuf, TRef.ofBuf, cast_eq]
  after_results_simp

theorem k9_2 : W2 V0 (no_index (Proc.devRef .tc main_v9)) = W0 V0 (no_index (Proc.devRef .tc main_v9)) :=
  ((keep2 V0 main_v9 (by decide)).trans (keep1 V0 main_v9 (by decide)))

theorem a11 (i : Fin 1) (j : Fin 8192) : (W3 V0 (no_index (Proc.devRef .tc main_v11)) : IVec S1x8192 32) (ix2 i j) = BitVec.ofNat 32 (j.val / 64) := by
  unfold W3
  simp only [hostOps0_3, TRef.binary, TRef.nullary, TRef.ternary, TRef.unary, TRef.toBuf, TRef.ofBuf, cast_eq]
  after_results_simp
  clean_types
  pointwise [id_eq, k9_2, a9, ac0]
  exact floor64_word (by omega) _

theorem k7_3 : W3 V0 (no_index (Proc.devRef .tc main_v7)) = W0 V0 (no_index (Proc.devRef .tc main_v7)) :=
  (((keep3 V0 main_v7 (by decide)).trans (keep2 V0 main_v7 (by decide))).trans (keep1 V0 main_v7 (by decide)))

theorem k9_3 : W3 V0 (no_index (Proc.devRef .tc main_v9)) = W0 V0 (no_index (Proc.devRef .tc main_v9)) :=
  (((keep3 V0 main_v9 (by decide)).trans (keep2 V0 main_v9 (by decide))).trans (keep1 V0 main_v9 (by decide)))

theorem k10_3 : W3 V0 (no_index (Proc.devRef .tc main_v10)) = W1 V0 (no_index (Proc.devRef .tc main_v10)) :=
  ((keep3 V0 main_v10 (by decide)).trans (keep2 V0 main_v10 (by decide)))

theorem a14 (i j : Fin 8192) : ((W4 V0 (no_index (Proc.devRef .tc main_v14)) : IVec S8192x8192 32) (ix2 i j)).toInt = ((i.val / 64 : ℕ) : ℤ) - ((j.val / 64 : ℕ) : ℤ) := by
  unfold W4
  simp only [hostOps0_4, TRef.binary, TRef.nullary, TRef.ternary, TRef.unary, TRef.toBuf, TRef.ofBuf, cast_eq]
  after_results_simp
  clean_types
  pointwise [id_eq, k10_3, a10, a11]
  exact toInt_sub (toInt_ofNat (by omega)) (toInt_ofNat (by omega)) (by omega) (by omega)

theorem a17 (i j : Fin 8192) : ((W4 V0 (no_index (Proc.devRef .tc main_v17)) : IVec S8192x8192 32) (ix2 i j)).toInt = (i.val : ℤ) - (j.val : ℤ) := by
  unfold W4
  simp only [hostOps0_4, TRef.binary, TRef.nullary, TRef.ternary, TRef.unary, TRef.toBuf, TRef.ofBuf, cast_eq]
  after_results_simp
  clean_types
  pointwise [id_eq, k7_3, k9_3, a7, a9]
  exact toInt_sub (toInt_ofNat (by omega)) (toInt_ofNat (by omega)) (by omega) (by omega)

theorem ac1  : (W4 V0 (no_index (Proc.devRef .tc main_c_1)) : IVec S_ 32) = constantI S_ 32 4294967168#32 := by
  unfold W4
  simp only [hostOps0_4, TRef.binary, TRef.nullary, TRef.ternary, TRef.unary, TRef.toBuf, TRef.ofBuf, cast_eq]
  after_results_simp

theorem ac2  : (W4 V0 (no_index (Proc.devRef .tc main_c_2)) : IVec S_ 32) = constantI S_ 32 128#32 := by
  unfold W4
  simp only [hostOps0_4, TRef.binary, TRef.nullary, TRef.ternary, TRef.unary, TRef.toBuf, TRef.ofBuf, cast_eq]
  after_results_simp

theorem a18 (i j : Fin 8192) : (W5 V0 (no_index (Proc.devRef .tc main_v18)) : IVec S8192x8192 32) (ix2 i j) = IntOp.minsi 128#32 (IntOp.maxsi 4294967168#32 ((W4 V0 (no_index (Proc.devRef .tc main_v17)) : IVec S8192x8192 32) (ix2 i j))) := by
  unfold W5
  simp only [hostOps0_5, TRef.binary, TRef.nullary, TRef.ternary, TRef.unary, TRef.toBuf, TRef.ofBuf, cast_eq]
  after_results_simp
  clean_types
  pointwise [id_eq, ac1, ac2]

theorem k1_5 : W5 V0 (no_index (Proc.devRef .tc main_v1)) = W0 V0 (no_index (Proc.devRef .tc main_v1)) :=
  (((((keep5 V0 main_v1 (by decide)).trans (keep4 V0 main_v1 (by decide))).trans (keep3 V0 main_v1 (by decide))).trans (keep2 V0 main_v1 (by decide))).trans (keep1 V0 main_v1 (by decide)))

theorem k3_5 : W5 V0 (no_index (Proc.devRef .tc main_v3)) = W0 V0 (no_index (Proc.devRef .tc main_v3)) :=
  (((((keep5 V0 main_v3 (by decide)).trans (keep4 V0 main_v3 (by decide))).trans (keep3 V0 main_v3 (by decide))).trans (keep2 V0 main_v3 (by decide))).trans (keep1 V0 main_v3 (by decide)))

theorem k14_5 : W5 V0 (no_index (Proc.devRef .tc main_v14)) = W4 V0 (no_index (Proc.devRef .tc main_v14)) :=
  (keep5 V0 main_v14 (by decide))

theorem kt_5 : W5 V0 (no_index (Proc.devRef .tc main_arg4)) = V0 (no_index (Proc.devRef .tc main_arg4)) :=
  ((((((keep5 V0 main_arg4 (by decide)).trans (keep4 V0 main_arg4 (by decide))).trans (keep3 V0 main_arg4 (by decide))).trans (keep2 V0 main_arg4 (by decide))).trans (keep1 V0 main_arg4 (by decide))).trans (keep0 V0 main_arg4 (by decide)))

theorem rel1 (i j : Fin 8192) : (IntOp.addi ((W5 V0 (Proc.devRef .tc main_v18) : IVec S8192x8192 32) (ix2 i j)) 128#32).toInt = rel i.val (512 + j.val) := by
  rw [a18]
  refine (rel_word (a17 V0 i j) (by omega)).trans ?_
  unfold rel
  omega

theorem look1 (x : FVec Ideal S16x257 .f32) (idx : IVec S8192x8192x1 32) (h : Fin 16) (i j : Fin 8192) {n : ℕ} (hn : n < 257)
    (e : (idx (ix3 i j (0 : Fin 1))).toInt = n) :
    Host.gather gather_S16x257_S8192x8192x1_S16x8192x8192_0_1_n_n_1_2_161 x idx (ix3 h i j) = x (ix2 h ⟨n, hn⟩) :=
  lookup_at gather_S16x257_S8192x8192x1_S16x8192x8192_0_1_n_n_1_2_161.wf x idx h i j hn e

include hq hk ht in
theorem a31 (h : Fin 16) (i j : Fin 8192) : (W6 V0 (no_index (Proc.devRef .tc main_v31)) : FVec Ideal S16x8192x8192 .f32) (ix3 h i j) = ((sc Q K T h.val i.val (512 + j.val) : ℝ) : EReal) := by
  unfold W6
  simp only [hostOps0_6, TRef.binary, TRef.nullary, TRef.ternary, TRef.unary, TRef.toBuf, TRef.ofBuf, cast_eq]
  after_results_simp
  clean_types
  pointwise [id_eq, k1_5, k3_5, a1 V0 Q hq, a3 V0 K hk]
  rw [look1 _ _ h i j (n := rel i.val (512 + j.val)) (by unfold rel; omega) (by
      pointwise []
      rw [wrap_word (by rw [rel1]; exact Int.natCast_nonneg _)]
      exact rel1 V0 i j), kt_5, ht]
  simp only [R1_apply, R2_apply, R3_apply, R4_apply, ← EReal.coe_mul, ← EReal.coe_add, ← EReal.coe_sub, ← EReal.coe_neg, ← EReal.coe_one, ← EReal.coe_zero, coe_sum, Ideal.exp_coe, word_eighth, word_bot]
  unfold sc
  simp only [pad_at, Finset.sum_mul]
  congr 2
  exact Finset.sum_congr rfl fun k _ => by ring

theorem a36 (i j : Fin 8192) : (W6 V0 (no_index (Proc.devRef .tc main_v36)) : IVec S8192x8192 1) (ix2 i j) = BitVec.ofBool (decide (bnd i.val (512 + j.val))) := by
  unfold W6
  simp only [hostOps0_6, TRef.binary, TRef.nullary, TRef.ternary, TRef.unary, TRef.toBuf, TRef.ofBuf, cast_eq]
  after_results_simp
  clean_types
  pointwise [id_eq, k14_5]
  refine (band_word (a14 V0 i j)).trans (congrArg BitVec.ofBool (decide_eq_decide.2 ?_))
  unfold bnd
  omega

theorem acst8  : (W6 V0 (no_index (Proc.devRef .tc main_cst_8)) : FVec Ideal S_ .f32) = constant (F := Ideal) S_ .f32 0xFF800000#32 := by
  unfold W6
  simp only [hostOps0_6, TRef.binary, TRef.nullary, TRef.ternary, TRef.unary, TRef.toBuf, TRef.ofBuf, cast_eq]
  after_results_simp

include hq hk ht in
theorem a37 (h : Fin 16) (i j : Fin 8192) : (W7 V0 (no_index (Proc.devRef .tc main_v37)) : FVec Ideal S16x8192x8192 .f32) (ix3 h i j) = bot (bnd i.val (512 + j.val)) (sc Q K T h.val i.val (512 + j.val)) := by
  unfold W7
  simp only [hostOps0_7, TRef.binary, TRef.nullary, TRef.ternary, TRef.unary, TRef.toBuf, TRef.ofBuf, cast_eq]
  after_results_simp
  clean_types
  pointwise [id_eq, a36, a31 V0 Q K T hq hk ht, acst8]
  rw [word_bot]
  rfl

theorem exp_shift (P : Prop) [Decidable P] (x y : ℝ) :
    Ideal.exp (bot P x - max (Ideal.ofBits .f32 0xFF800000#32) ((y : ℝ) : EReal)) = (((if P then Real.exp x else 0) * Real.exp (-y) : ℝ) : EReal) := by
  rw [word_bot, max_eq_right bot_le, exp_bot]

/-- The rows' greatest scores as the host lines take them. -/
def hm (x : FVec Ideal S16x8192x8192 .f32) : FVec Ideal S16x8192 .f32 :=
  Host.reduce FloatOps.maximumf x (constant S_ .f32 0xFF800000#32) reducesTo_S16x8192x8192_S16x8192_d2 h_S_
/-- The shifted exponentials. -/
def he (x : FVec Ideal S16x8192x8192 .f32) : FVec Ideal S16x8192x8192 .f32 :=
  Host.exp (subf x (broadcastInDim S16x8192x8192 ![0, 1, 2] bcast_S16x8192x1_S16x8192x8192_0_1_2
    (broadcastInDim S16x8192x1 ![0, 1] bcast_S16x8192_S16x8192x1_0_1
      (maximumf (broadcastInDim S16x8192 ![] bcast_S_S16x8192 (constant S_ .f32 0xFF800000#32)) (hm x)))))
/-- The weights. -/
def hw (e : FVec Ideal S16x8192x8192 .f32) : FVec Ideal S16x8192x8192 .f32 :=
  Host.divf e (broadcastInDim S16x8192x8192 ![0, 1, 2] bcast_S16x8192x1_S16x8192x8192_0_1_2
    (broadcastInDim S16x8192x1 ![0, 1] bcast_S16x8192_S16x8192x1_0_1
      (Host.reduceAdd e (constant S_ .f32 0x00000000#32) reducesTo_S16x8192x8192_S16x8192_d2 h_S_)))
/-- The result. -/
def ho (w : FVec Ideal S16x8192x8192 .f32) (y : FVec Ideal S8192x16x64 .f32) : FVec Ideal S8192x1024 .bf16 :=
  truncf .bf16 (shapeCast S8192x1024 (transpose S8192x16x64 [2, 0, 1]
    (Host.dotGeneral dot_S8192x16x64_S16x8192x8192_S16x64x8192_0_2_2_1_1_0 none y w)
    transposes_S16x64x8192_S8192x16x64_2_0_1) shapeCasts_S8192x16x64_S8192x1024) bitsLt_bf16_f32

theorem exp_row (x : FVec Ideal S16x8192x8192 .f32) (y : FVec Ideal S16x8192 .f32) (h : Fin 16) (i j : Fin 8192) :
    Host.exp (subf x (broadcastInDim S16x8192x8192 ![0, 1, 2] bcast_S16x8192x1_S16x8192x8192_0_1_2
      (broadcastInDim S16x8192x1 ![0, 1] bcast_S16x8192_S16x8192x1_0_1
        (maximumf (broadcastInDim S16x8192 ![] bcast_S_S16x8192 (constant S_ .f32 0xFF800000#32)) y)))) (ix3 h i j)
      = Ideal.exp (x (ix3 h i j) - max (Ideal.ofBits .f32 0xFF800000#32) (y (ix2 h i))) := by
  pointwise []

theorem hm_eq {x : FVec Ideal S16x8192x8192 .f32} (hx : ∀ (h : Fin 16) (i j : Fin 8192), x (ix3 h i j) = bot (bnd i.val (512 + j.val)) (sc Q K T h.val i.val (512 + j.val)))
    (h : Fin 16) (i : Fin 8192) : hm x (ix2 h i) = ((rm Q K T h.val i.val : ℝ) : EReal) := by
  unfold hm
  pointwise [hx]
  rw [word_bot]
  exact fold_bot (n := 8192) (fun j => bnd i.val (512 + j)) (fun j => sc Q K T h.val i.val (512 + j)) ⟨i.val, i.isLt, bnd_self _⟩

theorem he_eq {x : FVec Ideal S16x8192x8192 .f32} (hx : ∀ (h : Fin 16) (i j : Fin 8192), x (ix3 h i j) = bot (bnd i.val (512 + j.val)) (sc Q K T h.val i.val (512 + j.val))) :
    he x = R3 fun h i k => re Q K T h i k := by
  refine eq_R3 fun h i j => ?_
  refine (exp_row x (hm x) h i j).trans ?_
  rw [hx, hm_eq Q K T hx]
  unfold re pe
  exact exp_shift _ _ _

theorem hw_eq : hw (R3 fun h i k => re Q K T h i k) = R3 fun h i k => wt Q K T h i (512 + k) := by
  refine eq_R3 fun h i j => ?_
  unfold hw
  pointwise []
  simp only [R1_apply, R2_apply, R3_apply, R4_apply, ← EReal.coe_mul, ← EReal.coe_add, ← EReal.coe_sub, ← EReal.coe_neg, ← EReal.coe_one, ← EReal.coe_zero, coe_sum, Ideal.exp_coe, word_eighth, word_bot, zero_add]
  exact (div_rl Q K T _ i.isLt).trans (congrArg _ (re_div Q K T _ i.isLt))

theorem ho_eq : ho (R3 fun h i k => wt Q K T h i (512 + k)) (R3 fun i h d => V i (64 * h + d)) = R2 (oo Q K V T) := by
  refine eq_R2 fun i j => ?_
  unfold ho
  pointwise []
  simp only [R1_apply, R2_apply, R3_apply, R4_apply, ← EReal.coe_mul, ← EReal.coe_add, ← EReal.coe_sub, ← EReal.coe_neg, ← EReal.coe_one, ← EReal.coe_zero, coe_sum, Ideal.exp_coe, word_eighth, word_bot]
  unfold oo
  refine congrArg _ (Finset.sum_congr rfl fun k _ => ?_)
  rw [mul_comm, show 64 * (j.val / 64) + j.val % 64 = j.val by omega]

theorem k5_7 : W7 V0 (no_index (Proc.devRef .tc main_v5)) = W0 V0 (no_index (Proc.devRef .tc main_v5)) :=
  (((((((keep7 V0 main_v5 (by decide)).trans (keep6 V0 main_v5 (by decide))).trans (keep5 V0 main_v5 (by decide))).trans (keep4 V0 main_v5 (by decide))).trans (keep3 V0 main_v5 (by decide))).trans (keep2 V0 main_v5 (by decide))).trans (keep1 V0 main_v5 (by decide)))

theorem kk_7 : W7 V0 (no_index (Proc.devRef .tc main_arg1)) = V0 (no_index (Proc.devRef .tc main_arg1)) :=
  ((((((((keep7 V0 main_arg1 (by decide)).trans (keep6 V0 main_arg1 (by decide))).trans (keep5 V0 main_arg1 (by decide))).trans (keep4 V0 main_arg1 (by decide))).trans (keep3 V0 main_arg1 (by decide))).trans (keep2 V0 main_arg1 (by decide))).trans (keep1 V0 main_arg1 (by decide))).trans (keep0 V0 main_arg1 (by decide)))

theorem kv_7 : W7 V0 (no_index (Proc.devRef .tc main_arg2)) = V0 (no_index (Proc.devRef .tc main_arg2)) :=
  ((((((((keep7 V0 main_arg2 (by decide)).trans (keep6 V0 main_arg2 (by decide))).trans (keep5 V0 main_arg2 (by decide))).trans (keep4 V0 main_arg2 (by decide))).trans (keep3 V0 main_arg2 (by decide))).trans (keep2 V0 main_arg2 (by decide))).trans (keep1 V0 main_arg2 (by decide))).trans (keep0 V0 main_arg2 (by decide)))

theorem t52  : W8 V0 (no_index (Proc.devRef .tc main_v52)) = ho (hw (he (W7 V0 (no_index (Proc.devRef .tc main_v37))))) (W7 V0 (no_index (Proc.devRef .tc main_v5))) := by
  unfold W8
  simp only [hostOps0_8, TRef.binary, TRef.nullary, TRef.ternary, TRef.unary, TRef.toBuf, TRef.ofBuf, cast_eq]
  after_results_simp
  rfl

include hq hk hv ht in
theorem a52 : W8 V0 (no_index (Proc.devRef .tc main_v52)) = (R2 (oo Q K V T) : FVec Ideal S8192x1024 .bf16) := by
  refine (t52 V0).trans ?_
  rw [he_eq Q K T (a37 V0 Q K T hq hk ht), hw_eq, k5_7, a5 V0 V hv, ho_eq]

/-- The keys beside the values. -/
def hcat (x y : FVec Ideal S8192x1024 .bf16) : FVec Ideal S8192x2048 .bf16 :=
  concatenate S8192x2048 1 [⟨S8192x1024, x⟩, ⟨S8192x1024, y⟩] concatenates_S8192x1024_S8192x1024_S8192x2048_d1

theorem hcat_eq : hcat (R2 K) (R2 V) = R2 fun r c => if c < 1024 then K r c else V r (c - 1024) := by
  refine eq_R2 fun i j => ?_
  unfold hcat
  pointwise []
  simp only [R1_apply, R2_apply, R3_apply, R4_apply, ← EReal.coe_mul, ← EReal.coe_add, ← EReal.coe_sub, ← EReal.coe_neg, ← EReal.coe_one, ← EReal.coe_zero, coe_sum, Ideal.exp_coe, word_eighth, word_bot]
  split <;> rfl

theorem t53  : W8 V0 (no_index (Proc.devRef .tc main_v53)) = hcat (W7 V0 (no_index (Proc.devRef .tc main_arg1))) (W7 V0 (no_index (Proc.devRef .tc main_arg2))) := by
  unfold W8
  simp only [hostOps0_8, TRef.binary, TRef.nullary, TRef.ternary, TRef.unary, TRef.toBuf, TRef.ofBuf, cast_eq]
  after_results_simp
  show hcat _ _ = hcat _ _
  congr 1 <;> after_results_simp

include hk hv in
theorem a53 : W8 V0 (no_index (Proc.devRef .tc main_v53)) = (R2 fun r c => if c < 1024 then K r c else V r (c - 1024) : FVec Ideal S8192x2048 .bf16) := by
  refine (t53 V0).trans ?_
  rw [kk_7, kv_7, hk, hv, hcat_eq]

theorem sit_zero {φ : FTy} : (FloatOps.sitofp φ 0#32 : Ideal φ) = 0 := by
  show ((((0#32 : BitVec 32).toInt : ℤ) : ℝ) : EReal) = 0
  simp

theorem ac12  : (W8 V0 (no_index (Proc.devRef .tc main_c_12)) : IVec S_ 32) = constantI S_ 32 0#32 := by
  unfold W8
  simp only [hostOps0_8, TRef.binary, TRef.nullary, TRef.ternary, TRef.unary, TRef.toBuf, TRef.ofBuf, cast_eq]
  after_results_simp

include hk hv in
theorem a54  : W9 V0 (no_index (Proc.devRef .tc main_v54)) = (R2 fun r c => if c < 1024 then pad K r c else pad V r (c - 1024) : FVec Ideal S8704x2048 .bf16) := by
  unfold W9
  simp only [hostOps0_9, TRef.binary, TRef.nullary, TRef.ternary, TRef.unary, TRef.toBuf, TRef.ofBuf, cast_eq]
  after_results_simp
  rw [a53 V0 K V hk hv, ac12]
  refine eq_R2 fun i j => ?_
  clean_types
  pointwise []
  simp only [R1_apply, R2_apply, R3_apply, R4_apply, ← EReal.coe_mul, ← EReal.coe_add, ← EReal.coe_sub, ← EReal.coe_neg, ← EReal.coe_one, ← EReal.coe_zero, coe_sum, Ideal.exp_coe, word_eighth, word_bot]
  unfold pad
  have := i.isLt
  by_cases h : i.val < 512
  · rw [dif_neg (by omega)]
    simp only [if_pos h, ite_self]
    exact sit_zero
  · rw [dif_pos ⟨by omega, by omega⟩]
    simp only [if_neg h]

theorem b56 (i : Fin 256) (j : Fin 1) : (W10 V0 (no_index (Proc.devRef .tc main_v56)) : IVec S256x1 32) (ix2 i j) = BitVec.ofNat 32 i.val := by
  unfold W10
  simp only [hostOps0_10, TRef.binary, TRef.nullary, TRef.ternary, TRef.unary, TRef.toBuf, TRef.ofBuf, cast_eq]
  after_results_simp
  clean_types
  pointwise [id_eq]

theorem b58 (i : Fin 1) (j : Fin 768) : (W10 V0 (no_index (Proc.devRef .tc main_v58)) : IVec S1x768 32) (ix2 i j) = BitVec.ofNat 32 j.val := by
  unfold W10
  simp only [hostOps0_10, TRef.binary, TRef.nullary, TRef.ternary, TRef.unary, TRef.toBuf, TRef.ofBuf, cast_eq]
  after_results_simp
  clean_types
  pointwise [id_eq]

theorem bc13  : (W10 V0 (no_index (Proc.devRef .tc main_c_13)) : IVec S_ 32) = constantI S_ 32 64#32 := by
  unfold W10
  simp only [hostOps0_10, TRef.binary, TRef.nullary, TRef.ternary, TRef.unary, TRef.toBuf, TRef.ofBuf, cast_eq]
  after_results_simp

theorem b59 (i : Fin 256) (j : Fin 1) : (W11 V0 (no_index (Proc.devRef .tc main_v59)) : IVec S256x1 32) (ix2 i j) = BitVec.ofNat 32 (i.val / 64) := by
  unfold W11
  simp only [hostOps0_11, TRef.binary, TRef.nullary, TRef.ternary, TRef.unary, TRef.toBuf, TRef.ofBuf, cast_eq]
  after_results_simp
  clean_types
  pointwise [id_eq, b56, bc13]
  exact floor64_word (by omega) _

theorem b61 (i : Fin 256) (j : Fin 1) : ((W12 V0 (no_index (Proc.devRef .tc main_v61)) : IVec S256x1 32) (ix2 i j)).toInt = ((i.val / 64 : ℕ) : ℤ) + 8 := by
  unfold W12
  simp only [hostOps0_12, TRef.binary, TRef.nullary, TRef.ternary, TRef.unary, TRef.toBuf, TRef.ofBuf, cast_eq]
  after_results_simp
  clean_types
  pointwise [id_eq, b59]
  exact toInt_add (toInt_ofNat (by omega)) (by decide) (by omega) (by omega)

theorem bc15  : (W12 V0 (no_index (Proc.devRef .tc main_c_15)) : IVec S_ 32) = constantI S_ 32 64#32 := by
  unfold W12
  simp only [hostOps0_12, TRef.binary, TRef.nullary, TRef.ternary, TRef.unary, TRef.toBuf, TRef.ofBuf, cast_eq]
  after_results_simp

theorem k58_12 : W12 V0 (no_index (Proc.devRef .tc main_v58)) = W10 V0 (no_index (Proc.devRef .tc main_v58)) :=
  ((keep12 V0 main_v58 (by decide)).trans (keep11 V0 main_v58 (by decide)))

theorem b62 (i : Fin 1) (j : Fin 768) : (W13 V0 (no_index (Proc.devRef .tc main_v62)) : IVec S1x768 32) (ix2 i j) = BitVec.ofNat 32 (j.val / 64) := by
  unfold W13
  simp only [hostOps0_13, TRef.binary, TRef.nullary, TRef.ternary, TRef.unary, TRef.toBuf, TRef.ofBuf, cast_eq]
  after_results_simp
  clean_types
  pointwise [id_eq, k58_12, b58, bc15]
  exact floor64_word (by omega) _

theorem k56_13 : W13 V0 (no_index (Proc.devRef .tc main_v56)) = W10 V0 (no_index (Proc.devRef .tc main_v56)) :=
  (((keep13 V0 main_v56 (by decide)).trans (keep12 V0 main_v56 (by decide))).trans (keep11 V0 main_v56 (by decide)))

theorem k58_13 : W13 V0 (no_index (Proc.devRef .tc main_v58)) = W10 V0 (no_index (Proc.devRef .tc main_v58)) :=
  (((keep13 V0 main_v58 (by decide)).trans (keep12 V0 main_v58 (by decide))).trans (keep11 V0 main_v58 (by decide)))

theorem k61_13 : W13 V0 (no_index (Proc.devRef .tc main_v61)) = W12 V0 (no_index (Proc.devRef .tc main_v61)) :=
  (keep13 V0 main_v61 (by decide))

theorem b65 (i : Fin 256) (j : Fin 768) : ((W14 V0 (no_index (Proc.devRef .tc main_v65)) : IVec S256x768 32) (ix2 i j)).toInt = ((i.val / 64 : ℕ) : ℤ) + 8 - ((j.val / 64 : ℕ) : ℤ) := by
  unfold W14
  simp only [hostOps0_14, TRef.binary, TRef.nullary, TRef.ternary, TRef.unary, TRef.toBuf, TRef.ofBuf, cast_eq]
  after_results_simp
  clean_types
  pointwise [id_eq, k61_13, b62]
  exact toInt_sub (b61 V0 i 0) (toInt_ofNat (by omega)) (by omega) (by omega)

theorem b70 (i : Fin 256) (j : Fin 768) : ((W14 V0 (no_index (Proc.devRef .tc main_v70)) : IVec S256x768 32) (ix2 i j)).toInt = (i.val : ℤ) + 512 - (j.val : ℤ) := by
  unfold W14
  simp only [hostOps0_14, TRef.binary, TRef.nullary, TRef.ternary, TRef.unary, TRef.toBuf, TRef.ofBuf, cast_eq]
  after_results_simp
  clean_types
  pointwise [id_eq, k56_13, k58_13, b56, b58]
  exact toInt_sub (toInt_add (toInt_ofNat (by omega)) (by decide) (by omega) (by omega)) (toInt_ofNat (by omega)) (by omega) (by omega)

theorem bc17  : (W14 V0 (no_index (Proc.devRef .tc main_c_17)) : IVec S_ 32) = constantI S_ 32 4294967168#32 := by
  unfold W14
  simp only [hostOps0_14, TRef.binary, TRef.nullary, TRef.ternary, TRef.unary, TRef.toBuf, TRef.ofBuf, cast_eq]
  after_results_simp

theorem bc18  : (W14 V0 (no_index (Proc.devRef .tc main_c_18)) : IVec S_ 32) = constantI S_ 32 128#32 := by
  unfold W14
  simp only [hostOps0_14, TRef.binary, TRef.nullary, TRef.ternary, TRef.unary, TRef.toBuf, TRef.ofBuf, cast_eq]
  after_results_simp

theorem b71 (i : Fin 256) (j : Fin 768) : (W15 V0 (no_index (Proc.devRef .tc main_v71)) : IVec S256x768 32) (ix2 i j) = IntOp.minsi 128#32 (IntOp.maxsi 4294967168#32 ((W14 V0 (no_index (Proc.devRef .tc main_v70)) : IVec S256x768 32) (ix2 i j))) := by
  unfold W15
  simp only [hostOps0_15, TRef.binary, TRef.nullary, TRef.ternary, TRef.unary, TRef.toBuf, TRef.ofBuf, cast_eq]
  after_results_simp
  clean_types
  pointwise [id_eq, bc17, bc18]

theorem k65_15 : W15 V0 (no_index (Proc.devRef .tc main_v65)) = W14 V0 (no_index (Proc.devRef .tc main_v65)) :=
  (keep15 V0 main_v65 (by decide))

theorem k58_15 : W15 V0 (no_index (Proc.devRef .tc main_v58)) = W10 V0 (no_index (Proc.devRef .tc main_v58)) :=
  (((((keep15 V0 main_v58 (by decide)).trans (keep14 V0 main_v58 (by decide))).trans (keep13 V0 main_v58 (by decide))).trans (keep12 V0 main_v58 (by decide))).trans (keep11 V0 main_v58 (by decide)))

theorem kt_15 : W15 V0 (no_index (Proc.devRef .tc main_arg4)) = V0 (no_index (Proc.devRef .tc main_arg4)) :=
  ((((((((((((((((keep15 V0 main_arg4 (by decide)).trans (keep14 V0 main_arg4 (by decide))).trans (keep13 V0 main_arg4 (by decide))).trans (keep12 V0 main_arg4 (by decide))).trans (keep11 V0 main_arg4 (by decide))).trans (keep10 V0 main_arg4 (by decide))).trans (keep9 V0 main_arg4 (by decide))).trans (keep8 V0 main_arg4 (by decide))).trans (keep7 V0 main_arg4 (by decide))).trans (keep6 V0 main_arg4 (by decide))).trans (keep5 V0 main_arg4 (by decide))).trans (keep4 V0 main_arg4 (by decide))).trans (keep3 V0 main_arg4 (by decide))).trans (keep2 V0 main_arg4 (by decide))).trans (keep1 V0 main_arg4 (by decide))).trans (keep0 V0 main_arg4 (by decide)))

theorem b73 (i : Fin 256) (j : Fin 768) : ((W16 V0 (no_index (Proc.devRef .tc main_v73)) : IVec S256x768 32) (ix2 i j)).toInt = ((min 256 (i.val + 640 - j.val) : ℕ) : ℤ) := by
  unfold W16
  simp only [hostOps0_16, TRef.binary, TRef.nullary, TRef.ternary, TRef.unary, TRef.toBuf, TRef.ofBuf, cast_eq]
  after_results_simp
  clean_types
  pointwise [id_eq, b71]
  refine (rel_word (b70 V0 i j) (by omega)).trans ?_
  omega

theorem b78 (i : Fin 256) (j : Fin 768) : (W16 V0 (no_index (Proc.devRef .tc main_v78)) : IVec S256x768 1) (ix2 i j) = BitVec.ofBool (decide (i.val / 64 ≤ j.val / 64 ∧ j.val / 64 ≤ i.val / 64 + 8)) := by
  unfold W16
  simp only [hostOps0_16, TRef.binary, TRef.nullary, TRef.ternary, TRef.unary, TRef.toBuf, TRef.ofBuf, cast_eq]
  after_results_simp
  clean_types
  pointwise [id_eq, k65_15]
  refine (band_word (b65 V0 i j)).trans (congrArg BitVec.ofBool (decide_eq_decide.2 ?_))
  omega

/-- The band's test within a tile whose window begins `m` columns before the array's first row. -/
def bk (m i j : ℕ) : Prop := (i / 64 ≤ j / 64 ∧ j / 64 ≤ i / 64 + 8) ∧ m ≤ j

instance (m i j : ℕ) : Decidable (bk m i j) := inferInstanceAs (Decidable (_ ∧ _))

theorem bk_word {n m : ℕ} (hn : n < 65536) (hm : m < 65536) (P : Prop) [Decidable P] :
    IntOp.andi (BitVec.ofBool (decide P)) (IntOp.cmpi .sge (BitVec.ofNat 32 n) (BitVec.ofNat 32 m)) = BitVec.ofBool (decide (P ∧ m ≤ n)) := by
  rw [WordCmp.cmpi_sge_eq, toInt_ofNat hn, toInt_ofNat hm]
  by_cases h1 : P <;> by_cases h2 : m ≤ n <;> simp [h1, h2] <;> decide

theorem look2 (x : FVec Ideal S16x257 .f32) (idx : IVec S256x768x1 32) (h : Fin 16) (i : Fin 256) (j : Fin 768) {n : ℕ} (hn : n < 257)
    (e : (idx (ix3 i j (0 : Fin 1))).toInt = n) :
    Host.gather gather_S16x257_S256x768x1_S16x256x768_0_1_n_n_1_2_161 x idx (ix3 h i j) = x (ix2 h ⟨n, hn⟩) :=
  lookup_at gather_S16x257_S256x768x1_S16x256x768_0_1_n_n_1_2_161.wf x idx h i j hn e

theorem k73_17 : W17 V0 (no_index (Proc.devRef .tc main_v73)) = W16 V0 (no_index (Proc.devRef .tc main_v73)) :=
  (keep17 V0 main_v73 (by decide))

theorem k78_17 : W17 V0 (no_index (Proc.devRef .tc main_v78)) = W16 V0 (no_index (Proc.devRef .tc main_v78)) :=
  (keep17 V0 main_v78 (by decide))

theorem k58_17 : W17 V0 (no_index (Proc.devRef .tc main_v58)) = W10 V0 (no_index (Proc.devRef .tc main_v58)) :=
  (((((((keep17 V0 main_v58 (by decide)).trans (keep16 V0 main_v58 (by decide))).trans (keep15 V0 main_v58 (by decide))).trans (keep14 V0 main_v58 (by decide))).trans (keep13 V0 main_v58 (by decide))).trans (keep12 V0 main_v58 (by decide))).trans (keep11 V0 main_v58 (by decide)))

theorem kt_17 : W17 V0 (no_index (Proc.devRef .tc main_arg4)) = V0 (no_index (Proc.devRef .tc main_arg4)) :=
  ((((((((((((((((((keep17 V0 main_arg4 (by decide)).trans (keep16 V0 main_arg4 (by decide))).trans (keep15 V0 main_arg4 (by decide))).trans (keep14 V0 main_arg4 (by decide))).trans (keep13 V0 main_arg4 (by decide))).trans (keep12 V0 main_arg4 (by decide))).trans (keep11 V0 main_arg4 (by decide))).trans (keep10 V0 main_arg4 (by decide))).trans (keep9 V0 main_arg4 (by decide))).trans (keep8 V0 main_arg4 (by decide))).trans (keep7 V0 main_arg4 (by decide))).trans (keep6 V0 main_arg4 (by decide))).trans (keep5 V0 main_arg4 (by decide))).trans (keep4 V0 main_arg4 (by decide))).trans (keep3 V0 main_arg4 (by decide))).trans (keep2 V0 main_arg4 (by decide))).trans (keep1 V0 main_arg4 (by decide))).trans (keep0 V0 main_arg4 (by decide)))

theorem k73_19 : W19 V0 (no_index (Proc.devRef .tc main_v73)) = W16 V0 (no_index (Proc.devRef .tc main_v73)) :=
  (((keep19 V0 main_v73 (by decide)).trans (keep18 V0 main_v73 (by decide))).trans (keep17 V0 main_v73 (by decide)))

theorem k78_19 : W19 V0 (no_index (Proc.devRef .tc main_v78)) = W16 V0 (no_index (Proc.devRef .tc main_v78)) :=
  (((keep19 V0 main_v78 (by decide)).trans (keep18 V0 main_v78 (by decide))).trans (keep17 V0 main_v78 (by decide)))

theorem k58_19 : W19 V0 (no_index (Proc.devRef .tc main_v58)) = W10 V0 (no_index (Proc.devRef .tc main_v58)) :=
  (((((((((keep19 V0 main_v58 (by decide)).trans (keep18 V0 main_v58 (by decide))).trans (keep17 V0 main_v58 (by decide))).trans (keep16 V0 main_v58 (by decide))).trans (keep15 V0 main_v58 (by decide))).trans (keep14 V0 main_v58 (by decide))).trans (keep13 V0 main_v58 (by decide))).trans (keep12 V0 main_v58 (by decide))).trans (keep11 V0 main_v58 (by decide)))

theorem kt_19 : W19 V0 (no_index (Proc.devRef .tc main_arg4)) = V0 (no_index (Proc.devRef .tc main_arg4)) :=
  ((((((((((((((((((((keep19 V0 main_arg4 (by decide)).trans (keep18 V0 main_arg4 (by decide))).trans (keep17 V0 main_arg4 (by decide))).trans (keep16 V0 main_arg4 (by decide))).trans (keep15 V0 main_arg4 (by decide))).trans (keep14 V0 main_arg4 (by decide))).trans (keep13 V0 main_arg4 (by decide))).trans (keep12 V0 main_arg4 (by decide))).trans (keep11 V0 main_arg4 (by decide))).trans (keep10 V0 main_arg4 (by decide))).trans (keep9 V0 main_arg4 (by decide))).trans (keep8 V0 main_arg4 (by decide))).trans (keep7 V0 main_arg4 (by decide))).trans (keep6 V0 main_arg4 (by decide))).trans (keep5 V0 main_arg4 (by decide))).trans (keep4 V0 main_arg4 (by decide))).trans (keep3 V0 main_arg4 (by decide))).trans (keep2 V0 main_arg4 (by decide))).trans (keep1 V0 main_arg4 (by decide))).trans (keep0 V0 main_arg4 (by decide)))

theorem bm0 (i : Fin 256) (j : Fin 768) : (W16 V0 (no_index (Proc.devRef .tc main_v82)) : IVec S256x768 1) (ix2 i j) = BitVec.ofBool (decide (bk 512 i.val j.val)) := by
  unfold W16
  simp only [hostOps0_16, TRef.binary, TRef.nullary, TRef.ternary, TRef.unary, TRef.toBuf, TRef.ofBuf, cast_eq]
  after_results_simp
  clean_types
  pointwise [id_eq, k65_15, k58_15, b58]
  rw [show IntOp.andi (IntOp.cmpi .sge ((W14 V0 (no_index (Proc.devRef .tc main_v65)) : IVec S256x768 32) (ix2 i j)) 0#32) (IntOp.cmpi .sle ((W14 V0 (no_index (Proc.devRef .tc main_v65)) : IVec S256x768 32) (ix2 i j)) 8#32) = BitVec.ofBool (decide (i.val / 64 ≤ j.val / 64 ∧ j.val / 64 ≤ i.val / 64 + 8)) from (band_word (b65 V0 i j)).trans (congrArg BitVec.ofBool (decide_eq_decide.2 (by omega)))]
  exact bk_word (by omega) (by omega) _

include ht in
theorem bg0 (h : Fin 16) (i : Fin 256) (j : Fin 768) : (W16 V0 (no_index (Proc.devRef .tc main_v89)) : FVec Ideal S16x256x768 .f32) (ix3 h i j) = ((T h.val (min 256 (i.val + 640 - j.val)) : ℝ) : EReal) := by
  unfold W16
  simp only [hostOps0_16, TRef.binary, TRef.nullary, TRef.ternary, TRef.unary, TRef.toBuf, TRef.ofBuf, cast_eq]
  after_results_simp
  clean_types
  have e : (IntOp.addi (IntOp.minsi 128#32 (IntOp.maxsi 4294967168#32 ((W14 V0 (no_index (Proc.devRef .tc main_v70)) : IVec S256x768 32) (ix2 i j)))) 128#32).toInt = ((min 256 (i.val + 640 - j.val) : ℕ) : ℤ) := by
    refine (rel_word (b70 V0 i j) (by omega)).trans ?_
    omega
  rw [look2 _ _ h i j (n := min 256 (i.val + 640 - j.val)) (by omega) (by
      pointwise [id_eq, b71]
      rw [wrap_word (by rw [e]; exact Int.natCast_nonneg _)]
      exact e), kt_15, ht]
  rfl

theorem bcst0  : (W16 V0 (no_index (Proc.devRef .tc main_cst_25)) : FVec Ideal S_ .f32) = constant (F := Ideal) S_ .f32 0xFF800000#32 := by
  unfold W16
  simp only [hostOps0_16, TRef.binary, TRef.nullary, TRef.ternary, TRef.unary, TRef.toBuf, TRef.ofBuf, cast_eq]
  after_results_simp

include ht in
theorem bo0 (h : Fin 16) (i : Fin 256) (j : Fin 768) : (W17 V0 (no_index (Proc.devRef .tc main_v90)) : FVec Ideal S16x256x768 .f32) (ix3 h i j) = bot (bk 512 i.val j.val) (T h.val (min 256 (i.val + 640 - j.val))) := by
  unfold W17
  simp only [hostOps0_17, TRef.binary, TRef.nullary, TRef.ternary, TRef.unary, TRef.toBuf, TRef.ofBuf, cast_eq]
  after_results_simp
  clean_types
  pointwise [id_eq, bm0, bg0 V0 T ht, bcst0]
  rw [word_bot]
  rfl

theorem bm1 (i : Fin 256) (j : Fin 768) : (W18 V0 (no_index (Proc.devRef .tc main_v94)) : IVec S256x768 1) (ix2 i j) = BitVec.ofBool (decide (bk 256 i.val j.val)) := by
  unfold W18
  simp only [hostOps0_18, TRef.binary, TRef.nullary, TRef.ternary, TRef.unary, TRef.toBuf, TRef.ofBuf, cast_eq]
  after_results_simp
  clean_types
  pointwise [id_eq, k78_17, b78, k58_17, b58]
  exact bk_word (by omega) (by omega) _

include ht in
theorem bg1 (h : Fin 16) (i : Fin 256) (j : Fin 768) : (W18 V0 (no_index (Proc.devRef .tc main_v101)) : FVec Ideal S16x256x768 .f32) (ix3 h i j) = ((T h.val (min 256 (i.val + 640 - j.val)) : ℝ) : EReal) := by
  unfold W18
  simp only [hostOps0_18, TRef.binary, TRef.nullary, TRef.ternary, TRef.unary, TRef.toBuf, TRef.ofBuf, cast_eq]
  after_results_simp
  clean_types
  have e := b73 V0 i j
  rw [look2 _ _ h i j (n := min 256 (i.val + 640 - j.val)) (by omega) (by
      pointwise [id_eq, k73_17]
      rw [wrap_word (by rw [e]; exact Int.natCast_nonneg _)]
      exact e), kt_17, ht]
  rfl

theorem bcst1  : (W18 V0 (no_index (Proc.devRef .tc main_cst_29)) : FVec Ideal S_ .f32) = constant (F := Ideal) S_ .f32 0xFF800000#32 := by
  unfold W18
  simp only [hostOps0_18, TRef.binary, TRef.nullary, TRef.ternary, TRef.unary, TRef.toBuf, TRef.ofBuf, cast_eq]
  after_results_simp

include ht in
theorem bo1 (h : Fin 16) (i : Fin 256) (j : Fin 768) : (W19 V0 (no_index (Proc.devRef .tc main_v102)) : FVec Ideal S16x256x768 .f32) (ix3 h i j) = bot (bk 256 i.val j.val) (T h.val (min 256 (i.val + 640 - j.val))) := by
  unfold W19
  simp only [hostOps0_19, TRef.binary, TRef.nullary, TRef.ternary, TRef.unary, TRef.toBuf, TRef.ofBuf, cast_eq]
  after_results_simp
  clean_types
  pointwise [id_eq, bm1, bg1 V0 T ht, bcst1]
  rw [word_bot]
  rfl

theorem bm2 (i : Fin 256) (j : Fin 768) : (W20 V0 (no_index (Proc.devRef .tc main_v106)) : IVec S256x768 1) (ix2 i j) = BitVec.ofBool (decide (bk 0 i.val j.val)) := by
  unfold W20
  simp only [hostOps0_20, TRef.binary, TRef.nullary, TRef.ternary, TRef.unary, TRef.toBuf, TRef.ofBuf, cast_eq]
  after_results_simp
  clean_types
  pointwise [id_eq, k78_19, b78, k58_19, b58]
  exact bk_word (by omega) (by omega) _

include ht in
theorem bg2 (h : Fin 16) (i : Fin 256) (j : Fin 768) : (W20 V0 (no_index (Proc.devRef .tc main_v113)) : FVec Ideal S16x256x768 .f32) (ix3 h i j) = ((T h.val (min 256 (i.val + 640 - j.val)) : ℝ) : EReal) := by
  unfold W20
  simp only [hostOps0_20, TRef.binary, TRef.nullary, TRef.ternary, TRef.unary, TRef.toBuf, TRef.ofBuf, cast_eq]
  after_results_simp
  clean_types
  have e := b73 V0 i j
  rw [look2 _ _ h i j (n := min 256 (i.val + 640 - j.val)) (by omega) (by
      pointwise [id_eq, k73_19]
      rw [wrap_word (by rw [e]; exact Int.natCast_nonneg _)]
      exact e), kt_19, ht]
  rfl

theorem bcst2  : (W20 V0 (no_index (Proc.devRef .tc main_cst_33)) : FVec Ideal S_ .f32) = constant (F := Ideal) S_ .f32 0xFF800000#32 := by
  unfold W20
  simp only [hostOps0_20, TRef.binary, TRef.nullary, TRef.ternary, TRef.unary, TRef.toBuf, TRef.ofBuf, cast_eq]
  after_results_simp

include ht in
theorem bo2 (h : Fin 16) (i : Fin 256) (j : Fin 768) : (W21 V0 (no_index (Proc.devRef .tc main_v114)) : FVec Ideal S16x256x768 .f32) (ix3 h i j) = bot (bk 0 i.val j.val) (T h.val (min 256 (i.val + 640 - j.val))) := by
  unfold W21
  simp only [hostOps0_21, TRef.binary, TRef.nullary, TRef.ternary, TRef.unary, TRef.toBuf, TRef.ofBuf, cast_eq]
  after_results_simp
  clean_types
  pointwise [id_eq, bm2, bg2 V0 T ht, bcst2]
  rw [word_bot]
  rfl

theorem k90_21 : W21 V0 (no_index (Proc.devRef .tc main_v90)) = W17 V0 (no_index (Proc.devRef .tc main_v90)) :=
  ((((keep21 V0 main_v90 (by decide)).trans (keep20 V0 main_v90 (by decide))).trans (keep19 V0 main_v90 (by decide))).trans (keep18 V0 main_v90 (by decide)))

theorem k102_21 : W21 V0 (no_index (Proc.devRef .tc main_v102)) = W19 V0 (no_index (Proc.devRef .tc main_v102)) :=
  ((keep21 V0 main_v102 (by decide)).trans (keep20 V0 main_v102 (by decide)))

/-- The three arrays of biases. -/
def hst (x y z : FVec Ideal S1x16x256x768 .f32) : FVec Ideal S3x16x256x768 .f32 :=
  concatenate S3x16x256x768 0 [⟨S1x16x256x768, x⟩, ⟨S1x16x256x768, y⟩, ⟨S1x16x256x768, z⟩]
    concatenates_S1x16x256x768_S1x16x256x768_S1x16x256x768_S3x16x256x768_d0

/-- One of them. -/
def hu (x : FVec Ideal S16x256x768 .f32) : FVec Ideal S1x16x256x768 .f32 :=
  broadcastInDim S1x16x256x768 ![1, 2, 3] bcast_S16x256x768_S1x16x256x768_1_2_3 x

theorem hst_at (x y z : FVec Ideal S16x256x768 .f32) (s : Fin 3) (h : Fin 16) (i : Fin 256) (j : Fin 768) :
    hst (hu x) (hu y) (hu z) (ix4 s h i j) = if s.val = 0 then x (ix3 h i j) else if s.val = 1 then y (ix3 h i j) else z (ix3 h i j) := by
  unfold hst hu
  pointwise []
  have := s.isLt
  by_cases h0 : s.val = 0
  · rw [dif_pos (by omega), if_pos h0]
  · rw [dif_neg (by omega), if_neg h0]
    by_cases h1 : s.val = 1
    · rw [dif_pos (by omega), if_pos h1]
    · rw [dif_neg (by omega), if_neg h1]

theorem t118  : W22 V0 (no_index (Proc.devRef .tc main_v118)) = hst (hu (W21 V0 (no_index (Proc.devRef .tc main_v90)))) (hu (W21 V0 (no_index (Proc.devRef .tc main_v102)))) (hu (W21 V0 (no_index (Proc.devRef .tc main_v114)))) := by
  unfold W22
  simp only [hostOps0_22, TRef.binary, TRef.nullary, TRef.ternary, TRef.unary, TRef.toBuf, TRef.ofBuf, cast_eq]
  after_results_simp
  show hst _ _ _ = hst _ _ _
  congr 1

include ht in
theorem a118 (s : Fin 3) (h : Fin 16) (i : Fin 256) (j : Fin 768) :
    (W22 V0 (no_index (Proc.devRef .tc main_v118)) : FVec Ideal S3x16x256x768 .f32) (ix4 s h i j)
      = bot (bk (512 - 256 * s.val) i.val j.val) (T h.val (min 256 (i.val + 640 - j.val))) := by
  rw [t118, hst_at, k90_21, k102_21, bo0 V0 T ht, bo1 V0 T ht, bo2 V0 T ht]
  have := s.isLt
  obtain h0 | h0 | h0 : s.val = 0 ∨ s.val = 1 ∨ s.val = 2 := by omega
  all_goals simp only [h0]; rfl

theorem k52_22 : W22 V0 (no_index (Proc.devRef .tc main_v52)) = W8 V0 (no_index (Proc.devRef .tc main_v52)) :=
  ((((((((((((((keep22 V0 main_v52 (by decide)).trans (keep21 V0 main_v52 (by decide))).trans (keep20 V0 main_v52 (by decide))).trans (keep19 V0 main_v52 (by decide))).trans (keep18 V0 main_v52 (by decide))).trans (keep17 V0 main_v52 (by decide))).trans (keep16 V0 main_v52 (by decide))).trans (keep15 V0 main_v52 (by decide))).trans (keep14 V0 main_v52 (by decide))).trans (keep13 V0 main_v52 (by decide))).trans (keep12 V0 main_v52 (by decide))).trans (keep11 V0 main_v52 (by decide))).trans (keep10 V0 main_v52 (by decide))).trans (keep9 V0 main_v52 (by decide)))

theorem k54_22 : W22 V0 (no_index (Proc.devRef .tc main_v54)) = W9 V0 (no_index (Proc.devRef .tc main_v54)) :=
  (((((((((((((keep22 V0 main_v54 (by decide)).trans (keep21 V0 main_v54 (by decide))).trans (keep20 V0 main_v54 (by decide))).trans (keep19 V0 main_v54 (by decide))).trans (keep18 V0 main_v54 (by decide))).trans (keep17 V0 main_v54 (by decide))).trans (keep16 V0 main_v54 (by decide))).trans (keep15 V0 main_v54 (by decide))).trans (keep14 V0 main_v54 (by decide))).trans (keep13 V0 main_v54 (by decide))).trans (keep12 V0 main_v54 (by decide))).trans (keep11 V0 main_v54 (by decide))).trans (keep10 V0 main_v54 (by decide)))

end lines

/-- What the region finds is what the last of the host lines leaves. -/
theorem V_eq (m : (ℓ : Loc nD τ sig) → Buf (Elt Ideal) ℓ) (c : Dev nD) (r : Ref sig .tc) :
    Gen.V m c r = W22 (fun b => m (c, b)) (Proc.devRef .tc r) := by
  unfold W22 W21 W20 W19 W18 W17 W16 W15 W14 W13 W12 W11 W10 W9 W8 W7 W6 W5 W4 W3 W2 W1 W0
  simp only [Gen.V, List.flatten_cons, List.flatten_nil, List.append_nil, StableHlo.after_append]

end Cert.Ca.Host

end
-- ==== Proof.ChunkBlocks.lean ====
/- The blocks of the chunked attention's backward call at a grid point, as tiles of real numbers. -/
module

public import proofs.«01_k».proof.Proof.ChunkHost
public import proofs.«01_k».proof.Proof.Gen.Kernel2Ideal.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.Ca

open Idealize.ShloMosaic Idealize.ShloMosaic.TcCoe Cert.Kernel2Ideal Cert.Kernel2Ideal.Gen Cert.Kernel2Ideal.Value
open Cert.Xa (R1 R2 R3 R4 R1_apply R2_apply R3_apply R4_apply eq_R1 eq_R2 eq_R3)

/-- Where each window's block lies at each grid point. -/
theorem idx : ∀ t : Fin cfg0.N,
    win0_0.index t = ![t.val % 32, t.val / 32] ∧ win0_1.index t = ![0, t.val / 32] ∧ win0_2.index t = ![0, 8 + t.val / 32]
    ∧ win0_3.index t = ![t.val % 32, t.val / 32] ∧ win0_4.index t = ![min (t.val % 32) 2, t.val / 32, 0, 0]
    ∧ win0_5.index t = ![t.val % 32, t.val / 32] ∧ win0_6.index t = ![t.val % 32, t.val / 32]
    ∧ win0_7.index t = ![t.val % 32, t.val / 32] ∧ win0_8.index t = ![t.val % 32, t.val / 32]
    ∧ win0_9.index t = ![0, t.val / 32] ∧ win0_10.index t = ![0, t.val / 32] ∧ t.val < 256 :=
  (by decide +kernel : ∀ t : Fin grid0.N, _)

variable (m : (ℓ : Loc nD τ sig) → Buf (Elt Ideal) ℓ) (c : Dev nD)

/-- The launch's argument buffers on device `c` hold these real arrays. -/
structure Holds (Q K V G T D : ℕ → ℕ → ℝ) : Prop where
  q : m ((c : Thread nD τ).loc main_arg0) = (R2 Q : FVec Ideal S8192x1024 .bf16)
  k : m ((c : Thread nD τ).loc main_arg1) = (R2 K : FVec Ideal S8192x1024 .bf16)
  v : m ((c : Thread nD τ).loc main_arg2) = (R2 V : FVec Ideal S8192x1024 .bf16)
  g : m ((c : Thread nD τ).loc main_arg3) = (R2 G : FVec Ideal S8192x1024 .f32)
  b : m ((c : Thread nD τ).loc main_arg4) = (R2 T : FVec Ideal S16x257 .f32)
  d : m ((c : Thread nD τ).loc main_arg5) = (R2 D : FVec Ideal S8192x1024 .f32)

variable {m c} {Q K V G T D : ℕ → ℕ → ℝ} (H : Holds m c Q K V G T D) (t : Fin cfg0.N)
include H

/-- The padded keys beside the padded values, as the region finds them. -/
theorem v54 : Gen.V m c main_v54 = (R2 fun r c => if c < 1024 then pad K r c else pad V r (c - 1024) : FVec Ideal S8704x2048 .bf16) :=
  (Host.V_eq m c main_v54).trans ((Host.k54_22 _).trans (Host.a54 (fun b => m (c, b)) K V H.k H.v))

/-- The forward pass's result. -/
theorem v52 : Gen.V m c main_v52 = (R2 (oo Q K V T) : FVec Ideal S8192x1024 .bf16) :=
  (Host.V_eq m c main_v52).trans ((Host.k52_22 _).trans (Host.a52 (fun b => m (c, b)) Q K V T H.q H.k H.v H.b))

/-- The biases. -/
theorem v118 (s : Fin 3) (h : Fin 16) (i : Fin 256) (j : Fin 768) :
    (Gen.V m c main_v118 : FVec Ideal S3x16x256x768 .f32) (ix4 s h i j)
      = bot (Host.bk (512 - 256 * s.val) i.val j.val) (T h.val (min 256 (i.val + 640 - j.val))) :=
  (congrFun (Host.V_eq m c main_v118) _).trans (Host.a118 (fun b => m (c, b)) T H.b s h i j)

/-- The queries. -/
theorem b0 : iblk m c 0 t = R2 (tl (t.val % 32) (t.val / 32) Q) := by
  refine eq_R2 fun i j => ?_
  refine Eq.trans ?_ (congrFun ((V_main_arg0 m c).trans H.q) (ix2 ⟨256 * (t.val % 32) + i.val, by omega⟩ ⟨128 * (t.val / 32) + j.val, by have := idx t; omega⟩))
  blk_ext [iblk, idx t]

/-- The gates. -/
theorem b3 : iblk m c 3 t = R2 (tl (t.val % 32) (t.val / 32) G) := by
  refine eq_R2 fun i j => ?_
  refine Eq.trans ?_ (congrFun ((V_main_arg3 m c).trans H.g) (ix2 ⟨256 * (t.val % 32) + i.val, by omega⟩ ⟨128 * (t.val / 32) + j.val, by have := idx t; omega⟩))
  blk_ext [iblk, idx t]

/-- The gradient at the gated result. -/
theorem b5 : iblk m c 5 t = R2 (tl (t.val % 32) (t.val / 32) D) := by
  refine eq_R2 fun i j => ?_
  refine Eq.trans ?_ (congrFun ((V_main_arg5 m c).trans H.d) (ix2 ⟨256 * (t.val % 32) + i.val, by omega⟩ ⟨128 * (t.val / 32) + j.val, by have := idx t; omega⟩))
  blk_ext [iblk, idx t]

/-- The forward pass's result. -/
theorem b6 : iblk m c 6 t = R2 (tl (t.val % 32) (t.val / 32) (oo Q K V T)) := by
  refine eq_R2 fun i j => ?_
  refine Eq.trans ?_ (congrFun (v52 H) (ix2 ⟨256 * (t.val % 32) + i.val, by omega⟩ ⟨128 * (t.val / 32) + j.val, by have := idx t; omega⟩))
  blk_ext [iblk, idx t]

/-- The padded keys of the head pair. -/
theorem b1 : iblk m c 1 t = R2 fun r j => pad K r (128 * (t.val / 32) + j) := by
  refine eq_R2 fun i j => ?_
  refine Eq.trans (b := (Gen.V m c main_v54 : FVec Ideal S8704x2048 .bf16) (ix2 i ⟨128 * (t.val / 32) + j.val, by have := idx t; omega⟩)) ?_ ?_
  · blk_ext [iblk, idx t]
  · rw [v54 H, R2_apply]
    dsimp only
    rw [if_pos (by have := idx t; omega)]

/-- The padded values of the head pair. -/
theorem b2 : iblk m c 2 t = R2 fun r j => pad V r (128 * (t.val / 32) + j) := by
  refine eq_R2 fun i j => ?_
  refine Eq.trans (b := (Gen.V m c main_v54 : FVec Ideal S8704x2048 .bf16) (ix2 i ⟨1024 + (128 * (t.val / 32) + j.val), by have := idx t; omega⟩)) ?_ ?_
  · blk_ext [iblk, idx t]
  · rw [v54 H, R2_apply]
    dsimp only
    rw [if_neg (by omega), Nat.add_sub_cancel_left]

/-- A head's biases. -/
theorem b4 (h : Fin 2) (i : Fin 256) (j : Fin 768) : (iblk m c 4 t : FVec Ideal S1x2x256x768 .f32) (ix4 0 h i j)
    = bot (bnd (256 * (t.val % 32) + i.val) (256 * (t.val % 32) + j.val))
        (T (2 * (t.val / 32) + h.val) (rel (256 * (t.val % 32) + i.val) (256 * (t.val % 32) + j.val))) := by
  refine Eq.trans (b := (Gen.V m c main_v118 : FVec Ideal S3x16x256x768 .f32)
    (ix4 ⟨min (t.val % 32) 2, by omega⟩ ⟨2 * (t.val / 32) + h.val, by have := idx t; omega⟩ i j)) ?_ ?_
  · blk_ext [iblk, idx t]
  · rw [v118 H]
    dsimp only
    have e : min 256 (i.val + 640 - j.val) = rel (256 * (t.val % 32) + i.val) (256 * (t.val % 32) + j.val) := by
      unfold rel
      omega
    rw [e]
    unfold bot
    refine if_congr ?_ rfl rfl
    unfold Host.bk bnd
    have := i.isLt
    have := j.isLt
    omega

end Cert.Ca

end
-- ==== Proof.ChunkPoints.lean ====
/- What the body of the chunked attention's backward call leaves at a grid point. -/
module

public import proofs.«01_k».proof.Proof.ChunkBlocks
public import Idealize.ShloMosaic.Lib.WritesUnit

@[expose] public section

set_option maxRecDepth 16384

noncomputable section

namespace Cert.Ca

open Idealize.ShloMosaic Idealize.ShloMosaic.TcCoe Cert.Kernel2Ideal Cert.Kernel2Ideal.Gen Cert.Kernel2Ideal.Value
open Cert.Xa (R1 R2 R3 R4 R1_apply R2_apply R3_apply R4_apply eq_R1 eq_R2 eq_R3)

/-- Where the point's window of keys begins. -/
theorem off : ∀ t : Fin cfg0.N, k0_off1 (grid0.coords t) = ![256 * (t.val % 32), 0] :=
  (by decide +kernel : ∀ t : Fin grid0.N, _)

/-- A load of the point's window of keys. -/
theorem ldw {e : EltTy} (f : S8704x128.Idx → Elt Ideal e) (t : Fin cfg0.N) (y : S768x128.Idx) :
    View.ld (Val := Elt Ideal) (S := S8704x128) (e' := e) f (Rect.unit (k0_off1 (grid0.coords t)) ![768, 128] (k0_off1_inb (grid0.coords t))) y
      = f (ix2 ⟨256 * (t.val % 32) + (y 0).val, by have := (y 0).isLt; dsimp at this; omega⟩ ⟨(y 1).val, (y 1).isLt⟩) := by
  show f _ = f _
  refine congrArg f (funext fun a => Fin.ext ?_)
  match a with
  | ⟨0, _⟩ => show (k0_off1 (grid0.coords t)) 0 + 1 * (y 0).val = 256 * (t.val % 32) + (y 0).val; rw [off]; simp
  | ⟨1, _⟩ => show (k0_off1 (grid0.coords t)) 1 + 1 * (y 1).val = (y 1).val; rw [off]; simp

theorem ldr_bf (A : ℕ → ℕ → ℝ) (t : Fin cfg0.N) :
    View.ld (Val := Elt Ideal) (S := S8704x128) (e' := .bf16) (R2 A) (Rect.unit (k0_off1 (grid0.coords t)) ![768, 128] (k0_off1_inb (grid0.coords t)))
      = R2 fun j c => A (256 * (t.val % 32) + j) c :=
  funext fun y => ldw (e := .bf16) (R2 A) t y

theorem ldr_f (A : ℕ → ℕ → ℝ) (t : Fin cfg0.N) :
    View.ld (Val := Elt Ideal) (S := S8704x128) (e' := .f32) (R2 A) (Rect.unit (k0_off1 (grid0.coords t)) ![768, 128] (k0_off1_inb (grid0.coords t)))
      = R2 fun j c => A (256 * (t.val % 32) + j) c :=
  funext fun y => ldw (e := .f32) (R2 A) t y

/-- The buffer with a point's window of rows replaced. -/
def put (b : ℕ) (B A : ℕ → ℕ → ℝ) (r c : ℕ) : ℝ := if 256 * b ≤ r ∧ r < 256 * b + 768 then B (r - 256 * b) c else A r c

/-- A store over the point's window of rows, over what the point before left. -/
theorem put_v {κ : Kind} {sp : Space} (v : View sig κ sp S8704x128 .f32) (f : v.ty.Contents (Elt Ideal)) (t : Fin cfg0.N) (B A : ℕ → ℕ → ℝ)
    (hf : v.read (Elt Ideal) f = R2 A) :
    v.read (Elt Ideal) (v.writes (Elt Ideal) f
      [⟨Rect.unit (k0_off1 (grid0.coords t)) ![768, 128] (k0_off1_inb (grid0.coords t)), R2 B⟩])
      = R2 (put (t.val % 32) B A) := by
  refine eq_R2 fun i j => ?_
  by_cases h : 256 * (t.val % 32) ≤ i.val ∧ i.val < 256 * (t.val % 32) + 768
  · rw [put, if_pos h, View.read_writes_cons_unit_of_mem v f (k0_off1_inb (grid0.coords t)) (R2 B) [] (ix2 i j) (ix2 ⟨i.val - 256 * (t.val % 32), by omega⟩ j) (off t) fun a => by
      match a with
      | ⟨0, _⟩ => show i.val = 256 * (t.val % 32) + (i.val - 256 * (t.val % 32)); omega
      | ⟨1, _⟩ => show j.val = 0 + j.val; omega]
    rfl
  · rw [put, if_neg h, View.read_writes_cons_unit_of_not_mem v f (k0_off1_inb (grid0.coords t)) (R2 B) [] (ix2 i j) (off t) 0 (by
      show i.val < 256 * (t.val % 32) ∨ 256 * (t.val % 32) + 768 ≤ i.val
      omega), View.writes_nil, hf]
    rfl

theorem put0 (v : Memref.IsWhole (Memref.whole cc0_scratch0)) (t : Fin cfg0.N) (B A : ℕ → ℕ → ℝ) :
    View.read (Elt Ideal) (View.whole cc0_scratch0) ((View.whole cc0_scratch0).writes (Elt Ideal) (v.unread (R2 A))
      [⟨Rect.unit (k0_off1 (grid0.coords t)) ![768, 128] (k0_off1_inb (grid0.coords t)), R2 B⟩])
      = R2 (put (t.val % 32) B A) :=
  put_v (View.whole cc0_scratch0) (v.unread (R2 A)) t B A (read_unread_whole _ v _)

theorem put1 (v : Memref.IsWhole (Memref.whole cc0_scratch1)) (t : Fin cfg0.N) (B A : ℕ → ℕ → ℝ) :
    View.read (Elt Ideal) (View.whole cc0_scratch1) ((View.whole cc0_scratch1).writes (Elt Ideal) (v.unread (R2 A))
      [⟨Rect.unit (k0_off1 (grid0.coords t)) ![768, 128] (k0_off1_inb (grid0.coords t)), R2 B⟩])
      = R2 (put (t.val % 32) B A) :=
  put_v (View.whole cc0_scratch1) (v.unread (R2 A)) t B A (read_unread_whole _ v _)

/-- The first point's: zeros, and a store over its window of rows. -/
theorem putA (t : Fin cfg0.N) (B A : ℕ → ℕ → ℝ) :
    View.canon (Val := Elt Ideal) (s := S8704x128) (e := .f32)
      [⟨Rect.unit (k0_off1 (grid0.coords t)) ![768, 128] (k0_off1_inb (grid0.coords t)), R2 B⟩,
       ⟨Rect.unit ![0, 0] ![8704, 128] inb_S8704x128_S8704x128_0_0, R2 A⟩]
      = R2 (put (t.val % 32) B A) := by
  refine eq_R2 fun i j => ?_
  by_cases h : 256 * (t.val % 32) ≤ i.val ∧ i.val < 256 * (t.val % 32) + 768
  · rw [put, if_pos h]
    have e : (Rect.unit (s := S8704x128) (k0_off1 (grid0.coords t)) ![768, 128] (k0_off1_inb (grid0.coords t))).emb (ix2 ⟨i.val - 256 * (t.val % 32), by omega⟩ j) = ix2 i j := by
      refine funext fun a => Fin.ext ?_
      match a with
      | ⟨0, _⟩ => show (k0_off1 (grid0.coords t)) 0 + 1 * (i.val - 256 * (t.val % 32)) = i.val; rw [off]; simp; omega
      | ⟨1, _⟩ => show (k0_off1 (grid0.coords t)) 1 + 1 * j.val = j.val; rw [off]; simp
    rw [← e]
    exact View.canon_cons_emb (Val := Elt Ideal) (e := .f32) (Rect.unit (s := S8704x128) (k0_off1 (grid0.coords t)) ![768, 128] (k0_off1_inb (grid0.coords t))) (R2 B) _ (ix2 ⟨i.val - 256 * (t.val % 32), by omega⟩ j)
  · rw [put, if_neg h]
    refine (View.canon_cons_of_not_mem _ _ fun hm => h ?_).trans ?_
    · have := (Rect.mem_set_unit (s := S8704x128) (inb := k0_off1_inb (grid0.coords t)) |>.1 hm) 0
      rw [off] at this
      exact this
    · exact congrFun (View.canon_unit_zero (Val := Elt Ideal) (S := S8704x128) (e := .f32) (funext fun a => by fin_cases a <;> rfl) inb_S8704x128_S8704x128_0_0 (R2 A)) (ix2 i j)

/-- A window's sum added is the sum over one more tile of queries. -/
theorem step_sum (f : ℕ → ℕ → ℕ → ℝ) (b : ℕ) (hf : ∀ i r c, ¬ bnd i r → f i r c = 0) :
    put b (fun j c => (∑ i ∈ Finset.range (256 * b), f i (256 * b + j) c) + ∑ p : Fin 256, f (256 * b + p.val) (256 * b + j) c)
        (fun r c => ∑ i ∈ Finset.range (256 * b), f i r c)
      = fun r c => ∑ i ∈ Finset.range (256 * (b + 1)), f i r c := by
  funext r c
  rw [put, mul_add, mul_one, Finset.sum_range_add]
  split
  · rename_i h
    rw [show 256 * b + (r - 256 * b) = r by omega, Fin.sum_univ_eq_sum_range (fun p => f (256 * b + p) r c)]
  · rename_i h
    rw [Finset.sum_eq_zero (s := Finset.range 256) fun p hp => hf _ _ _ fun hb => h
      (bnd_window (Nat.le_add_right _ _) (Nat.add_lt_add_left (Finset.mem_range.1 hp) _) hb), add_zero]

theorem step_dk (Q K V G T D : ℕ → ℕ → ℝ) (b hp : ℕ) :
    put b (fun j c => dk Q K V G T D (256 * b) (256 * b + j) (128 * hp + c)
          + ∑ p : Fin 256, ds Q K V G T D ((128 * hp + c) / 64) (256 * b + p.val) (256 * b + j) * (Q (256 * b + p.val) (128 * hp + c) * (1 / 8)))
        (fun r c => dk Q K V G T D (256 * b) r (128 * hp + c))
      = fun r c => dk Q K V G T D (256 * (b + 1)) r (128 * hp + c) :=
  step_sum (fun i r c => ds Q K V G T D ((128 * hp + c) / 64) i r * (Q i (128 * hp + c) * (1 / 8))) b
    fun i r c h => by rw [ds_out Q K V G T D h, zero_mul]

theorem step_dv (Q K G T D : ℕ → ℕ → ℝ) (b hp : ℕ) :
    put b (fun j c => dv Q K G T D (256 * b) (256 * b + j) (128 * hp + c)
          + ∑ p : Fin 256, wt Q K T ((128 * hp + c) / 64) (256 * b + p.val) (256 * b + j) * dO G D (256 * b + p.val) (128 * hp + c))
        (fun r c => dv Q K G T D (256 * b) r (128 * hp + c))
      = fun r c => dv Q K G T D (256 * (b + 1)) r (128 * hp + c) :=
  step_sum (fun i r c => wt Q K T ((128 * hp + c) / 64) i r * dO G D i (128 * hp + c)) b
    fun i r c h => by rw [wt_out Q K T h, zero_mul]

theorem dk_zero (Q K V G T D : ℕ → ℕ → ℝ) (r c : ℕ) : dk Q K V G T D 0 r c = 0 := rfl
theorem dv_zero (Q K G T D : ℕ → ℕ → ℝ) (r c : ℕ) : dv Q K G T D 0 r c = 0 := rfl

variable {m : (ℓ : Loc nD τ sig) → Buf (Elt Ideal) ℓ} {c : Dev nD} {Q K V G T D : ℕ → ℕ → ℝ} (H : Holds m c Q K V G T D) (t : Fin cfg0.N)
include H

/-- The even head's biases, as the body loads them. -/
theorem l4_0 : View.ld (Val := Elt Ideal) (S := S1x2x256x768) (e' := .f32) (iblk m c 4 t) (Rect.unit ![0, 0, 0, 0] ![1, 1, 256, 768] inb_S1x2x256x768_S1x1x256x768_0_0_0_0)
    = bb T (t.val % 32) (2 * (t.val / 32)) := by
  funext y
  obtain ⟨a, b, i, j, rfl⟩ : ∃ (a b : Fin 1) (i : Fin 256) (j : Fin 768), y = ix4 a b i j := ⟨y 0, y 1, y 2, y 3, eq_ix4 y⟩
  refine Eq.trans ?_ ((b4 H t 0 i j).trans ?_)
  · pointwise []
  · rfl

/-- The odd head's biases, as the body loads them. -/
theorem l4_1 : View.ld (Val := Elt Ideal) (S := S1x2x256x768) (e' := .f32) (iblk m c 4 t) (Rect.unit ![0, 1, 0, 0] ![1, 1, 256, 768] inb_S1x2x256x768_S1x1x256x768_0_1_0_0)
    = bb T (t.val % 32) (2 * (t.val / 32) + 1) := by
  funext y
  obtain ⟨a, b, i, j, rfl⟩ : ∃ (a b : Fin 1) (i : Fin 256) (j : Fin 768), y = ix4 a b i j := ⟨y 0, y 1, y 2, y 3, eq_ix4 y⟩
  refine Eq.trans ?_ ((b4 H t 1 i j).trans ?_)
  · pointwise []
  · rfl

/-- The point's keys. -/
theorem l1 : View.ld (Val := Elt Ideal) (S := S8704x128) (e' := .bf16) (iblk m c 1 t) (Rect.unit (k0_off1 (grid0.coords t)) ![768, 128] (k0_off1_inb (grid0.coords t)))
    = R2 (tl (t.val % 32) (t.val / 32) (pad K)) := by
  rw [b1 H t, ldr_bf]
  rfl

/-- The point's values. -/
theorem l2 : View.ld (Val := Elt Ideal) (S := S8704x128) (e' := .bf16) (iblk m c 2 t) (Rect.unit (k0_off1 (grid0.coords t)) ![768, 128] (k0_off1_inb (grid0.coords t)))
    = R2 (tl (t.val % 32) (t.val / 32) (pad V)) := by
  rw [b2 H t, ldr_bf]
  rfl

omit H in
theorem hb : t.val % 32 < 32 := by omega

theorem o7_A (h0 : t.val % 32 = 0) (h1 : ¬t.val % 32 = 31) : (outsAt0 m c t.val t.isLt).1 = R2 (tl (t.val % 32) (t.val / 32) (dq Q K V G T D)) := by
  rw [outsAt0_A m c t h0 h1]
  frame_open
  simp (disch := decide) only [↓ View.readCov_skip, ↓ View.readCov_cons_toLoadRect, ↓ View.readCov_fill]
  frame_out
  simp only [b0 H t, b3 H t, b5 H t, b6 H t, l1 H t, l2 H t, l4_0 H t, l4_1 H t]
  simp only [p1, p2, p3, p4, p5, p6, p8, p9, p10, p11 G (t.val % 32) (t.val / 32), p12 G (t.val % 32) (t.val / 32), p13 G D (t.val % 32) (t.val / 32), p14 Q K V G T D (t.val % 32) (t.val / 32), p16, p18 Q (t.val % 32) (t.val / 32), p29 Q (t.val % 32) (t.val / 32), p19 Q K T (t.val % 32) (t.val / 32), p30 Q K T (t.val % 32) (t.val / 32), p20 Q K T (t.val % 32) (t.val / 32) (hb t), p31 Q K T (t.val % 32) (t.val / 32) (hb t), p21 G D (t.val % 32) (t.val / 32), p33 G D (t.val % 32) (t.val / 32), p22 Q K G T D (t.val % 32) (t.val / 32) (hb t), p32 Q K T (t.val % 32) (t.val / 32), p35 Q K G T D (t.val % 32) (t.val / 32) (hb t), p36 Q K G T D (t.val % 32) (t.val / 32) (hb t), p23 Q K V G T D (t.val % 32) (t.val / 32) (hb t), p24 Q K V G T D (t.val % 32) (t.val / 32) (hb t), p26 Q K V G T D (t.val % 32) (t.val / 32) (hb t), p27 Q K V G T D (t.val % 32) (t.val / 32) (hb t), p28 Q K V G T D (t.val % 32) (t.val / 32) (hb t), p34 V G D (t.val % 32) (t.val / 32), p37 Q K V G T D (t.val % 32) (t.val / 32) (hb t), p39 Q K V G T D (t.val % 32) (t.val / 32) (hb t), p40 Q K V G T D (t.val % 32) (t.val / 32), p41 Q K V G T D (t.val % 32) (t.val / 32) (hb t), p42 Q K V G T D (t.val % 32) (t.val / 32) (hb t), mlo, mhi]

theorem o7_B (h0 : ¬t.val % 32 = 0) (h1 : ¬t.val % 32 = 31) : (outsAt0 m c t.val t.isLt).1 = R2 (tl (t.val % 32) (t.val / 32) (dq Q K V G T D)) := by
  rw [outsAt0_B m c t h0 h1]
  frame_open
  simp (disch := decide) only [↓ View.readCov_skip, ↓ View.readCov_cons_toLoadRect, ↓ View.readCov_fill]
  frame_out
  simp only [b0 H t, b3 H t, b5 H t, b6 H t, l1 H t, l2 H t, l4_0 H t, l4_1 H t]
  simp only [p1, p2, p3, p4, p5, p6, p8, p9, p10, p11 G (t.val % 32) (t.val / 32), p12 G (t.val % 32) (t.val / 32), p13 G D (t.val % 32) (t.val / 32), p14 Q K V G T D (t.val % 32) (t.val / 32), p16, p18 Q (t.val % 32) (t.val / 32), p29 Q (t.val % 32) (t.val / 32), p19 Q K T (t.val % 32) (t.val / 32), p30 Q K T (t.val % 32) (t.val / 32), p20 Q K T (t.val % 32) (t.val / 32) (hb t), p31 Q K T (t.val % 32) (t.val / 32) (hb t), p21 G D (t.val % 32) (t.val / 32), p33 G D (t.val % 32) (t.val / 32), p22 Q K G T D (t.val % 32) (t.val / 32) (hb t), p32 Q K T (t.val % 32) (t.val / 32), p35 Q K G T D (t.val % 32) (t.val / 32) (hb t), p36 Q K G T D (t.val % 32) (t.val / 32) (hb t), p23 Q K V G T D (t.val % 32) (t.val / 32) (hb t), p24 Q K V G T D (t.val % 32) (t.val / 32) (hb t), p26 Q K V G T D (t.val % 32) (t.val / 32) (hb t), p27 Q K V G T D (t.val % 32) (t.val / 32) (hb t), p28 Q K V G T D (t.val % 32) (t.val / 32) (hb t), p34 V G D (t.val % 32) (t.val / 32), p37 Q K V G T D (t.val % 32) (t.val / 32) (hb t), p39 Q K V G T D (t.val % 32) (t.val / 32) (hb t), p40 Q K V G T D (t.val % 32) (t.val / 32), p41 Q K V G T D (t.val % 32) (t.val / 32) (hb t), p42 Q K V G T D (t.val % 32) (t.val / 32) (hb t), mlo, mhi]

theorem o7_C (h0 : ¬t.val % 32 = 0) (h1 : t.val % 32 = 31) : (outsAt0 m c t.val t.isLt).1 = R2 (tl (t.val % 32) (t.val / 32) (dq Q K V G T D)) := by
  rw [outsAt0_C m c t h0 h1]
  frame_open
  simp (disch := decide) only [↓ View.readCov_skip, ↓ View.readCov_cons_toLoadRect, ↓ View.readCov_fill]
  frame_out
  simp only [b0 H t, b3 H t, b5 H t, b6 H t, l1 H t, l2 H t, l4_0 H t, l4_1 H t]
  simp only [p1, p2, p3, p4, p5, p6, p8, p9, p10, p11 G (t.val % 32) (t.val / 32), p12 G (t.val % 32) (t.val / 32), p13 G D (t.val % 32) (t.val / 32), p14 Q K V G T D (t.val % 32) (t.val / 32), p16, p18 Q (t.val % 32) (t.val / 32), p29 Q (t.val % 32) (t.val / 32), p19 Q K T (t.val % 32) (t.val / 32), p30 Q K T (t.val % 32) (t.val / 32), p20 Q K T (t.val % 32) (t.val / 32) (hb t), p31 Q K T (t.val % 32) (t.val / 32) (hb t), p21 G D (t.val % 32) (t.val / 32), p33 G D (t.val % 32) (t.val / 32), p22 Q K G T D (t.val % 32) (t.val / 32) (hb t), p32 Q K T (t.val % 32) (t.val / 32), p35 Q K G T D (t.val % 32) (t.val / 32) (hb t), p36 Q K G T D (t.val % 32) (t.val / 32) (hb t), p23 Q K V G T D (t.val % 32) (t.val / 32) (hb t), p24 Q K V G T D (t.val % 32) (t.val / 32) (hb t), p26 Q K V G T D (t.val % 32) (t.val / 32) (hb t), p27 Q K V G T D (t.val % 32) (t.val / 32) (hb t), p28 Q K V G T D (t.val % 32) (t.val / 32) (hb t), p34 V G D (t.val % 32) (t.val / 32), p37 Q K V G T D (t.val % 32) (t.val / 32) (hb t), p39 Q K V G T D (t.val % 32) (t.val / 32) (hb t), p40 Q K V G T D (t.val % 32) (t.val / 32), p41 Q K V G T D (t.val % 32) (t.val / 32) (hb t), p42 Q K V G T D (t.val % 32) (t.val / 32) (hb t), mlo, mhi]

/-- The point's tile of the gradient at the queries. -/
theorem o7 : (outsAt0 m c t.val t.isLt).1 = R2 (tl (t.val % 32) (t.val / 32) (dq Q K V G T D)) := by
  by_cases h0 : t.val % 32 = 0
  · exact o7_A H t h0 (by omega)
  · by_cases h1 : t.val % 32 = 31
    · exact o7_C H t h0 h1
    · exact o7_B H t h0 h1

theorem o8_A (h0 : t.val % 32 = 0) (h1 : ¬t.val % 32 = 31) : (outsAt0 m c t.val t.isLt).2.1 = R2 (tl (t.val % 32) (t.val / 32) (dgt Q K V G T D)) := by
  rw [outsAt0_A m c t h0 h1]
  frame_open
  simp (disch := decide) only [↓ View.readCov_skip, ↓ View.readCov_cons_toLoadRect, ↓ View.readCov_fill]
  frame_out
  simp only [b0 H t, b3 H t, b5 H t, b6 H t, l1 H t, l2 H t, l4_0 H t, l4_1 H t]
  simp only [p1, p2, p3, p4, p5, p6, p8, p9, p10, p11 G (t.val % 32) (t.val / 32), p12 G (t.val % 32) (t.val / 32), p13 G D (t.val % 32) (t.val / 32), p14 Q K V G T D (t.val % 32) (t.val / 32), p16, p18 Q (t.val % 32) (t.val / 32), p29 Q (t.val % 32) (t.val / 32), p19 Q K T (t.val % 32) (t.val / 32), p30 Q K T (t.val % 32) (t.val / 32), p20 Q K T (t.val % 32) (t.val / 32) (hb t), p31 Q K T (t.val % 32) (t.val / 32) (hb t), p21 G D (t.val % 32) (t.val / 32), p33 G D (t.val % 32) (t.val / 32), p22 Q K G T D (t.val % 32) (t.val / 32) (hb t), p32 Q K T (t.val % 32) (t.val / 32), p35 Q K G T D (t.val % 32) (t.val / 32) (hb t), p36 Q K G T D (t.val % 32) (t.val / 32) (hb t), p23 Q K V G T D (t.val % 32) (t.val / 32) (hb t), p24 Q K V G T D (t.val % 32) (t.val / 32) (hb t), p26 Q K V G T D (t.val % 32) (t.val / 32) (hb t), p27 Q K V G T D (t.val % 32) (t.val / 32) (hb t), p28 Q K V G T D (t.val % 32) (t.val / 32) (hb t), p34 V G D (t.val % 32) (t.val / 32), p37 Q K V G T D (t.val % 32) (t.val / 32) (hb t), p39 Q K V G T D (t.val % 32) (t.val / 32) (hb t), p40 Q K V G T D (t.val % 32) (t.val / 32), p41 Q K V G T D (t.val % 32) (t.val / 32) (hb t), p42 Q K V G T D (t.val % 32) (t.val / 32) (hb t), mlo, mhi]

theorem o8_B (h0 : ¬t.val % 32 = 0) (h1 : ¬t.val % 32 = 31) : (outsAt0 m c t.val t.isLt).2.1 = R2 (tl (t.val % 32) (t.val / 32) (dgt Q K V G T D)) := by
  rw [outsAt0_B m c t h0 h1]
  frame_open
  simp (disch := decide) only [↓ View.readCov_skip, ↓ View.readCov_cons_toLoadRect, ↓ View.readCov_fill]
  frame_out
  simp only [b0 H t, b3 H t, b5 H t, b6 H t, l1 H t, l2 H t, l4_0 H t, l4_1 H t]
  simp only [p1, p2, p3, p4, p5, p6, p8, p9, p10, p11 G (t.val % 32) (t.val / 32), p12 G (t.val % 32) (t.val / 32), p13 G D (t.val % 32) (t.val / 32), p14 Q K V G T D (t.val % 32) (t.val / 32), p16, p18 Q (t.val % 32) (t.val / 32), p29 Q (t.val % 32) (t.val / 32), p19 Q K T (t.val % 32) (t.val / 32), p30 Q K T (t.val % 32) (t.val / 32), p20 Q K T (t.val % 32) (t.val / 32) (hb t), p31 Q K T (t.val % 32) (t.val / 32) (hb t), p21 G D (t.val % 32) (t.val / 32), p33 G D (t.val % 32) (t.val / 32), p22 Q K G T D (t.val % 32) (t.val / 32) (hb t), p32 Q K T (t.val % 32) (t.val / 32), p35 Q K G T D (t.val % 32) (t.val / 32) (hb t), p36 Q K G T D (t.val % 32) (t.val / 32) (hb t), p23 Q K V G T D (t.val % 32) (t.val / 32) (hb t), p24 Q K V G T D (t.val % 32) (t.val / 32) (hb t), p26 Q K V G T D (t.val % 32) (t.val / 32) (hb t), p27 Q K V G T D (t.val % 32) (t.val / 32) (hb t), p28 Q K V G T D (t.val % 32) (t.val / 32) (hb t), p34 V G D (t.val % 32) (t.val / 32), p37 Q K V G T D (t.val % 32) (t.val / 32) (hb t), p39 Q K V G T D (t.val % 32) (t.val / 32) (hb t), p40 Q K V G T D (t.val % 32) (t.val / 32), p41 Q K V G T D (t.val % 32) (t.val / 32) (hb t), p42 Q K V G T D (t.val % 32) (t.val / 32) (hb t), mlo, mhi]

theorem o8_C (h0 : ¬t.val % 32 = 0) (h1 : t.val % 32 = 31) : (outsAt0 m c t.val t.isLt).2.1 = R2 (tl (t.val % 32) (t.val / 32) (dgt Q K V G T D)) := by
  rw [outsAt0_C m c t h0 h1]
  frame_open
  simp (disch := decide) only [↓ View.readCov_skip, ↓ View.readCov_cons_toLoadRect, ↓ View.readCov_fill]
  frame_out
  simp only [b0 H t, b3 H t, b5 H t, b6 H t, l1 H t, l2 H t, l4_0 H t, l4_1 H t]
  simp only [p1, p2, p3, p4, p5, p6, p8, p9, p10, p11 G (t.val % 32) (t.val / 32), p12 G (t.val % 32) (t.val / 32), p13 G D (t.val % 32) (t.val / 32), p14 Q K V G T D (t.val % 32) (t.val / 32), p16, p18 Q (t.val % 32) (t.val / 32), p29 Q (t.val % 32) (t.val / 32), p19 Q K T (t.val % 32) (t.val / 32), p30 Q K T (t.val % 32) (t.val / 32), p20 Q K T (t.val % 32) (t.val / 32) (hb t), p31 Q K T (t.val % 32) (t.val / 32) (hb t), p21 G D (t.val % 32) (t.val / 32), p33 G D (t.val % 32) (t.val / 32), p22 Q K G T D (t.val % 32) (t.val / 32) (hb t), p32 Q K T (t.val % 32) (t.val / 32), p35 Q K G T D (t.val % 32) (t.val / 32) (hb t), p36 Q K G T D (t.val % 32) (t.val / 32) (hb t), p23 Q K V G T D (t.val % 32) (t.val / 32) (hb t), p24 Q K V G T D (t.val % 32) (t.val / 32) (hb t), p26 Q K V G T D (t.val % 32) (t.val / 32) (hb t), p27 Q K V G T D (t.val % 32) (t.val / 32) (hb t), p28 Q K V G T D (t.val % 32) (t.val / 32) (hb t), p34 V G D (t.val % 32) (t.val / 32), p37 Q K V G T D (t.val % 32) (t.val / 32) (hb t), p39 Q K V G T D (t.val % 32) (t.val / 32) (hb t), p40 Q K V G T D (t.val % 32) (t.val / 32), p41 Q K V G T D (t.val % 32) (t.val / 32) (hb t), p42 Q K V G T D (t.val % 32) (t.val / 32) (hb t), mlo, mhi]

/-- The point's tile of the gradient at the gate. -/
theorem o8 : (outsAt0 m c t.val t.isLt).2.1 = R2 (tl (t.val % 32) (t.val / 32) (dgt Q K V G T D)) := by
  by_cases h0 : t.val % 32 = 0
  · exact o8_A H t h0 (by omega)
  · by_cases h1 : t.val % 32 = 31
    · exact o8_C H t h0 h1
    · exact o8_B H t h0 h1

theorem s0_A (h0 : t.val % 32 = 0) (h1 : ¬t.val % 32 = 31) : (outsAt0 m c t.val t.isLt).2.2.2.2.2.1 = R2 fun r c => dk Q K V G T D (256 * (t.val % 32 + 1)) r (128 * (t.val / 32) + c) := by
  rw [outsAt0_A m c t h0 h1]
  frame_open
  simp (disch := decide) only [↓ View.readCov_skip, ↓ View.readCov_cons_toLoadRect, ↓ View.readCov_fill]
  frame_out
  simp only [b0 H t, b3 H t, b5 H t, b6 H t, l1 H t, l2 H t, l4_0 H t, l4_1 H t]
  simp only [p1, p2, p3, p4, p5, p6, p8, p9, p10, p11 G (t.val % 32) (t.val / 32), p12 G (t.val % 32) (t.val / 32), p13 G D (t.val % 32) (t.val / 32), p14 Q K V G T D (t.val % 32) (t.val / 32), p16, p18 Q (t.val % 32) (t.val / 32), p29 Q (t.val % 32) (t.val / 32), p19 Q K T (t.val % 32) (t.val / 32), p30 Q K T (t.val % 32) (t.val / 32), p20 Q K T (t.val % 32) (t.val / 32) (hb t), p31 Q K T (t.val % 32) (t.val / 32) (hb t), p21 G D (t.val % 32) (t.val / 32), p33 G D (t.val % 32) (t.val / 32), p22 Q K G T D (t.val % 32) (t.val / 32) (hb t), p32 Q K T (t.val % 32) (t.val / 32), p35 Q K G T D (t.val % 32) (t.val / 32) (hb t), p36 Q K G T D (t.val % 32) (t.val / 32) (hb t), p23 Q K V G T D (t.val % 32) (t.val / 32) (hb t), p24 Q K V G T D (t.val % 32) (t.val / 32) (hb t), p26 Q K V G T D (t.val % 32) (t.val / 32) (hb t), p27 Q K V G T D (t.val % 32) (t.val / 32) (hb t), p28 Q K V G T D (t.val % 32) (t.val / 32) (hb t), p34 V G D (t.val % 32) (t.val / 32), p37 Q K V G T D (t.val % 32) (t.val / 32) (hb t), p39 Q K V G T D (t.val % 32) (t.val / 32) (hb t), p40 Q K V G T D (t.val % 32) (t.val / 32), p41 Q K V G T D (t.val % 32) (t.val / 32) (hb t), p42 Q K V G T D (t.val % 32) (t.val / 32) (hb t), mlo, mhi]
  rw [ldr_f (fun _ _ => 0) t]
  simp only [p1, p2, p3, p4, p5, p6, p8, p9, p10, p11 G (t.val % 32) (t.val / 32), p12 G (t.val % 32) (t.val / 32), p13 G D (t.val % 32) (t.val / 32), p14 Q K V G T D (t.val % 32) (t.val / 32), p16, p18 Q (t.val % 32) (t.val / 32), p29 Q (t.val % 32) (t.val / 32), p19 Q K T (t.val % 32) (t.val / 32), p30 Q K T (t.val % 32) (t.val / 32), p20 Q K T (t.val % 32) (t.val / 32) (hb t), p31 Q K T (t.val % 32) (t.val / 32) (hb t), p21 G D (t.val % 32) (t.val / 32), p33 G D (t.val % 32) (t.val / 32), p22 Q K G T D (t.val % 32) (t.val / 32) (hb t), p32 Q K T (t.val % 32) (t.val / 32), p35 Q K G T D (t.val % 32) (t.val / 32) (hb t), p36 Q K G T D (t.val % 32) (t.val / 32) (hb t), p23 Q K V G T D (t.val % 32) (t.val / 32) (hb t), p24 Q K V G T D (t.val % 32) (t.val / 32) (hb t), p26 Q K V G T D (t.val % 32) (t.val / 32) (hb t), p27 Q K V G T D (t.val % 32) (t.val / 32) (hb t), p28 Q K V G T D (t.val % 32) (t.val / 32) (hb t), p34 V G D (t.val % 32) (t.val / 32), p37 Q K V G T D (t.val % 32) (t.val / 32) (hb t), p39 Q K V G T D (t.val % 32) (t.val / 32) (hb t), p40 Q K V G T D (t.val % 32) (t.val / 32), p41 Q K V G T D (t.val % 32) (t.val / 32) (hb t), p42 Q K V G T D (t.val % 32) (t.val / 32) (hb t), mlo, mhi]
  rw [putA t, ← step_dk Q K V G T D]
  simp only [h0, mul_zero, dk_zero, dv_zero]

theorem s0_B (h0 : ¬t.val % 32 = 0) (h1 : ¬t.val % 32 = 31) (hl : t.val - 1 < cfg0.N) (hA : (outsAt0 m c (t.val - 1) hl).2.2.2.2.2.1 = R2 fun r c => dk Q K V G T D (256 * (t.val % 32)) r (128 * (t.val / 32) + c)) :
    (outsAt0 m c t.val t.isLt).2.2.2.2.2.1 = R2 fun r c => dk Q K V G T D (256 * (t.val % 32 + 1)) r (128 * (t.val / 32) + c) := by
  rw [outsAt0_B m c t h0 h1]
  frame_open
  simp (disch := decide) only [↓ View.readCov_skip, ↓ View.readCov_cons_toLoadRect, ↓ View.readCov_fill]
  frame_out
  simp only [hA, read_unread_whole, ldr_f, b0 H t, b3 H t, b5 H t, b6 H t, l1 H t, l2 H t, l4_0 H t, l4_1 H t]
  simp only [p1, p2, p3, p4, p5, p6, p8, p9, p10, p11 G (t.val % 32) (t.val / 32), p12 G (t.val % 32) (t.val / 32), p13 G D (t.val % 32) (t.val / 32), p14 Q K V G T D (t.val % 32) (t.val / 32), p16, p18 Q (t.val % 32) (t.val / 32), p29 Q (t.val % 32) (t.val / 32), p19 Q K T (t.val % 32) (t.val / 32), p30 Q K T (t.val % 32) (t.val / 32), p20 Q K T (t.val % 32) (t.val / 32) (hb t), p31 Q K T (t.val % 32) (t.val / 32) (hb t), p21 G D (t.val % 32) (t.val / 32), p33 G D (t.val % 32) (t.val / 32), p22 Q K G T D (t.val % 32) (t.val / 32) (hb t), p32 Q K T (t.val % 32) (t.val / 32), p35 Q K G T D (t.val % 32) (t.val / 32) (hb t), p36 Q K G T D (t.val % 32) (t.val / 32) (hb t), p23 Q K V G T D (t.val % 32) (t.val / 32) (hb t), p24 Q K V G T D (t.val % 32) (t.val / 32) (hb t), p26 Q K V G T D (t.val % 32) (t.val / 32) (hb t), p27 Q K V G T D (t.val % 32) (t.val / 32) (hb t), p28 Q K V G T D (t.val % 32) (t.val / 32) (hb t), p34 V G D (t.val % 32) (t.val / 32), p37 Q K V G T D (t.val % 32) (t.val / 32) (hb t), p39 Q K V G T D (t.val % 32) (t.val / 32) (hb t), p40 Q K V G T D (t.val % 32) (t.val / 32), p41 Q K V G T D (t.val % 32) (t.val / 32) (hb t), p42 Q K V G T D (t.val % 32) (t.val / 32) (hb t), mlo, mhi]
  rw [put0, ← step_dk Q K V G T D]

theorem s0_C (h0 : ¬t.val % 32 = 0) (h1 : t.val % 32 = 31) (hl : t.val - 1 < cfg0.N) (hA : (outsAt0 m c (t.val - 1) hl).2.2.2.2.2.1 = R2 fun r c => dk Q K V G T D (256 * (t.val % 32)) r (128 * (t.val / 32) + c)) :
    (outsAt0 m c t.val t.isLt).2.2.2.2.2.1 = R2 fun r c => dk Q K V G T D (256 * (t.val % 32 + 1)) r (128 * (t.val / 32) + c) := by
  rw [outsAt0_C m c t h0 h1]
  frame_open
  simp (disch := decide) only [↓ View.readCov_skip, ↓ View.readCov_cons_toLoadRect, ↓ View.readCov_fill]
  frame_out
  simp only [hA, read_unread_whole, ldr_f, b0 H t, b3 H t, b5 H t, b6 H t, l1 H t, l2 H t, l4_0 H t, l4_1 H t]
  simp only [p1, p2, p3, p4, p5, p6, p8, p9, p10, p11 G (t.val % 32) (t.val / 32), p12 G (t.val % 32) (t.val / 32), p13 G D (t.val % 32) (t.val / 32), p14 Q K V G T D (t.val % 32) (t.val / 32), p16, p18 Q (t.val % 32) (t.val / 32), p29 Q (t.val % 32) (t.val / 32), p19 Q K T (t.val % 32) (t.val / 32), p30 Q K T (t.val % 32) (t.val / 32), p20 Q K T (t.val % 32) (t.val / 32) (hb t), p31 Q K T (t.val % 32) (t.val / 32) (hb t), p21 G D (t.val % 32) (t.val / 32), p33 G D (t.val % 32) (t.val / 32), p22 Q K G T D (t.val % 32) (t.val / 32) (hb t), p32 Q K T (t.val % 32) (t.val / 32), p35 Q K G T D (t.val % 32) (t.val / 32) (hb t), p36 Q K G T D (t.val % 32) (t.val / 32) (hb t), p23 Q K V G T D (t.val % 32) (t.val / 32) (hb t), p24 Q K V G T D (t.val % 32) (t.val / 32) (hb t), p26 Q K V G T D (t.val % 32) (t.val / 32) (hb t), p27 Q K V G T D (t.val % 32) (t.val / 32) (hb t), p28 Q K V G T D (t.val % 32) (t.val / 32) (hb t), p34 V G D (t.val % 32) (t.val / 32), p37 Q K V G T D (t.val % 32) (t.val / 32) (hb t), p39 Q K V G T D (t.val % 32) (t.val / 32) (hb t), p40 Q K V G T D (t.val % 32) (t.val / 32), p41 Q K V G T D (t.val % 32) (t.val / 32) (hb t), p42 Q K V G T D (t.val % 32) (t.val / 32) (hb t), mlo, mhi]
  rw [put0, ← step_dk Q K V G T D]

theorem s1_A (h0 : t.val % 32 = 0) (h1 : ¬t.val % 32 = 31) : (outsAt0 m c t.val t.isLt).2.2.2.2.2.2 = R2 fun r c => dv Q K G T D (256 * (t.val % 32 + 1)) r (128 * (t.val / 32) + c) := by
  rw [outsAt0_A m c t h0 h1]
  frame_open
  simp (disch := decide) only [↓ View.readCov_skip, ↓ View.readCov_cons_toLoadRect, ↓ View.readCov_fill]
  frame_out
  simp only [b0 H t, b3 H t, b5 H t, b6 H t, l1 H t, l2 H t, l4_0 H t, l4_1 H t]
  simp only [p1, p2, p3, p4, p5, p6, p8, p9, p10, p11 G (t.val % 32) (t.val / 32), p12 G (t.val % 32) (t.val / 32), p13 G D (t.val % 32) (t.val / 32), p14 Q K V G T D (t.val % 32) (t.val / 32), p16, p18 Q (t.val % 32) (t.val / 32), p29 Q (t.val % 32) (t.val / 32), p19 Q K T (t.val % 32) (t.val / 32), p30 Q K T (t.val % 32) (t.val / 32), p20 Q K T (t.val % 32) (t.val / 32) (hb t), p31 Q K T (t.val % 32) (t.val / 32) (hb t), p21 G D (t.val % 32) (t.val / 32), p33 G D (t.val % 32) (t.val / 32), p22 Q K G T D (t.val % 32) (t.val / 32) (hb t), p32 Q K T (t.val % 32) (t.val / 32), p35 Q K G T D (t.val % 32) (t.val / 32) (hb t), p36 Q K G T D (t.val % 32) (t.val / 32) (hb t), p23 Q K V G T D (t.val % 32) (t.val / 32) (hb t), p24 Q K V G T D (t.val % 32) (t.val / 32) (hb t), p26 Q K V G T D (t.val % 32) (t.val / 32) (hb t), p27 Q K V G T D (t.val % 32) (t.val / 32) (hb t), p28 Q K V G T D (t.val % 32) (t.val / 32) (hb t), p34 V G D (t.val % 32) (t.val / 32), p37 Q K V G T D (t.val % 32) (t.val / 32) (hb t), p39 Q K V G T D (t.val % 32) (t.val / 32) (hb t), p40 Q K V G T D (t.val % 32) (t.val / 32), p41 Q K V G T D (t.val % 32) (t.val / 32) (hb t), p42 Q K V G T D (t.val % 32) (t.val / 32) (hb t), mlo, mhi]
  rw [ldr_f (fun _ _ => 0) t]
  simp only [p1, p2, p3, p4, p5, p6, p8, p9, p10, p11 G (t.val % 32) (t.val / 32), p12 G (t.val % 32) (t.val / 32), p13 G D (t.val % 32) (t.val / 32), p14 Q K V G T D (t.val % 32) (t.val / 32), p16, p18 Q (t.val % 32) (t.val / 32), p29 Q (t.val % 32) (t.val / 32), p19 Q K T (t.val % 32) (t.val / 32), p30 Q K T (t.val % 32) (t.val / 32), p20 Q K T (t.val % 32) (t.val / 32) (hb t), p31 Q K T (t.val % 32) (t.val / 32) (hb t), p21 G D (t.val % 32) (t.val / 32), p33 G D (t.val % 32) (t.val / 32), p22 Q K G T D (t.val % 32) (t.val / 32) (hb t), p32 Q K T (t.val % 32) (t.val / 32), p35 Q K G T D (t.val % 32) (t.val / 32) (hb t), p36 Q K G T D (t.val % 32) (t.val / 32) (hb t), p23 Q K V G T D (t.val % 32) (t.val / 32) (hb t), p24 Q K V G T D (t.val % 32) (t.val / 32) (hb t), p26 Q K V G T D (t.val % 32) (t.val / 32) (hb t), p27 Q K V G T D (t.val % 32) (t.val / 32) (hb t), p28 Q K V G T D (t.val % 32) (t.val / 32) (hb t), p34 V G D (t.val % 32) (t.val / 32), p37 Q K V G T D (t.val % 32) (t.val / 32) (hb t), p39 Q K V G T D (t.val % 32) (t.val / 32) (hb t), p40 Q K V G T D (t.val % 32) (t.val / 32), p41 Q K V G T D (t.val % 32) (t.val / 32) (hb t), p42 Q K V G T D (t.val % 32) (t.val / 32) (hb t), mlo, mhi]
  rw [putA t, ← step_dv Q K G T D]
  simp only [h0, mul_zero, dk_zero, dv_zero]

theorem s1_B (h0 : ¬t.val % 32 = 0) (h1 : ¬t.val % 32 = 31) (hl : t.val - 1 < cfg0.N) (hA : (outsAt0 m c (t.val - 1) hl).2.2.2.2.2.2 = R2 fun r c => dv Q K G T D (256 * (t.val % 32)) r (128 * (t.val / 32) + c)) :
    (outsAt0 m c t.val t.isLt).2.2.2.2.2.2 = R2 fun r c => dv Q K G T D (256 * (t.val % 32 + 1)) r (128 * (t.val / 32) + c) := by
  rw [outsAt0_B m c t h0 h1]
  frame_open
  simp (disch := decide) only [↓ View.readCov_skip, ↓ View.readCov_cons_toLoadRect, ↓ View.readCov_fill]
  frame_out
  simp only [hA, read_unread_whole, ldr_f, b0 H t, b3 H t, b5 H t, b6 H t, l1 H t, l2 H t, l4_0 H t, l4_1 H t]
  simp only [p1, p2, p3, p4, p5, p6, p8, p9, p10, p11 G (t.val % 32) (t.val / 32), p12 G (t.val % 32) (t.val / 32), p13 G D (t.val % 32) (t.val / 32), p14 Q K V G T D (t.val % 32) (t.val / 32), p16, p18 Q (t.val % 32) (t.val / 32), p29 Q (t.val % 32) (t.val / 32), p19 Q K T (t.val % 32) (t.val / 32), p30 Q K T (t.val % 32) (t.val / 32), p20 Q K T (t.val % 32) (t.val / 32) (hb t), p31 Q K T (t.val % 32) (t.val / 32) (hb t), p21 G D (t.val % 32) (t.val / 32), p33 G D (t.val % 32) (t.val / 32), p22 Q K G T D (t.val % 32) (t.val / 32) (hb t), p32 Q K T (t.val % 32) (t.val / 32), p35 Q K G T D (t.val % 32) (t.val / 32) (hb t), p36 Q K G T D (t.val % 32) (t.val / 32) (hb t), p23 Q K V G T D (t.val % 32) (t.val / 32) (hb t), p24 Q K V G T D (t.val % 32) (t.val / 32) (hb t), p26 Q K V G T D (t.val % 32) (t.val / 32) (hb t), p27 Q K V G T D (t.val % 32) (t.val / 32) (hb t), p28 Q K V G T D (t.val % 32) (t.val / 32) (hb t), p34 V G D (t.val % 32) (t.val / 32), p37 Q K V G T D (t.val % 32) (t.val / 32) (hb t), p39 Q K V G T D (t.val % 32) (t.val / 32) (hb t), p40 Q K V G T D (t.val % 32) (t.val / 32), p41 Q K V G T D (t.val % 32) (t.val / 32) (hb t), p42 Q K V G T D (t.val % 32) (t.val / 32) (hb t), mlo, mhi]
  rw [put1, ← step_dv Q K G T D]

theorem s1_C (h0 : ¬t.val % 32 = 0) (h1 : t.val % 32 = 31) (hl : t.val - 1 < cfg0.N) (hA : (outsAt0 m c (t.val - 1) hl).2.2.2.2.2.2 = R2 fun r c => dv Q K G T D (256 * (t.val % 32)) r (128 * (t.val / 32) + c)) :
    (outsAt0 m c t.val t.isLt).2.2.2.2.2.2 = R2 fun r c => dv Q K G T D (256 * (t.val % 32 + 1)) r (128 * (t.val / 32) + c) := by
  rw [outsAt0_C m c t h0 h1]
  frame_open
  simp (disch := decide) only [↓ View.readCov_skip, ↓ View.readCov_cons_toLoadRect, ↓ View.readCov_fill]
  frame_out
  simp only [hA, read_unread_whole, ldr_f, b0 H t, b3 H t, b5 H t, b6 H t, l1 H t, l2 H t, l4_0 H t, l4_1 H t]
  simp only [p1, p2, p3, p4, p5, p6, p8, p9, p10, p11 G (t.val % 32) (t.val / 32), p12 G (t.val % 32) (t.val / 32), p13 G D (t.val % 32) (t.val / 32), p14 Q K V G T D (t.val % 32) (t.val / 32), p16, p18 Q (t.val % 32) (t.val / 32), p29 Q (t.val % 32) (t.val / 32), p19 Q K T (t.val % 32) (t.val / 32), p30 Q K T (t.val % 32) (t.val / 32), p20 Q K T (t.val % 32) (t.val / 32) (hb t), p31 Q K T (t.val % 32) (t.val / 32) (hb t), p21 G D (t.val % 32) (t.val / 32), p33 G D (t.val % 32) (t.val / 32), p22 Q K G T D (t.val % 32) (t.val / 32) (hb t), p32 Q K T (t.val % 32) (t.val / 32), p35 Q K G T D (t.val % 32) (t.val / 32) (hb t), p36 Q K G T D (t.val % 32) (t.val / 32) (hb t), p23 Q K V G T D (t.val % 32) (t.val / 32) (hb t), p24 Q K V G T D (t.val % 32) (t.val / 32) (hb t), p26 Q K V G T D (t.val % 32) (t.val / 32) (hb t), p27 Q K V G T D (t.val % 32) (t.val / 32) (hb t), p28 Q K V G T D (t.val % 32) (t.val / 32) (hb t), p34 V G D (t.val % 32) (t.val / 32), p37 Q K V G T D (t.val % 32) (t.val / 32) (hb t), p39 Q K V G T D (t.val % 32) (t.val / 32) (hb t), p40 Q K V G T D (t.val % 32) (t.val / 32), p41 Q K V G T D (t.val % 32) (t.val / 32) (hb t), p42 Q K V G T D (t.val % 32) (t.val / 32) (hb t), mlo, mhi]
  rw [put1, ← step_dv Q K G T D]

omit t in
/-- What the two carried buffers hold after a point: the gradients at the padded keys and values from the tiles of queries so far. -/
theorem carried : ∀ (n : ℕ) (hn : n < cfg0.N), (outsAt0 m c n hn).2.2.2.2.2.1 = R2 (fun r c => dk Q K V G T D (256 * (n % 32 + 1)) r (128 * (n / 32) + c))
      ∧ (outsAt0 m c n hn).2.2.2.2.2.2 = R2 (fun r c => dv Q K G T D (256 * (n % 32 + 1)) r (128 * (n / 32) + c)) := by
  intro n
  induction n with
  | zero =>
    intro hn
    exact ⟨s0_A H ⟨0, hn⟩ rfl (by dsimp only; omega), s1_A H ⟨0, hn⟩ rfl (by dsimp only; omega)⟩
  | succ n ih =>
    intro hn
    by_cases h0 : (n + 1) % 32 = 0
    · exact ⟨s0_A H ⟨n + 1, hn⟩ h0 (by dsimp only; omega), s1_A H ⟨n + 1, hn⟩ h0 (by dsimp only; omega)⟩
    · have hp := ih (by omega)
      rw [show n % 32 + 1 = (n + 1) % 32 by omega, show n / 32 = (n + 1) / 32 by omega] at hp
      by_cases h1 : (n + 1) % 32 = 31
      · exact ⟨s0_C H ⟨n + 1, hn⟩ h0 h1 (by dsimp only; omega) hp.1, s1_C H ⟨n + 1, hn⟩ h0 h1 (by dsimp only; omega) hp.2⟩
      · exact ⟨s0_B H ⟨n + 1, hn⟩ h0 h1 (by dsimp only; omega) hp.1, s1_B H ⟨n + 1, hn⟩ h0 h1 (by dsimp only; omega) hp.2⟩

theorem before (h0 : ¬t.val % 32 = 0) (hl : t.val - 1 < cfg0.N) :
    (outsAt0 m c (t.val - 1) hl).2.2.2.2.2.1 = R2 (fun r c => dk Q K V G T D (256 * (t.val % 32)) r (128 * (t.val / 32) + c))
      ∧ (outsAt0 m c (t.val - 1) hl).2.2.2.2.2.2 = R2 (fun r c => dv Q K G T D (256 * (t.val % 32)) r (128 * (t.val / 32) + c)) := by
  have hp := carried H (t.val - 1) hl
  rw [show (t.val - 1) % 32 + 1 = t.val % 32 by omega, show (t.val - 1) / 32 = t.val / 32 by omega] at hp
  exact hp

/-- The columns of the gradient at the padded keys, at the last point of a pair of heads. -/
theorem o9 (h1 : t.val % 32 = 31) : (outsAt0 m c t.val t.isLt).2.2.1 = R2 fun r c => dk Q K V G T D 8192 r (128 * (t.val / 32) + c) := by
  have h0 : ¬t.val % 32 = 0 := by omega
  have hA := (before H t h0 (Nat.lt_of_le_of_lt (Nat.sub_le _ _) t.isLt)).1
  rw [outsAt0_C m c t h0 h1]
  frame_open
  simp (disch := decide) only [↓ View.readCov_skip, ↓ View.readCov_cons_toLoadRect, ↓ View.readCov_fill]
  frame_out
  simp only [hA, read_unread_whole, ldr_f, b0 H t, b3 H t, b5 H t, b6 H t, l1 H t, l2 H t, l4_0 H t, l4_1 H t]
  simp only [p1, p2, p3, p4, p5, p6, p8, p9, p10, p11 G (t.val % 32) (t.val / 32), p12 G (t.val % 32) (t.val / 32), p13 G D (t.val % 32) (t.val / 32), p14 Q K V G T D (t.val % 32) (t.val / 32), p16, p18 Q (t.val % 32) (t.val / 32), p29 Q (t.val % 32) (t.val / 32), p19 Q K T (t.val % 32) (t.val / 32), p30 Q K T (t.val % 32) (t.val / 32), p20 Q K T (t.val % 32) (t.val / 32) (hb t), p31 Q K T (t.val % 32) (t.val / 32) (hb t), p21 G D (t.val % 32) (t.val / 32), p33 G D (t.val % 32) (t.val / 32), p22 Q K G T D (t.val % 32) (t.val / 32) (hb t), p32 Q K T (t.val % 32) (t.val / 32), p35 Q K G T D (t.val % 32) (t.val / 32) (hb t), p36 Q K G T D (t.val % 32) (t.val / 32) (hb t), p23 Q K V G T D (t.val % 32) (t.val / 32) (hb t), p24 Q K V G T D (t.val % 32) (t.val / 32) (hb t), p26 Q K V G T D (t.val % 32) (t.val / 32) (hb t), p27 Q K V G T D (t.val % 32) (t.val / 32) (hb t), p28 Q K V G T D (t.val % 32) (t.val / 32) (hb t), p34 V G D (t.val % 32) (t.val / 32), p37 Q K V G T D (t.val % 32) (t.val / 32) (hb t), p39 Q K V G T D (t.val % 32) (t.val / 32) (hb t), p40 Q K V G T D (t.val % 32) (t.val / 32), p41 Q K V G T D (t.val % 32) (t.val / 32) (hb t), p42 Q K V G T D (t.val % 32) (t.val / 32) (hb t), mlo, mhi]
  rw [put0, step_dk Q K V G T D, h1, p3]

/-- The columns of the gradient at the padded values. -/
theorem o10 (h1 : t.val % 32 = 31) : (outsAt0 m c t.val t.isLt).2.2.2.1 = R2 fun r c => dv Q K G T D 8192 r (128 * (t.val / 32) + c) := by
  have h0 : ¬t.val % 32 = 0 := by omega
  have hA := (before H t h0 (Nat.lt_of_le_of_lt (Nat.sub_le _ _) t.isLt)).2
  rw [outsAt0_C m c t h0 h1]
  frame_open
  simp (disch := decide) only [↓ View.readCov_skip, ↓ View.readCov_cons_toLoadRect, ↓ View.readCov_fill]
  frame_out
  simp only [hA, read_unread_whole, ldr_f, b0 H t, b3 H t, b5 H t, b6 H t, l1 H t, l2 H t, l4_0 H t, l4_1 H t]
  simp only [p1, p2, p3, p4, p5, p6, p8, p9, p10, p11 G (t.val % 32) (t.val / 32), p12 G (t.val % 32) (t.val / 32), p13 G D (t.val % 32) (t.val / 32), p14 Q K V G T D (t.val % 32) (t.val / 32), p16, p18 Q (t.val % 32) (t.val / 32), p29 Q (t.val % 32) (t.val / 32), p19 Q K T (t.val % 32) (t.val / 32), p30 Q K T (t.val % 32) (t.val / 32), p20 Q K T (t.val % 32) (t.val / 32) (hb t), p31 Q K T (t.val % 32) (t.val / 32) (hb t), p21 G D (t.val % 32) (t.val / 32), p33 G D (t.val % 32) (t.val / 32), p22 Q K G T D (t.val % 32) (t.val / 32) (hb t), p32 Q K T (t.val % 32) (t.val / 32), p35 Q K G T D (t.val % 32) (t.val / 32) (hb t), p36 Q K G T D (t.val % 32) (t.val / 32) (hb t), p23 Q K V G T D (t.val % 32) (t.val / 32) (hb t), p24 Q K V G T D (t.val % 32) (t.val / 32) (hb t), p26 Q K V G T D (t.val % 32) (t.val / 32) (hb t), p27 Q K V G T D (t.val % 32) (t.val / 32) (hb t), p28 Q K V G T D (t.val % 32) (t.val / 32) (hb t), p34 V G D (t.val % 32) (t.val / 32), p37 Q K V G T D (t.val % 32) (t.val / 32) (hb t), p39 Q K V G T D (t.val % 32) (t.val / 32) (hb t), p40 Q K V G T D (t.val % 32) (t.val / 32), p41 Q K V G T D (t.val % 32) (t.val / 32) (hb t), p42 Q K V G T D (t.val % 32) (t.val / 32) (hb t), mlo, mhi]
  rw [put1, step_dv Q K G T D, h1, p4]

end Cert.Ca

end
-- ==== Proof.ChunkFinal.lean ====
/- The arrays the chunked attention's backward call leaves. -/
module

public import proofs.«01_k».proof.Proof.ChunkPoints

@[expose] public section

set_option maxRecDepth 16384

noncomputable section

namespace Cert.Ca

open Idealize.ShloMosaic Idealize.ShloMosaic.TcCoe Cert.Kernel2Ideal Cert.Kernel2Ideal.Gen Cert.Kernel2Ideal.Value
open Cert.Xa (R1 R2 R3 R4 R1_apply R2_apply R3_apply R4_apply eq_R1 eq_R2 eq_R3)

variable {m : (ℓ : Loc nD τ sig) → Buf (Elt Ideal) ℓ} {c : Dev nD} {Q K V G T D : ℕ → ℕ → ℝ} (H : Holds m c Q K V G T D)
include H

/-- The kernel's gradient at the queries. -/
theorem f7 : (dats m 0 c).arrAt 7 cfg0.N = R2 (dq Q K V G T D) := by
  refine (dats m 0 c).arrAt_eq_of_covers 7 _ (by decide +kernel) fun t hf y => ?_
  blk_simp
  rw [after0_7, o7 H t]
  blk_simp [R2, tl, idx t]
  simp only [Nat.mul_comm _ 256, Nat.mul_comm _ 128]

/-- The kernel's gradient at the gate. -/
theorem f8 : (dats m 0 c).arrAt 8 cfg0.N = R2 (dgt Q K V G T D) := by
  refine (dats m 0 c).arrAt_eq_of_covers 8 _ (by decide +kernel) fun t hf y => ?_
  blk_simp
  rw [after0_8, o8 H t]
  blk_simp [R2, tl, idx t]
  simp only [Nat.mul_comm _ 256, Nat.mul_comm _ 128]

/-- The kernel's gradient at the padded keys. -/
theorem f9 : (dats m 0 c).arrAt 9 cfg0.N = R2 (dk Q K V G T D 8192) := by
  refine (dats m 0 c).arrAt_eq_of_covers 9 _ (by decide +kernel) fun t hf y => ?_
  blk_simp
  rw [after0_9, o9 H t ((flush0_9 t).mp hf)]
  blk_simp [R2, tl, idx t]
  simp only [Nat.mul_comm _ 256, Nat.mul_comm _ 128]

/-- The kernel's gradient at the padded values. -/
theorem f10 : (dats m 0 c).arrAt 10 cfg0.N = R2 (dv Q K G T D 8192) := by
  refine (dats m 0 c).arrAt_eq_of_covers 10 _ (by decide +kernel) fun t hf y => ?_
  blk_simp
  rw [after0_10, o10 H t ((flush0_10 t).mp hf)]
  blk_simp [R2, tl, idx t]
  simp only [Nat.mul_comm _ 256, Nat.mul_comm _ 128]

end Cert.Ca

end
-- ==== Proof.ChunkRef.lean ====
/- The values of the chunked attention's reference, in the terms of the model. -/
module

public import proofs.«01_k».proof.Proof.ChunkWords
public import proofs.«01_k».proof.Proof.Gen.Reference2Ideal.Run
public import Idealize.ShloMosaic.Lib.Tactic.CleanTypes

@[expose] public section

set_option maxRecDepth 16384

noncomputable section

namespace Cert.Ca.Ref

open Idealize.ShloMosaic Idealize.ShloMosaic.TcCoe Idealize.ShloMosaic.StableHlo Cert.Xa Cert.Reference2Ideal Cert.Reference2Ideal.Gen Cert.Reference2Ideal.Value

theorem coe_ite (P : Prop) [Decidable P] (x y : ℝ) : (if P then ((x : ℝ) : EReal) else ((y : ℝ) : EReal)) = ((if P then x else y : ℝ) : EReal) := by
  split <;> rfl

theorem exp_shift (P : Prop) [Decidable P] (x y : ℝ) :
    Ideal.exp (bot P x - max (Ideal.ofBits .f32 0xFF800000#32) ((y : ℝ) : EReal)) = (((if P then Real.exp x else 0) * Real.exp (-y) : ℝ) : EReal) := by
  rw [word_bot, max_eq_right bot_le, exp_bot]

section ref
variable (V0 : Valuation τ sig (Elt Ideal)) (Q K V G T D : ℕ → ℕ → ℝ)
  (hq : V0 (Proc.devRef .tc main_arg0) = (R2 Q : FVec Ideal S8192x1024 .bf16))
  (hk : V0 (Proc.devRef .tc main_arg1) = (R2 K : FVec Ideal S8192x1024 .bf16))
  (hv : V0 (Proc.devRef .tc main_arg2) = (R2 V : FVec Ideal S8192x1024 .bf16))
  (hg : V0 (Proc.devRef .tc main_arg3) = (R2 G : FVec Ideal S8192x1024 .f32))
  (ht : V0 (Proc.devRef .tc main_arg4) = (R2 T : FVec Ideal S16x257 .f32))
  (hd : V0 (Proc.devRef .tc main_arg5) = (R2 D : FVec Ideal S8192x1024 .f32))

include hq in
theorem r3 : res_main_v3 (F := Ideal) V0 = (R3 fun i h d => Q i (64 * h + d) : FVec Ideal S8192x16x64 .f32) := by
  refine eq_R3 fun i j k => ?_
  unfold res_main_v3
  clean_types
  pointwise [hq]
  simp only [R2_apply, Nat.mul_comm _ 64]

include hk in
theorem r4 : res_main_v4 (F := Ideal) V0 = (R3 fun i h d => K i (64 * h + d) : FVec Ideal S8192x16x64 .f32) := by
  refine eq_R3 fun i j k => ?_
  unfold res_main_v4
  clean_types
  pointwise [hk]
  simp only [R2_apply, Nat.mul_comm _ 64]

include hv in
theorem r5 : res_main_v5 (F := Ideal) V0 = (R3 fun i h d => V i (64 * h + d) : FVec Ideal S8192x16x64 .f32) := by
  refine eq_R3 fun i j k => ?_
  unfold res_main_v5
  clean_types
  pointwise [hv]
  simp only [R2_apply, Nat.mul_comm _ 64]

theorem r7 (i : Fin 8192) (j : Fin 1) : (res_main_v7 (F := Ideal) V0 : IVec S8192x1 32) (ix2 i j) = BitVec.ofNat 32 i.val := by
  unfold res_main_v7
  clean_types
  pointwise []

theorem r9 (i : Fin 1) (j : Fin 8192) : (res_main_v9 (F := Ideal) V0 : IVec S1x8192 32) (ix2 i j) = BitVec.ofNat 32 j.val := by
  unfold res_main_v9
  clean_types
  pointwise []

theorem c0 : (res_main_call0_v0 (F := Ideal) V0 : IVec S_ 32) ix0 = 64#32 := rfl
theorem c1 : (res_main_call1_v0 (F := Ideal) V0 : IVec S_ 32) ix0 = 64#32 := rfl

theorem c02 (i : Fin 8192) (j : Fin 1) : (res_main_call0_v2 (F := Ideal) V0 : IVec S8192x1 32) (ix2 i j) = IntOp.divsi .host (BitVec.ofNat 32 i.val) 64#32 := by
  unfold res_main_call0_v2
  clean_types
  pointwise [r7, c0]

theorem c12 (i : Fin 1) (j : Fin 8192) : (res_main_call1_v2 (F := Ideal) V0 : IVec S1x8192 32) (ix2 i j) = IntOp.divsi .host (BitVec.ofNat 32 j.val) 64#32 := by
  unfold res_main_call1_v2
  clean_types
  pointwise [r9, c1]

theorem r14 (i j : Fin 8192) : ((res_main_v14 (F := Ideal) V0 : IVec S8192x8192 32) (ix2 i j)).toInt = ((i.val / 64 : ℕ) : ℤ) - ((j.val / 64 : ℕ) : ℤ) := by
  unfold res_main_v14
  clean_types
  pointwise [r7, r9, c0, c1, c02, c12]
  exact toInt_sub ((congrArg BitVec.toInt (floor64_word (n := i.val) (by omega) _)).trans (toInt_ofNat (by omega)))
    ((congrArg BitVec.toInt (floor64_word (n := j.val) (by omega) _)).trans (toInt_ofNat (by omega))) (by omega) (by omega)

theorem r20 (i j : Fin 8192) : ((res_main_v20 (F := Ideal) V0 : IVec S8192x8192 32) (ix2 i j)).toInt = rel i.val (512 + j.val) := by
  unfold res_main_v20
  clean_types
  pointwise [r7, r9]
  refine (rel_word (toInt_sub (toInt_ofNat (by omega)) (toInt_ofNat (by omega)) (by omega) (by omega)) (by omega)).trans ?_
  unfold rel
  omega

theorem r371 (h : Fin 16) (i j : Fin 8192) : (res_main_v37_1 (F := Ideal) V0 : IVec S16x8192x8192 1) (ix3 h i j) = BitVec.ofBool (decide (bnd i.val (512 + j.val))) := by
  unfold res_main_v37_1
  clean_types
  pointwise []
  refine (band_word (r14 V0 i j)).trans (congrArg BitVec.ofBool (decide_eq_decide.2 ?_))
  unfold bnd
  omega

theorem look (x : FVec Ideal S16x257 .f32) (idx : IVec S8192x8192x1 32) (h : Fin 16) (i j : Fin 8192) {n : ℕ} (hn : n < 257)
    (e : (idx (ix3 i j (0 : Fin 1))).toInt = n) :
    Host.gather gather_S16x257_S8192x8192x1_S16x8192x8192_0_1_n_n_1_2_161 x idx (ix3 h i j) = x (ix2 h ⟨n, hn⟩) :=
  lookup_at gather_S16x257_S8192x8192x1_S16x8192x8192_0_1_n_n_1_2_161.wf x idx h i j hn e

include hq hk ht in
theorem r370 (h : Fin 16) (i j : Fin 8192) : (res_main_v37_0 (F := Ideal) V0 : FVec Ideal S16x8192x8192 .f32) (ix3 h i j)
    = bot (bnd i.val (512 + j.val)) (sc Q K T h.val i.val (512 + j.val)) := by
  unfold res_main_v37_0
  clean_types
  pointwise [r371, r3 V0 Q hq, r4 V0 K hk]
  rw [look _ _ h i j (n := rel i.val (512 + j.val)) (by unfold rel; omega) (by
      pointwise []
      rw [wrap_word (by rw [r20]; exact Int.natCast_nonneg _)]
      exact r20 V0 i j), ht]
  change (if _ then _ else Ideal.ofBits .f32 0xFF800000#32) = _
  simp only [R1_apply, R2_apply, R3_apply, R4_apply, ← EReal.coe_mul, ← EReal.coe_add, ← EReal.coe_sub, ← EReal.coe_neg, ← EReal.coe_one, ← EReal.coe_zero, coe_sum, Ideal.exp_coe, word_eighth, word_bot]
  unfold bot sc
  simp only [pad_at, Finset.sum_mul]
  congr 3
  exact Finset.sum_congr rfl fun k _ => by ring

include hq hk ht in
theorem r38 (h : Fin 16) (i : Fin 8192) : (res_main_v38 (F := Ideal) V0 : FVec Ideal S16x8192 .f32) (ix2 h i) = ((rm Q K T h.val i.val : ℝ) : EReal) := by
  unfold res_main_v38
  clean_types
  pointwise [r370 V0 Q K T hq hk ht]
  rw [word_bot]
  exact fold_bot (n := 8192) (fun j => bnd i.val (512 + j)) (fun j => sc Q K T h.val i.val (512 + j)) ⟨i.val, i.isLt, bnd_self _⟩

theorem exp_row (x : FVec Ideal S16x8192x8192 .f32) (y : FVec Ideal S16x8192 .f32) (h : Fin 16) (i j : Fin 8192) :
    Host.exp (subf x (broadcastInDim S16x8192x8192 ![0, 1, 2] bcast_S16x8192x1_S16x8192x8192_0_1_2
      (broadcastInDim S16x8192x1 ![0, 1] bcast_S16x8192_S16x8192x1_0_1
        (maximumf (broadcastInDim S16x8192 ![] bcast_S_S16x8192 (constant S_ .f32 0xFF800000#32)) y)))) (ix3 h i j)
      = Ideal.exp (x (ix3 h i j) - max (Ideal.ofBits .f32 0xFF800000#32) (y (ix2 h i))) := by
  pointwise []

include hq hk ht in
theorem r58 : (res_main_v58 (F := Ideal) V0 : FVec Ideal S16x8192x8192 .f32) = R3 fun h i k => re Q K T h i k := by
  refine eq_R3 fun h i j => ?_
  refine (exp_row (res_main_v37_0 V0) (res_main_v38 V0) h i j).trans ?_
  rw [r370 V0 Q K T hq hk ht, r38 V0 Q K T hq hk ht]
  unfold re pe
  exact exp_shift _ _ _

include hq hk ht in
theorem r60 : (res_main_v60 (F := Ideal) V0 : FVec Ideal S16x8192x1 .f32) = R3 fun h i _ => rl Q K T h i := by
  refine eq_R3 fun h i j => ?_
  unfold res_main_v60
  clean_types
  pointwise [r58 V0 Q K T hq hk ht]
  simp only [R1_apply, R2_apply, R3_apply, R4_apply, ← EReal.coe_mul, ← EReal.coe_add, ← EReal.coe_sub, ← EReal.coe_neg, ← EReal.coe_one, ← EReal.coe_zero, coe_sum, Ideal.exp_coe, word_eighth, word_bot, zero_add]
  rfl

include hq hk ht in
theorem r62 : (res_main_v62 (F := Ideal) V0 : FVec Ideal S16x8192x8192 .f32) = R3 fun h i k => wt Q K T h i (512 + k) := by
  refine eq_R3 fun h i j => ?_
  unfold res_main_v62
  clean_types
  pointwise [r58 V0 Q K T hq hk ht, r60 V0 Q K T hq hk ht]
  simp only [R3_apply]
  rw [div_rl Q K T _ i.isLt, re_div Q K T _ i.isLt]

include hq hk ht hv in
theorem r68 : (res_main_v68 (F := Ideal) V0 : FVec Ideal S8192x1024 .f32) = R2 (oo Q K V T) := by
  refine eq_R2 fun i j => ?_
  unfold res_main_v68
  clean_types
  pointwise [r5 V0 V hv, r62 V0 Q K T hq hk ht]
  simp only [R1_apply, R2_apply, R3_apply, R4_apply, ← EReal.coe_mul, ← EReal.coe_add, ← EReal.coe_sub, ← EReal.coe_neg, ← EReal.coe_one, ← EReal.coe_zero, coe_sum, Ideal.exp_coe, word_eighth, word_bot]
  unfold oo
  refine congrArg _ (Finset.sum_congr rfl fun k _ => ?_)
  rw [mul_comm, show 64 * (j.val / 64) + j.val % 64 = j.val by omega]

include hg in
theorem r692 : (res_main_v69_2 (F := Ideal) V0 : FVec Ideal S8192x1024 .f32) = R2 (sg G) := by
  refine eq_R2 fun i j => ?_
  unfold res_main_v69_2
  clean_types
  pointwise [hg]
  simp only [R1_apply, R2_apply, R3_apply, R4_apply, ← EReal.coe_mul, ← EReal.coe_add, ← EReal.coe_sub, ← EReal.coe_neg, ← EReal.coe_one, ← EReal.coe_zero, coe_sum, Ideal.exp_coe, word_eighth, word_bot]
  rw [div_one_add_exp]
  rfl

include hg in
theorem r690 : (res_main_v69_0 (F := Ideal) V0 : FVec Ideal S8192x1024 .f32) = R2 fun i c => G i c * sg G i c := by
  refine eq_R2 fun i j => ?_
  unfold res_main_v69_0
  clean_types
  pointwise [hg, r692 V0 G hg]
  simp only [R1_apply, R2_apply, R3_apply, R4_apply, ← EReal.coe_mul, ← EReal.coe_add, ← EReal.coe_sub, ← EReal.coe_neg, ← EReal.coe_one, ← EReal.coe_zero, coe_sum, Ideal.exp_coe, word_eighth, word_bot]

include hq hk ht hv hd in
theorem r71 : (res_main_v71 (F := Ideal) V0 : FVec Ideal S8192x1024 .f32) = R2 fun i c => oo Q K V T i c * D i c := by
  refine eq_R2 fun i j => ?_
  unfold res_main_v71
  clean_types
  pointwise [hd, r68 V0 Q K V T hq hk hv ht]
  simp only [R1_apply, R2_apply, R3_apply, R4_apply, ← EReal.coe_mul, ← EReal.coe_add, ← EReal.coe_sub, ← EReal.coe_neg, ← EReal.coe_one, ← EReal.coe_zero, coe_sum, Ideal.exp_coe, word_eighth, word_bot]

include hg hd in
theorem r75 : (res_main_v75 (F := Ideal) V0 : FVec Ideal S16x64x8192 .f32) = R3 fun h d i => dO G D i (64 * h + d) := by
  refine eq_R3 fun h d i => ?_
  unfold res_main_v75
  clean_types
  pointwise [hd, r690 V0 G hg]
  simp only [R1_apply, R2_apply, R3_apply, R4_apply, ← EReal.coe_mul, ← EReal.coe_add, ← EReal.coe_sub, ← EReal.coe_neg, ← EReal.coe_one, ← EReal.coe_zero, coe_sum, Ideal.exp_coe, word_eighth, word_bot, Nat.mul_comm _ 64]
  rfl

include hg hd hv in
theorem r76 : (res_main_v76 (F := Ideal) V0 : FVec Ideal S16x8192x8192 .f32) = R3 fun h i k => dp V G D h i (512 + k) := by
  refine eq_R3 fun h i j => ?_
  unfold res_main_v76
  clean_types
  pointwise [r75 V0 G D hg hd, r5 V0 V hv]
  simp only [R1_apply, R2_apply, R3_apply, R4_apply, ← EReal.coe_mul, ← EReal.coe_add, ← EReal.coe_sub, ← EReal.coe_neg, ← EReal.coe_one, ← EReal.coe_zero, coe_sum, Ideal.exp_coe, word_eighth, word_bot]
  unfold dp
  simp only [pad_at]

include hq hk hv hg ht hd in
theorem r93 : (res_main_v93 (F := Ideal) V0 : FVec Ideal S16x8192x8192 .f32) = R3 fun h i k => ds Q K V G T D h i (512 + k) * (1 / 8) := by
  refine eq_R3 fun h i j => ?_
  unfold res_main_v93
  clean_types
  pointwise [r371, r76 V0 V G D hv hg hd, r60 V0 Q K T hq hk ht, r58 V0 Q K T hq hk ht]
  simp only [R3_apply, ← EReal.coe_mul, ← EReal.coe_one, div_rl2 Q K T _ i.isLt, div_rl Q K T _ i.isLt]
  simp only [R1_apply, R2_apply, R3_apply, R4_apply, ← EReal.coe_mul, ← EReal.coe_add, ← EReal.coe_sub, ← EReal.coe_neg, ← EReal.coe_one, ← EReal.coe_zero, coe_sum, Ideal.exp_coe, word_eighth, word_bot, zero_add, select_bool, coe_ite, Finset.univ_unique, Finset.sum_singleton, ds_eq Q K V G T D _ i.isLt]
  split
  · rfl
  · rename_i hb
    rw [ds_out Q K V G T D hb]

end ref

end Cert.Ca.Ref

end
-- ==== Proof.ChunkOut.lean ====
/- The results of the attention's mathematics. -/
module

public import proofs.«01_k».proof.Proof.ChunkRef

@[expose] public section

set_option maxRecDepth 16384

noncomputable section

namespace Cert.Ca.Ref

open Idealize.ShloMosaic Idealize.ShloMosaic.TcCoe Idealize.ShloMosaic.StableHlo Cert.Xa Cert.Reference2Ideal Cert.Reference2Ideal.Gen Cert.Reference2Ideal.Value

section ref
variable (V0 : Valuation τ sig (Elt Ideal)) (Q K V G T D : ℕ → ℕ → ℝ)
  (hq : V0 (Proc.devRef .tc main_arg0) = (R2 Q : FVec Ideal S8192x1024 .bf16))
  (hk : V0 (Proc.devRef .tc main_arg1) = (R2 K : FVec Ideal S8192x1024 .bf16))
  (hv : V0 (Proc.devRef .tc main_arg2) = (R2 V : FVec Ideal S8192x1024 .bf16))
  (hg : V0 (Proc.devRef .tc main_arg3) = (R2 G : FVec Ideal S8192x1024 .f32))
  (ht : V0 (Proc.devRef .tc main_arg4) = (R2 T : FVec Ideal S16x257 .f32))
  (hd : V0 (Proc.devRef .tc main_arg5) = (R2 D : FVec Ideal S8192x1024 .f32))

omit hq hk hv hg ht hd in
theorem sit_zero (φ : FTy) : (FloatOps.sitofp φ 0#32 : Ideal φ) = 0 := by
  show (((0#32 : BitVec 32).toInt : ℝ) : EReal) = 0
  simp

include hq hk hv hg ht hd

theorem out101 : (truncf .bf16 (shapeCast _ (transpose S8192x16x64 [1, 0, 2] (@Host.dotGeneral Ideal _ _ _ _ .f32 .f32 dot_S16x8192x8192_S8192x16x64_S16x8192x64_2_0_1_2_0_1 none (res_main_v93 V0) (res_main_v4 V0)) transposes_S16x8192x64_S8192x16x64_1_0_2) shapeCasts_S8192x16x64_S8192x1024) bitsLt_bf16_f32 : FVec Ideal S8192x1024 .bf16) = R2 (dq Q K V G T D) := by
  refine eq_R2 fun i j => ?_
  clean_types
  pointwise [r93 V0 Q K V G T D hq hk hv hg ht hd, r4 V0 K hk]
  simp only [R1_apply, R2_apply, R3_apply, R4_apply, ← EReal.coe_mul, ← EReal.coe_add, ← EReal.coe_sub, ← EReal.coe_neg, ← EReal.coe_one, ← EReal.coe_zero, coe_sum, Ideal.exp_coe, word_eighth, word_bot]
  unfold dq
  refine congrArg _ ?_
  rw [Finset.sum_mul]
  refine Finset.sum_congr rfl fun k _ => ?_
  rw [show 64 * (j.val / 64) + j.val % 64 = j.val by omega]
  ring

theorem out102 : (truncf .bf16 (addf (mulf (res_main_v71 V0) (res_main_v69_2 V0)) (mulf (mulf (V0 (Proc.devRef .tc main_arg3)) (res_main_v71 V0)) (mulf (res_main_v69_2 V0) (subf (broadcastInDim S8192x1024 ![] bcast_S_S8192x1024 (constant S_ .f32 0x3F800000#32)) (res_main_v69_2 V0))))) bitsLt_bf16_f32 : FVec Ideal S8192x1024 .bf16) = R2 (dgt Q K V G T D) := by
  refine eq_R2 fun i j => ?_
  clean_types
  pointwise [r71 V0 Q K V T D hq hk hv ht hd, r692 V0 G hg, hg]
  simp only [R1_apply, R2_apply, R3_apply, R4_apply, ← EReal.coe_mul, ← EReal.coe_add, ← EReal.coe_sub, ← EReal.coe_neg, ← EReal.coe_one, ← EReal.coe_zero, coe_sum, Ideal.exp_coe, word_eighth, word_bot]
  unfold dgt
  refine congrArg _ ?_
  ring

theorem out104 : (Idealize.ShloMosaic.pad S8704x1024 ![512, 0] ![0, 0] ![0, 0] (truncf .bf16 (shapeCast _ (transpose S8192x16x64 [1, 0, 2] (@Host.dotGeneral Ideal _ _ _ _ .f32 .f32 dot_S16x8192x8192_S8192x16x64_S16x8192x64_1_0_2_2_0_1 none (res_main_v93 V0) (res_main_v3 V0)) transposes_S16x8192x64_S8192x16x64_1_0_2) shapeCasts_S8192x16x64_S8192x1024) bitsLt_bf16_f32) (sitofp (F := Ideal) .bf16 (constantI S_ 32 0#32)) pads_S8192x1024_S8704x1024_51200_000 h_S_ : FVec Ideal S8704x1024 .bf16) = R2 (dk Q K V G T D 8192) := by
  refine eq_R2 fun i j => ?_
  clean_types
  pointwise [r93 V0 Q K V G T D hq hk hv hg ht hd, r3 V0 Q hq]
  simp only [R1_apply, R2_apply, R3_apply, R4_apply, ← EReal.coe_mul, ← EReal.coe_add, ← EReal.coe_sub, ← EReal.coe_neg, ← EReal.coe_one, ← EReal.coe_zero, coe_sum, Ideal.exp_coe, word_eighth, word_bot]
  by_cases h : i.val < 512
  · rw [dif_neg (by omega), dk_out Q K V G T D h]
    exact sit_zero _
  · rw [dif_pos ⟨by omega, by omega⟩]
    unfold dk
    refine congrArg _ ?_
    rw [← Fin.sum_univ_eq_sum_range (fun p => ds Q K V G T D (j.val / 64) p i.val * (Q p j.val * (1 / 8)))]
    refine Finset.sum_congr rfl fun p _ => ?_
    rw [show 64 * (j.val / 64) + j.val % 64 = j.val by omega, show 512 + (i.val - 512) = i.val by omega]
    ring

theorem out106 : (Idealize.ShloMosaic.pad S8704x1024 ![512, 0] ![0, 0] ![0, 0] (truncf .bf16 (shapeCast _ (transpose S8192x16x64 [2, 0, 1] (@Host.dotGeneral Ideal _ _ _ _ .f32 .f32 dot_S16x64x8192_S16x8192x8192_S16x64x8192_2_1_1_2_0_0 none (res_main_v75 V0) (res_main_v62 V0)) transposes_S16x64x8192_S8192x16x64_2_0_1) shapeCasts_S8192x16x64_S8192x1024) bitsLt_bf16_f32) (sitofp (F := Ideal) .bf16 (constantI S_ 32 0#32)) pads_S8192x1024_S8704x1024_51200_000 h_S_ : FVec Ideal S8704x1024 .bf16) = R2 (dv Q K G T D 8192) := by
  refine eq_R2 fun i j => ?_
  clean_types
  pointwise [r75 V0 G D hg hd, r62 V0 Q K T hq hk ht]
  simp only [R1_apply, R2_apply, R3_apply, R4_apply, ← EReal.coe_mul, ← EReal.coe_add, ← EReal.coe_sub, ← EReal.coe_neg, ← EReal.coe_one, ← EReal.coe_zero, coe_sum, Ideal.exp_coe, word_eighth, word_bot]
  by_cases h : i.val < 512
  · rw [dif_neg (by omega), dv_out Q K G T D h]
    exact sit_zero _
  · rw [dif_pos ⟨by omega, by omega⟩]
    unfold dv
    refine congrArg _ ?_
    rw [← Fin.sum_univ_eq_sum_range (fun p => wt Q K T (j.val / 64) p i.val * dO G D p j.val)]
    refine Finset.sum_congr rfl fun p _ => ?_
    rw [show 64 * (j.val / 64) + j.val % 64 = j.val by omega, show 512 + (i.val - 512) = i.val by omega]
    ring

end ref

end Cert.Ca.Ref

end
-- ==== Proof.ChunkFinite.lean ====
/- Under the precondition the arguments of the chunked attention's backward call hold real numbers. -/
module

public import proofs.«01_k».proof.Proof.ChunkBlocks
public import proofs.«01_k».proof.Proof.Finite

@[expose] public section

set_option maxRecDepth 16384

noncomputable section

namespace Cert.Ca

open Idealize.ShloMosaic Idealize.ShloMosaic.TcCoe Cert.Kernel2Ideal
open Cert.Xa (R2 eq_R2 real2 real2_at finite2)

/-- The shape facts of the precondition's function. -/
theorem finiteFacts : Cert.Pre_finite_attention.Facts where
  bitsLt_bf16_f32 := by decide
  bcast_S_S8192x1024 := by decide
  bcast_S_S16x257 := by decide

attribute [local instance] finiteFacts

theorem holds (m : (ℓ : Loc nD τ sig) → Buf (Elt Ideal) ℓ) (h : Cert.Pre_Kernel2Ideal_finite_attention m) (c : Dev nD) :
    Holds m c (real2 (fun i => (m ((c : Thread nD τ).loc main_arg0) i : EReal)))
      (real2 (fun i => (m ((c : Thread nD τ).loc main_arg1) i : EReal)))
      (real2 (fun i => (m ((c : Thread nD τ).loc main_arg2) i : EReal)))
      (real2 (fun i => (m ((c : Thread nD τ).loc main_arg3) i : EReal)))
      (real2 (fun i => (m ((c : Thread nD τ).loc main_arg4) i : EReal)))
      (real2 (fun i => (m ((c : Thread nD τ).loc main_arg5) i : EReal))) := by
  obtain ⟨h0, h1, h2, h3, h4, h5⟩ := h c
  exact {
    q := eq_R2 fun i j => (finite2 _ _ h0 i j).trans (by rw [real2_at]; rfl)
    k := eq_R2 fun i j => (finite2 _ _ h1 i j).trans (by rw [real2_at]; rfl)
    v := eq_R2 fun i j => (finite2 _ _ h2 i j).trans (by rw [real2_at]; rfl)
    g := eq_R2 fun i j => (finite2 _ _ h3 i j).trans (by rw [real2_at])
    b := eq_R2 fun i j => (finite2 _ _ h4 i j).trans (by rw [real2_at])
    d := eq_R2 fun i j => (finite2 _ _ h5 i j).trans (by rw [real2_at]) }

end Cert.Ca

end
-- ==== Proof.NormModel.lean ====
/- The root mean square norm's forward and backward pass over the extended reals, row by row, for any gradient `h` at the norm's result; and
   the products of the chunked attention's input projection. No number need be finite: a row whose mean square is infinite has the
   reciprocal root zero, and any other row's is a positive real number, by which a sum of extended reals is multiplied term by term. -/
module

public import proofs.«01_k».proof.Proof.Model

@[expose] public section

noncomputable section

namespace Cert.Nm

open Idealize.ShloMosaic
open Cert.Xa (eps eps_pos)

/-- A rank-2 array, by natural indices. -/
def E2 {a b : ℕ} (f : ℕ → ℕ → EReal) : (⟨2, ![a, b]⟩ : Shape).Idx → EReal :=
  fun y => f (y 0).val (y 1).val

/-- A rank-3 array, by natural indices. -/
def E3 {a b c : ℕ} (f : ℕ → ℕ → ℕ → EReal) : (⟨3, ![a, b, c]⟩ : Shape).Idx → EReal :=
  fun y => f (y 0).val (y 1).val (y 2).val

theorem E2_apply {a b : ℕ} (f : ℕ → ℕ → EReal) (i : Fin a) (j : Fin b) :
    (E2 f : (⟨2, ![a, b]⟩ : Shape).Idx → EReal) (ix2 i j) = f i.val j.val := rfl

theorem E3_apply {a b c : ℕ} (f : ℕ → ℕ → ℕ → EReal) (i : Fin a) (j : Fin b) (k : Fin c) :
    (E3 f : (⟨3, ![a, b, c]⟩ : Shape).Idx → EReal) (ix3 i j k) = f i.val j.val k.val := rfl

/-- Two arrays of rank 2 that agree at every index are the same. -/
theorem eq_E2 {a b : ℕ} {v : (⟨2, ![a, b]⟩ : Shape).Idx → EReal} {f : ℕ → ℕ → EReal}
    (h : ∀ (i : Fin a) (j : Fin b), v (ix2 i j) = f i.val j.val) : v = E2 f := by
  funext y; rw [eq_ix2 y]; exact h _ _

/-- The numbers of an array of rank 2 by natural indices, zero outside of it. -/
def nat2 {n k : ℕ} (A : Shape.Idx ⟨2, ![n, k]⟩ → EReal) : ℕ → ℕ → EReal := fun i j =>
  if h : i < n ∧ j < k then A (ix2 ⟨i, h.1⟩ ⟨j, h.2⟩) else 0

theorem nat2_at {n k : ℕ} (A : Shape.Idx ⟨2, ![n, k]⟩ → EReal) (i : Fin n) (j : Fin k) : A (ix2 i j) = nat2 A i j := by
  simp [nat2]

/-- The `t`-th tile of 512 rows. -/
def tile (X : ℕ → ℕ → EReal) (t : ℕ) : ℕ → ℕ → EReal := fun p => X (512 * t + p)

/-- A sum over the rows of the first `n + 1` tiles is the sum over the first `n` tiles and the sum over the next. -/
theorem sum_tiles (f : (ℕ → EReal) → (ℕ → EReal) → EReal) (X D : ℕ → ℕ → EReal) (n : ℕ) :
    ∑ p ∈ Finset.range (512 * (n + 1)), f (X p) (D p)
      = ∑ p ∈ Finset.range (512 * n), f (X p) (D p) + ∑ p : Fin 512, f (tile X n p.val) (tile D n p.val) := by
  rw [Nat.mul_succ, Finset.sum_range_add, Finset.sum_range fun p => f (X (512 * n + p)) (D (512 * n + p))]
  rfl

section row
variable (g h x d : ℕ → EReal)

/-- The mean square of a row, stabilised. -/
def ms : EReal := Ideal.div (∑ k : Fin 1024, x k.val * x k.val) ((1024 : ℝ) : EReal) + ((eps : ℝ) : EReal)
/-- Its reciprocal root. -/
def inv : EReal := Ideal.rsqrt (ms x)
/-- The normalised row. -/
def xh (c : ℕ) : EReal := x c * inv x
/-- The normalised row times the gain. -/
def hh (c : ℕ) : EReal := xh x c * g c
/-- The gradient at the norm's input, with the residual's. -/
def dx (c : ℕ) : EReal :=
  d c + inv x * (h c * g c - xh x c * Ideal.div (∑ k : Fin 1024, h k.val * g k.val * xh x k.val) ((1024 : ℝ) : EReal))
/-- A row's part of the gradient at the gain. -/
def dgn (c : ℕ) : EReal := h c * xh x c
/-- What the norm's derivative adds to a row, as the derivative of the reciprocal root states it (half of it). -/
def tt : EReal := Ideal.div ((∑ k : Fin 1024, x k.val * (h k.val * g k.val)) * (((-(1 / 2) : ℝ) : EReal) * Ideal.div (inv x) (ms x))) ((1024 : ℝ) : EReal)

theorem sq_nonneg (a : EReal) : 0 ≤ a * a := by
  induction a using EReal.rec with
  | coe r => rw [← EReal.coe_mul]; exact EReal.coe_nonneg.2 (mul_self_nonneg r)
  | bot => simp
  | top => simp

theorem div_1024 (a : EReal) : Ideal.div a ((1024 : ℝ) : EReal) = a * ((1 / 1024 : ℝ) : EReal) := Ideal.div_coe (show (1024 : ℝ) ≠ 0 by norm_num) a

/-- The stabilised mean square is infinite or a positive real number. -/
theorem ms_cases : ms x = ⊤ ∨ ∃ r : ℝ, 0 < r ∧ ms x = (r : EReal) := by
  have hP : 0 ≤ ∑ k : Fin 1024, x k.val * x k.val := Finset.sum_nonneg fun k _ => sq_nonneg _
  rw [ms, div_1024]
  generalize (∑ k : Fin 1024, x k.val * x k.val) = P at hP
  induction P using EReal.rec with
  | bot => simp at hP
  | top => left; rw [EReal.top_mul_coe_of_pos (by norm_num), EReal.top_add_coe]
  | coe p =>
    right
    have := EReal.coe_nonneg.1 hP
    have := eps_pos
    exact ⟨p * (1 / 1024) + eps, by positivity, by rw [← EReal.coe_mul, ← EReal.coe_add]⟩

/-- A sum times a nonnegative real number. -/
theorem sum_mul (f : ℕ → EReal) {i : ℝ} (hi : 0 ≤ i) (s : Finset (Fin 1024)) :
    (∑ k ∈ s, f k.val) * (i : EReal) = ∑ k ∈ s, f k.val * (i : EReal) := by
  induction s using Finset.induction_on with
  | empty => simp
  | insert a s ha ih =>
    rw [Finset.sum_insert ha, Finset.sum_insert ha, ← ih]
    exact EReal.right_distrib_of_nonneg_of_ne_top (EReal.coe_nonneg.2 hi) (EReal.coe_ne_top i) _ _

/-- Twice a number times a negative real. -/
theorem two_neg (u : EReal) {s : ℝ} (hs : 0 < s) : u * ((-s : ℝ) : EReal) + u * ((-s : ℝ) : EReal) = -(u * ((2 * s : ℝ) : EReal)) := by
  induction u using EReal.rec with
  | coe r => rw [← EReal.coe_mul, ← EReal.coe_mul, ← EReal.coe_add, ← EReal.coe_neg]; congr 1; ring
  | bot =>
    rw [EReal.bot_mul_coe_of_neg (by linarith), EReal.bot_mul_coe_of_pos (by linarith)]; rfl
  | top =>
    rw [EReal.top_mul_coe_of_neg (by linarith), EReal.top_mul_coe_of_pos (by linarith)]; rfl

theorem dx_eq (c : ℕ) : d c + (h c * g c * inv x + x c * tt g h x + tt g h x * x c) = dx g h x d c := by
  rw [dx]
  refine congrArg (d c + ·) ?_
  rcases ms_cases x with hm | ⟨r, hr, hm⟩
  · have hi : inv x = 0 := by rw [inv, hm]; rfl
    have ht : tt g h x = 0 := by
      rw [tt, hi, div_1024, show Ideal.div 0 (ms x) = 0 by rw [hm, Ideal.div, if_neg (by simp), zero_mul], mul_zero, mul_zero, zero_mul]
    rw [ht, hi, mul_zero, mul_zero, zero_mul, zero_mul, add_zero, add_zero]
  · have hi : inv x = (((√r)⁻¹ : ℝ) : EReal) := by rw [inv, hm]; exact Cert.Xa.rsqrt_real hr
    have hs : 0 < √r := Real.sqrt_pos.2 hr
    have hS : ∑ k : Fin 1024, h k.val * g k.val * xh x k.val
        = (∑ k : Fin 1024, x k.val * (h k.val * g k.val)) * (((√r)⁻¹ : ℝ) : EReal) := by
      rw [sum_mul (fun k => x k * (h k * g k)) (inv_nonneg.2 hs.le) Finset.univ]
      refine Finset.sum_congr rfl fun k _ => ?_
      rw [xh, hi, ← mul_assoc, mul_comm (x k.val)]
    have hd : Ideal.div (((√r)⁻¹ : ℝ) : EReal) (r : EReal) = (((√r)⁻¹ * (√r)⁻¹ * (√r)⁻¹ : ℝ) : EReal) := by
      rw [Cert.Xa.div_real _ hr.ne']
      congr 1
      rw [← mul_inv, Real.mul_self_sqrt hr.le, div_eq_mul_inv, mul_comm]
    rw [hS, tt, div_1024, div_1024, hi, hm, hd, xh, hi]
    generalize (∑ k : Fin 1024, x k.val * (h k.val * g k.val)) = S
    generalize h c * g c = a
    generalize x c = y
    have hpos : 0 < (√r)⁻¹ := inv_pos.2 hs
    generalize (√r)⁻¹ = i at hpos
    rw [sub_eq_add_neg, EReal.left_distrib_of_nonneg_of_ne_top (EReal.coe_nonneg.2 hpos.le) (EReal.coe_ne_top i), add_assoc, mul_comm a]
    refine congrArg ((i : EReal) * a + ·) ?_
    have e1 : S * (((-(1 / 2) : ℝ) : EReal) * ((i * i * i : ℝ) : EReal)) * ((1 / 1024 : ℝ) : EReal)
        = S * ((-(i * i * i / 2048) : ℝ) : EReal) := by
      rw [mul_assoc, ← EReal.coe_mul, ← EReal.coe_mul]; congr 2; ring
    have e2 : y * (i : EReal) * (S * (i : EReal) * ((1 / 1024 : ℝ) : EReal)) * (i : EReal) = y * S * ((2 * (i * i * i / 2048) : ℝ) : EReal) := by
      rw [show y * (i : EReal) * (S * (i : EReal) * ((1 / 1024 : ℝ) : EReal)) * (i : EReal)
        = y * S * ((i : EReal) * (i : EReal) * ((1 / 1024 : ℝ) : EReal) * (i : EReal)) by ac_rfl, ← EReal.coe_mul, ← EReal.coe_mul, ← EReal.coe_mul]
      congr 2; ring
    rw [e1, mul_comm _ y, mul_neg, mul_comm (i : EReal), e2, ← mul_assoc]
    exact two_neg _ (by positivity)

end row

section projection
variable (Q K U G : ℕ → ℕ → EReal) (w : ℕ → ℕ → EReal)

/-- The gradients at the four parts of the projection's result side by side; those at the keys and values lie below 512 rows of padding. -/
def zz (p c : ℕ) : EReal :=
  if c < 1024 then Q p c else if c < 2048 then K (512 + p) (c - 1024) else if c < 3072 then U (512 + p) (c - 2048) else G p (c - 3072)

/-- The gradient at the projection's input. -/
def dh (p c : ℕ) : EReal := ∑ k : Fin 4096, zz Q K U G p k.val * w c k.val

/-- A sum over 4096 columns, over its four pieces of 1024. -/
theorem sum_4096 (f : ℕ → EReal) : ∑ k : Fin 4096, f k.val
    = (∑ k : Fin 1024, f k.val) + (∑ k : Fin 1024, f (1024 + k.val)) + (∑ k : Fin 1024, f (2048 + k.val))
      + ∑ k : Fin 1024, f (3072 + k.val) := by
  simp only [Fin.sum_univ_eq_sum_range (fun k => f k), Fin.sum_univ_eq_sum_range (fun k => f (1024 + k)),
    Fin.sum_univ_eq_sum_range (fun k => f (2048 + k)), Fin.sum_univ_eq_sum_range (fun k => f (3072 + k))]
  rw [show 4096 = 1024 + 1024 + 1024 + 1024 from rfl, Finset.sum_range_add, Finset.sum_range_add, Finset.sum_range_add]

theorem dh_eq (p c : ℕ) : (∑ k : Fin 1024, Q p k.val * w c k.val) + (∑ k : Fin 1024, K (512 + p) k.val * w c (1024 + k.val))
    + (∑ k : Fin 1024, U (512 + p) k.val * w c (2048 + k.val)) + (∑ k : Fin 1024, G p k.val * w c (3072 + k.val))
      = dh Q K U G w p c := by
  rw [dh, sum_4096 fun k => zz Q K U G p k * w c k]
  refine congrArg₂ _ (congrArg₂ _ (congrArg₂ _ ?_ ?_) ?_) ?_ <;> refine Finset.sum_congr rfl fun k _ => ?_ <;> congr 1 <;> unfold zz
  · rw [if_pos k.isLt]
  · rw [if_neg (by omega), if_pos (by omega), Nat.add_sub_cancel_left]
  · rw [if_neg (by omega), if_neg (by omega), if_pos (by omega), Nat.add_sub_cancel_left]
  · rw [if_neg (by omega), if_neg (by omega), if_neg (by omega), Nat.add_sub_cancel_left]

/-- The gradient at the S5 mixer's projection's input, from that at its 2560 columns. -/
def dh2 (Z : ℕ → ℕ → EReal) (p c : ℕ) : EReal := ∑ k : Fin 2560, Z p k.val * w c k.val

/-- It is summed over four pieces of 640 columns. -/
theorem dh2_eq (Z : ℕ → ℕ → EReal) (p c : ℕ) : (∑ k : Fin 640, Z p k.val * w c k.val) + (∑ k : Fin 640, Z p (640 + k.val) * w c (640 + k.val))
    + (∑ k : Fin 640, Z p (1280 + k.val) * w c (1280 + k.val)) + (∑ k : Fin 640, Z p (1920 + k.val) * w c (1920 + k.val)) = dh2 w Z p c := by
  simp only [dh2, Fin.sum_univ_eq_sum_range (fun k => Z p k * w c k), Fin.sum_univ_eq_sum_range (fun k => Z p (640 + k) * w c (640 + k)),
    Fin.sum_univ_eq_sum_range (fun k => Z p (1280 + k) * w c (1280 + k)), Fin.sum_univ_eq_sum_range (fun k => Z p (1920 + k) * w c (1920 + k))]
  rw [show 2560 = 640 + 640 + 640 + 640 from rfl, Finset.sum_range_add, Finset.sum_range_add, Finset.sum_range_add]

/-- The projection of a row's scaled normalised input. -/
def pr (g x : ℕ → EReal) (c : ℕ) : EReal := ∑ k : Fin 1024, hh g x k.val * w k.val c

end projection

end Cert.Nm

end
-- ==== Proof.ProjKernel.lean ====
/- The backward call of the chunked attention's input projection and norm: the stored values, the blocks that its body reads, what a grid
   point leaves, and the two arrays at the end. -/
module

public import proofs.«01_k».proof.Proof.NormModel
public import proofs.«01_k».proof.Proof.Gen.Kernel3Ideal.Value
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Nm.Back

open Idealize.ShloMosaic Idealize.ShloMosaic.TcCoe Cert.Kernel3Ideal Cert.Kernel3Ideal.Gen Cert.Kernel3Ideal.Value
open Cert.Xa (word_1024 word_eps word_neg_half)

section pay
variable (X D h : ℕ → ℕ → EReal) (g A : ℕ → EReal)

theorem pay7 : k0_pay7 (F := Ideal) (E2 X) = E2 fun p _ => ms (X p) := by
  refine eq_E2 fun i j => ?_
  pointwise [k0_pay7]
  simp only [E2_apply, word_1024, word_eps]
  rfl

theorem pay1 : k0_pay1 (F := Ideal) (E2 fun p _ => ms (X p)) = E2 fun p _ => inv (X p) := by
  refine eq_E2 fun i j => ?_
  pointwise [k0_pay1]
  rfl

theorem pay2 : k0_pay2 (F := Ideal) (E2 X) (E2 fun p _ => ms (X p)) = E2 fun p => xh (X p) := by
  refine eq_E2 fun i j => ?_
  pointwise [k0_pay2, pay1]
  rfl

theorem pay3 : k0_pay3 (F := Ideal) (E2 h) (E2 X) (E2 fun _ => g) (E2 fun p _ => ms (X p)) (E2 D)
    = E2 fun p => dx g (h p) (X p) (D p) := by
  refine eq_E2 fun i j => ?_
  pointwise [k0_pay3, pay1, pay2]
  simp only [E2_apply, word_1024]
  rfl

theorem pay4 : k0_pay4 (F := Ideal) = E2 fun _ _ => 0 := by
  refine eq_E2 fun i j => ?_
  pointwise [k0_pay4]

theorem pay5 : k0_pay5 (F := Ideal) (E2 h) (E2 X) (E2 fun p _ => ms (X p)) (E2 fun _ => A)
    = E2 fun _ c => A c + ∑ p : Fin 512, dgn (h p.val) (X p.val) c := by
  refine eq_E2 fun i j => ?_
  pointwise [k0_pay5, pay2]
  rfl

theorem pay6 (Q K U G w : ℕ → ℕ → EReal) : k0_pay6 (F := Ideal) (E2 Q) (E2 fun p => K (512 + p)) (E2 fun p => U (512 + p)) (E2 G) (E3 fun _ r c => w r c)
    (E3 fun _ r c => w r (1024 + c)) (E3 fun _ r c => w r (2048 + c)) (E3 fun _ r c => w r (3072 + c)) = E2 (dh Q K U G w) := by
  refine eq_E2 fun i j => ?_
  pointwise [k0_pay6]
  exact dh_eq Q K U G w i.val j.val

end pay

/-- Where each window's block lies at each grid point. -/
theorem idx : ∀ t : Fin cfg0.N,
    win0_0.index t = ![t.val, 0] ∧ win0_1.index t = ![t.val + 1, 0] ∧ win0_2.index t = ![t.val + 1, 0] ∧ win0_3.index t = ![t.val, 0]
    ∧ win0_4.index t = ![0, 0, 0] ∧ win0_5.index t = ![t.val, 0] ∧ win0_6.index t = ![0, 0] ∧ win0_7.index t = ![t.val, 0]
    ∧ win0_8.index t = ![t.val, 0] ∧ win0_9.index t = ![0, 0] ∧ t.val < 16 :=
  (by decide +kernel : ∀ t : Fin grid0.N, _)

variable (m : (ℓ : Loc nD τ sig) → Buf (Elt Ideal) ℓ) (c : Dev nD)

/-- The launch's argument buffers on device `c` hold these arrays. -/
structure Holds (Q K U G w X : ℕ → ℕ → EReal) (g : ℕ → EReal) (D : ℕ → ℕ → EReal) : Prop where
  q : ∀ (i : Fin 8192) (j : Fin 1024), (m ((c : Thread nD τ).loc main_arg0) (ix2 i j) : EReal) = Q i j
  k : ∀ (i : Fin 8704) (j : Fin 1024), (m ((c : Thread nD τ).loc main_arg1) (ix2 i j) : EReal) = K i j
  v : ∀ (i : Fin 8704) (j : Fin 1024), (m ((c : Thread nD τ).loc main_arg2) (ix2 i j) : EReal) = U i j
  gt : ∀ (i : Fin 8192) (j : Fin 1024), (m ((c : Thread nD τ).loc main_arg3) (ix2 i j) : EReal) = G i j
  w : ∀ (i : Fin 1024) (j : Fin 4096), (m ((c : Thread nD τ).loc main_arg4) (ix2 i j) : EReal) = w i j
  x : ∀ (i : Fin 8192) (j : Fin 1024), (m ((c : Thread nD τ).loc main_arg5) (ix2 i j) : EReal) = X i j
  g : ∀ (i : Fin 1) (j : Fin 1024), (m ((c : Thread nD τ).loc main_arg6) (ix2 i j) : EReal) = g j
  d : ∀ (i : Fin 8192) (j : Fin 1024), (m ((c : Thread nD τ).loc main_arg7) (ix2 i j) : EReal) = D i j

variable {m c} {Q K U G w X : ℕ → ℕ → EReal} {g : ℕ → EReal} {D : ℕ → ℕ → EReal} (H : Holds m c Q K U G w X g D) (t : Fin cfg0.N)
include H

theorem b0 : iblk m c 0 t = E2 (tile Q t.val) := by
  refine eq_E2 fun i j => ?_
  refine Eq.trans ?_ (H.q ⟨512 * t.val + i.val, by have := idx t; omega⟩ j)
  blk_ext [iblk, V, idx t]

theorem b1 : iblk m c 1 t = E2 fun p => tile (fun p => K (512 + p)) t.val p := by
  refine eq_E2 fun i j => ?_
  refine Eq.trans ?_ (H.k ⟨512 + (512 * t.val + i.val), by have := idx t; omega⟩ j)
  blk_ext [iblk, V, idx t]

theorem b2 : iblk m c 2 t = E2 fun p => tile (fun p => U (512 + p)) t.val p := by
  refine eq_E2 fun i j => ?_
  refine Eq.trans ?_ (H.v ⟨512 + (512 * t.val + i.val), by have := idx t; omega⟩ j)
  blk_ext [iblk, V, idx t]

theorem b3 : iblk m c 3 t = E2 (tile G t.val) := by
  refine eq_E2 fun i j => ?_
  refine Eq.trans ?_ (H.gt ⟨512 * t.val + i.val, by have := idx t; omega⟩ j)
  blk_ext [iblk, V, idx t]

theorem b5 : iblk m c 5 t = E2 (tile X t.val) := by
  refine eq_E2 fun i j => ?_
  refine Eq.trans ?_ (H.x ⟨512 * t.val + i.val, by have := idx t; omega⟩ j)
  blk_ext [iblk, V, idx t]

theorem b6 : iblk m c 6 t = E2 (fun _ => g) := by
  refine eq_E2 fun i j => ?_
  refine Eq.trans ?_ (H.g i j)
  blk_ext [iblk, V, idx t]

theorem b7 : iblk m c 7 t = E2 (tile D t.val) := by
  refine eq_E2 fun i j => ?_
  refine Eq.trans ?_ (H.d ⟨512 * t.val + i.val, by have := idx t; omega⟩ j)
  blk_ext [iblk, V, idx t]

/-- The block of the weights holds the matrix as four shards of columns. -/
theorem w4 (s : Fin 4) (r q : Fin 1024) : iblk m c 4 t (ix3 s r q) = w r (1024 * s + q) := by
  refine Eq.trans ?_ (H.w r ⟨1024 * s.val + q.val, by omega⟩)
  blk_simp [iblk, idx t]
  entry_read
  pointwise []
  blk_ext [idx t]

/-- A shard of the weights, as the body loads it. -/
theorem l4 (s : Fin 4) (inb : ∀ a, (![s.val, 0, 0] : Fin 3 → ℕ) a + (![1, 1024, 1024] : Fin 3 → ℕ) a ≤ S4x1024x1024.size a) :
    View.ld (Val := Elt Ideal) (S := S4x1024x1024) (e' := .bf16) (iblk m c 4 t) (Rect.unit ![s.val, 0, 0] ![1, 1024, 1024] inb)
      = E3 fun _ r q => w r (1024 * s.val + q) := by
  funext y
  obtain ⟨a, r, q, rfl⟩ : ∃ (a : Fin 1) (r q : Fin 1024), y = ix3 a r q := ⟨y 0, y 1, y 2, eq_ix3 y⟩
  refine Eq.trans ?_ (w4 H t s r q)
  pointwise []
  blk_ext []

/-- The first shard of the weights. -/
theorem ld0 : View.ld (Val := Elt Ideal) (S := S4x1024x1024) (e' := .bf16) (iblk m c 4 t)
    (Rect.unit ![0, 0, 0] ![1, 1024, 1024] inb_S4x1024x1024_S1x1024x1024_0_0_0) = E3 fun _ r q => w r q :=
  (l4 H t 0 _).trans (congrArg E3 (funext fun _ => funext fun r => funext fun q => congrArg (w r) (Nat.zero_add q)))

/-- The second. -/
theorem ld1 : View.ld (Val := Elt Ideal) (S := S4x1024x1024) (e' := .bf16) (iblk m c 4 t)
    (Rect.unit ![1, 0, 0] ![1, 1024, 1024] inb_S4x1024x1024_S1x1024x1024_1_0_0) = E3 fun _ r q => w r (1024 + q) := l4 H t 1 _

/-- The third. -/
theorem ld2 : View.ld (Val := Elt Ideal) (S := S4x1024x1024) (e' := .bf16) (iblk m c 4 t)
    (Rect.unit ![2, 0, 0] ![1, 1024, 1024] inb_S4x1024x1024_S1x1024x1024_2_0_0) = E3 fun _ r q => w r (2048 + q) := l4 H t 2 _

/-- The fourth. -/
theorem ld3 : View.ld (Val := Elt Ideal) (S := S4x1024x1024) (e' := .bf16) (iblk m c 4 t)
    (Rect.unit ![3, 0, 0] ![1, 1024, 1024] inb_S4x1024x1024_S1x1024x1024_3_0_0) = E3 fun _ r q => w r (3072 + q) := l4 H t 3 _

omit H in
/-- The gradient at the projection's input, as the body forms it at point `t`. -/
theorem h6 (Q K U G w : ℕ → ℕ → EReal) (t : Fin cfg0.N) : k0_pay6 (F := Ideal) (E2 (tile Q t.val)) (E2 fun p => tile (fun p => K (512 + p)) t.val p)
    (E2 fun p => tile (fun p => U (512 + p)) t.val p) (E2 (tile G t.val)) (E3 fun _ r q => w r q) (E3 fun _ r q => w r (1024 + q))
    (E3 fun _ r q => w r (2048 + q)) (E3 fun _ r q => w r (3072 + q)) = E2 (tile (dh Q K U G w) t.val) := by
  have e (K : ℕ → ℕ → EReal) : (fun p => tile (fun p => K (512 + p)) t.val p) = fun p => (fun n => K (512 * t.val + n)) (512 + p) :=
    funext fun p => congrArg K (by omega)
  rw [e, e, pay6 (tile Q t.val) (fun n => K (512 * t.val + n)) (fun n => U (512 * t.val + n)) (tile G t.val) w]
  refine congrArg E2 (funext fun p => funext fun c => ?_)
  simp only [tile, dh, zz, show 512 * t.val + (512 + p) = 512 + (512 * t.val + p) by omega]

/-- What point `t` leaves in the window of the gradient at the input. -/
theorem p8 : (outsAt0 m c t.val t.isLt).1
    = E2 fun p => dx g (tile (dh Q K U G w) t.val p) (tile X t.val p) (tile D t.val p) := by
  by_cases h : t.val % 16 = 0
  · rw [outsAt0_A m c t h]
    frame_open
    simp (disch := decide) only [↓ View.readCov_skip, ↓ View.readCov_cons_toLoadRect, ↓ View.readCov_fill]
    frame_out
    simp only [b0 H t, b1 H t, b2 H t, b3 H t, b5 H t, b6 H t, b7 H t, ld0 H t, ld1 H t, ld2 H t, ld3 H t, h6 Q K U G w t, pay7, pay4]
    exact pay3 _ _ _ _
  · rw [outsAt0_B m c t h]
    frame_open
    simp (disch := decide) only [↓ View.readCov_skip, ↓ View.readCov_cons_toLoadRect, ↓ View.readCov_fill]
    frame_out
    simp only [b0 H t, b1 H t, b2 H t, b3 H t, b5 H t, b6 H t, b7 H t, ld0 H t, ld1 H t, ld2 H t, ld3 H t, h6 Q K U G w t, pay7, pay4]
    exact pay3 _ _ _ _

/-- The first point leaves its own rows' part of the gradient at the gain. -/
theorem a9 (h : t.val % 16 = 0) : (outsAt0 m c t.val t.isLt).2
    = E2 fun _ q => 0 + ∑ p : Fin 512, dgn (tile (dh Q K U G w) t.val p.val) (tile X t.val p.val) q := by
  rw [outsAt0_A m c t h]
  frame_open
  simp (disch := decide) only [↓ View.readCov_skip, ↓ View.readCov_cons_toLoadRect, ↓ View.readCov_fill]
  frame_out
  simp only [b0 H t, b1 H t, b2 H t, b3 H t, b5 H t, b6 H t, b7 H t, ld0 H t, ld1 H t, ld2 H t, ld3 H t, h6 Q K U G w t, pay7, pay4]
  exact pay5 _ _ fun _ => 0

/-- A later point adds its rows' part of the gradient at the gain. -/
theorem s9 (h : ¬ t.val % 16 = 0) (A : ℕ → EReal) (hl : t.val - 1 < cfg0.N) (hA : (outsAt0 m c (t.val - 1) hl).2 = E2 fun _ => A) :
    (outsAt0 m c t.val t.isLt).2
      = E2 fun _ q => A q + ∑ p : Fin 512, dgn (tile (dh Q K U G w) t.val p.val) (tile X t.val p.val) q := by
  rw [outsAt0_B m c t h]
  frame_open
  simp (disch := decide) only [↓ View.readCov_skip, ↓ View.readCov_cons_toLoadRect, ↓ View.readCov_fill]
  frame_out
  simp only [hA, b0 H t, b1 H t, b2 H t, b3 H t, b5 H t, b6 H t, b7 H t, ld0 H t, ld1 H t, ld2 H t, ld3 H t, h6 Q K U G w t, pay7, pay4]
  exact pay5 _ _ A

/-- After point `n` the gradient at the gain is the sum over the rows of the first `n + 1` tiles. -/
theorem acc9 : ∀ (n : ℕ) (hn : n < cfg0.N), (outsAt0 m c n hn).2
    = E2 fun _ q => ∑ p ∈ Finset.range (512 * (n + 1)), dgn (dh Q K U G w p) (X p) q
  | 0, hn => by
    rw [a9 H ⟨0, hn⟩ rfl]
    refine congrArg E2 (funext fun k => funext fun q => ?_)
    rw [sum_tiles (fun h x => dgn h x q) (dh Q K U G w), Nat.mul_zero, Finset.sum_range_zero]
  | n + 1, hn => by
    have h16 : n + 1 < 16 := Nat.lt_of_lt_of_eq hn N_0
    rw [s9 H ⟨n + 1, hn⟩ (by show ¬ (n + 1) % 16 = 0; omega) _ (Nat.lt_of_succ_lt hn) (acc9 n (Nat.lt_of_succ_lt hn))]
    refine congrArg E2 (funext fun k => funext fun q => ?_)
    rw [sum_tiles (fun h x => dgn h x q) (dh Q K U G w) X (n + 1)]

/-- The kernel's gradient at the input. -/
theorem f8 : (dats m 0 c).arrAt 8 cfg0.N = E2 fun p => dx g (dh Q K U G w p) (X p) (D p) := by
  refine (dats m 0 c).arrAt_eq_of_covers 8 _ (by decide +kernel) fun t hf y => ?_
  blk_simp
  rw [after0_8, p8 H t]
  blk_simp [E2, tile, idx t]
  rw [Nat.mul_comm 512 t.val]

/-- The kernel's gradient at the gain. -/
theorem f9 : (dats m 0 c).arrAt 9 cfg0.N = E2 fun _ q => ∑ p : Fin 8192, dgn (dh Q K U G w p.val) (X p.val) q := by
  refine (dats m 0 c).arrAt_eq_of_after_last 9 t0_15 (by decide +kernel) _ fun y => ?_
  blk_simp
  rw [after0_9, acc9 H]
  simp only [Finset.sum_range]
  rfl

omit H in
/-- The argument buffers hold the arrays that they hold. -/
theorem holds (m : (ℓ : Loc nD τ sig) → Buf (Elt Ideal) ℓ) (c : Dev nD) :
    Holds m c (nat2 (fun i => (m ((c : Thread nD τ).loc main_arg0) i : EReal)))
      (nat2 (fun i => (m ((c : Thread nD τ).loc main_arg1) i : EReal)))
      (nat2 (fun i => (m ((c : Thread nD τ).loc main_arg2) i : EReal)))
      (nat2 (fun i => (m ((c : Thread nD τ).loc main_arg3) i : EReal)))
      (nat2 (fun i => (m ((c : Thread nD τ).loc main_arg4) i : EReal)))
      (nat2 (fun i => (m ((c : Thread nD τ).loc main_arg5) i : EReal)))
      (nat2 (fun i => (m ((c : Thread nD τ).loc main_arg6) i : EReal)) 0)
      (nat2 (fun i => (m ((c : Thread nD τ).loc main_arg7) i : EReal))) where
  q := fun i j => nat2_at _ i j
  k := fun i j => nat2_at _ i j
  v := fun i j => nat2_at _ i j
  gt := fun i j => nat2_at _ i j
  w := fun i j => nat2_at _ i j
  x := fun i j => nat2_at _ i j
  g := fun i j => (nat2_at _ i j).trans (by obtain rfl : i = 0 := Subsingleton.elim _ _; rfl)
  d := fun i j => nat2_at _ i j

end Cert.Nm.Back

end
-- ==== Proof.ProjRef.lean ====
/- The plain gradients of the chunked attention's input projection and norm, over the extended reals. -/
module

public import proofs.«01_k».proof.Proof.NormModel
public import proofs.«01_k».proof.Proof.Gen.Reference3Ideal.Run
public import Idealize.ShloMosaic.Lib.Tactic.CleanTypes

@[expose] public section

set_option maxRecDepth 16384

noncomputable section

namespace Cert.Nm.Ref

open Idealize.ShloMosaic Idealize.ShloMosaic.TcCoe Idealize.ShloMosaic.StableHlo Cert.Reference3Ideal Cert.Reference3Ideal.Gen Cert.Reference3Ideal.Value
open Cert.Xa (word_1024 word_eps word_neg_half)

/-- The gradient at the projection's input. -/
theorem rdh {Q K U G w : ℕ → ℕ → EReal} {q gt : FVec Ideal S8192x1024 .bf16} {k v : FVec Ideal S8704x1024 .bf16}
    (hq : q = E2 Q) (hk : k = E2 K) (hv : v = E2 U) (hgt : gt = E2 G) :
    Host.dotGeneral (F := Ideal) (φ₂ := .f32) dot_S8192x4096_S4096x1024_S8192x1024_1_0_0_1_n_n none
      (extf .f32 ((concatenate S8192x4096 1 [⟨S8192x1024, (q : (⟨S8192x1024, .bf16⟩ : BufTy).Contents (Elt Ideal))⟩,
        ⟨S8192x1024, ((extractStridedSlice S8192x1024 ![512, 0] k slices_S8704x1024_S8192x1024_512_0) : (⟨S8192x1024, .bf16⟩ : BufTy).Contents (Elt Ideal))⟩,
        ⟨S8192x1024, ((extractStridedSlice S8192x1024 ![512, 0] v slices_S8704x1024_S8192x1024_512_0) : (⟨S8192x1024, .bf16⟩ : BufTy).Contents (Elt Ideal))⟩,
        ⟨S8192x1024, (gt : (⟨S8192x1024, .bf16⟩ : BufTy).Contents (Elt Ideal))⟩]
          concatenates_S8192x1024_S8192x1024_S8192x1024_S8192x1024_S8192x4096_d1 : (⟨S8192x4096, .bf16⟩ : BufTy).Contents (Elt Ideal))) bitsLt_bf16_f32)
      (transpose (α := Ideal .f32) S4096x1024 [1, 0] (E2 w) transposes_S1024x4096_S4096x1024_1_0)
        = (E2 (dh Q K U G w) : FVec Ideal S8192x1024 .f32) := by
  subst hq hk hv hgt
  refine eq_E2 fun i j => ?_
  clean_types
  pointwise []
  refine Finset.sum_congr rfl fun k _ => ?_
  refine congrArg₂ _ ?_ rfl
  unfold zz
  by_cases h : k.val < 1024
  · rw [dif_pos h, if_pos h]; rfl
  · by_cases h2 : k.val < 2048
    · rw [dif_neg h, dif_pos (by omega), if_neg h, if_pos h2]; rfl
    · by_cases h3 : k.val < 3072
      · rw [dif_neg h, dif_neg (by omega), dif_pos (by omega), if_neg h, if_neg h2, if_pos h3]
        exact congrArg (fun n => U (512 + i.val) n) (by show k.val - 1024 - 1024 = _; omega)
      · rw [dif_neg h, dif_neg (by omega), dif_neg (by omega), if_neg h, if_neg h2, if_neg h3]
        exact congrArg (fun n => G i.val n) (by show k.val - 1024 - 1024 - 1024 = _; omega)

section ref
variable (m : (ℓ : Loc nD τ sig) → Buf (Elt Ideal) ℓ) (c : Dev nD) (Q K U G w X : ℕ → ℕ → EReal) (g : ℕ → EReal) (D : ℕ → ℕ → EReal)
  (hq : m ((c.tc : Thread nD τ).loc main_arg0) = (E2 Q : FVec Ideal S8192x1024 .bf16))
  (hk : m ((c.tc : Thread nD τ).loc main_arg1) = (E2 K : FVec Ideal S8704x1024 .bf16))
  (hv : m ((c.tc : Thread nD τ).loc main_arg2) = (E2 U : FVec Ideal S8704x1024 .bf16))
  (hgt : m ((c.tc : Thread nD τ).loc main_arg3) = (E2 G : FVec Ideal S8192x1024 .bf16))
  (hw : m ((c.tc : Thread nD τ).loc main_arg4) = (E2 w : FVec Ideal S1024x4096 .f32))
  (hx : m ((c.tc : Thread nD τ).loc main_arg5) = (E2 X : FVec Ideal S8192x1024 .f32))
  (hg : m ((c.tc : Thread nD τ).loc main_arg6) = (E2 fun _ => g : FVec Ideal S1x1024 .f32))
  (hd : m ((c.tc : Thread nD τ).loc main_arg7) = (E2 D : FVec Ideal S8192x1024 .f32))
include hq hk hv hgt hw hx hg hd

theorem out0 : res_main_v44 m c = (E2 fun p => dx g (dh Q K U G w p) (X p) (D p) : FVec Ideal S8192x1024 .f32) := by
  unfold res_main_v44
  simp only [hw, hx, hg, hd]
  simp only [rdh hq hk hv hgt]
  refine eq_E2 fun i j => ?_
  clean_types
  pointwise []
  simp only [E2_apply, E3_apply, word_1024, word_eps, word_neg_half, Fin.sum_univ_one]
  exact dx_eq g (dh Q K U G w i.val) (X i.val) (D i.val) j.val

omit hg hd in
/-- The gradient at the gain. -/
theorem out1 : broadcastInDim S1x1024 ![1] bcast_S1024_S1x1024_1 (Host.reduceAdd (F := Ideal) (φ := .f32) (shapeCast _ (Host.reduceAdd (mulf (mulf (m ((c.tc : Thread nD τ).loc main_arg5)) (broadcastInDim S8192x1024 ![0, 1] bcast_S8192x1_S8192x1024_0_1 (Host.rsqrt (addf (Host.divf (broadcastInDim S8192x1 ![0] bcast_S8192_S8192x1_0 (Host.reduceAdd (mulf (m ((c.tc : Thread nD τ).loc main_arg5)) (m ((c.tc : Thread nD τ).loc main_arg5))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (Host.dotGeneral (φ₂ := .f32) dot_S8192x4096_S4096x1024_S8192x1024_1_0_0_1_n_n none (extf .f32 ((concatenate S8192x4096 1 [⟨S8192x1024, ((m ((c.tc : Thread nD τ).loc main_arg0)) : (⟨S8192x1024, .bf16⟩ : BufTy).Contents (Elt Ideal))⟩, ⟨S8192x1024, ((extractStridedSlice S8192x1024 ![512, 0] (m ((c.tc : Thread nD τ).loc main_arg1)) slices_S8704x1024_S8192x1024_512_0) : (⟨S8192x1024, .bf16⟩ : BufTy).Contents (Elt Ideal))⟩, ⟨S8192x1024, ((extractStridedSlice S8192x1024 ![512, 0] (m ((c.tc : Thread nD τ).loc main_arg2)) slices_S8704x1024_S8192x1024_512_0) : (⟨S8192x1024, .bf16⟩ : BufTy).Contents (Elt Ideal))⟩, ⟨S8192x1024, ((m ((c.tc : Thread nD τ).loc main_arg3)) : (⟨S8192x1024, .bf16⟩ : BufTy).Contents (Elt Ideal))⟩] concatenates_S8192x1024_S8192x1024_S8192x1024_S8192x1024_S8192x4096_d1 : (⟨S8192x4096, .bf16⟩ : BufTy).Contents (Elt Ideal))) bitsLt_bf16_f32) (transpose S4096x1024 [1, 0] (m ((c.tc : Thread nD τ).loc main_arg4)) transposes_S1024x4096_S4096x1024_1_0))) (constant S_ .f32 0x00000000#32) reducesTo_S8192x1024_S1024_d0 h_S_) shapeCasts_S1024_S1x1024) (constant S_ .f32 0x00000000#32) reducesTo_S1x1024_S1024_d0 h_S_) = (E2 fun _ q => ∑ p : Fin 8192, dgn (dh Q K U G w p.val) (X p.val) q : FVec Ideal S1x1024 .f32) := by
  simp only [hw, hx]
  simp only [rdh hq hk hv hgt]
  refine eq_E2 fun i j => ?_
  clean_types
  pointwise []
  simp only [E2_apply, E3_apply, word_1024, word_eps, Fin.sum_univ_one]
  exact Finset.sum_congr rfl fun p _ => mul_comm _ _

end ref

end Cert.Nm.Ref

end
-- ==== Proof.InKernel.lean ====
/- The forward call of the chunked attention's norm and input projection: the stored values, the blocks that its body reads, and the four
   arrays at the end. -/
module

public import proofs.«01_k».proof.Proof.NormModel
public import proofs.«01_k».proof.Proof.Gen.Kernel4Ideal.Value
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Nm.In

open Idealize.ShloMosaic Idealize.ShloMosaic.TcCoe Cert.Kernel4Ideal Cert.Kernel4Ideal.Gen Cert.Kernel4Ideal.Value
open Cert.Xa (word_1024 word_eps word_neg_half)

section pay
variable (X h w u : ℕ → ℕ → EReal) (g : ℕ → EReal)

/-- The normalised input. -/
theorem pay2 : k0_pay2 (F := Ideal) (E2 X) (E2 fun _ => g) = E2 fun p => hh g (X p) := by
  refine eq_E2 fun i j => ?_
  pointwise [k0_pay2]
  simp only [E2_apply, word_1024, word_eps]
  rfl

/-- The queries. -/
theorem pay3 : k0_pay3 (F := Ideal) (E2 X) (E2 fun _ => g) (E3 fun _ => w) = E2 fun p => pr w g (X p) := by
  refine eq_E2 fun i j => ?_
  pointwise [k0_pay3, pay2]
  rfl

/-- The gate. -/
theorem pay1 : k0_pay1 (F := Ideal) (E2 fun p => hh g (X p)) (k0_pay5 (E3 fun _ => w)) = E2 fun p => pr w g (X p) := by
  refine eq_E2 fun i j => ?_
  pointwise [k0_pay1, k0_pay5]
  rfl

/-- The keys and values side by side. -/
theorem pay4 : k0_pay4 (F := Ideal) (E2 X) (E2 fun _ => g) (E3 fun _ => w) (E3 fun _ => u)
    = E2 fun p c => if c < 1024 then pr w g (X p) c else pr u g (X p) (c - 1024) := by
  refine eq_E2 fun i j => ?_
  pointwise [k0_pay4, pay2]
  by_cases h : j.val < 1024
  · rw [dif_pos h, if_pos h]; rfl
  · rw [dif_neg h, if_neg h]; rfl

end pay

/-- Where each window's block lies at each grid point. -/
theorem idx : ∀ t : Fin cfg0.N,
    win0_0.index t = ![t.val, 0] ∧ win0_1.index t = ![0, 0] ∧ win0_2.index t = ![0, 0, 0] ∧ win0_3.index t = ![t.val, 0]
    ∧ win0_4.index t = ![t.val, 0] ∧ win0_5.index t = ![t.val, 0] ∧ win0_6.index t = ![t.val, 0] ∧ t.val < 16 :=
  (by decide +kernel : ∀ t : Fin grid0.N, _)

variable (m : (ℓ : Loc nD τ sig) → Buf (Elt Ideal) ℓ) (c : Dev nD)

/-- The launch's argument buffers on device `c` hold these arrays. -/
structure Holds (X : ℕ → ℕ → EReal) (g : ℕ → EReal) (w : ℕ → ℕ → EReal) : Prop where
  x : ∀ (i : Fin 8192) (j : Fin 1024), (m ((c : Thread nD τ).loc main_arg0) (ix2 i j) : EReal) = X i j
  g : ∀ (i : Fin 1) (j : Fin 1024), (m ((c : Thread nD τ).loc main_arg1) (ix2 i j) : EReal) = g j
  w : ∀ (i : Fin 1024) (j : Fin 4096), (m ((c : Thread nD τ).loc main_arg2) (ix2 i j) : EReal) = w i j

variable {m c} {X : ℕ → ℕ → EReal} {g : ℕ → EReal} {w : ℕ → ℕ → EReal} (H : Holds m c X g w) (t : Fin cfg0.N)
include H

theorem b0 : iblk m c 0 t = E2 (tile X t.val) := by
  refine eq_E2 fun i j => ?_
  refine Eq.trans ?_ (H.x ⟨512 * t.val + i.val, by have := idx t; omega⟩ j)
  blk_ext [iblk, V, idx t]

theorem b1 : iblk m c 1 t = E2 (fun _ => g) := by
  refine eq_E2 fun i j => ?_
  refine Eq.trans ?_ (H.g i j)
  blk_ext [iblk, V, idx t]

/-- The block of the weights holds the matrix as four shards of columns. -/
theorem w2 (s : Fin 4) (r q : Fin 1024) : iblk m c 2 t (ix3 s r q) = w r (1024 * s + q) := by
  refine Eq.trans ?_ (H.w r ⟨1024 * s.val + q.val, by omega⟩)
  blk_simp [iblk, idx t]
  entry_read
  pointwise []
  blk_ext [idx t]

/-- A shard of the weights, as the body loads it. -/
theorem l2 (s : Fin 4) (inb : ∀ a, (![s.val, 0, 0] : Fin 3 → ℕ) a + S1x1024x1024.size a ≤ S4x1024x1024.size a) :
    View.ld (Val := Elt Ideal) (S := S4x1024x1024) (e' := .bf16) (iblk m c 2 t) (Rect.unit ![s.val, 0, 0] S1x1024x1024.size inb)
      = E3 fun _ r q => w r (1024 * s.val + q) := by
  funext y
  obtain ⟨a, r, q, rfl⟩ : ∃ (a : Fin 1) (r q : Fin 1024), y = ix3 a r q := ⟨y 0, y 1, y 2, eq_ix3 y⟩
  refine Eq.trans ?_ (w2 H t s r q)
  pointwise []
  blk_ext []

theorem ld0 : View.ld (Val := Elt Ideal) (S := S4x1024x1024) (e' := .bf16) (iblk m c 2 t) r0_2 = E3 fun _ r q => w r q :=
  (l2 H t 0 _).trans (congrArg E3 (funext fun _ => funext fun r => funext fun q => congrArg (w r) (Nat.zero_add q)))
theorem ld1 : View.ld (Val := Elt Ideal) (S := S4x1024x1024) (e' := .bf16) (iblk m c 2 t) r0_3 = E3 fun _ r q => w r (1024 + q) := l2 H t 1 _
theorem ld2 : View.ld (Val := Elt Ideal) (S := S4x1024x1024) (e' := .bf16) (iblk m c 2 t) r0_4 = E3 fun _ r q => w r (2048 + q) := l2 H t 2 _
theorem ld3 : View.ld (Val := Elt Ideal) (S := S4x1024x1024) (e' := .bf16) (iblk m c 2 t) r0_6 = E3 fun _ r q => w r (3072 + q) := l2 H t 3 _

omit H in
theorem ldx (Y : Vec Ideal S512x1024 .f32) : View.ld Y r0_0 = Y :=
  View.ld_unit_zero (funext fun a => by fin_cases a <;> rfl) inb_S512x1024_S512x1024_0_0 Y
omit H in
theorem ldg (Y : Vec Ideal S1x1024 .f32) : View.ld Y r0_1 = Y :=
  View.ld_unit_zero (funext fun a => by fin_cases a <;> rfl) inb_S1x1024_S1x1024_0_0 Y

/-- What point `t` leaves in the window of the queries. -/
theorem p3 : (dats m 0 c).after 3 t = E2 fun p => pr w g (tile X t.val p) := by
  rw [after0_3]
  unfold_out out0_3
  refine (View.canon_unit_zero (funext fun a => by fin_cases a <;> rfl) inb_S512x1024_S512x1024_0_0 _).trans ?_
  rw [ldx, ldg, ld0 H t, b0 H t, b1 H t]
  exact pay3 _ _ _

/-- What point `t` leaves in the window of the keys and values. -/
theorem p4 : (dats m 0 c).after 4 t = E2 fun p q => pr w g (tile X t.val p) (1024 + q) := by
  rw [after0_4]
  unfold_out out0_4
  refine (View.canon_unit_zero (funext fun a => by fin_cases a <;> rfl) inb_S512x2048_S512x2048_0_0 _).trans ?_
  rw [ldx, ldg, ld1 H t, ld2 H t, b0 H t, b1 H t]
  refine (pay4 _ _ _ _).trans (congrArg E2 (funext fun p => funext fun q => ?_))
  by_cases h : q < 1024
  · rw [if_pos h]; rfl
  · rw [if_neg h]
    exact congrArg (pr w g (tile X t.val p)) (by omega : 2048 + (q - 1024) = 1024 + q)

/-- What point `t` leaves in the window of the gate. -/
theorem p5 : (dats m 0 c).after 5 t = E2 fun p q => pr w g (tile X t.val p) (3072 + q) := by
  rw [after0_5]
  unfold_out out0_5
  refine (View.canon_unit_zero (funext fun a => by fin_cases a <;> rfl) inb_S512x1024_S512x1024_0_0 _).trans ?_
  rw [ldx, ldg, ld3 H t, b0 H t, b1 H t, pay2]
  exact pay1 _ _ _

/-- What point `t` leaves in the window of the normalised input. -/
theorem p6 : (dats m 0 c).after 6 t = E2 fun p => hh g (tile X t.val p) := by
  rw [after0_6]
  unfold_out out0_6
  refine (View.canon_unit_zero (funext fun a => by fin_cases a <;> rfl) inb_S512x1024_S512x1024_0_0 _).trans ?_
  rw [ldx, ldg, b0 H t, b1 H t]
  exact pay2 _ _

/-- The kernel's queries. -/
theorem f3 : (dats m 0 c).arrAt 3 cfg0.N = E2 fun p => pr w g (X p) := by
  refine (dats m 0 c).arrAt_eq_of_covers 3 _ (by decide +kernel) fun t hf y => ?_
  blk_simp
  rw [p3 H t]
  blk_simp [E2, tile, idx t]
  rw [Nat.mul_comm 512 t.val]

/-- The kernel's keys and values. -/
theorem f4 : (dats m 0 c).arrAt 4 cfg0.N = E2 fun p q => pr w g (X p) (1024 + q) := by
  refine (dats m 0 c).arrAt_eq_of_covers 4 _ (by decide +kernel) fun t hf y => ?_
  blk_simp
  rw [p4 H t]
  blk_simp [E2, tile, idx t]
  rw [Nat.mul_comm 512 t.val]

/-- The kernel's gate. -/
theorem f5 : (dats m 0 c).arrAt 5 cfg0.N = E2 fun p q => pr w g (X p) (3072 + q) := by
  refine (dats m 0 c).arrAt_eq_of_covers 5 _ (by decide +kernel) fun t hf y => ?_
  blk_simp
  rw [p5 H t]
  blk_simp [E2, tile, idx t]
  rw [Nat.mul_comm 512 t.val]

/-- The kernel's normalised input. -/
theorem f6 : (dats m 0 c).arrAt 6 cfg0.N = E2 fun p => hh g (X p) := by
  refine (dats m 0 c).arrAt_eq_of_covers 6 _ (by decide +kernel) fun t hf y => ?_
  blk_simp
  rw [p6 H t]
  blk_simp [E2, tile, idx t]
  rw [Nat.mul_comm 512 t.val]

omit H in
/-- The argument buffers hold the arrays that they hold. -/
theorem holds (m : (ℓ : Loc nD τ sig) → Buf (Elt Ideal) ℓ) (c : Dev nD) :
    Holds m c (nat2 (fun i => (m ((c : Thread nD τ).loc main_arg0) i : EReal)))
      (nat2 (fun i => (m ((c : Thread nD τ).loc main_arg1) i : EReal)) 0)
      (nat2 (fun i => (m ((c : Thread nD τ).loc main_arg2) i : EReal))) where
  x := fun i j => nat2_at _ i j
  g := fun i j => (nat2_at _ i j).trans (by obtain rfl : i = 0 := Subsingleton.elim _ _; rfl)
  w := fun i j => nat2_at _ i j

end Cert.Nm.In

end
-- ==== Proof.InRef.lean ====
/- The plain norm and input projection of the chunked attention, over the extended reals. -/
module

public import proofs.«01_k».proof.Proof.NormModel
public import proofs.«01_k».proof.Proof.Gen.Reference4Ideal.Run
public import Idealize.ShloMosaic.Lib.Tactic.CleanTypes

@[expose] public section

set_option maxRecDepth 16384

noncomputable section

namespace Cert.Nm.InRef

open Idealize.ShloMosaic Idealize.ShloMosaic.TcCoe Idealize.ShloMosaic.StableHlo Cert.Reference4Ideal Cert.Reference4Ideal.Gen Cert.Reference4Ideal.Value
open Cert.Xa (word_1024 word_eps word_neg_half)

/-- The reference's normalised input. -/
def nrm (x : FVec Ideal S8192x1024 .f32) (gn : FVec Ideal S1x1024 .f32) : FVec Ideal S8192x1024 .f32 :=
  mulf (mulf x (broadcastInDim S8192x1024 ![0, 1] bcast_S8192x1_S8192x1024_0_1 (Host.rsqrt (addf (Host.divf (broadcastInDim S8192x1 ![0] bcast_S8192_S8192x1_0
      (Host.reduceAdd (mulf x x) (constant S_ .f32 0x00000000#32) reducesTo_S8192x1024_S8192_d1 h_S_)) (broadcastInDim S8192x1 ![] bcast_S_S8192x1 (constant S_ .f32 0x44800000#32)))
      (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 (shapeCast _ gn shapeCasts_S1x1024_S1024)))

/-- The reference's projection. -/
def prj (x : FVec Ideal S8192x1024 .f32) (gn : FVec Ideal S1x1024 .f32) (w0 : FVec Ideal S1024x4096 .f32) : FVec Ideal S8192x4096 .f32 :=
  Host.dotGeneral dot_S8192x1024_S1024x4096_S8192x4096_1_0_0_1_n_n none (nrm x gn) w0

variable (X w : ℕ → ℕ → EReal) (g : ℕ → EReal)

theorem nrm_eq : nrm (E2 X) (E2 fun _ => g) = E2 fun p => hh g (X p) := by
  refine eq_E2 fun i j => ?_
  unfold nrm
  clean_types
  pointwise []
  simp only [E2_apply, word_1024, word_eps]
  rfl

theorem prj_eq : prj (E2 X) (E2 fun _ => g) (E2 w) = E2 fun p => pr w g (X p) := by
  refine eq_E2 fun i j => ?_
  unfold prj
  rw [nrm_eq]
  clean_types
  pointwise []
  rfl

theorem out0 : truncf (F := Ideal) .bf16 (extractStridedSlice S8192x1024 ![0, 0] (prj (E2 X) (E2 fun _ => g) (E2 w)) slices_S8192x4096_S8192x1024_0_0) bitsLt_bf16_f32
    = E2 fun p => pr w g (X p) := by
  rw [prj_eq]
  refine eq_E2 fun i j => ?_
  pointwise []
  rfl

theorem out1 : truncf (F := Ideal) .bf16 (concatenate S8192x2048 1
      [⟨S8192x1024, (extractStridedSlice S8192x1024 ![0, 1024] (prj (E2 X) (E2 fun _ => g) (E2 w)) slices_S8192x4096_S8192x1024_0_1024)⟩,
        ⟨S8192x1024, (extractStridedSlice S8192x1024 ![0, 2048] (prj (E2 X) (E2 fun _ => g) (E2 w)) slices_S8192x4096_S8192x1024_0_2048)⟩]
      concatenates_S8192x1024_S8192x1024_S8192x2048_d1) bitsLt_bf16_f32
    = E2 fun p c => pr w g (X p) (1024 + c) := by
  rw [prj_eq]
  refine eq_E2 fun i j => ?_
  pointwise []
  by_cases h : j.val < 1024
  · rw [dif_pos h]; rfl
  · rw [dif_neg h]
    exact congrArg (pr w g (X i.val)) (by omega : 2048 + (j.val - 1024) = 1024 + j.val)

theorem out2 : extractStridedSlice S8192x1024 ![0, 3072] (prj (E2 X) (E2 fun _ => g) (E2 w)) slices_S8192x4096_S8192x1024_0_3072
    = E2 fun p c => pr w g (X p) (3072 + c) := by
  rw [prj_eq]
  refine eq_E2 fun i j => ?_
  pointwise []
  rfl

theorem out3 : truncf (F := Ideal) .bf16 (nrm (E2 X) (E2 fun _ => g)) bitsLt_bf16_f32 = E2 fun p => hh g (X p) := by
  rw [nrm_eq]
  refine eq_E2 fun i j => ?_
  pointwise []
  rfl

end Cert.Nm.InRef

end
-- ==== Proof.EvIn.lean ====
/- The forward call of the S5 mixer's norm and input projection: the product with the weight, whose columns are read as four shards of
   640, and the normalised input; and its reference. -/
module

public import proofs.«01_k».proof.Proof.NormModel
public import proofs.«01_k».proof.Proof.Gen.Kernel5Ideal.Value
public import proofs.«01_k».proof.Proof.Gen.Reference5Ideal.Run
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Tactic.CleanTypes

@[expose] public section

set_option maxRecDepth 16384

noncomputable section

namespace Cert.Nm.EvIn

open Idealize.ShloMosaic Idealize.ShloMosaic.TcCoe
open Cert.Xa (word_1024 word_eps)

section kernel
open Cert.Kernel5Ideal Cert.Kernel5Ideal.Gen Cert.Kernel5Ideal.Value

section pay
variable (X w : ℕ → ℕ → EReal) (g : ℕ → EReal)

/-- The normalised input. -/
theorem pay1 : k0_pay1 (F := Ideal) (E2 X) (E2 fun _ => g) = E2 fun p => hh g (X p) := by
  refine eq_E2 fun i j => ?_
  pointwise [k0_pay1]
  simp only [E2_apply, word_1024, word_eps]
  rfl

/-- The product. -/
theorem pay2 : k0_pay2 (F := Ideal) (E2 X) (E2 fun _ => g) (E3 fun _ r q => w r q) (E3 fun _ r q => w r (640 + q))
    (E3 fun _ r q => w r (1280 + q)) (E3 fun _ r q => w r (1920 + q)) = E2 fun p => pr w g (X p) := by
  refine eq_E2 fun i j => ?_
  pointwise [k0_pay2, pay1]
  by_cases h0 : j.val < 640
  · rw [dif_pos h0]; rfl
  rw [dif_neg h0]
  by_cases h1 : j.val - 640 < 640
  · rw [dif_pos h1]; simp only [E2_apply, E3_apply]; exact congrArg (pr w g (X i.val)) (by omega : 640 + (j.val - 640) = j.val)
  rw [dif_neg h1]
  by_cases h2 : j.val - 640 - 640 < 640
  · rw [dif_pos h2]; simp only [E2_apply, E3_apply]; exact congrArg (pr w g (X i.val)) (by omega : 1280 + (j.val - 640 - 640) = j.val)
  rw [dif_neg h2]; simp only [E2_apply, E3_apply]; exact congrArg (pr w g (X i.val)) (by omega : 1920 + (j.val - 640 - 640 - 640) = j.val)

end pay

/-- Where each window's block lies at each grid point. -/
theorem idx : ∀ t : Fin cfg0.N, win0_0.index t = ![t.val, 0] ∧ win0_1.index t = ![0, 0] ∧ win0_2.index t = ![0, 0, 0]
    ∧ win0_3.index t = ![t.val, 0] ∧ win0_4.index t = ![t.val, 0] ∧ t.val < 16 :=
  (by decide +kernel : ∀ t : Fin grid0.N, _)

variable (m : (ℓ : Loc nD τ sig) → Buf (Elt Ideal) ℓ) (c : Dev nD)

/-- The layer's input, the norm's gain and the weight, as the launch gives them. -/
def x0 : ℕ → ℕ → EReal := nat2 fun i => (m ((c : Thread nD τ).loc main_arg0) i : EReal)
def x1 : ℕ → EReal := nat2 (fun i => (m ((c : Thread nD τ).loc main_arg1) i : EReal)) 0
def x2 : ℕ → ℕ → EReal := nat2 fun i => (m ((c : Thread nD τ).loc main_arg2) i : EReal)

variable (t : Fin cfg0.N)

theorem b0 : iblk m c 0 t = E2 (tile (x0 m c) t.val) := by
  refine eq_E2 fun i j => ?_
  refine Eq.trans ?_ (nat2_at (fun i => (m ((c : Thread nD τ).loc main_arg0) i : EReal)) ⟨512 * t.val + i.val, by have := idx t; omega⟩ j)
  blk_ext [iblk, V, idx t]

theorem b1 : iblk m c 1 t = E2 fun _ => x1 m c := by
  refine eq_E2 fun i j => ?_
  obtain rfl : i = 0 := Subsingleton.elim _ _
  refine Eq.trans ?_ (nat2_at (fun i => (m ((c : Thread nD τ).loc main_arg1) i : EReal)) 0 j)
  blk_ext [iblk, V, idx t]

/-- The block of the weight holds it as four shards of columns. -/
theorem w2 (s : Fin 4) (r : Fin 1024) (q : Fin 640) : iblk m c 2 t (ix3 s r q) = x2 m c r (640 * s + q) := by
  refine Eq.trans ?_ (nat2_at (fun i => (m ((c : Thread nD τ).loc main_arg2) i : EReal)) r ⟨640 * s.val + q.val, by omega⟩)
  blk_simp [iblk, idx t]
  entry_read
  pointwise []
  blk_ext [idx t]

/-- A shard of the weight, as the body loads it. -/
theorem l2 (s : Fin 4) (inb : ∀ a, (![s.val, 0, 0] : Fin 3 → ℕ) a + S1x1024x640.size a ≤ S4x1024x640.size a) :
    View.ld (Val := Elt Ideal) (S := S4x1024x640) (e' := .bf16) (iblk m c 2 t) (Rect.unit ![s.val, 0, 0] S1x1024x640.size inb)
      = E3 fun _ r q => x2 m c r (640 * s.val + q) := by
  funext y
  obtain ⟨a, r, q, rfl⟩ : ∃ (a : Fin 1) (r : Fin 1024) (q : Fin 640), y = ix3 a r q := ⟨y 0, y 1, y 2, eq_ix3 y⟩
  refine Eq.trans ?_ (w2 m c t s r q)
  pointwise []
  blk_ext []

/-- The four shards. -/
theorem ld0 : View.ld (Val := Elt Ideal) (S := S4x1024x640) (e' := .bf16) (iblk m c 2 t) r0_2 = E3 fun _ r q => x2 m c r q :=
  (l2 m c t 0 _).trans (congrArg E3 (funext fun _ => funext fun r => funext fun q => congrArg (x2 m c r) (Nat.zero_add q)))
theorem ld1 : View.ld (Val := Elt Ideal) (S := S4x1024x640) (e' := .bf16) (iblk m c 2 t) r0_3 = E3 fun _ r q => x2 m c r (640 + q) := l2 m c t 1 _
theorem ld2 : View.ld (Val := Elt Ideal) (S := S4x1024x640) (e' := .bf16) (iblk m c 2 t) r0_4 = E3 fun _ r q => x2 m c r (1280 + q) := l2 m c t 2 _
theorem ld3 : View.ld (Val := Elt Ideal) (S := S4x1024x640) (e' := .bf16) (iblk m c 2 t) r0_5 = E3 fun _ r q => x2 m c r (1920 + q) := l2 m c t 3 _

theorem ldx (Y : Vec Ideal S512x1024 .f32) : View.ld Y r0_0 = Y :=
  View.ld_unit_zero (funext fun a => by fin_cases a <;> rfl) inb_S512x1024_S512x1024_0_0 Y
theorem ldg (Y : Vec Ideal S1x1024 .f32) : View.ld Y r0_1 = Y :=
  View.ld_unit_zero (funext fun a => by fin_cases a <;> rfl) inb_S1x1024_S1x1024_0_0 Y

/-- What point `t` leaves in the window of the product. -/
theorem p3 : (dats m 0 c).after 3 t = E2 fun p => pr (x2 m c) (x1 m c) (tile (x0 m c) t.val p) := by
  rw [after0_3]
  unfold out0_3
  refine (View.canon_unit_zero (funext fun a => by fin_cases a <;> rfl) inb_S512x2560_S512x2560_0_0 _).trans ?_
  rw [ldx, ldg, ld0, ld1, ld2, ld3, b0, b1]
  exact pay2 _ _ _

/-- What point `t` leaves in the window of the normalised input. -/
theorem p4 : (dats m 0 c).after 4 t = E2 fun p => hh (x1 m c) (tile (x0 m c) t.val p) := by
  rw [after0_4]
  unfold out0_4
  refine (View.canon_unit_zero (funext fun a => by fin_cases a <;> rfl) inb_S512x1024_S512x1024_0_0 _).trans ?_
  rw [ldx, ldg, b0, b1]
  exact pay1 _ _

/-- The kernel's product. -/
theorem f3 : (dats m 0 c).arrAt 3 cfg0.N = E2 fun p => pr (x2 m c) (x1 m c) (x0 m c p) := by
  refine (dats m 0 c).arrAt_eq_of_covers 3 _ (by decide +kernel) fun t hf y => ?_
  blk_simp
  rw [p3 m c t]
  blk_simp [E2, tile, idx t]
  rw [Nat.mul_comm 512 t.val]

/-- The kernel's normalised input. -/
theorem f4 : (dats m 0 c).arrAt 4 cfg0.N = E2 fun p => hh (x1 m c) (x0 m c p) := by
  refine (dats m 0 c).arrAt_eq_of_covers 4 _ (by decide +kernel) fun t hf y => ?_
  blk_simp
  rw [p4 m c t]
  blk_simp [E2, tile, idx t]
  rw [Nat.mul_comm 512 t.val]

end kernel

section reference
open StableHlo Cert.Reference5Ideal Cert.Reference5Ideal.Gen

/-- The reference's normalised input. -/
def nrm (x : FVec Ideal S8192x1024 .f32) (gn : FVec Ideal S1x1024 .f32) : FVec Ideal S8192x1024 .f32 :=
  mulf (mulf x (broadcastInDim S8192x1024 ![0, 1] bcast_S8192x1_S8192x1024_0_1 (Host.rsqrt (addf (Host.divf (broadcastInDim S8192x1 ![0] bcast_S8192_S8192x1_0
      (Host.reduceAdd (mulf x x) (constant S_ .f32 0x00000000#32) reducesTo_S8192x1024_S8192_d1 h_S_)) (broadcastInDim S8192x1 ![] bcast_S_S8192x1 (constant S_ .f32 0x44800000#32)))
      (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 (shapeCast _ gn shapeCasts_S1x1024_S1024)))

variable (X w : ℕ → ℕ → EReal) (g : ℕ → EReal)

theorem nrm_eq : nrm (E2 X) (E2 fun _ => g) = E2 fun p => hh g (X p) := by
  refine eq_E2 fun i j => ?_
  unfold nrm
  clean_types
  pointwise []
  simp only [E2_apply, word_1024, word_eps]
  rfl

/-- The reference's product. -/
theorem out0 : Host.dotGeneral (F := Ideal) (φ₁ := .f32) (φ₂ := .f32) dot_S8192x1024_S1024x2560_S8192x2560_1_0_0_1_n_n none (nrm (E2 X) (E2 fun _ => g)) (E2 w)
    = E2 fun p => pr w g (X p) := by
  rw [nrm_eq]
  refine eq_E2 fun i j => ?_
  clean_types
  pointwise []
  rfl

theorem out1 : truncf (F := Ideal) .bf16 (nrm (E2 X) (E2 fun _ => g)) bitsLt_bf16_f32 = E2 fun p => hh g (X p) := by
  rw [nrm_eq]
  refine eq_E2 fun i j => ?_
  pointwise []
  rfl

end reference

end Cert.Nm.EvIn

end
-- ==== Proof.EvInBack.lean ====
/- The backward call of the S5 mixer's norm and input projection: the gradients at the layer's input and at the norm's gain, from that at
   the projection's 2560 columns; and its reference. -/
module

public import proofs.«01_k».proof.Proof.NormModel
public import proofs.«01_k».proof.Proof.Gen.Kernel6Ideal.Value
public import proofs.«01_k».proof.Proof.Gen.Reference6Ideal.Run
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Tactic.CleanTypes

@[expose] public section

set_option maxRecDepth 16384

noncomputable section

namespace Cert.Nm.EvInBack

open Idealize.ShloMosaic Idealize.ShloMosaic.TcCoe
open Cert.Xa (word_1024 word_eps word_neg_half)

section kernel
open Cert.Kernel6Ideal Cert.Kernel6Ideal.Gen Cert.Kernel6Ideal.Value

section pay
variable (X D h w Z : ℕ → ℕ → EReal) (g A : ℕ → EReal)

theorem pay5 : k0_pay5 (F := Ideal) (E2 X) = E2 fun p _ => inv (X p) := by
  refine eq_E2 fun i j => ?_
  pointwise [k0_pay5]
  simp only [E2_apply, word_1024, word_eps]
  rfl

theorem pay6 : k0_pay6 (F := Ideal) (E2 X) = E2 fun p => xh (X p) := by
  refine eq_E2 fun i j => ?_
  pointwise [k0_pay6, pay5]
  rfl

/-- The gradient at the input. -/
theorem pay1 : k0_pay1 (F := Ideal) (E2 h) (E2 fun _ => g) (E2 fun p _ => inv (X p)) (E2 fun p => xh (X p)) (E2 D)
    = E2 fun p => dx g (h p) (X p) (D p) := by
  refine eq_E2 fun i j => ?_
  pointwise [k0_pay1]
  simp only [E2_apply, word_1024]
  rfl

theorem pay2 : k0_pay2 (F := Ideal) = E2 fun _ _ => 0 := by
  refine eq_E2 fun i j => ?_
  pointwise [k0_pay2]

/-- The gradient at the gain, after a tile's rows. -/
theorem pay3 : k0_pay3 (F := Ideal) (E2 h) (E2 fun _ => A) = E2 fun _ c => A c + ∑ p : Fin 512, h p.val c := by
  refine eq_E2 fun i j => ?_
  pointwise [k0_pay3]
  rfl

/-- The gradient at the projection's input. -/
theorem pay4 : k0_pay4 (F := Ideal) (E2 Z) (E3 fun _ r c => w r c) (E3 fun _ r c => w r (640 + c)) (E3 fun _ r c => w r (1280 + c))
    (E3 fun _ r c => w r (1920 + c)) = E2 (dh2 w Z) := by
  refine eq_E2 fun i j => ?_
  pointwise [k0_pay4]
  exact dh2_eq w Z i.val j.val

theorem pay7 : k0_pay7 (F := Ideal) (E2 Z) (E3 fun _ r c => w r c) (E3 fun _ r c => w r (640 + c)) (E3 fun _ r c => w r (1280 + c))
    (E3 fun _ r c => w r (1920 + c)) (E2 X) = E2 fun p => dgn (dh2 w Z p) (X p) := by
  refine eq_E2 fun i j => ?_
  pointwise [k0_pay7, pay4, pay6]
  rfl

end pay

/-- Where each window's block lies at each grid point. -/
theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0] ∧ t.val < 16 :=
  (by decide +kernel : ∀ t : Fin grid0.N, _)

variable (m : (ℓ : Loc nD τ sig) → Buf (Elt Ideal) ℓ) (c : Dev nD)

/-- The gradient at the projection's columns, the weight, the layer's input, the norm's gain and the residual's gradient, as the launch
    gives them. -/
def z : ℕ → ℕ → EReal := nat2 fun i => (m ((c : Thread nD τ).loc main_arg0) i : EReal)
def w : ℕ → ℕ → EReal := nat2 fun i => (m ((c : Thread nD τ).loc main_arg1) i : EReal)
def x : ℕ → ℕ → EReal := nat2 fun i => (m ((c : Thread nD τ).loc main_arg2) i : EReal)
def g : ℕ → EReal := nat2 (fun i => (m ((c : Thread nD τ).loc main_arg3) i : EReal)) 0
def d : ℕ → ℕ → EReal := nat2 fun i => (m ((c : Thread nD τ).loc main_arg4) i : EReal)
/-- The gradient at the projection's input. -/
def h : ℕ → ℕ → EReal := dh2 (w m c) (z m c)

variable (t : Fin cfg0.N)

theorem b0 : iblk m c 0 t = E2 (tile (z m c) t.val) := by
  refine eq_E2 fun i j => ?_
  refine Eq.trans ?_ (nat2_at (fun i => (m ((c : Thread nD τ).loc main_arg0) i : EReal)) ⟨512 * t.val + i.val, by have := idx t; omega⟩ j)
  blk_ext [iblk, V, idx t]

theorem b2 : iblk m c 2 t = E2 (tile (x m c) t.val) := by
  refine eq_E2 fun i j => ?_
  refine Eq.trans ?_ (nat2_at (fun i => (m ((c : Thread nD τ).loc main_arg2) i : EReal)) ⟨512 * t.val + i.val, by have := idx t; omega⟩ j)
  blk_ext [iblk, V, idx t]

theorem b4 : iblk m c 4 t = E2 (tile (d m c) t.val) := by
  refine eq_E2 fun i j => ?_
  refine Eq.trans ?_ (nat2_at (fun i => (m ((c : Thread nD τ).loc main_arg4) i : EReal)) ⟨512 * t.val + i.val, by have := idx t; omega⟩ j)
  blk_ext [iblk, V, idx t]

theorem b3 : iblk m c 3 t = E2 fun _ => g m c := by
  refine eq_E2 fun i j => ?_
  obtain rfl : i = 0 := Subsingleton.elim _ _
  refine Eq.trans ?_ (nat2_at (fun i => (m ((c : Thread nD τ).loc main_arg3) i : EReal)) 0 j)
  blk_ext [iblk, V, idx t]

/-- The block of the weight holds it as four shards of columns. -/
theorem w1 (s : Fin 4) (r : Fin 1024) (q : Fin 640) : iblk m c 1 t (ix3 s r q) = w m c r (640 * s + q) := by
  refine Eq.trans ?_ (nat2_at (fun i => (m ((c : Thread nD τ).loc main_arg1) i : EReal)) r ⟨640 * s.val + q.val, by omega⟩)
  blk_simp [iblk, idx t]
  entry_read
  pointwise []
  blk_ext [idx t]

/-- A shard of the weight, as the body loads it. -/
theorem l1 (s : Fin 4) (inb : ∀ a, (![s.val, 0, 0] : Fin 3 → ℕ) a + (![1, 1024, 640] : Fin 3 → ℕ) a ≤ S4x1024x640.size a) :
    View.ld (Val := Elt Ideal) (S := S4x1024x640) (e' := .bf16) (iblk m c 1 t) (Rect.unit ![s.val, 0, 0] ![1, 1024, 640] inb)
      = E3 fun _ r q => w m c r (640 * s.val + q) := by
  funext y
  obtain ⟨a, r, q, rfl⟩ : ∃ (a : Fin 1) (r : Fin 1024) (q : Fin 640), y = ix3 a r q := ⟨y 0, y 1, y 2, eq_ix3 y⟩
  refine Eq.trans ?_ (w1 m c t s r q)
  pointwise []
  blk_ext []

/-- The four shards. -/
theorem ld0 : View.ld (Val := Elt Ideal) (S := S4x1024x640) (e' := .bf16) (iblk m c 1 t)
    (Rect.unit ![0, 0, 0] ![1, 1024, 640] inb_S4x1024x640_S1x1024x640_0_0_0) = E3 fun _ r q => w m c r q :=
  (l1 m c t 0 _).trans (congrArg E3 (funext fun _ => funext fun r => funext fun q => congrArg (w m c r) (Nat.zero_add q)))
theorem ld1 : View.ld (Val := Elt Ideal) (S := S4x1024x640) (e' := .bf16) (iblk m c 1 t)
    (Rect.unit ![1, 0, 0] ![1, 1024, 640] inb_S4x1024x640_S1x1024x640_1_0_0) = E3 fun _ r q => w m c r (640 + q) := l1 m c t 1 _
theorem ld2 : View.ld (Val := Elt Ideal) (S := S4x1024x640) (e' := .bf16) (iblk m c 1 t)
    (Rect.unit ![2, 0, 0] ![1, 1024, 640] inb_S4x1024x640_S1x1024x640_2_0_0) = E3 fun _ r q => w m c r (1280 + q) := l1 m c t 2 _
theorem ld3 : View.ld (Val := Elt Ideal) (S := S4x1024x640) (e' := .bf16) (iblk m c 1 t)
    (Rect.unit ![3, 0, 0] ![1, 1024, 640] inb_S4x1024x640_S1x1024x640_3_0_0) = E3 fun _ r q => w m c r (1920 + q) := l1 m c t 3 _

/-- What point `t` leaves in the window of the gradient at the input. -/
theorem p5 : (outsAt0 m c t.val t.isLt).1
    = E2 fun p => dx (g m c) (tile (h m c) t.val p) (tile (x m c) t.val p) (tile (d m c) t.val p) := by
  by_cases h : t.val % 16 = 0
  · rw [outsAt0_A m c t h]
    frame_open
    simp (disch := decide) only [↓ View.readCov_skip, ↓ View.readCov_cons_toLoadRect, ↓ View.readCov_fill]
    frame_out
    simp only [b0, b2, b3, b4, ld0, ld1, ld2, ld3, pay4, pay5, pay6]
    exact pay1 _ _ _ _
  · rw [outsAt0_B m c t h]
    frame_open
    simp (disch := decide) only [↓ View.readCov_skip, ↓ View.readCov_cons_toLoadRect, ↓ View.readCov_fill]
    frame_out
    simp only [b0, b2, b3, b4, ld0, ld1, ld2, ld3, pay4, pay5, pay6]
    exact pay1 _ _ _ _

/-- The first point leaves its own rows' part of the gradient at the gain. -/
theorem a6 (h0 : t.val % 16 = 0) : (outsAt0 m c t.val t.isLt).2
    = E2 fun _ q => 0 + ∑ p : Fin 512, dgn (tile (h m c) t.val p.val) (tile (x m c) t.val p.val) q := by
  rw [outsAt0_A m c t h0]
  frame_open
  simp (disch := decide) only [↓ View.readCov_skip, ↓ View.readCov_cons_toLoadRect, ↓ View.readCov_fill]
  frame_out
  simp only [b0, b2, ld0, ld1, ld2, ld3, pay2, pay7]
  exact pay3 _ fun _ => 0

/-- A later point adds its rows' part of the gradient at the gain. -/
theorem s6 (h0 : ¬ t.val % 16 = 0) (A : ℕ → EReal) (hl : t.val - 1 < cfg0.N) (hA : (outsAt0 m c (t.val - 1) hl).2 = E2 fun _ => A) :
    (outsAt0 m c t.val t.isLt).2
      = E2 fun _ q => A q + ∑ p : Fin 512, dgn (tile (h m c) t.val p.val) (tile (x m c) t.val p.val) q := by
  rw [outsAt0_B m c t h0]
  frame_open
  simp (disch := decide) only [↓ View.readCov_skip, ↓ View.readCov_cons_toLoadRect, ↓ View.readCov_fill]
  frame_out
  simp only [hA, b0, b2, ld0, ld1, ld2, ld3, pay7]
  exact pay3 _ A

/-- After point `n` the gradient at the gain is the sum over the rows of the first `n + 1` tiles. -/
theorem acc6 : ∀ (n : ℕ) (hn : n < cfg0.N), (outsAt0 m c n hn).2
    = E2 fun _ q => ∑ p ∈ Finset.range (512 * (n + 1)), dgn (h m c p) (x m c p) q
  | 0, hn => by
    rw [a6 m c ⟨0, hn⟩ rfl]
    refine congrArg E2 (funext fun k => funext fun q => ?_)
    rw [sum_tiles (fun h x => dgn h x q) (h m c), Nat.mul_zero, Finset.sum_range_zero]
  | n + 1, hn => by
    have h16 : n + 1 < 16 := Nat.lt_of_lt_of_eq hn N_0
    rw [s6 m c ⟨n + 1, hn⟩ (by show ¬ (n + 1) % 16 = 0; omega) _ (Nat.lt_of_succ_lt hn) (acc6 n (Nat.lt_of_succ_lt hn))]
    refine congrArg E2 (funext fun k => funext fun q => ?_)
    rw [sum_tiles (fun h x => dgn h x q) (h m c) (x m c) (n + 1)]

/-- The kernel's gradient at the input. -/
theorem f5 : (dats m 0 c).arrAt 5 cfg0.N = E2 fun p => dx (g m c) (h m c p) (x m c p) (d m c p) := by
  refine (dats m 0 c).arrAt_eq_of_covers 5 _ (by decide +kernel) fun t hf y => ?_
  blk_simp
  rw [after0_5, p5 m c t]
  blk_simp [E2, tile, idx t]
  rw [Nat.mul_comm 512 t.val]

/-- The kernel's gradient at the gain. -/
theorem f6 : (dats m 0 c).arrAt 6 cfg0.N = E2 fun _ q => ∑ p : Fin 8192, dgn (h m c p.val) (x m c p.val) q := by
  refine (dats m 0 c).arrAt_eq_of_after_last 6 t0_15 (by decide +kernel) _ fun y => ?_
  blk_simp
  rw [after0_6, acc6 m c]
  simp only [Finset.sum_range]
  rfl

end kernel

section reference
open StableHlo Cert.Reference6Ideal Cert.Reference6Ideal.Gen Cert.Reference6Ideal.Value

/-- The gradient at the projection's input. -/
theorem rdh {Z w : ℕ → ℕ → EReal} {z : FVec Ideal S8192x2560 .bf16} (hz : z = E2 Z) :
    Host.dotGeneral (F := Ideal) (φ₁ := .f32) (φ₂ := .f32) dot_S8192x2560_S2560x1024_S8192x1024_1_0_0_1_n_n none
      (extf .f32 z bitsLt_bf16_f32) (transpose (α := Ideal .f32) S2560x1024 [1, 0] (E2 w) transposes_S1024x2560_S2560x1024_1_0)
        = (E2 (dh2 w Z) : FVec Ideal S8192x1024 .f32) := by
  subst hz
  refine eq_E2 fun i j => ?_
  clean_types
  pointwise []
  rfl

variable (m : (ℓ : Loc nD τ sig) → Buf (Elt Ideal) ℓ) (c : Dev nD) {Z w X : ℕ → ℕ → EReal} {g : ℕ → EReal} {D : ℕ → ℕ → EReal}
  (hz : m ((c.tc : Thread nD τ).loc main_arg0) = (E2 Z : FVec Ideal S8192x2560 .bf16))
  (hw : m ((c.tc : Thread nD τ).loc main_arg1) = (E2 w : FVec Ideal S1024x2560 .f32))
  (hx : m ((c.tc : Thread nD τ).loc main_arg2) = (E2 X : FVec Ideal S8192x1024 .f32))
  (hg : m ((c.tc : Thread nD τ).loc main_arg3) = (E2 fun _ => g : FVec Ideal S1x1024 .f32))
  (hd : m ((c.tc : Thread nD τ).loc main_arg4) = (E2 D : FVec Ideal S8192x1024 .f32))
include hz hw hx hg hd

/-- The reference's gradient at the input. -/
theorem out0 : res_main_v41 m c = (E2 fun p => dx g (dh2 w Z p) (X p) (D p) : FVec Ideal S8192x1024 .f32) := by
  unfold res_main_v41
  simp only [hw, hx, hg, hd]
  simp only [rdh hz]
  refine eq_E2 fun i j => ?_
  clean_types
  pointwise []
  simp only [E2_apply, E3_apply, word_1024, word_eps, word_neg_half, Fin.sum_univ_one]
  exact dx_eq g (dh2 w Z i.val) (X i.val) (D i.val) j.val

omit hg hd in
/-- The reference's gradient at the gain. -/
theorem out1 : broadcastInDim S1x1024 ![1] bcast_S1024_S1x1024_1 (Host.reduceAdd (F := Ideal) (φ := .f32) (shapeCast _ (Host.reduceAdd (mulf (mulf (m ((c.tc : Thread nD τ).loc main_arg2)) (broadcastInDim S8192x1024 ![0, 1] bcast_S8192x1_S8192x1024_0_1 (Host.rsqrt (addf (Host.divf (broadcastInDim S8192x1 ![0] bcast_S8192_S8192x1_0 (Host.reduceAdd (mulf (m ((c.tc : Thread nD τ).loc main_arg2)) (m ((c.tc : Thread nD τ).loc main_arg2))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (Host.dotGeneral (φ₂ := .f32) dot_S8192x2560_S2560x1024_S8192x1024_1_0_0_1_n_n none (extf .f32 (m ((c.tc : Thread nD τ).loc main_arg0)) bitsLt_bf16_f32) (transpose S2560x1024 [1, 0] (m ((c.tc : Thread nD τ).loc main_arg1)) transposes_S1024x2560_S2560x1024_1_0))) (constant S_ .f32 0x00000000#32) reducesTo_S8192x1024_S1024_d0 h_S_) shapeCasts_S1024_S1x1024) (constant S_ .f32 0x00000000#32) reducesTo_S1x1024_S1024_d0 h_S_)
    = E2 fun _ q => ∑ p : Fin 8192, dgn (dh2 w Z p.val) (X p.val) q := by
  simp only [hw, hx]
  simp only [rdh hz]
  refine eq_E2 fun i j => ?_
  clean_types
  pointwise []
  simp only [E2_apply, E3_apply, word_1024, word_eps, Fin.sum_univ_one]
  exact Finset.sum_congr rfl fun p _ => mul_comm _ _

end reference

end Cert.Nm.EvInBack

end
-- ==== Proof.OutBack.lean ====
/- The backward call of the chunked attention's output projection: the product with the transposed weight, whose rows are read as four
   shards; and its reference. -/
module

public import proofs.«01_k».proof.Proof.NormModel
public import proofs.«01_k».proof.Proof.Gen.Kernel7Ideal.Value
public import proofs.«01_k».proof.Proof.Gen.Reference7Ideal.Run
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Tactic.CleanTypes

@[expose] public section

set_option maxRecDepth 16384

noncomputable section

namespace Cert.Nm.OutBack

open Idealize.ShloMosaic Idealize.ShloMosaic.TcCoe

/-- The gradient at the projection's input. -/
def dr (X w : ℕ → ℕ → EReal) (p q : ℕ) : EReal := ∑ k : Fin 1024, X p k.val * w q k.val

section kernel
open Cert.Kernel7Ideal Cert.Kernel7Ideal.Gen Cert.Kernel7Ideal.Value

theorem pay1 (X w : ℕ → ℕ → EReal) : k0_pay1 (F := Ideal) (E2 X) (E3 fun _ r k => w r k) (E3 fun _ r k => w (256 + r) k)
    (E3 fun _ r k => w (512 + r) k) (E3 fun _ r k => w (768 + r) k) = E2 (dr X w) := by
  refine eq_E2 fun i j => ?_
  pointwise [k0_pay1]
  by_cases h0 : j.val < 256
  · rw [dif_pos h0]; rfl
  rw [dif_neg h0]
  by_cases h1 : j.val - 256 < 256
  · rw [dif_pos h1]; simp only [E2_apply, E3_apply]; exact congrArg (dr X w i.val) (by omega : 256 + (j.val - 256) = j.val)
  rw [dif_neg h1]
  by_cases h2 : j.val - 256 - 256 < 256
  · rw [dif_pos h2]; simp only [E2_apply, E3_apply]; exact congrArg (dr X w i.val) (by omega : 512 + (j.val - 256 - 256) = j.val)
  rw [dif_neg h2]; simp only [E2_apply, E3_apply]; exact congrArg (dr X w i.val) (by omega : 768 + (j.val - 256 - 256 - 256) = j.val)

/-- Where each window's block lies at each grid point. -/
theorem idx : ∀ t : Fin cfg0.N, win0_0.index t = ![t.val, 0] ∧ win0_1.index t = ![0, 0, 0] ∧ win0_2.index t = ![t.val, 0] ∧ t.val < 16 :=
  (by decide +kernel : ∀ t : Fin grid0.N, _)

variable (m : (ℓ : Loc nD τ sig) → Buf (Elt Ideal) ℓ) (c : Dev nD)

/-- The gradient at the projection's result, and the weight, as the launch gives them. -/
def x0 : ℕ → ℕ → EReal := nat2 fun i => (m ((c : Thread nD τ).loc main_arg0) i : EReal)
def x1 : ℕ → ℕ → EReal := nat2 fun i => (m ((c : Thread nD τ).loc main_arg1) i : EReal)

variable (t : Fin cfg0.N)

theorem b0 : iblk m c 0 t = E2 (tile (x0 m c) t.val) := by
  refine eq_E2 fun i j => ?_
  refine Eq.trans ?_ (nat2_at (fun i => (m ((c : Thread nD τ).loc main_arg0) i : EReal)) ⟨512 * t.val + i.val, by have := idx t; omega⟩ j)
  blk_ext [iblk, V, idx t]

/-- The block of the weight holds it as four shards of rows. -/
theorem w1 (s : Fin 4) (r : Fin 256) (k : Fin 1024) : iblk m c 1 t (ix3 s r k) = x1 m c (256 * s + r) k := by
  refine Eq.trans ?_ (nat2_at (fun i => (m ((c : Thread nD τ).loc main_arg1) i : EReal)) ⟨256 * s.val + r.val, by omega⟩ k)
  blk_simp [iblk, idx t]
  entry_read
  pointwise []
  blk_ext [idx t]

/-- A shard of the weight, as the body loads it. -/
theorem l1 (s : Fin 4) (inb : ∀ a, (![s.val, 0, 0] : Fin 3 → ℕ) a + S1x256x1024.size a ≤ S4x256x1024.size a) :
    View.ld (Val := Elt Ideal) (S := S4x256x1024) (e' := .bf16) (iblk m c 1 t) (Rect.unit ![s.val, 0, 0] S1x256x1024.size inb)
      = E3 fun _ r k => x1 m c (256 * s.val + r) k := by
  funext y
  obtain ⟨a, r, k, rfl⟩ : ∃ (a : Fin 1) (r : Fin 256) (k : Fin 1024), y = ix3 a r k := ⟨y 0, y 1, y 2, eq_ix3 y⟩
  refine Eq.trans ?_ (w1 m c t s r k)
  pointwise []
  blk_ext []

/-- The four shards. -/
theorem ld0 : View.ld (Val := Elt Ideal) (S := S4x256x1024) (e' := .bf16) (iblk m c 1 t) r0_1 = E3 fun _ r k => x1 m c r k :=
  (l1 m c t 0 _).trans (congrArg E3 (funext fun _ => funext fun r => funext fun k => congrArg (x1 m c · k) (Nat.zero_add r)))
theorem ld1 : View.ld (Val := Elt Ideal) (S := S4x256x1024) (e' := .bf16) (iblk m c 1 t) r0_2 = E3 fun _ r k => x1 m c (256 + r) k := l1 m c t 1 _
theorem ld2 : View.ld (Val := Elt Ideal) (S := S4x256x1024) (e' := .bf16) (iblk m c 1 t) r0_3 = E3 fun _ r k => x1 m c (512 + r) k := l1 m c t 2 _
theorem ld3 : View.ld (Val := Elt Ideal) (S := S4x256x1024) (e' := .bf16) (iblk m c 1 t) r0_4 = E3 fun _ r k => x1 m c (768 + r) k := l1 m c t 3 _

theorem ldx (Y : Vec Ideal S512x1024 .f32) : View.ld Y r0_0 = Y :=
  View.ld_unit_zero (funext fun a => by fin_cases a <;> rfl) inb_S512x1024_S512x1024_0_0 Y

/-- What point `t` leaves in its window. -/
theorem p2 : (dats m 0 c).after 2 t = E2 (dr (tile (x0 m c) t.val) (x1 m c)) := by
  rw [after0_2]
  unfold out0_2
  refine (View.canon_unit_zero (funext fun a => by fin_cases a <;> rfl) inb_S512x1024_S512x1024_0_0 _).trans ?_
  rw [ldx, ld0, ld1, ld2, ld3, b0]
  exact pay1 _ _

/-- The kernel's gradient. -/
theorem f2 : (dats m 0 c).arrAt 2 cfg0.N = E2 (dr (x0 m c) (x1 m c)) := by
  refine (dats m 0 c).arrAt_eq_of_covers 2 _ (by decide +kernel) fun t hf y => ?_
  blk_simp
  rw [p2 m c t]
  blk_simp [E2, tile, idx t]
  exact congrArg (fun p => dr (x0 m c) (x1 m c) p (y 1).val) (congrArg (· + (y 0).val) (Nat.mul_comm 512 t.val))

end kernel

open Cert.Reference7Ideal Cert.Reference7Ideal.Gen in
/-- The reference's gradient. -/
theorem out (X w : ℕ → ℕ → EReal) : Host.dotGeneral (F := Ideal) (φ₁ := .f32) (φ₂ := .f32) dot_S8192x1024_S1024x1024_S8192x1024_1_0_0_1_n_n none (E2 X)
    (transpose (α := Ideal .f32) S1024x1024 [1, 0] (E2 w) transposes_S1024x1024_S1024x1024_1_0) = E2 (dr X w) := by
  refine eq_E2 fun i j => ?_
  clean_types
  pointwise []
  rfl

end Cert.Nm.OutBack

end
-- ==== Proof.OutGrad.lean ====
/- The gradient at a square projection's weight: the product of the projection's input, transposed, with the gradient at its result, summed
   over eight tiles of 1024 rows and written out in four shards of 256 rows; and its reference. -/
module

public import proofs.«01_k».proof.Proof.NormModel
public import proofs.«01_k».proof.Proof.Gen.Kernel9Ideal.Value
public import proofs.«01_k».proof.Proof.Gen.Reference9Ideal.Run
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Tactic.CleanTypes

@[expose] public section

set_option maxRecDepth 16384

noncomputable section

namespace Cert.Nm

open Idealize.ShloMosaic Idealize.ShloMosaic.TcCoe

/-- The first `n` rows' part of a weight's gradient. -/
def gr (R D : ℕ → ℕ → EReal) (n i j : ℕ) : EReal := ∑ p ∈ Finset.range n, R p i * D p j

theorem gr_zero (R D : ℕ → ℕ → EReal) (i j : ℕ) :
    0 + ∑ p : Fin 1024, R (1024 * 0 + p.val) i * D (1024 * 0 + p.val) j = gr R D (1024 * (0 + 1)) i j := by
  simp only [Nat.mul_zero, Nat.zero_add, Nat.mul_one, zero_add, gr, Fin.sum_univ_eq_sum_range (fun p => R p i * D p j)]

theorem gr_succ (R D : ℕ → ℕ → EReal) (n i j : ℕ) :
    gr R D (1024 * n) i j + ∑ p : Fin 1024, R (1024 * n + p.val) i * D (1024 * n + p.val) j = gr R D (1024 * (n + 1)) i j := by
  rw [gr, gr, Nat.mul_succ, Finset.sum_range_add, Finset.sum_range fun p => R (1024 * n + p) i * D (1024 * n + p) j]

/-- Stored pieces that are blocks of `G` and cover the buffer leave `G`. -/
theorem of_pieces {S : Shape} {e : EltTy} (G : S.Idx → Elt Ideal e) (L : List (View.Piece (Elt Ideal) S e))
    (hP : View.PiecesOf G L) (hc : ∀ y, ∃ p ∈ L, y ∈ p.1.set) : View.canon L = G :=
  funext fun y => by simpa using View.canon_append_of_piecesOf G [] L hP y (hc y)

/-- A shard stored at `off` is a block of `F` if its numbers are `F`'s of that shard. -/
theorem piece3 {a p q : ℕ} (off : ℕ) (inb : ∀ x, (![off, 0, 0] : Fin 3 → ℕ) x + (![1, p, q] : Fin 3 → ℕ) x ≤ (![a, p, q] : Fin 3 → ℕ) x)
    (f F : ℕ → ℕ → ℕ → EReal) (h : ∀ i j, f 0 i j = F off i j) (x : (⟨3, ![1, p, q]⟩ : Shape).Idx) :
    (E3 f x : EReal) = (E3 F : (⟨3, ![a, p, q]⟩ : Shape).Idx → EReal) ((Rect.unit (s := ⟨3, ![a, p, q]⟩) ![off, 0, 0] ![1, p, q] inb).emb x) := by
  have h0 : (x 0).val = 0 := by have := (x 0).isLt; exact Nat.lt_one_iff.1 this
  show f (x 0).val (x 1).val (x 2).val = F (off + 1 * (x 0).val) (0 + 1 * (x 1).val) (0 + 1 * (x 2).val)
  rw [h0, h]
  simp only [Nat.mul_zero, Nat.add_zero, Nat.zero_add, Nat.one_mul]

end Cert.Nm

namespace Cert.Nm.OutGrad

open Idealize.ShloMosaic Idealize.ShloMosaic.TcCoe

section kernel
open Cert.Kernel9Ideal Cert.Kernel9Ideal.Gen Cert.Kernel9Ideal.Value

theorem pay1 : k0_pay1 (F := Ideal) = E2 fun _ _ => 0 := by
  refine eq_E2 fun i j => ?_
  pointwise [k0_pay1]

theorem pay2 (A R D : ℕ → ℕ → EReal) : k0_pay2 (F := Ideal) (E2 A) (E2 R) (E2 D) = E2 fun i j => A i j + ∑ p : Fin 1024, R p.val i * D p.val j := by
  refine eq_E2 fun i j => ?_
  pointwise [k0_pay2]
  rfl

/-- Where each window's block lies at each grid point. -/
theorem idx : ∀ t : Fin cfg0.N, win0_0.index t = ![t.val, 0] ∧ win0_1.index t = ![t.val, 0] ∧ win0_2.index t = ![0, 0, 0] ∧ t.val < 8 :=
  (by decide +kernel : ∀ t : Fin grid0.N, _)

/-- One shard: 256 rows of the accumulator, from row 256·s on. -/
theorem pay3 (A : ℕ → ℕ → EReal) : k0_pay3 (F := Ideal) (View.ld (Val := Elt Ideal) (S := S1024x1024) (e' := .f32) (E2 A)
    (Rect.unit ![0, 0] ![256, 1024] inb_S1024x1024_S256x1024_0_0)) = E3 fun _ i j => A (0 + i) j := by
  funext y
  obtain ⟨s, i, j, rfl⟩ : ∃ (s : Fin 1) (i : Fin 256) (j : Fin 1024), y = ix3 s i j := ⟨y 0, y 1, y 2, eq_ix3 y⟩
  pointwise [k0_pay3]
  simp [E2, E3]

theorem pay4 (A : ℕ → ℕ → EReal) : k0_pay4 (F := Ideal) (View.ld (Val := Elt Ideal) (S := S1024x1024) (e' := .f32) (E2 A)
    (Rect.unit ![256, 0] ![256, 1024] inb_S1024x1024_S256x1024_256_0)) = E3 fun _ i j => A (256 + i) j := by
  funext y
  obtain ⟨s, i, j, rfl⟩ : ∃ (s : Fin 1) (i : Fin 256) (j : Fin 1024), y = ix3 s i j := ⟨y 0, y 1, y 2, eq_ix3 y⟩
  pointwise [k0_pay4]
  simp [E2, E3]

theorem pay5 (A : ℕ → ℕ → EReal) : k0_pay5 (F := Ideal) (View.ld (Val := Elt Ideal) (S := S1024x1024) (e' := .f32) (E2 A)
    (Rect.unit ![512, 0] ![256, 1024] inb_S1024x1024_S256x1024_512_0)) = E3 fun _ i j => A (512 + i) j := by
  funext y
  obtain ⟨s, i, j, rfl⟩ : ∃ (s : Fin 1) (i : Fin 256) (j : Fin 1024), y = ix3 s i j := ⟨y 0, y 1, y 2, eq_ix3 y⟩
  pointwise [k0_pay5]
  simp [E2, E3]

theorem pay6 (A : ℕ → ℕ → EReal) : k0_pay6 (F := Ideal) (View.ld (Val := Elt Ideal) (S := S1024x1024) (e' := .f32) (E2 A)
    (Rect.unit ![768, 0] ![256, 1024] inb_S1024x1024_S256x1024_768_0)) = E3 fun _ i j => A (768 + i) j := by
  funext y
  obtain ⟨s, i, j, rfl⟩ : ∃ (s : Fin 1) (i : Fin 256) (j : Fin 1024), y = ix3 s i j := ⟨y 0, y 1, y 2, eq_ix3 y⟩
  pointwise [k0_pay6]
  simp [E2, E3]

variable (m : (ℓ : Loc nD τ sig) → Buf (Elt Ideal) ℓ) (c : Dev nD)

/-- The two factors, as the launch gives them. -/
def r : ℕ → ℕ → EReal := nat2 fun i => (m ((c : Thread nD τ).loc main_arg0) i : EReal)
def d : ℕ → ℕ → EReal := nat2 fun i => (m ((c : Thread nD τ).loc main_arg1) i : EReal)

variable (t : Fin cfg0.N)

theorem b0 : iblk m c 0 t = E2 fun p => r m c (1024 * t.val + p) := by
  refine eq_E2 fun i j => ?_
  refine Eq.trans ?_ (nat2_at (fun i => (m ((c : Thread nD τ).loc main_arg0) i : EReal)) ⟨1024 * t.val + i.val, by have := idx t; omega⟩ j)
  blk_ext [iblk, V, idx t]

theorem b1 : iblk m c 1 t = E2 fun p => d m c (1024 * t.val + p) := by
  refine eq_E2 fun i j => ?_
  refine Eq.trans ?_ (nat2_at (fun i => (m ((c : Thread nD τ).loc main_arg1) i : EReal)) ⟨1024 * t.val + i.val, by have := idx t; omega⟩ j)
  blk_ext [iblk, V, idx t]

/-- The first point leaves its own rows' products in the accumulator. -/
theorem aA (h0 : t.val % 8 = 0) (h1 : ¬ t.val % 8 = 7) : (outsAt0 m c t.val t.isLt).2
    = E2 fun i j => 0 + ∑ p : Fin 1024, r m c (1024 * t.val + p.val) i * d m c (1024 * t.val + p.val) j := by
  rw [outsAt0_A m c t h0 h1]
  frame_open
  simp (disch := decide) only [↓ View.readCov_skip, ↓ View.readCov_cons_toLoadRect, ↓ View.readCov_fill]
  frame_out
  simp only [b0, b1, pay1]
  exact pay2 (fun _ _ => 0) _ _

/-- A later point adds its rows' products. -/
theorem aB (h0 : ¬ t.val % 8 = 0) (A : ℕ → ℕ → EReal) (hl : t.val - 1 < cfg0.N) (hA : (outsAt0 m c (t.val - 1) hl).2 = E2 A) :
    (outsAt0 m c t.val t.isLt).2
      = E2 fun i j => A i j + ∑ p : Fin 1024, r m c (1024 * t.val + p.val) i * d m c (1024 * t.val + p.val) j := by
  by_cases h1 : t.val % 8 = 7
  · rw [outsAt0_C m c t h0 h1]
    frame_open
    simp (disch := decide) only [↓ View.readCov_skip, ↓ View.readCov_cons_toLoadRect, ↓ View.readCov_fill]
    frame_out
    simp only [hA, read_unread_whole, b0, b1]
    exact pay2 A _ _
  · rw [outsAt0_B m c t h0 h1]
    frame_open
    simp (disch := decide) only [↓ View.readCov_skip, ↓ View.readCov_cons_toLoadRect, ↓ View.readCov_fill]
    frame_out
    simp only [hA, read_unread_whole, b0, b1]
    exact pay2 A _ _

/-- The last point writes the accumulator out, in four shards of rows. -/
theorem oC (h0 : ¬ t.val % 8 = 0) (h1 : t.val % 8 = 7) (A : ℕ → ℕ → EReal) (hl : t.val - 1 < cfg0.N) (hA : (outsAt0 m c (t.val - 1) hl).2 = E2 A) :
    (outsAt0 m c t.val t.isLt).1
      = E3 fun s i j => A (256 * s + i) j + ∑ p : Fin 1024, r m c (1024 * t.val + p.val) (256 * s + i) * d m c (1024 * t.val + p.val) j := by
  rw [outsAt0_C m c t h0 h1]
  frame_open
  simp (disch := decide) only [↓ View.readCov_skip, ↓ View.readCov_cons_toLoadRect, ↓ View.readCov_fill]
  frame_out
  simp only [hA, read_unread_whole, b0, b1, pay2, pay3, pay4, pay5, pay6]
  refine of_pieces (S := S4x256x1024) (e := .bf16) _ _ ?_ fun y => View.cover_of_tiledBy _ ![1, 256, 1024] (by sl_kernel_rfl) y
  refine ⟨?_, ?_, ?_, ?_, trivial⟩ <;> intro x <;> dsimp only
  · exact piece3 (a := 4) (p := 256) (q := 1024) 3 inb_S4x256x1024_S1x256x1024_3_0_0 _ _ (fun i j => rfl) x
  · exact piece3 (a := 4) (p := 256) (q := 1024) 2 inb_S4x256x1024_S1x256x1024_2_0_0 _ _ (fun i j => rfl) x
  · exact piece3 (a := 4) (p := 256) (q := 1024) 1 inb_S4x256x1024_S1x256x1024_1_0_0 _ _ (fun i j => rfl) x
  · exact piece3 (a := 4) (p := 256) (q := 1024) 0 inb_S4x256x1024_S1x256x1024_0_0_0 _
      (fun s i j => A (256 * s + i) j + ∑ p : Fin 1024, r m c (1024 * t.val + p.val) (256 * s + i) * d m c (1024 * t.val + p.val) j) (fun i j => rfl) x

/-- What the accumulator holds after each point. -/
theorem acc : ∀ (n : ℕ) (hn : n < cfg0.N), (outsAt0 m c n hn).2 = E2 (gr (r m c) (d m c) (1024 * (n + 1)))
  | 0, hn => by
    rw [aA m c ⟨0, hn⟩ (by rfl) (by show ¬ 0 % 8 = 7; decide)]
    exact congrArg E2 (funext fun i => funext fun j => gr_zero _ _ i j)
  | n + 1, hn => by
    have h8 : n + 1 < 8 := Nat.lt_of_lt_of_eq hn N_0
    rw [aB m c ⟨n + 1, hn⟩ (by show ¬ (n + 1) % 8 = 0; omega) _ (Nat.lt_of_succ_lt hn) (acc n (Nat.lt_of_succ_lt hn))]
    exact congrArg E2 (funext fun i => funext fun j => gr_succ _ _ (n + 1) i j)

/-- The kernel's gradient, in shards of rows. -/
theorem f2 : (dats m 0 c).arrAt 2 cfg0.N = E3 fun s i => gr (r m c) (d m c) 8192 (256 * s + i) := by
  refine (dats m 0 c).arrAt_eq_of_after_last 2 t0_7 (by decide +kernel) _ fun y => ?_
  blk_simp
  rw [after0_2, oC m c t0_7 (by decide) (by decide) _ (by decide) (acc m c 6 (by decide))]
  exact gr_succ _ _ 7 _ _

end kernel

section reference
open StableHlo Cert.Reference9Ideal Cert.Reference9Ideal.Gen Cert.Reference9Ideal.Value

/-- The reference's gradient, in shards of rows. -/
theorem out {R D : ℕ → ℕ → EReal} {z : FVec Ideal S8192x1024 .bf16} (hz : z = E2 R) :
    shapeCast S4x256x1024 (truncf .bf16 (Host.dotGeneral (F := Ideal) (φ₁ := .f32) (φ₂ := .f32) dot_S1024x8192_S8192x1024_S1024x1024_1_0_0_1_n_n none
      (transpose (α := Ideal .f32) S1024x8192 [1, 0] (extf .f32 z bitsLt_bf16_f32) transposes_S8192x1024_S1024x8192_1_0) (E2 D))
      bitsLt_bf16_f32) shapeCasts_S1024x1024_S4x256x1024 = (E3 fun s i => gr R D 8192 (256 * s + i) : FVec Ideal S4x256x1024 .bf16) := by
  subst hz
  funext y
  obtain ⟨s, i, j, rfl⟩ : ∃ (s : Fin 4) (i : Fin 256) (j : Fin 1024), y = ix3 s i j := ⟨y 0, y 1, y 2, eq_ix3 y⟩
  clean_types
  pointwise []
  simp only [E2_apply, E3_apply, gr]
  rw [Nat.mul_comm s.val 256]
  exact Fin.sum_univ_eq_sum_range (fun p => R p (256 * s.val + i.val) * D p j.val) 8192

end reference

end Cert.Nm.OutGrad

end
-- ==== Proof.EvGrad.lean ====
/- The gradient at an even layer's input projection: the product of the projection's input, transposed, with the gradient at its result, in
   two halves of the columns, each summed over eight tiles of 1024 rows and written out in two shards of 640 columns; and its reference. -/
module

public import proofs.«01_k».proof.Proof.OutGrad
public import proofs.«01_k».proof.Proof.Gen.Kernel10Ideal.Value
public import proofs.«01_k».proof.Proof.Gen.Reference10Ideal.Run
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Tactic.CleanTypes

@[expose] public section

set_option maxRecDepth 16384

noncomputable section

namespace Cert.Nm.EvGrad

open Idealize.ShloMosaic Idealize.ShloMosaic.TcCoe

section kernel
open Cert.Kernel10Ideal Cert.Kernel10Ideal.Gen Cert.Kernel10Ideal.Value

theorem pay1 : k0_pay1 (F := Ideal) = E2 fun _ _ => 0 := by
  refine eq_E2 fun i j => ?_
  pointwise [k0_pay1]

theorem pay2 (A R D : ℕ → ℕ → EReal) : k0_pay2 (F := Ideal) (E2 A) (E2 R) (E2 D) = E2 fun i j => A i j + ∑ p : Fin 1024, R p.val i * D p.val j := by
  refine eq_E2 fun i j => ?_
  pointwise [k0_pay2]
  rfl

/-- Where each window's block lies at each grid point. -/
theorem idx : ∀ t : Fin cfg0.N, win0_0.index t = ![t.val % 8, 0] ∧ win0_1.index t = ![t.val % 8, t.val / 8] ∧ win0_2.index t = ![t.val / 8, 0, 0] ∧ t.val < 16 :=
  (by decide +kernel : ∀ t : Fin grid0.N, _)

/-- One shard: 640 columns of the accumulator, from column 640·s on. -/
theorem pay3 (A : ℕ → ℕ → EReal) : k0_pay3 (F := Ideal) (View.ld (Val := Elt Ideal) (S := S1024x1280) (e' := .f32) (E2 A)
    (Rect.unit ![0, 0] ![1024, 640] inb_S1024x1280_S1024x640_0_0)) = E3 fun _ i j => A i (0 + j) := by
  funext y
  obtain ⟨s, i, j, rfl⟩ : ∃ (s : Fin 1) (i : Fin 1024) (j : Fin 640), y = ix3 s i j := ⟨y 0, y 1, y 2, eq_ix3 y⟩
  pointwise [k0_pay3]
  simp [E2, E3]

theorem pay4 (A : ℕ → ℕ → EReal) : k0_pay4 (F := Ideal) (View.ld (Val := Elt Ideal) (S := S1024x1280) (e' := .f32) (E2 A)
    (Rect.unit ![0, 640] ![1024, 640] inb_S1024x1280_S1024x640_0_640)) = E3 fun _ i j => A i (640 + j) := by
  funext y
  obtain ⟨s, i, j, rfl⟩ : ∃ (s : Fin 1) (i : Fin 1024) (j : Fin 640), y = ix3 s i j := ⟨y 0, y 1, y 2, eq_ix3 y⟩
  pointwise [k0_pay4]
  simp [E2, E3]

variable (m : (ℓ : Loc nD τ sig) → Buf (Elt Ideal) ℓ) (c : Dev nD)

/-- The two factors, as the launch gives them. -/
def r : ℕ → ℕ → EReal := nat2 fun i => (m ((c : Thread nD τ).loc main_arg0) i : EReal)
def d : ℕ → ℕ → EReal := nat2 fun i => (m ((c : Thread nD τ).loc main_arg1) i : EReal)

variable (t : Fin cfg0.N)

theorem b0 : iblk m c 0 t = E2 fun p => r m c (1024 * (t.val % 8) + p) := by
  refine eq_E2 fun i j => ?_
  refine Eq.trans ?_ (nat2_at (fun i => (m ((c : Thread nD τ).loc main_arg0) i : EReal)) ⟨1024 * (t.val % 8) + i.val, by have := idx t; omega⟩ j)
  blk_ext [iblk, V, idx t]

theorem b1 : iblk m c 1 t = E2 fun p q => d m c (1024 * (t.val % 8) + p) (1280 * (t.val / 8) + q) := by
  refine eq_E2 fun i j => ?_
  refine Eq.trans ?_ (nat2_at (fun i => (m ((c : Thread nD τ).loc main_arg1) i : EReal)) ⟨1024 * (t.val % 8) + i.val, by have := idx t; omega⟩
    ⟨1280 * (t.val / 8) + j.val, by have := idx t; omega⟩)
  blk_ext [iblk, V, idx t]

/-- The first point leaves its own rows' products in the accumulator. -/
theorem aA (h0 : t.val % 8 = 0) (h1 : ¬ t.val % 8 = 7) : (outsAt0 m c t.val t.isLt).2
    = E2 fun i j => 0 + ∑ p : Fin 1024, r m c (1024 * (t.val % 8) + p.val) i * d m c (1024 * (t.val % 8) + p.val) (1280 * (t.val / 8) + j) := by
  rw [outsAt0_A m c t h0 h1]
  frame_open
  simp (disch := decide) only [↓ View.readCov_skip, ↓ View.readCov_cons_toLoadRect, ↓ View.readCov_fill]
  frame_out
  simp only [b0, b1, pay1]
  exact pay2 (fun _ _ => 0) _ _

/-- A later point adds its rows' products. -/
theorem aB (h0 : ¬ t.val % 8 = 0) (A : ℕ → ℕ → EReal) (hl : t.val - 1 < cfg0.N) (hA : (outsAt0 m c (t.val - 1) hl).2 = E2 A) :
    (outsAt0 m c t.val t.isLt).2
      = E2 fun i j => A i j + ∑ p : Fin 1024, r m c (1024 * (t.val % 8) + p.val) i * d m c (1024 * (t.val % 8) + p.val) (1280 * (t.val / 8) + j) := by
  by_cases h1 : t.val % 8 = 7
  · rw [outsAt0_C m c t h0 h1]
    frame_open
    simp (disch := decide) only [↓ View.readCov_skip, ↓ View.readCov_cons_toLoadRect, ↓ View.readCov_fill]
    frame_out
    simp only [hA, read_unread_whole, b0, b1]
    exact pay2 A _ _
  · rw [outsAt0_B m c t h0 h1]
    frame_open
    simp (disch := decide) only [↓ View.readCov_skip, ↓ View.readCov_cons_toLoadRect, ↓ View.readCov_fill]
    frame_out
    simp only [hA, read_unread_whole, b0, b1]
    exact pay2 A _ _

/-- The last point of a half writes the accumulator out, in two shards of columns. -/
theorem oC (h0 : ¬ t.val % 8 = 0) (h1 : t.val % 8 = 7) (A : ℕ → ℕ → EReal) (hl : t.val - 1 < cfg0.N) (hA : (outsAt0 m c (t.val - 1) hl).2 = E2 A) :
    (outsAt0 m c t.val t.isLt).1 = E3 fun s i j => A i (640 * s + j)
      + ∑ p : Fin 1024, r m c (1024 * (t.val % 8) + p.val) i * d m c (1024 * (t.val % 8) + p.val) (1280 * (t.val / 8) + (640 * s + j)) := by
  rw [outsAt0_C m c t h0 h1]
  frame_open
  simp (disch := decide) only [↓ View.readCov_skip, ↓ View.readCov_cons_toLoadRect, ↓ View.readCov_fill]
  frame_out
  simp only [hA, read_unread_whole, b0, b1, pay2, pay3, pay4]
  refine of_pieces (S := S2x1024x640) (e := .bf16) _ _ ?_ fun y => View.cover_of_tiledBy _ ![1, 1024, 640] (by sl_kernel_rfl) y
  refine ⟨?_, ?_, trivial⟩ <;> intro x <;> dsimp only
  · exact piece3 (a := 2) (p := 1024) (q := 640) 1 inb_S2x1024x640_S1x1024x640_1_0_0 _ _ (fun i j => rfl) x
  · exact piece3 (a := 2) (p := 1024) (q := 640) 0 inb_S2x1024x640_S1x1024x640_0_0_0 _
      (fun s i j => A i (640 * s + j) + ∑ p : Fin 1024, r m c (1024 * (t.val % 8) + p.val) i * d m c (1024 * (t.val % 8) + p.val) (1280 * (t.val / 8) + (640 * s + j)))
      (fun i j => rfl) x

/-- What the accumulator holds after each point: the half of the columns the point belongs to, over the rows met so far. -/
theorem acc : ∀ (n : ℕ) (hn : n < cfg0.N), (outsAt0 m c n hn).2 = E2 fun i j => gr (r m c) (d m c) (1024 * (n % 8 + 1)) i (1280 * (n / 8) + j)
  | 0, hn => by
    rw [aA m c ⟨0, hn⟩ (by rfl) (by show ¬ 0 % 8 = 7; decide)]
    exact congrArg E2 (funext fun i => funext fun j => gr_zero _ _ i _)
  | n + 1, hn => by
    have h16 : n + 1 < 16 := Nat.lt_of_lt_of_eq hn N_0
    by_cases h : (n + 1) % 8 = 0
    · rw [aA m c ⟨n + 1, hn⟩ h (by show ¬ (n + 1) % 8 = 7; omega)]
      refine congrArg E2 (funext fun i => funext fun j => ?_)
      dsimp only
      rw [h]
      exact gr_zero _ _ i _
    · rw [aB m c ⟨n + 1, hn⟩ h _ (Nat.lt_of_succ_lt hn) (acc n (Nat.lt_of_succ_lt hn))]
      refine congrArg E2 (funext fun i => funext fun j => ?_)
      dsimp only
      rw [show n % 8 + 1 = (n + 1) % 8 by omega, show n / 8 = (n + 1) / 8 by omega]
      exact gr_succ _ _ ((n + 1) % 8) i _

/-- The kernel's gradient, in shards of columns. -/
theorem f2 : (dats m 0 c).arrAt 2 cfg0.N = E3 fun s i j => gr (r m c) (d m c) 8192 i (640 * s + j) := by
  refine (dats m 0 c).arrAt_eq_of_covers 2 _ (by decide +kernel) fun t hf y => ?_
  have h7 : t.val % 8 = 7 := (by decide +kernel : ∀ t : Fin cfg0.N, (cfg0.win 2).flush t = true → t.val % 8 = 7) t hf
  have h16 := (idx t).2.2.2
  blk_simp
  rw [after0_2, oC m c t (by omega) h7 _ (Nat.lt_of_le_of_lt (Nat.sub_le _ _) t.isLt) (acc m c (t.val - 1) (Nat.lt_of_le_of_lt (Nat.sub_le _ _) t.isLt))]
  blk_simp [E3, idx t]
  rw [show (t.val - 1) % 8 + 1 = 7 by omega, show (t.val - 1) / 8 = t.val / 8 by omega, h7,
    show 640 * (t.val / 8 * 2 + (y 0).val) + (y 2).val = 1280 * (t.val / 8) + (640 * (y 0).val + (y 2).val) by omega]
  exact gr_succ _ _ 7 _ _

end kernel

section reference
open StableHlo Cert.Reference10Ideal Cert.Reference10Ideal.Gen Cert.Reference10Ideal.Value

/-- The reference's gradient, in shards of columns. -/
theorem out {R D : ℕ → ℕ → EReal} {z : FVec Ideal S8192x1024 .bf16} {y : FVec Ideal S8192x2560 .bf16} (hz : z = E2 R) (hy : y = E2 D) :
    transpose S4x1024x640 [1, 0, 2] (shapeCast S1024x4x640 (truncf .bf16 (Host.dotGeneral (F := Ideal) (φ₁ := .f32) (φ₂ := .f32)
      dot_S1024x8192_S8192x2560_S1024x2560_1_0_0_1_n_n none
      (transpose (α := Ideal .f32) S1024x8192 [1, 0] (extf .f32 z bitsLt_bf16_f32) transposes_S8192x1024_S1024x8192_1_0) (extf .f32 y bitsLt_bf16_f32))
      bitsLt_bf16_f32) shapeCasts_S1024x2560_S1024x4x640) transposes_S1024x4x640_S4x1024x640_1_0_2
        = (E3 fun s i j => gr R D 8192 i (640 * s + j) : FVec Ideal S4x1024x640 .bf16) := by
  subst hz hy
  funext y
  obtain ⟨s, i, j, rfl⟩ : ∃ (s : Fin 4) (i : Fin 1024) (j : Fin 640), y = ix3 s i j := ⟨y 0, y 1, y 2, eq_ix3 y⟩
  clean_types
  pointwise []
  simp only [E2_apply, E3_apply, gr]
  rw [Nat.mul_comm 640 s.val]
  exact Fin.sum_univ_eq_sum_range (fun p => R p i.val * D p (s.val * 640 + j.val)) 8192

end reference

end Cert.Nm.EvGrad

end
-- ==== Proof.XaFwd.lean ====
/- The cross-attention's forward call (layer 0): what the body stores at each grid point, and the array at the end. The
   mathematics of one row is that of `Proof.Model`, which the backward call has too. -/
module

public import proofs.«01_k».proof.Proof.Finite
public import proofs.«01_k».proof.Proof.Gen.Kernel8Ideal.Value

@[expose] public section

set_option maxRecDepth 16384

noncomputable section

namespace Cert.Xa.Fwd

open Idealize.ShloMosaic Idealize.ShloMosaic.TcCoe Cert.Kernel8Ideal Cert.Kernel8Ideal.Gen Cert.Kernel8Ideal.Value

/-- A row of the layer's result: the input plus the gated attention's product with the second weight. -/
def yy (g : ℕ → ℝ) (w kv wo : ℕ → ℕ → ℝ) (x : ℕ → ℝ) (c : ℕ) : ℝ := x c + ∑ k : Fin 1024, rr g w kv x k.val * wo k.val c

/-- A sum over 1024, over its four pieces of 256. -/
theorem sum_1024 (f : ℕ → ℝ) : ∑ k : Fin 1024, f k.val
    = (∑ k : Fin 256, f k.val) + (∑ k : Fin 256, f (256 + k.val)) + (∑ k : Fin 256, f (512 + k.val))
      + ∑ k : Fin 256, f (768 + k.val) := by
  simp only [Fin.sum_univ_eq_sum_range (fun k => f k), Fin.sum_univ_eq_sum_range (fun k => f (256 + k)),
    Fin.sum_univ_eq_sum_range (fun k => f (512 + k)), Fin.sum_univ_eq_sum_range (fun k => f (768 + k))]
  rw [show 1024 = 256 + 256 + 256 + 256 from rfl, Finset.sum_range_add, Finset.sum_range_add, Finset.sum_range_add]

section pay
variable (X : ℕ → ℕ → ℝ) (g : ℕ → ℝ) (w kv wo : ℕ → ℕ → ℝ)

/-- The normalised input. -/
theorem pay2 : k0_pay2 (F := Ideal) (R2 X) (R2 fun _ => g) = R2 fun p => hh g (X p) := by
  refine eq_R2 fun i j => ?_
  pointwise [k0_pay2]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024, rsqrt_ms (X i.val)]
  rfl

/-- The scaled queries. -/
theorem pay3 : k0_pay3 (F := Ideal) (R2 X) (R2 fun _ => g) (R4 fun _ _ r c => w r c) (R4 fun _ _ r c => w r (512 + c))
    = R2 fun p => qs g w (X p) := by
  refine eq_R2 fun i j => ?_
  pointwise [k0_pay3, pay2]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  split
  · simp only [← EReal.coe_mul]; rfl
  · rename_i h
    simp only [← EReal.coe_mul, qs, qg, show 512 + (j.val - 512) = j.val by omega]

/-- The gates' first half. -/
theorem pay4 : k0_pay4 (F := Ideal) (R2 X) (R2 fun _ => g) (R4 fun _ _ r c => w r (1024 + c)) = R2 fun p => ga g w (X p) := by
  refine eq_R2 fun i j => ?_
  pointwise [k0_pay4, pay2]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  rfl

/-- The gates. -/
theorem pay5 : k0_pay5 (F := Ideal) (R2 fun p => hh g (X p)) (R2 fun p => ga g w (X p)) (R4 fun _ _ r c => w r (1536 + c))
    = R2 fun p => ga g w (X p) := by
  refine eq_R2 fun i j => ?_
  pointwise [k0_pay5]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  split
  · rfl
  · rename_i h
    simp only [ga, qg, show 1536 + (j.val - 512) = 1024 + j.val by omega]

/-- The first head's attention. -/
theorem pay6 : k0_pay6 (F := Ideal) (R2 kv) (R2 fun p => qs g w (X p)) = R2 fun p => oo g w kv (X p) := by
  refine eq_R2 fun i j => ?_
  pointwise [k0_pay6]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  have e : ∀ k : ℕ, (∑ d : Fin 256, qs g w (X i.val) d.val * kv k d.val) = sc g w kv (X i.val) 0 k := fun k => by
    simp only [sc, Nat.mul_zero, Nat.zero_add]
  have l : (∑ k : Fin 256, Real.exp (sc g w kv (X i.val) 0 k.val - mx 256 (sc g w kv (X i.val) 0))) = ll g w kv (X i.val) 0 := rfl
  simp only [e, fold_max_coe (sc g w kv (X i.val) 0), ← EReal.coe_sub, Ideal.exp_coe, ← EReal.coe_mul, coe_sum, l, div_ll]
  simp only [oo, show j.val / 256 = 0 by omega]
  rfl

/-- The second head's. -/
theorem pay7 : k0_pay7 (F := Ideal) (R2 kv) (R2 fun p => qs g w (X p)) = R2 fun p c => oo g w kv (X p) (256 + c) := by
  refine eq_R2 fun i j => ?_
  pointwise [k0_pay7]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  have e : ∀ k : ℕ, (∑ d : Fin 256, qs g w (X i.val) (256 + d.val) * kv k (256 + d.val)) = sc g w kv (X i.val) 1 k := fun k => by
    simp only [sc, Nat.mul_one]
  have l : (∑ k : Fin 256, Real.exp (sc g w kv (X i.val) 1 k.val - mx 256 (sc g w kv (X i.val) 1))) = ll g w kv (X i.val) 1 := rfl
  simp only [e, fold_max_coe (sc g w kv (X i.val) 1), ← EReal.coe_sub, Ideal.exp_coe, ← EReal.coe_mul, coe_sum, l, div_ll]
  simp only [oo, show (256 + j.val) / 256 = 1 by omega, show ∀ a, 1024 + (256 + a) = 1280 + a from fun a => by omega]
  rfl

/-- The third head's exponentials. -/
theorem pay8 : k0_pay8 (F := Ideal) (R2 kv) (R2 fun p => qs g w (X p)) = R2 fun p => ee g w kv (X p) 2 := by
  refine eq_R2 fun i j => ?_
  pointwise [k0_pay8]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  have e : ∀ k : ℕ, (∑ d : Fin 256, qs g w (X i.val) (512 + d.val) * kv k (512 + d.val)) = sc g w kv (X i.val) 2 k := fun k => by
    simp only [sc, Nat.reduceMul]
  simp only [e, fold_max_coe (sc g w kv (X i.val) 2), ← EReal.coe_sub, Ideal.exp_coe]
  rfl

/-- Their sum. -/
theorem pay9 : k0_pay9 (F := Ideal) (R2 kv) (R2 fun p => qs g w (X p)) = R1 fun p => ll g w kv (X p) 2 := by
  refine eq_R1 fun i => ?_
  pointwise [k0_pay9, pay8]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  rfl

/-- The gated attention. -/
theorem pay10 : k0_pay10 (F := Ideal) (R2 kv) (R2 fun p => qs g w (X p)) (R2 fun p => ga g w (X p)) (R2 fun p => oo g w kv (X p))
    (R2 fun p c => oo g w kv (X p) (256 + c)) (R2 fun p => ee g w kv (X p) 2) (R1 fun p => ll g w kv (X p) 2)
    = R2 fun p => rr g w kv (X p) := by
  refine eq_R2 fun i j => ?_
  pointwise [k0_pay10]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  have e : ∀ k : ℕ, (∑ d : Fin 256, qs g w (X i.val) (768 + d.val) * kv k (768 + d.val)) = sc g w kv (X i.val) 3 k := fun k => by
    simp only [sc, Nat.reduceMul]
  have l : (∑ k : Fin 256, Real.exp (sc g w kv (X i.val) 3 k.val - mx 256 (sc g w kv (X i.val) 3))) = ll g w kv (X i.val) 3 := rfl
  simp only [e, fold_max_coe (sc g w kv (X i.val) 3), ← EReal.coe_sub, Ideal.exp_coe, ← EReal.coe_mul, coe_sum, l, div_ll, div_one_add_exp]
  have := j.isLt
  rw [rr, EReal.coe_mul (oo g w kv (X i.val) j.val)]
  refine congrArg (fun y : EReal => y * ((sl g w (X i.val) j.val : ℝ) : EReal)) ?_
  split_ifs with h0 h1 h2
  · rfl
  · rw [show 256 + (j.val - 256) = j.val by omega]
  · simp only [oo, li, show j.val / 256 = 2 by omega, show 1536 + (j.val - 256 - 256) = 1024 + j.val by omega, ← EReal.coe_mul]
  · simp only [oo, li, ee, show j.val / 256 = 3 by omega, show 1792 + (j.val - 256 - 256 - 256) = 1024 + j.val by omega, ← EReal.coe_mul]

/-- The product of its first 256 columns. -/
theorem pay11 : k0_pay11 (F := Ideal) (R2 kv) (R2 fun p => qs g w (X p)) (R2 fun p => ga g w (X p)) (R2 fun p => oo g w kv (X p))
    (R2 fun p c => oo g w kv (X p) (256 + c)) (R2 fun p => ee g w kv (X p) 2) (R1 fun p => ll g w kv (X p) 2) (R4 fun _ _ r c => wo r c)
    = R2 fun p c => ∑ k : Fin 256, rr g w kv (X p) k.val * wo k.val c := by
  refine eq_R2 fun i j => ?_
  pointwise [k0_pay11, pay10]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]

/-- Its next 256 columns. -/
theorem pay12 : k0_pay12 (F := Ideal) (R2 kv) (R2 fun p => qs g w (X p)) (R2 fun p => ga g w (X p)) (R2 fun p => oo g w kv (X p))
    (R2 fun p c => oo g w kv (X p) (256 + c)) (R2 fun p => ee g w kv (X p) 2) (R1 fun p => ll g w kv (X p) 2)
    = R2 fun p c => rr g w kv (X p) (256 + c) := by
  refine eq_R2 fun i j => ?_
  pointwise [k0_pay12, pay10]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]

/-- The layer's result. -/
theorem pay1 : k0_pay1 (F := Ideal) (R2 X) (R2 fun p => rr g w kv (X p)) (R2 fun p c => ∑ k : Fin 256, rr g w kv (X p) k.val * wo k.val c)
    (R2 fun p c => rr g w kv (X p) (256 + c)) (R4 fun _ _ r c => wo (256 + r) c) (R4 fun _ _ r c => wo (512 + r) c) (R4 fun _ _ r c => wo (768 + r) c)
    = R2 fun p => yy g w kv wo (X p) := by
  refine eq_R2 fun i j => ?_
  pointwise [k0_pay1]
  simp only [R1_apply, R2_apply, R4_apply, ← EReal.coe_mul, ← EReal.coe_add, ← EReal.coe_sub, ← EReal.coe_one, ← EReal.coe_zero, coe_sum, Ideal.exp_coe, word_1024, word_eps, word_sixteenth, word_bot, div_1024]
  rw [yy, sum_1024 fun k => rr g w kv (X i.val) k * wo k j.val]

end pay

/-- Where each window's block lies at each grid point. -/
theorem idx : ∀ t : Fin cfg0.N,
    win0_0.index t = ![t.val, 0] ∧ win0_1.index t = ![0, 0] ∧ win0_2.index t = ![0, 0, 0, 0] ∧ win0_3.index t = ![0, 0]
    ∧ win0_4.index t = ![0, 0, 0, 0] ∧ win0_5.index t = ![t.val, 0] ∧ t.val < 16 :=
  (by decide +kernel : ∀ t : Fin grid0.N, _)

variable (m : (ℓ : Loc nD τ sig) → Buf (Elt Ideal) ℓ) (c : Dev nD)

/-- The launch's argument buffers on device `c` hold these real arrays (of the weights, the first layer's). -/
structure Holds (X : ℕ → ℕ → ℝ) (g : ℕ → ℝ) (w kv wo : ℕ → ℕ → ℝ) : Prop where
  x : ∀ (i : Fin 8192) (j : Fin 1024), (m ((c : Thread nD τ).loc main_arg0) (ix2 i j) : EReal) = ((X i j : ℝ) : EReal)
  g : ∀ (i : Fin 1) (j : Fin 1024), (m ((c : Thread nD τ).loc main_arg1) (ix2 i j) : EReal) = ((g j : ℝ) : EReal)
  w : ∀ (i : Fin 1024) (j : Fin 2048), (m ((c : Thread nD τ).loc main_arg2) (ix3 0 i j) : EReal) = ((w i j : ℝ) : EReal)
  kv : ∀ (i : Fin 256) (j : Fin 2048), (m ((c : Thread nD τ).loc main_arg3) (ix2 i j) : EReal) = ((kv i j : ℝ) : EReal)
  wo : ∀ (i : Fin 1024) (j : Fin 1024), (m ((c : Thread nD τ).loc main_arg4) (ix3 0 i j) : EReal) = ((wo i j : ℝ) : EReal)

section blocks
variable {m c} {X : ℕ → ℕ → ℝ} {g : ℕ → ℝ} {w kv wo : ℕ → ℕ → ℝ} (H : Holds m c X g w kv wo) (t : Fin cfg0.N)
include H

/-- The block of the layer's input at point `t`. -/
theorem b0 : iblk m c 0 t = R2 (tile X t.val) := by
  refine eq_R2 fun i j => ?_
  refine Eq.trans ?_ (H.x ⟨512 * t.val + i.val, by have := idx t; omega⟩ j)
  blk_ext [iblk, V, idx t]

/-- The gain. -/
theorem b1 : iblk m c 1 t = R2 (fun _ => g) := by
  refine eq_R2 fun i j => ?_
  refine Eq.trans ?_ (H.g i j)
  blk_ext [iblk, V, idx t]

/-- The keys and values. -/
theorem b3 : iblk m c 3 t = R2 kv := by
  refine eq_R2 fun i j => ?_
  refine Eq.trans ?_ (H.kv i j)
  blk_ext [iblk, V, idx t]

/-- The block of the first weights holds the first layer's matrix as four shards of columns. -/
theorem w2 (s : Fin 4) (r : Fin 1024) (q : Fin 512) : iblk m c 2 t (ix4 s 0 r q) = ((w r (512 * s + q) : ℝ) : EReal) := by
  refine Eq.trans ?_ (H.w r ⟨512 * s.val + q.val, by omega⟩)
  blk_simp [iblk, idx t]
  entry_read
  pointwise []
  blk_ext [idx t]

/-- The block of the second weights holds the first layer's matrix as four shards of rows. -/
theorem w4 (s : Fin 4) (r : Fin 256) (q : Fin 1024) : iblk m c 4 t (ix4 s 0 r q) = ((wo (256 * s + r) q : ℝ) : EReal) := by
  refine Eq.trans ?_ (H.wo ⟨256 * s.val + r.val, by omega⟩ q)
  blk_simp [iblk, idx t]
  entry_read
  pointwise []
  blk_ext [idx t]

/-- A shard of the first weights, as the body loads it. -/
theorem l2 (s : Fin 4) (inb : ∀ a, (![s.val, 0, 0, 0] : Fin 4 → ℕ) a + S1x1x1024x512.size a ≤ S4x1x1024x512.size a) :
    View.ld (Val := Elt Ideal) (S := S4x1x1024x512) (e' := .bf16) (iblk m c 2 t) (Rect.unit ![s.val, 0, 0, 0] S1x1x1024x512.size inb)
      = R4 fun _ _ r q => w r (512 * s.val + q) := by
  funext y
  obtain ⟨a, b, r, q, rfl⟩ : ∃ (a b : Fin 1) (r : Fin 1024) (q : Fin 512), y = ix4 a b r q := ⟨y 0, y 1, y 2, y 3, eq_ix4 y⟩
  refine Eq.trans ?_ (w2 H t s r q)
  pointwise []
  blk_ext []

/-- The four shards. -/
theorem l2_0 : View.ld (Val := Elt Ideal) (S := S4x1x1024x512) (e' := .bf16) (iblk m c 2 t) r0_3 = R4 fun _ _ r q => w r q :=
  (l2 H t 0 _).trans (congrArg R4 (funext fun _ => funext fun _ => funext fun r => funext fun q => congrArg (w r) (Nat.zero_add q)))
theorem l2_1 : View.ld (Val := Elt Ideal) (S := S4x1x1024x512) (e' := .bf16) (iblk m c 2 t) r0_4 = R4 fun _ _ r q => w r (512 + q) := l2 H t 1 _
theorem l2_2 : View.ld (Val := Elt Ideal) (S := S4x1x1024x512) (e' := .bf16) (iblk m c 2 t) r0_5 = R4 fun _ _ r q => w r (1024 + q) := l2 H t 2 _
theorem l2_3 : View.ld (Val := Elt Ideal) (S := S4x1x1024x512) (e' := .bf16) (iblk m c 2 t) r0_6 = R4 fun _ _ r q => w r (1536 + q) := l2 H t 3 _

/-- A shard of the second weights, as the body loads it. -/
theorem l4 (s : Fin 4) (inb : ∀ a, (![s.val, 0, 0, 0] : Fin 4 → ℕ) a + S1x1x256x1024.size a ≤ S4x1x256x1024.size a) :
    View.ld (Val := Elt Ideal) (S := S4x1x256x1024) (e' := .bf16) (iblk m c 4 t) (Rect.unit ![s.val, 0, 0, 0] S1x1x256x1024.size inb)
      = R4 fun _ _ r q => wo (256 * s.val + r) q := by
  funext y
  obtain ⟨a, b, r, q, rfl⟩ : ∃ (a b : Fin 1) (r : Fin 256) (q : Fin 1024), y = ix4 a b r q := ⟨y 0, y 1, y 2, y 3, eq_ix4 y⟩
  refine Eq.trans ?_ (w4 H t s r q)
  pointwise []
  blk_ext []

/-- The four shards. -/
theorem l4_0 : View.ld (Val := Elt Ideal) (S := S4x1x256x1024) (e' := .bf16) (iblk m c 4 t) r0_7 = R4 fun _ _ r q => wo r q :=
  (l4 H t 0 _).trans (congrArg R4 (funext fun _ => funext fun _ => funext fun r => funext fun q => congrArg (wo · q) (Nat.zero_add r)))
theorem l4_1 : View.ld (Val := Elt Ideal) (S := S4x1x256x1024) (e' := .bf16) (iblk m c 4 t) r0_8 = R4 fun _ _ r q => wo (256 + r) q := l4 H t 1 _
theorem l4_2 : View.ld (Val := Elt Ideal) (S := S4x1x256x1024) (e' := .bf16) (iblk m c 4 t) r0_9 = R4 fun _ _ r q => wo (512 + r) q := l4 H t 2 _
theorem l4_3 : View.ld (Val := Elt Ideal) (S := S4x1x256x1024) (e' := .bf16) (iblk m c 4 t) r0_10 = R4 fun _ _ r q => wo (768 + r) q := l4 H t 3 _

omit H in
theorem ld0 (Y : Vec Ideal S512x1024 .f32) : View.ld Y r0_0 = Y :=
  View.ld_unit_zero (funext fun a => by fin_cases a <;> rfl) inb_S512x1024_S512x1024_0_0 Y
omit H in
theorem ld1 (Y : Vec Ideal S1x1024 .f32) : View.ld Y r0_1 = Y :=
  View.ld_unit_zero (funext fun a => by fin_cases a <;> rfl) inb_S1x1024_S1x1024_0_0 Y
omit H in
theorem ld3 (Y : Vec Ideal S256x2048 .bf16) : View.ld Y r0_2 = Y :=
  View.ld_unit_zero (funext fun a => by fin_cases a <;> rfl) inb_S256x2048_S256x2048_0_0 Y

/-- What point `t` leaves in its window. -/
theorem p5 : (dats m 0 c).after 5 t = R2 fun p => yy g w kv wo (tile X t.val p) := by
  rw [after0_5]
  unfold out0_5
  refine (View.canon_unit_zero (funext fun a => by fin_cases a <;> rfl) inb_S512x1024_S512x1024_0_0 _).trans ?_
  unfold k0_pay18 k0_pay17 k0_pay16 k0_pay15 k0_pay14 k0_pay13
  rw [ld0, ld1, ld3, l2_0 H t, l2_1 H t, l2_2 H t, l2_3 H t, l4_0 H t, l4_1 H t, l4_2 H t, l4_3 H t, b0 H t, b1 H t, b3 H t,
    pay2 (tile X t.val) g, pay3 (tile X t.val) g w, pay4 (tile X t.val) g w, pay5 (tile X t.val) g w, pay6 (tile X t.val) g w kv,
    pay7 (tile X t.val) g w kv, pay8 (tile X t.val) g w kv, pay9 (tile X t.val) g w kv, pay10 (tile X t.val) g w kv,
    pay11 (tile X t.val) g w kv wo, pay12 (tile X t.val) g w kv]
  exact pay1 _ _ _ _ _

/-- The kernel's result. -/
theorem f5 : (dats m 0 c).arrAt 5 cfg0.N = R2 fun p => yy g w kv wo (X p) := by
  refine (dats m 0 c).arrAt_eq_of_covers 5 _ (by decide +kernel) fun t hf y => ?_
  blk_simp
  rw [p5 H t]
  blk_simp [R2, tile, idx t]
  rw [Nat.mul_comm 512 t.val]

end blocks

/-- The shape facts of the precondition's function. -/
theorem finiteFacts : Cert.Pre_finite_forward.Facts where
  bitsLt_bf16_f32 := by decide
  bcast_S_S8192x1024 := by decide
  bcast_S_S1x1024 := by decide
  bcast_S_S2x1024x2048 := by decide
  bcast_S_S256x2048 := by decide
  bcast_S_S2x1024x1024 := by decide

attribute [local instance] finiteFacts

/-- Under the precondition every argument array holds real numbers. -/
theorem holds (h : Cert.Pre_Kernel8Ideal_finite_forward m) :
    Holds m c (real2 (fun i => (m ((c : Thread nD τ).loc main_arg0) i : EReal)))
      (fun j => real2 (fun i => (m ((c : Thread nD τ).loc main_arg1) i : EReal)) 0 j)
      (real3 (fun i => (m ((c : Thread nD τ).loc main_arg2) i : EReal)) 0)
      (real2 (fun i => (m ((c : Thread nD τ).loc main_arg3) i : EReal)))
      (real3 (fun i => (m ((c : Thread nD τ).loc main_arg4) i : EReal)) 0) := by
  obtain ⟨h0, h1, h2, h3, h4⟩ := h c
  exact {
    x := fun i j => (finite2 _ _ h0 i j).trans (by rw [real2_at])
    g := fun i j => (finite2 _ _ h1 i j).trans (by
      obtain rfl : i = 0 := Subsingleton.elim _ _
      rw [← real2_at]; rfl)
    w := fun i j => (finite3 _ _ h2 0 i j).trans (by rw [real3_at])
    kv := fun i j => (finite2 _ _ h3 i j).trans (by rw [real2_at]; rfl)
    wo := fun i j => (finite3 _ _ h4 0 i j).trans (by rw [real3_at]) }

end Cert.Xa.Fwd

end
-- ==== Proof.XaFwdRef.lean ====
/- The reference of the cross-attention's forward call (layer 0), stage by stage, and its result. -/
module

public import proofs.«01_k».proof.Proof.XaFwd
public import proofs.«01_k».proof.Proof.Gen.Reference8Ideal.Run
public import Idealize.ShloMosaic.Lib.Tactic.CleanTypes

@[expose] public section

set_option maxRecDepth 16384

noncomputable section

namespace Cert.Xa.FwdRef

open Idealize.ShloMosaic Idealize.ShloMosaic.TcCoe Cert.Reference8Ideal Cert.Reference8Ideal.Gen Cert.Reference8Ideal.Value

/-- The rows' mean squares, stabilised. -/
def msq (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The norm. -/
def nrm (x : FVec Ideal S8192x1024 .f32) (g : FVec Ideal S1x1024 .f32) : FVec Ideal S8192x1024 .f32 :=
  mulf (mulf x (broadcastInDim S8192x1024 ![0, 1] bcast_S8192x1_S8192x1024_0_1 (Host.rsqrt (msq x)))) (broadcastInDim S8192x1024 ![0, 1] bcast_S1x1024_S8192x1024_0_1 (broadcastInDim S1x1024 ![1] bcast_S1024_S1x1024_1 (shapeCast _ g shapeCasts_S1x1024_S1024)))

/-- The queries and gates. -/
def qgs (h : FVec Ideal S8192x1024 .f32) (w : FVec Ideal S2x1024x2048 .f32) : FVec Ideal S8192x2048 .f32 :=
  Host.dotGeneral dot_S8192x1024_S1024x2048_S8192x2048_1_0_0_1_n_n none h (shapeCast _ (extractStridedSlice S1x1024x2048 ![0, 0, 0] w slices_S2x1024x2048_S1x1024x2048_0_0_0) shapeCasts_S1x1024x2048_S1024x2048)

/-- The scores. -/
def scs (z : FVec Ideal S8192x2048 .f32) (kv : FVec Ideal S256x2048 .bf16) : FVec Ideal S4x8192x256 .f32 :=
  mulf (Host.dotGeneral dot_S8192x4x256_S256x4x256_S4x8192x256_2_2_0_0_1_1 none (shapeCast _ (extractStridedSlice S8192x1024 ![0, 0] z slices_S8192x2048_S8192x1024_0_0) shapeCasts_S8192x1024_S8192x4x256) (shapeCast _ (extractStridedSlice S256x1024 ![0, 0] (extf .f32 kv bitsLt_bf16_f32) slices_S256x2048_S256x1024_0_0) shapeCasts_S256x1024_S256x4x256)) (broadcastInDim S4x8192x256 ![] bcast_S_S4x8192x256 (constant S_ .f32 0x3D800000#32))

/-- Their maxima. -/
def mxs (s : FVec Ideal S4x8192x256 .f32) : FVec Ideal S4x8192 .f32 :=
  Host.reduce FloatOps.maximumf s (constant S_ .f32 0xFF800000#32) reducesTo_S4x8192x256_S4x8192_d2 h_S_

/-- Their shifted exponentials. -/
def exs (s : FVec Ideal S4x8192x256 .f32) : FVec Ideal S4x8192x256 .f32 :=
  Host.exp (subf s (broadcastInDim S4x8192x256 ![0, 1, 2] bcast_S4x8192x1_S4x8192x256_0_1_2 (broadcastInDim S4x8192x1 ![0, 1] bcast_S4x8192_S4x8192x1_0_1 (maximumf (broadcastInDim S4x8192 ![] bcast_S_S4x8192 (constant S_ .f32 0xFF800000#32)) (mxs s)))))

/-- The weights. -/
def wts (e : FVec Ideal S4x8192x256 .f32) : FVec Ideal S4x8192x256 .f32 :=
  Host.divf e (broadcastInDim S4x8192x256 ![0, 1, 2] bcast_S4x8192x1_S4x8192x256_0_1_2 (broadcastInDim S4x8192x1 ![0, 1] bcast_S4x8192_S4x8192x1_0_1 (Host.reduceAdd e (constant S_ .f32 0x00000000#32) reducesTo_S4x8192x256_S4x8192_d2 h_S_)))

/-- The attention. -/
def att (kv : FVec Ideal S256x2048 .bf16) (p : FVec Ideal S4x8192x256 .f32) : FVec Ideal S8192x1024 .f32 :=
  shapeCast _ (transpose S8192x4x256 [2, 0, 1] (Host.dotGeneral (F := Ideal) (φ₁ := .f32) (φ₂ := .f32) dot_S256x4x256_S4x8192x256_S4x256x8192_0_2_2_1_1_0 none (shapeCast _ (extractStridedSlice S256x1024 ![0, 1024] (extf .f32 kv bitsLt_bf16_f32) slices_S256x2048_S256x1024_0_1024) shapeCasts_S256x1024_S256x4x256) p) transposes_S4x256x8192_S8192x4x256_2_0_1) shapeCasts_S8192x4x256_S8192x1024

/-- The gates times their logistic. -/
def slu (z : FVec Ideal S8192x2048 .f32) : FVec Ideal S8192x1024 .f32 :=
  mulf (extractStridedSlice S8192x1024 ![0, 1024] z slices_S8192x2048_S8192x1024_0_1024) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 1024] z slices_S8192x2048_S8192x1024_0_1024)))))

/-- The layer's result. -/
def res (x o s : FVec Ideal S8192x1024 .f32) (wo : FVec Ideal S2x1024x1024 .f32) : FVec Ideal S8192x1024 .f32 :=
  addf x (Host.dotGeneral dot_S8192x1024_S1024x1024_S8192x1024_1_0_0_1_n_n none (mulf o s) (shapeCast _ (extractStridedSlice S1x1024x1024 ![0, 0, 0] wo slices_S2x1024x1024_S1x1024x1024_0_0_0) shapeCasts_S1x1024x1024_S1024x1024))

variable (X : ℕ → ℕ → ℝ) (g : ℕ → ℝ) (w kv wo : ℕ → ℕ → ℝ)

theorem msq_eq : msq (R2 X) = R2 fun p _ => ms (X p) := by
  refine eq_R2 fun i j => ?_
  unfold msq
  pointwise []
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_bot, div_1024]
  rfl

theorem rsq_eq : Host.rsqrt (F := Ideal) (φ := .f32) (R2 fun p _ => ms (X p) : FVec Ideal S8192x1 .f32) = R2 fun p _ => inv (X p) := by
  refine eq_R2 fun i j => ?_
  pointwise []
  rw [R2_apply, rsqrt_real (ms_pos (X i.val))]
  rfl

theorem nrm_eq : nrm (R2 X) (R2 fun _ => g) = R2 fun p => hh g (X p) := by
  refine eq_R2 fun i j => ?_
  unfold nrm
  rw [msq_eq, rsq_eq]
  pointwise []
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_bot, div_1024]
  rfl

theorem qgs_eq (W : FVec Ideal S2x1024x2048 .f32) (hw : ∀ (r : Fin 1024) (c : Fin 2048), W (ix3 0 r c) = ((w r.val c.val : ℝ) : EReal)) :
    qgs (R2 fun p => hh g (X p)) W = R2 fun p => qg g w (X p) := by
  refine eq_R2 fun i j => ?_
  unfold qgs
  pointwise [hw]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_bot, div_1024]
  rfl

theorem scs_eq : scs (R2 fun p => qg g w (X p)) (R2 kv) = R3 fun h p => sc g w kv (X p) h := by
  refine eq_R3 fun i j k => ?_
  unfold scs
  pointwise []
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_bot, div_1024, Nat.mul_comm _ 256]
  exact congrArg _ (sc_eq g w kv (X j.val) i.val k.val)

theorem mxs_eq : mxs (R3 fun h p => sc g w kv (X p) h) = R2 fun h p => mx 256 (sc g w kv (X p) h) := by
  refine eq_R2 fun i j => ?_
  unfold mxs
  pointwise []
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_bot, div_1024]
  exact fold_max_coe (sc g w kv (X j.val) i.val)

theorem exs_eq : exs (R3 fun h p => sc g w kv (X p) h) = R3 fun h p => ee g w kv (X p) h := by
  refine eq_R3 fun i j k => ?_
  unfold exs
  rw [mxs_eq]
  pointwise []
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_bot, div_1024, bot_sup_eq, max_bot_left]
  rfl

theorem wts_eq : wts (R3 fun h p => ee g w kv (X p) h) = R3 fun h p k => ee g w kv (X p) h k / ll g w kv (X p) h := by
  refine eq_R3 fun i j k => ?_
  unfold wts
  pointwise []
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_bot, div_1024]
  exact div_ll g w kv (X j.val) _ i.val

theorem att_eq : att (R2 kv) (R3 fun h p k => ee g w kv (X p) h k / ll g w kv (X p) h) = R2 fun p => oo g w kv (X p) := by
  refine eq_R2 fun i j => ?_
  unfold att
  pointwise []
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_bot, div_1024, Nat.mul_comm _ 256, Nat.div_add_mod]
  exact congrArg _ (oo_eq g w kv (X i.val) j.val)

theorem slu_eq : slu (R2 fun p => qg g w (X p)) = R2 fun p => sl g w (X p) := by
  refine eq_R2 fun i j => ?_
  unfold slu
  pointwise []
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_bot, div_1024, div_one_add_exp]
  simp only [sl, sg, ga, zero_sub]

theorem res_eq (W : FVec Ideal S2x1024x1024 .f32) (hwo : ∀ r c : Fin 1024, W (ix3 0 r c) = ((wo r.val c.val : ℝ) : EReal)) :
    res (R2 X) (R2 fun p => oo g w kv (X p)) (R2 fun p => sl g w (X p)) W = R2 fun p => Fwd.yy g w kv wo (X p) := by
  refine eq_R2 fun i j => ?_
  unfold res
  pointwise [hwo]
  simp only [R1_apply, R2_apply, R3_apply, R4_apply, ← EReal.coe_mul, ← EReal.coe_add, ← EReal.coe_sub, ← EReal.coe_neg, ← EReal.coe_one, ← EReal.coe_zero, coe_sum, Ideal.exp_coe, word_1024, word_eps, word_sixteenth, word_bot, div_1024]
  rfl

/-- The reference's result. -/
theorem out (m : (ℓ : Loc nD τ sig) → Buf (Elt Ideal) ℓ) (c : Dev nD)
    (hx : (m ((c.tc : Thread nD τ).loc main_arg0) : FVec Ideal S8192x1024 .f32) = R2 X)
    (hg : (m ((c.tc : Thread nD τ).loc main_arg1) : FVec Ideal S1x1024 .f32) = R2 fun _ => g)
    (hw : ∀ (r : Fin 1024) (q : Fin 2048), (m ((c.tc : Thread nD τ).loc main_arg2) : FVec Ideal S2x1024x2048 .f32) (ix3 0 r q) = ((w r.val q.val : ℝ) : EReal))
    (hkv : (m ((c.tc : Thread nD τ).loc main_arg3) : FVec Ideal S256x2048 .bf16) = R2 kv)
    (hwo : ∀ r q : Fin 1024, (m ((c.tc : Thread nD τ).loc main_arg4) : FVec Ideal S2x1024x1024 .f32) (ix3 0 r q) = ((wo r.val q.val : ℝ) : EReal)) :
    res_main_v47 m c = R2 fun p => Fwd.yy g w kv wo (X p) := by
  have e : res_main_v47 m c = res (m ((c.tc : Thread nD τ).loc main_arg0))
      (att (m ((c.tc : Thread nD τ).loc main_arg3)) (wts (exs (scs (qgs (nrm (m ((c.tc : Thread nD τ).loc main_arg0)) (m ((c.tc : Thread nD τ).loc main_arg1)))
        (m ((c.tc : Thread nD τ).loc main_arg2))) (m ((c.tc : Thread nD τ).loc main_arg3))))))
      (slu (qgs (nrm (m ((c.tc : Thread nD τ).loc main_arg0)) (m ((c.tc : Thread nD τ).loc main_arg1))) (m ((c.tc : Thread nD τ).loc main_arg2))))
      (m ((c.tc : Thread nD τ).loc main_arg4)) := rfl
  rw [e, hx, hg, hkv, nrm_eq, qgs_eq X g w _ hw, scs_eq, exs_eq, wts_eq, att_eq, slu_eq]
  exact res_eq X g w kv wo _ hwo

end Cert.Xa.FwdRef

end
-- ==== Proof.lean ====
module

public import proofs.«01_k».proof.Proof.Final
public import proofs.«01_k».proof.Proof.Ref
public import proofs.«01_k».proof.Proof.Finite
public import proofs.«01_k».proof.Proof.ChunkFinal
public import proofs.«01_k».proof.Proof.ChunkOut
public import proofs.«01_k».proof.Proof.ChunkFinite
public import proofs.«01_k».proof.Proof.ProjKernel
public import proofs.«01_k».proof.Proof.ProjRef
public import proofs.«01_k».proof.Proof.InKernel
public import proofs.«01_k».proof.Proof.InRef
public import proofs.«01_k».proof.Proof.EvIn
public import proofs.«01_k».proof.Proof.EvInBack
public import proofs.«01_k».proof.Proof.OutBack
public import proofs.«01_k».proof.Proof.OutGrad
public import proofs.«01_k».proof.Proof.EvGrad
public import proofs.«01_k».proof.Proof.XaFwd
public import proofs.«01_k».proof.Proof.XaFwdRef
public import proofs.«01_k».proof.Proof.Gen.Kernel.Frame
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Kernel10Ideal.Frame
public import proofs.«01_k».proof.Proof.Gen.Reference10Ideal.Run
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Xa
open Cert.Nm (nat2)

attribute [local instance] finiteFacts Cert.Ca.finiteFacts Cert.Xa.Fwd.finiteFacts

/-- The reference's run leaves its arguments and, having no semaphore, every counter at zero. -/
theorem reference_frame : Cert.quiescent_ReferenceIdeal := fun m g _ =>
  (θ_run _ _ _).mono (fun r h => ⟨fun c => (h c).2.2.2.2.2.2, sem_eq_zero_of_no_sems (by decide) r.2⟩) (Cert.ReferenceIdeal.Value.run m g)

/-- The idealized kernel and the reference leave the same six arrays. -/
theorem value : Cert.algebraic_KernelIdeal_ReferenceIdeal_pre_finite := by
  intro m g m' g' hpre hagree
  let X := fun c : Dev Cert.KernelIdeal.nD => real2 (fun i => (m ((c : Thread Cert.KernelIdeal.nD Cert.KernelIdeal.τ).loc Cert.KernelIdeal.main_arg0) i : EReal))
  let D := fun c : Dev Cert.KernelIdeal.nD => real2 (fun i => (m ((c : Thread Cert.KernelIdeal.nD Cert.KernelIdeal.τ).loc Cert.KernelIdeal.main_arg1) i : EReal))
  let ga := fun c : Dev Cert.KernelIdeal.nD => fun j => real2 (fun i => (m ((c : Thread Cert.KernelIdeal.nD Cert.KernelIdeal.τ).loc Cert.KernelIdeal.main_arg2) i : EReal)) 0 j
  let w := fun c : Dev Cert.KernelIdeal.nD => real3 (fun i => (m ((c : Thread Cert.KernelIdeal.nD Cert.KernelIdeal.τ).loc Cert.KernelIdeal.main_arg3) i : EReal)) 1
  let kv := fun c : Dev Cert.KernelIdeal.nD => real2 (fun i => (m ((c : Thread Cert.KernelIdeal.nD Cert.KernelIdeal.τ).loc Cert.KernelIdeal.main_arg4) i : EReal))
  let wo := fun c : Dev Cert.KernelIdeal.nD => real3 (fun i => (m ((c : Thread Cert.KernelIdeal.nD Cert.KernelIdeal.τ).loc Cert.KernelIdeal.main_arg5) i : EReal)) 1
  have H : ∀ c, Holds m c (X c) (D c) (ga c) (w c) (kv c) (wo c) := fun c => holds m hpre c
  refine ⟨fun c => R2 fun p => dx (ga c) (w c) (kv c) (wo c) (X c p) (D c p), fun c => R2 fun p => dqg (ga c) (w c) (kv c) (wo c) (X c p) (D c p),
    fun c => R2 fun p => hh (ga c) (X c p), fun c => R2 fun p => rr (ga c) (w c) (kv c) (X c p),
    fun c => R2 fun k q => ∑ p : Fin 8192, dkv (ga c) (w c) (kv c) (wo c) (X c p.val) (D c p.val) k q,
    fun c => R2 fun _ q => ∑ p : Fin 8192, dgn (ga c) (w c) (kv c) (wo c) (X c p.val) (D c p.val) q,
    (θ_run _ _ _).mono ?_ (Cert.KernelIdeal.Value.run_blocks m g), (θ_run _ _ _).mono ?_ (Cert.ReferenceIdeal.Value.run m' g')⟩
  · intro r h c
    obtain ⟨h0, h1, h2, h3, h4, h5, k⟩ := h c
    exact ⟨h0.trans (f6 (H c)), h1.trans (f7 (H c)), h2.trans (f8 (H c)), h3.trans (f9 (H c)), h4.trans (f10 (H c)), h5.trans (f11 (H c)), k⟩
  · intro r h c
    obtain ⟨h0, h1, h2, h3, h4, h5, k⟩ := h c
    obtain ⟨a0, a1, a2, a3, a4, a5⟩ := hagree c
    have hx : StableHlo.launchContents m' c (Proc.devRef .tc Cert.ReferenceIdeal.main_arg0) = (R2 (X c) : FVec Ideal Cert.ReferenceIdeal.S8192x1024 .f32) := a0.trans (eq_R2 (H c).x)
    have hd : StableHlo.launchContents m' c (Proc.devRef .tc Cert.ReferenceIdeal.main_arg1) = (R2 (D c) : FVec Ideal Cert.ReferenceIdeal.S8192x1024 .f32) := a1.trans (eq_R2 (H c).d)
    have hg : StableHlo.launchContents m' c (Proc.devRef .tc Cert.ReferenceIdeal.main_arg2) = (R2 fun _ => ga c : FVec Ideal Cert.ReferenceIdeal.S1x1024 .f32) := a2.trans (eq_R2 (H c).g)
    have hw : ∀ (i : Fin 1024) (j : Fin 2048), (StableHlo.launchContents m' c (Proc.devRef .tc Cert.ReferenceIdeal.main_arg3) : FVec Ideal Cert.ReferenceIdeal.S2x1024x2048 .f32) (ix3 1 i j) = ((w c i.val j.val : ℝ) : EReal) :=
      fun i j => (congrFun a3 (ix3 1 i j)).trans ((H c).w i j)
    have hkv : StableHlo.launchContents m' c (Proc.devRef .tc Cert.ReferenceIdeal.main_arg4) = (R2 (kv c) : FVec Ideal Cert.ReferenceIdeal.S256x2048 .bf16) := a4.trans (eq_R2 (H c).kv)
    have hwo : ∀ (i j : Fin 1024), (StableHlo.launchContents m' c (Proc.devRef .tc Cert.ReferenceIdeal.main_arg5) : FVec Ideal Cert.ReferenceIdeal.S2x1024x1024 .f32) (ix3 1 i j) = ((wo c i.val j.val : ℝ) : EReal) :=
      fun i j => (congrFun a5 (ix3 1 i j)).trans ((H c).wo i j)
    exact ⟨h0.trans (Ref.out0 _ _ _ _ _ _ _ hx hd hg hw hkv hwo), h1.trans (Ref.out1 _ _ _ _ _ _ _ hx hd hg hw hkv hwo),
      h2.trans (Ref.out2 _ _ _ _ _ _ _ hx hd hg hw hkv hwo), h3.trans (Ref.out3 _ _ _ _ _ _ _ hx hd hg hw hkv hwo),
      h4.trans (Ref.out4 _ _ _ _ _ _ _ hx hd hg hw hkv hwo), h5.trans (Ref.out5 _ _ _ _ _ _ _ hx hd hg hw hkv hwo), k⟩

/-- The attention's reference leaves its arguments and, having no semaphore, every counter at zero. -/
theorem reference2_frame : Cert.quiescent_Reference2Ideal := fun m g _ =>
  (θ_run _ _ _).mono (fun r h => ⟨fun c => (h c).2.2.2.2, sem_eq_zero_of_no_sems (by decide) r.2⟩) (Cert.Reference2Ideal.Value.run m g)

/-- The idealized attention kernel and its reference leave the same four arrays. -/
theorem value2 : Cert.algebraic_Kernel2Ideal_Reference2Ideal_pre_finite_attention := by
  intro m g m' g' hpre hagree
  let Q := fun c : Dev Cert.Kernel2Ideal.nD => real2 (fun i => (m ((c : Thread Cert.Kernel2Ideal.nD Cert.Kernel2Ideal.τ).loc Cert.Kernel2Ideal.main_arg0) i : EReal))
  let K := fun c : Dev Cert.Kernel2Ideal.nD => real2 (fun i => (m ((c : Thread Cert.Kernel2Ideal.nD Cert.Kernel2Ideal.τ).loc Cert.Kernel2Ideal.main_arg1) i : EReal))
  let V := fun c : Dev Cert.Kernel2Ideal.nD => real2 (fun i => (m ((c : Thread Cert.Kernel2Ideal.nD Cert.Kernel2Ideal.τ).loc Cert.Kernel2Ideal.main_arg2) i : EReal))
  let G := fun c : Dev Cert.Kernel2Ideal.nD => real2 (fun i => (m ((c : Thread Cert.Kernel2Ideal.nD Cert.Kernel2Ideal.τ).loc Cert.Kernel2Ideal.main_arg3) i : EReal))
  let T := fun c : Dev Cert.Kernel2Ideal.nD => real2 (fun i => (m ((c : Thread Cert.Kernel2Ideal.nD Cert.Kernel2Ideal.τ).loc Cert.Kernel2Ideal.main_arg4) i : EReal))
  let D := fun c : Dev Cert.Kernel2Ideal.nD => real2 (fun i => (m ((c : Thread Cert.Kernel2Ideal.nD Cert.Kernel2Ideal.τ).loc Cert.Kernel2Ideal.main_arg5) i : EReal))
  have H : ∀ c, Cert.Ca.Holds m c (Q c) (K c) (V c) (G c) (T c) (D c) := fun c => Cert.Ca.holds m hpre c
  refine ⟨fun c => R2 (Cert.Ca.dq (Q c) (K c) (V c) (G c) (T c) (D c)), fun c => R2 (Cert.Ca.dgt (Q c) (K c) (V c) (G c) (T c) (D c)),
    fun c => R2 (Cert.Ca.dk (Q c) (K c) (V c) (G c) (T c) (D c) 8192), fun c => R2 (Cert.Ca.dv (Q c) (K c) (G c) (T c) (D c) 8192),
    (θ_run _ _ _).mono ?_ (Cert.Kernel2Ideal.Value.run_blocks m g), (θ_run _ _ _).mono ?_ (Cert.Reference2Ideal.Value.run m' g')⟩
  · intro r h c
    obtain ⟨h0, h1, h2, h3, h4, k⟩ := h c
    exact ⟨h0.trans (Cert.Ca.f7 (H c)), h1.trans (Cert.Ca.f8 (H c)), h2.trans (Cert.Ca.f9 (H c)), h3.trans (Cert.Ca.f10 (H c)), k⟩
  · intro r h c
    obtain ⟨h0, h1, h2, h3, k⟩ := h c
    obtain ⟨a0, a1, a2, a3, a4, a5⟩ := hagree c
    have e0 : StableHlo.launchContents m' c (Proc.devRef .tc Cert.Reference2Ideal.main_arg0) = (R2 (Q c) : FVec Ideal Cert.Reference2Ideal.S8192x1024 .bf16) := a0.trans (H c).q
    have e1 : StableHlo.launchContents m' c (Proc.devRef .tc Cert.Reference2Ideal.main_arg1) = (R2 (K c) : FVec Ideal Cert.Reference2Ideal.S8192x1024 .bf16) := a1.trans (H c).k
    have e2 : StableHlo.launchContents m' c (Proc.devRef .tc Cert.Reference2Ideal.main_arg2) = (R2 (V c) : FVec Ideal Cert.Reference2Ideal.S8192x1024 .bf16) := a2.trans (H c).v
    have e3 : StableHlo.launchContents m' c (Proc.devRef .tc Cert.Reference2Ideal.main_arg3) = (R2 (G c) : FVec Ideal Cert.Reference2Ideal.S8192x1024 .f32) := a3.trans (H c).g
    have e4 : StableHlo.launchContents m' c (Proc.devRef .tc Cert.Reference2Ideal.main_arg4) = (R2 (T c) : FVec Ideal Cert.Reference2Ideal.S16x257 .f32) := a4.trans (H c).b
    have e5 : StableHlo.launchContents m' c (Proc.devRef .tc Cert.Reference2Ideal.main_arg5) = (R2 (D c) : FVec Ideal Cert.Reference2Ideal.S8192x1024 .f32) := a5.trans (H c).d
    exact ⟨h0.trans (Cert.Ca.Ref.out101 _ _ _ _ _ _ _ e0 e1 e2 e3 e4 e5), h1.trans (Cert.Ca.Ref.out102 _ _ _ _ _ _ _ e0 e1 e2 e3 e4 e5),
      h2.trans (Cert.Ca.Ref.out104 _ _ _ _ _ _ _ e0 e1 e2 e3 e4 e5), h3.trans (Cert.Ca.Ref.out106 _ _ _ _ _ _ _ e0 e1 e2 e3 e4 e5), k⟩

/-- The reference of the projection's backward call leaves its arguments and, having no semaphore, every counter at zero. -/
theorem reference3_frame : Cert.quiescent_Reference3Ideal := fun m g _ =>
  (θ_run _ _ _).mono (fun r h => ⟨fun c => (h c).2.2, sem_eq_zero_of_no_sems (by decide) r.2⟩) (Cert.Reference3Ideal.Value.run m g)

/-- The idealized backward call of the projection and its reference leave the same two arrays, whatever numbers they are given. -/
theorem value3 : Cert.algebraic_Kernel3Ideal_Reference3Ideal := by
  intro m gr m' gr' _ hagree
  let Q := fun c : Dev Cert.Kernel3Ideal.nD => nat2 (fun i => (m ((c : Thread Cert.Kernel3Ideal.nD Cert.Kernel3Ideal.τ).loc Cert.Kernel3Ideal.main_arg0) i : EReal))
  let K := fun c : Dev Cert.Kernel3Ideal.nD => nat2 (fun i => (m ((c : Thread Cert.Kernel3Ideal.nD Cert.Kernel3Ideal.τ).loc Cert.Kernel3Ideal.main_arg1) i : EReal))
  let U := fun c : Dev Cert.Kernel3Ideal.nD => nat2 (fun i => (m ((c : Thread Cert.Kernel3Ideal.nD Cert.Kernel3Ideal.τ).loc Cert.Kernel3Ideal.main_arg2) i : EReal))
  let G := fun c : Dev Cert.Kernel3Ideal.nD => nat2 (fun i => (m ((c : Thread Cert.Kernel3Ideal.nD Cert.Kernel3Ideal.τ).loc Cert.Kernel3Ideal.main_arg3) i : EReal))
  let w := fun c : Dev Cert.Kernel3Ideal.nD => nat2 (fun i => (m ((c : Thread Cert.Kernel3Ideal.nD Cert.Kernel3Ideal.τ).loc Cert.Kernel3Ideal.main_arg4) i : EReal))
  let X := fun c : Dev Cert.Kernel3Ideal.nD => nat2 (fun i => (m ((c : Thread Cert.Kernel3Ideal.nD Cert.Kernel3Ideal.τ).loc Cert.Kernel3Ideal.main_arg5) i : EReal))
  let g := fun c : Dev Cert.Kernel3Ideal.nD => nat2 (fun i => (m ((c : Thread Cert.Kernel3Ideal.nD Cert.Kernel3Ideal.τ).loc Cert.Kernel3Ideal.main_arg6) i : EReal)) 0
  let D := fun c : Dev Cert.Kernel3Ideal.nD => nat2 (fun i => (m ((c : Thread Cert.Kernel3Ideal.nD Cert.Kernel3Ideal.τ).loc Cert.Kernel3Ideal.main_arg7) i : EReal))
  have H : ∀ c, Nm.Back.Holds m c (Q c) (K c) (U c) (G c) (w c) (X c) (g c) (D c) := fun c => Nm.Back.holds m c
  refine ⟨fun c => Nm.E2 fun p => Nm.dx (g c) (Nm.dh (Q c) (K c) (U c) (G c) (w c) p) (X c p) (D c p),
    fun c => Nm.E2 fun _ q => ∑ p : Fin 8192, Nm.dgn (Nm.dh (Q c) (K c) (U c) (G c) (w c) p.val) (X c p.val) q,
    (θ_run _ _ _).mono ?_ (Cert.Kernel3Ideal.Value.run_blocks m gr), (θ_run _ _ _).mono ?_ (Cert.Reference3Ideal.Value.run m' gr')⟩
  · intro r h c
    obtain ⟨h0, h1, k⟩ := h c
    exact ⟨h0.trans (Nm.Back.f8 (H c)), h1.trans (Nm.Back.f9 (H c)), k⟩
  · intro r h c
    obtain ⟨h0, h1, k⟩ := h c
    obtain ⟨a0, a1, a2, a3, a4, a5, a6, a7⟩ := hagree c
    have e0 := a0.trans (Nm.eq_E2 (H c).q)
    have e1 := a1.trans (Nm.eq_E2 (H c).k)
    have e2 := a2.trans (Nm.eq_E2 (H c).v)
    have e3 := a3.trans (Nm.eq_E2 (H c).gt)
    have e4 := a4.trans (Nm.eq_E2 (H c).w)
    have e5 := a5.trans (Nm.eq_E2 (H c).x)
    have e6 := a6.trans (Nm.eq_E2 (f := fun _ => g c) (H c).g)
    have e7 := a7.trans (Nm.eq_E2 (H c).d)
    exact ⟨h0.trans (Nm.Ref.out0 _ _ _ _ _ _ _ _ _ _ e0 e1 e2 e3 e4 e5 e6 e7), h1.trans (Nm.Ref.out1 _ _ _ _ _ _ _ _ e0 e1 e2 e3 e4 e5), k⟩

/-- The reference of the projection's forward call leaves its arguments and, having no semaphore, every counter at zero. -/
theorem reference4_frame : Cert.quiescent_Reference4Ideal := fun m g _ =>
  (θ_run _ _ _).mono (fun r h => ⟨fun c => (h c).2.2.2.2, sem_eq_zero_of_no_sems (by decide) r.2⟩) (Cert.Reference4Ideal.Value.run m g)

/-- The idealized forward call of the norm and projection and its reference leave the same four arrays, whatever numbers they are given. -/
theorem value4 : Cert.algebraic_Kernel4Ideal_Reference4Ideal := by
  intro m gr m' gr' _ hagree
  let X := fun c : Dev Cert.Kernel4Ideal.nD => nat2 (fun i => (m ((c : Thread Cert.Kernel4Ideal.nD Cert.Kernel4Ideal.τ).loc Cert.Kernel4Ideal.main_arg0) i : EReal))
  let g := fun c : Dev Cert.Kernel4Ideal.nD => nat2 (fun i => (m ((c : Thread Cert.Kernel4Ideal.nD Cert.Kernel4Ideal.τ).loc Cert.Kernel4Ideal.main_arg1) i : EReal)) 0
  let w := fun c : Dev Cert.Kernel4Ideal.nD => nat2 (fun i => (m ((c : Thread Cert.Kernel4Ideal.nD Cert.Kernel4Ideal.τ).loc Cert.Kernel4Ideal.main_arg2) i : EReal))
  have H : ∀ c, Nm.In.Holds m c (X c) (g c) (w c) := fun c => Nm.In.holds m c
  refine ⟨fun c => Nm.E2 fun p => Nm.pr (w c) (g c) (X c p), fun c => Nm.E2 fun p q => Nm.pr (w c) (g c) (X c p) (1024 + q),
    fun c => Nm.E2 fun p q => Nm.pr (w c) (g c) (X c p) (3072 + q), fun c => Nm.E2 fun p => Nm.hh (g c) (X c p),
    (θ_run _ _ _).mono ?_ (Cert.Kernel4Ideal.Value.run_blocks m gr), (θ_run _ _ _).mono ?_ (Cert.Reference4Ideal.Value.run m' gr')⟩
  · intro r h c
    obtain ⟨h0, h1, h2, h3, k⟩ := h c
    exact ⟨h0.trans (Nm.In.f3 (H c)), h1.trans (Nm.In.f4 (H c)), h2.trans (Nm.In.f5 (H c)), h3.trans (Nm.In.f6 (H c)), k⟩
  · intro r h c
    obtain ⟨h0, h1, h2, h3, k⟩ := h c
    obtain ⟨a0, a1, a2⟩ := hagree c
    have e0 := a0.trans (Nm.eq_E2 (H c).x)
    have e1 := a1.trans (Nm.eq_E2 (f := fun _ => g c) (H c).g)
    have e2 := a2.trans (Nm.eq_E2 (H c).w)
    rw [e0, e1, e2] at h0 h1 h2
    rw [e0, e1] at h3
    exact ⟨h0.trans (Nm.InRef.out0 _ _ _), h1.trans (Nm.InRef.out1 _ _ _), h2.trans (Nm.InRef.out2 _ _ _), h3.trans (Nm.InRef.out3 _ _), k⟩

/-- The reference of the other layer's projection leaves its arguments and, having no semaphore, every counter at zero. -/
theorem reference5_frame : Cert.quiescent_Reference5Ideal := fun m g _ =>
  (θ_run _ _ _).mono (fun r h => ⟨fun c => (h c).2.2, sem_eq_zero_of_no_sems (by decide) r.2⟩) (Cert.Reference5Ideal.Value.run m g)

/-- The idealized forward call of the norm and the projection in one piece and its reference leave the same two arrays. -/
theorem value5 : Cert.algebraic_Kernel5Ideal_Reference5Ideal := by
  intro m gr m' gr' _ hagree
  refine ⟨fun c => Nm.E2 fun p => Nm.pr (Nm.EvIn.x2 m c) (Nm.EvIn.x1 m c) (Nm.EvIn.x0 m c p), fun c => Nm.E2 fun p => Nm.hh (Nm.EvIn.x1 m c) (Nm.EvIn.x0 m c p),
    (θ_run _ _ _).mono ?_ (Cert.Kernel5Ideal.Value.run_blocks m gr), (θ_run _ _ _).mono ?_ (Cert.Reference5Ideal.Value.run m' gr')⟩
  · intro r h c
    obtain ⟨h0, h1, k⟩ := h c
    exact ⟨h0.trans (Nm.EvIn.f3 m c), h1.trans (Nm.EvIn.f4 m c), k⟩
  · intro r h c
    obtain ⟨h0, h1, k⟩ := h c
    obtain ⟨a0, a1, a2⟩ := hagree c
    have e0 := a0.trans (Nm.eq_E2 fun i j => Nm.nat2_at _ i j)
    have e1 := a1.trans (Nm.eq_E2 (f := fun _ => Nm.EvIn.x1 m c) fun i j => by
      obtain rfl : i = 0 := Subsingleton.elim _ _
      exact Nm.nat2_at _ 0 j)
    have e2 := a2.trans (Nm.eq_E2 fun i j => Nm.nat2_at _ i j)
    rw [e0, e1, e2] at h0
    rw [e0, e1] at h1
    exact ⟨h0.trans (Nm.EvIn.out0 _ _ _), h1.trans (Nm.EvIn.out1 _ _), k⟩

/-- The reference of that projection's backward call leaves its arguments and, having no semaphore, every counter at zero. -/
theorem reference6_frame : Cert.quiescent_Reference6Ideal := fun m g _ =>
  (θ_run _ _ _).mono (fun r h => ⟨fun c => (h c).2.2, sem_eq_zero_of_no_sems (by decide) r.2⟩) (Cert.Reference6Ideal.Value.run m g)

/-- The idealized backward call of the same norm and projection and its reference leave the same two arrays. -/
theorem value6 : Cert.algebraic_Kernel6Ideal_Reference6Ideal := by
  intro m gr m' gr' _ hagree
  refine ⟨fun c => Nm.E2 fun p => Nm.dx (Nm.EvInBack.g m c) (Nm.EvInBack.h m c p) (Nm.EvInBack.x m c p) (Nm.EvInBack.d m c p),
    fun c => Nm.E2 fun _ q => ∑ p : Fin 8192, Nm.dgn (Nm.EvInBack.h m c p.val) (Nm.EvInBack.x m c p.val) q,
    (θ_run _ _ _).mono ?_ (Cert.Kernel6Ideal.Value.run_blocks m gr), (θ_run _ _ _).mono ?_ (Cert.Reference6Ideal.Value.run m' gr')⟩
  · intro r h c
    obtain ⟨h0, h1, k⟩ := h c
    exact ⟨h0.trans (Nm.EvInBack.f5 m c), h1.trans (Nm.EvInBack.f6 m c), k⟩
  · intro r h c
    obtain ⟨h0, h1, k⟩ := h c
    obtain ⟨a0, a1, a2, a3, a4⟩ := hagree c
    have e0 := a0.trans (Nm.eq_E2 fun i j => Nm.nat2_at _ i j)
    have e1 := a1.trans (Nm.eq_E2 fun i j => Nm.nat2_at _ i j)
    have e2 := a2.trans (Nm.eq_E2 fun i j => Nm.nat2_at _ i j)
    have e3 := a3.trans (Nm.eq_E2 (f := fun _ => Nm.EvInBack.g m c) fun i j => by
      obtain rfl : i = 0 := Subsingleton.elim _ _
      exact Nm.nat2_at _ 0 j)
    have e4 := a4.trans (Nm.eq_E2 fun i j => Nm.nat2_at _ i j)
    exact ⟨h0.trans (Nm.EvInBack.out0 m' c e0 e1 e2 e3 e4), h1.trans (Nm.EvInBack.out1 m' c e0 e1 e2), k⟩

/-- The reference of the output projection's backward call leaves its arguments and, having no semaphore, every counter at zero. -/
theorem reference7_frame : Cert.quiescent_Reference7Ideal := fun m g _ =>
  (θ_run _ _ _).mono (fun r h => ⟨fun c => (h c).2, sem_eq_zero_of_no_sems (by decide) r.2⟩) (Cert.Reference7Ideal.Value.run m g)

/-- The idealized backward call of the output projection and its reference leave the same array. -/
theorem value7 : Cert.algebraic_Kernel7Ideal_Reference7Ideal := by
  intro m gr m' gr' _ hagree
  refine ⟨fun c => Nm.E2 (Nm.OutBack.dr (Nm.OutBack.x0 m c) (Nm.OutBack.x1 m c)),
    (θ_run _ _ _).mono ?_ (Cert.Kernel7Ideal.Value.run_blocks m gr), (θ_run _ _ _).mono ?_ (Cert.Reference7Ideal.Value.run m' gr')⟩
  · intro r h c
    obtain ⟨h0, k⟩ := h c
    exact ⟨h0.trans (Nm.OutBack.f2 m c), k⟩
  · intro r h c
    obtain ⟨h0, k⟩ := h c
    obtain ⟨a0, a1⟩ := hagree c
    have e0 := a0.trans (Nm.eq_E2 fun i j => Nm.nat2_at _ i j)
    have e1 := a1.trans (Nm.eq_E2 fun i j => Nm.nat2_at _ i j)
    rw [e0, e1] at h0
    exact ⟨h0.trans (Nm.OutBack.out _ _), k⟩

/-- The reference of the cross-attention's forward call leaves its arguments and, having no semaphore, every counter at zero. -/
theorem reference8_frame : Cert.quiescent_Reference8Ideal := fun m g _ =>
  (θ_run _ _ _).mono (fun r h => ⟨fun c => (h c).2, sem_eq_zero_of_no_sems (by decide) r.2⟩) (Cert.Reference8Ideal.Value.run m g)

/-- The idealized forward call of the cross-attention and its reference leave the same array. -/
theorem value8 : Cert.algebraic_Kernel8Ideal_Reference8Ideal_pre_finite_forward := by
  intro m gr m' gr' hpre hagree
  let X := fun c : Dev Cert.Kernel8Ideal.nD => real2 (fun i => (m ((c : Thread Cert.Kernel8Ideal.nD Cert.Kernel8Ideal.τ).loc Cert.Kernel8Ideal.main_arg0) i : EReal))
  let g := fun c : Dev Cert.Kernel8Ideal.nD => fun j => real2 (fun i => (m ((c : Thread Cert.Kernel8Ideal.nD Cert.Kernel8Ideal.τ).loc Cert.Kernel8Ideal.main_arg1) i : EReal)) 0 j
  let w := fun c : Dev Cert.Kernel8Ideal.nD => real3 (fun i => (m ((c : Thread Cert.Kernel8Ideal.nD Cert.Kernel8Ideal.τ).loc Cert.Kernel8Ideal.main_arg2) i : EReal)) 0
  let kv := fun c : Dev Cert.Kernel8Ideal.nD => real2 (fun i => (m ((c : Thread Cert.Kernel8Ideal.nD Cert.Kernel8Ideal.τ).loc Cert.Kernel8Ideal.main_arg3) i : EReal))
  let wo := fun c : Dev Cert.Kernel8Ideal.nD => real3 (fun i => (m ((c : Thread Cert.Kernel8Ideal.nD Cert.Kernel8Ideal.τ).loc Cert.Kernel8Ideal.main_arg4) i : EReal)) 0
  have H : ∀ c, Fwd.Holds m c (X c) (g c) (w c) (kv c) (wo c) := fun c => Fwd.holds m c hpre
  refine ⟨fun c => R2 fun p => Fwd.yy (g c) (w c) (kv c) (wo c) (X c p),
    (θ_run _ _ _).mono ?_ (Cert.Kernel8Ideal.Value.run_blocks m gr), (θ_run _ _ _).mono ?_ (Cert.Reference8Ideal.Value.run m' gr')⟩
  · intro r h c
    obtain ⟨h0, k⟩ := h c
    exact ⟨h0.trans (Fwd.f5 (H c)), k⟩
  · intro r h c
    obtain ⟨h0, k⟩ := h c
    obtain ⟨a0, a1, a2, a3, a4⟩ := hagree c
    exact ⟨h0.trans (FwdRef.out (X c) (g c) (w c) (kv c) (wo c) m' c (a0.trans (eq_R2 (H c).x)) (a1.trans (eq_R2 (H c).g))
      (fun i j => (congrFun a2 (ix3 0 i j)).trans ((H c).w i j)) (a3.trans (eq_R2 (H c).kv))
      (fun i j => (congrFun a4 (ix3 0 i j)).trans ((H c).wo i j))), k⟩

/-- The reference of the gradient at the output projection's weight leaves its arguments and, having no semaphore, every counter at zero. -/
theorem reference9_frame : Cert.quiescent_Reference9Ideal := fun m g _ =>
  (θ_run _ _ _).mono (fun r h => ⟨fun c => (h c).2, sem_eq_zero_of_no_sems (by decide) r.2⟩) (Cert.Reference9Ideal.Value.run m g)

/-- The idealized call for the gradient at an output projection's weight and its reference leave the same array. -/
theorem value9 : Cert.algebraic_Kernel9Ideal_Reference9Ideal := by
  intro m gr m' gr' _ hagree
  refine ⟨fun c => Nm.E3 fun s i => Nm.gr (Nm.OutGrad.r m c) (Nm.OutGrad.d m c) 8192 (256 * s + i),
    (θ_run _ _ _).mono ?_ (Cert.Kernel9Ideal.Value.run_blocks m gr), (θ_run _ _ _).mono ?_ (Cert.Reference9Ideal.Value.run m' gr')⟩
  · intro r h c
    obtain ⟨h0, k⟩ := h c
    exact ⟨h0.trans (Nm.OutGrad.f2 m c), k⟩
  · intro r h c
    obtain ⟨h0, k⟩ := h c
    obtain ⟨a0, a1⟩ := hagree c
    have e0 := a0.trans (Nm.eq_E2 fun i j => Nm.nat2_at _ i j)
    have e1 := a1.trans (Nm.eq_E2 fun i j => Nm.nat2_at _ i j)
    rw [e1] at h0
    exact ⟨h0.trans (Nm.OutGrad.out e0), k⟩

/-- The reference of the gradient at the projection's weight leaves its arguments and, having no semaphore, every counter at zero. -/
theorem reference10_frame : Cert.quiescent_Reference10Ideal := fun m g _ =>
  (θ_run _ _ _).mono (fun r h => ⟨fun c => (h c).2, sem_eq_zero_of_no_sems (by decide) r.2⟩) (Cert.Reference10Ideal.Value.run m g)

/-- The idealized call for the gradient at the projection's weight and its reference leave the same array. -/
theorem value10 : Cert.algebraic_Kernel10Ideal_Reference10Ideal := by
  intro m gr m' gr' _ hagree
  refine ⟨fun c => Nm.E3 fun s i j => Nm.gr (Nm.EvGrad.r m c) (Nm.EvGrad.d m c) 8192 i (640 * s + j),
    (θ_run _ _ _).mono ?_ (Cert.Kernel10Ideal.Value.run_blocks m gr), (θ_run _ _ _).mono ?_ (Cert.Reference10Ideal.Value.run m' gr')⟩
  · intro r h c
    obtain ⟨h0, k⟩ := h c
    exact ⟨h0.trans (Nm.EvGrad.f2 m c), k⟩
  · intro r h c
    obtain ⟨h0, k⟩ := h c
    obtain ⟨a0, a1⟩ := hagree c
    have e0 := a0.trans (Nm.eq_E2 fun i j => Nm.nat2_at _ i j)
    have e1 := a1.trans (Nm.eq_E2 fun i j => Nm.nat2_at _ i j)
    exact ⟨h0.trans (Nm.EvGrad.out e0 e1), k⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  finiteFacts, Cert.Ca.finiteFacts, Fwd.finiteFacts,
  fun m g _ => Cert.Kernel.Gen.frame m g,
  fun m g _ => Cert.KernelIdeal.Gen.frame m g,
  fun m g _ => Cert.KernelIdeal.Gen.frame m g,
  fun m g _ => reference_frame m g trivial,
  fun m g _ => reference_frame m g trivial,
  fun m g _ => Cert.Kernel2.Gen.frame m g,
  fun m g _ => Cert.Kernel2Ideal.Gen.frame m g,
  fun m g _ => Cert.Kernel2Ideal.Gen.frame m g,
  fun m g _ => reference2_frame m g trivial,
  fun m g _ => reference2_frame m g trivial,
  fun m g _ => Cert.Kernel3.Gen.frame m g,
  fun m g _ => Cert.Kernel3Ideal.Gen.frame m g,
  fun m g _ => reference3_frame m g trivial,
  fun m g _ => Cert.Kernel4.Gen.frame m g,
  fun m g _ => Cert.Kernel4Ideal.Gen.frame m g,
  fun m g _ => reference4_frame m g trivial,
  fun m g _ => Cert.Kernel5.Gen.frame m g,
  fun m g _ => Cert.Kernel5Ideal.Gen.frame m g,
  fun m g _ => reference5_frame m g trivial,
  fun m g _ => Cert.Kernel6.Gen.frame m g,
  fun m g _ => Cert.Kernel6Ideal.Gen.frame m g,
  fun m g _ => reference6_frame m g trivial,
  fun m g _ => Cert.Kernel7.Gen.frame m g,
  fun m g _ => Cert.Kernel7Ideal.Gen.frame m g,
  fun m g _ => reference7_frame m g trivial,
  fun m g _ => Cert.Kernel8.Gen.frame m g,
  fun m g _ => Cert.Kernel8Ideal.Gen.frame m g,
  fun m g _ => Cert.Kernel8Ideal.Gen.frame m g,
  fun m g _ => reference8_frame m g trivial,
  fun m g _ => reference8_frame m g trivial,
  fun m g _ => Cert.Kernel9.Gen.frame m g,
  fun m g _ => Cert.Kernel9Ideal.Gen.frame m g,
  fun m g _ => reference9_frame m g trivial,
  fun m g _ => Cert.Kernel10.Gen.frame m g,
  fun m g _ => Cert.Kernel10Ideal.Gen.frame m g,
  fun m g _ => reference10_frame m g trivial,
  trivial,
  value,
  trivial,
  value2,
  trivial,
  value3,
  trivial,
  value4,
  trivial,
  value5,
  trivial,
  value6,
  trivial,
  value7,
  trivial,
  value8,
  trivial,
  value9,
  trivial,
  value10⟩

end Cert.Proof

end
